-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_few_full [hPre_finite_scores_few_full : Cert.Pre_finite_scores_few_full.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_few_full.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_few_full [hPre_finite_scores_few_full : Cert.Pre_finite_scores_few_full.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_few_full.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_scores_few_full [hKernelIdeal : Cert.KernelIdeal.Facts] [hPre_finite_scores_few_full : Cert.Pre_finite_scores_few_full.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_few_full m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_scores_few_full [hReferenceIdeal : Cert.ReferenceIdeal.Facts] [hPre_finite_scores_few_full : Cert.Pre_finite_scores_few_full.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_few_full m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.sign_bit.Statement Cert.KernelIdeal.S2048x128 .f32
  ∧ IdealRules.named_const.Statement Cert.KernelIdeal.κ "scale" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal_pre_finite_scores_few_full [hKernelIdeal : Cert.KernelIdeal.Facts] [hReferenceIdeal : Cert.ReferenceIdeal.Facts] [hPre_finite_scores_few_full : Cert.Pre_finite_scores_few_full.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_few_full m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_scores_few_full : Cert.Pre_finite_scores_few_full.Facts),
    quiescent_Kernel (hKernel := hKernel)
    ∧ quiescent_KernelIdeal (hKernelIdeal := hKernelIdeal)
    ∧ quiescent_KernelIdeal_pre_finite_scores_few_full (hKernelIdeal := hKernelIdeal) (hPre_finite_scores_few_full := hPre_finite_scores_few_full)
    ∧ quiescent_ReferenceIdeal (hReferenceIdeal := hReferenceIdeal)
    ∧ quiescent_ReferenceIdeal_pre_finite_scores_few_full (hReferenceIdeal := hReferenceIdeal) (hPre_finite_scores_few_full := hPre_finite_scores_few_full)
    ∧ preserves_Kernel_KernelIdeal
    ∧ algebraic_KernelIdeal_ReferenceIdeal_pre_finite_scores_few_full (hKernelIdeal := hKernelIdeal) (hReferenceIdeal := hReferenceIdeal) (hPre_finite_scores_few_full := hPre_finite_scores_few_full)
-- ==== Pre_finite_scores_few_full.lean ====
abbrev S1x2048x4096 : Shape := ⟨3, ![1, 2048, 4096]⟩
abbrev S4096x4096 : Shape := ⟨2, ![4096, 4096]⟩
abbrev S4096x1024 : Shape := ⟨2, ![4096, 1024]⟩
abbrev S1x32x128x128 : Shape := ⟨4, ![1, 32, 128, 128]⟩
abbrev S1x32x1x128 : Shape := ⟨4, ![1, 32, 1, 128]⟩
abbrev S4096 : Shape := ⟨1, ![4096]⟩
abbrev S4096x11008 : Shape := ⟨2, ![4096, 11008]⟩
abbrev S11008x4096 : Shape := ⟨2, ![11008, 4096]⟩
abbrev S_ : Shape := ⟨0, ![]⟩
abbrev S1x2048 : Shape := ⟨2, ![1, 2048]⟩
abbrev S1x2048x1 : Shape := ⟨3, ![1, 2048, 1]⟩
abbrev S1x1x4096 : Shape := ⟨3, ![1, 1, 4096]⟩
abbrev S1x2048x32x128 : Shape := ⟨4, ![1, 2048, 32, 128]⟩
abbrev S1x32x2048x128 : Shape := ⟨4, ![1, 32, 2048, 128]⟩
abbrev S1x2048x1024 : Shape := ⟨3, ![1, 2048, 1024]⟩
abbrev S1x2048x8x128 : Shape := ⟨4, ![1, 2048, 8, 128]⟩
abbrev S1x8x2048x128 : Shape := ⟨4, ![1, 8, 2048, 128]⟩
abbrev S1x8x4x2048x128 : Shape := ⟨5, ![1, 8, 4, 2048, 128]⟩
abbrev S64 : Shape := ⟨1, ![64]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x1x2048x128 : Shape := ⟨4, ![1, 1, 2048, 128]⟩
abbrev S1x32x2048x64 : Shape := ⟨4, ![1, 32, 2048, 64]⟩
abbrev S32x128x128 : Shape := ⟨3, ![32, 128, 128]⟩
abbrev S32x128x1x2048 : Shape := ⟨4, ![32, 128, 1, 2048]⟩
abbrev S1x32x2048x2048 : Shape := ⟨4, ![1, 32, 2048, 2048]⟩
abbrev S2048x2048 : Shape := ⟨2, ![2048, 2048]⟩
abbrev S1x32x2048 : Shape := ⟨3, ![1, 32, 2048]⟩
abbrev S1x32x2048x1 : Shape := ⟨4, ![1, 32, 2048, 1]⟩

class Facts : Prop where
  reducesTo_S1x2048x4096_S1x2048_d2 : S1x2048x4096.ReducesTo [2] S1x2048
  h_S_ : 0 < S_.numel
  bcast_S1x2048_S1x2048x1_0_1 : S1x2048.BroadcastsInDim S1x2048x1 (![0, 1] : Fin 2 → Fin S1x2048x1.rank)
  bcast_S_S1x2048x1 : S_.BroadcastsInDim S1x2048x1 (![] : Fin 0 → Fin S1x2048x1.rank)
  bcast_S1x2048x1_S1x2048x4096_0_1_2 : S1x2048x1.BroadcastsInDim S1x2048x4096 (![0, 1, 2] : Fin 3 → Fin S1x2048x4096.rank)
  bcast_S4096_S1x1x4096_2 : S4096.BroadcastsInDim S1x1x4096 (![2] : Fin 1 → Fin S1x1x4096.rank)
  bcast_S1x1x4096_S1x2048x4096_0_1_2 : S1x1x4096.BroadcastsInDim S1x2048x4096 (![0, 1, 2] : Fin 3 → Fin S1x2048x4096.rank)
  shapeCasts_S1x2048x4096_S1x2048x32x128 : S1x2048x4096.ShapeCasts S1x2048x32x128
  transposes_S1x2048x32x128_S1x32x2048x128_0_2_1_3 : S1x2048x32x128.Transposes [0, 2, 1, 3] S1x32x2048x128
  shapeCasts_S1x2048x1024_S1x2048x8x128 : S1x2048x1024.ShapeCasts S1x2048x8x128
  transposes_S1x2048x8x128_S1x8x2048x128_0_2_1_3 : S1x2048x8x128.Transposes [0, 2, 1, 3] S1x8x2048x128
  bcast_S1x8x2048x128_S1x8x4x2048x128_0_1_3_4 : S1x8x2048x128.BroadcastsInDim S1x8x4x2048x128 (![0, 1, 3, 4] : Fin 4 → Fin S1x8x4x2048x128.rank)
  shapeCasts_S1x8x4x2048x128_S1x32x2048x128 : S1x8x4x2048x128.ShapeCasts S1x32x2048x128
  bcast_S_S64 : S_.BroadcastsInDim S64 (![] : Fin 0 → Fin S64.rank)
  bcast_S2048_S2048x1_0 : S2048.BroadcastsInDim S2048x1 (![0] : Fin 1 → Fin S2048x1.rank)
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  concatenates_S2048x64_S2048x64_S2048x128_d1 : Shape.Concatenates [S2048x64, S2048x64] S2048x128 1
  bcast_S2048x128_S1x1x2048x128_2_3 : S2048x128.BroadcastsInDim S1x1x2048x128 (![2, 3] : Fin 2 → Fin S1x1x2048x128.rank)
  bcast_S1x1x2048x128_S1x32x2048x128_0_1_2_3 : S1x1x2048x128.BroadcastsInDim S1x32x2048x128 (![0, 1, 2, 3] : Fin 4 → Fin S1x32x2048x128.rank)
  slices_S1x32x2048x128_S1x32x2048x64_0_0_0_0 : S1x32x2048x128.Slices ![0, 0, 0, 0] S1x32x2048x64
  slices_S1x32x2048x128_S1x32x2048x64_0_0_0_64 : S1x32x2048x128.Slices ![0, 0, 0, 64] S1x32x2048x64
  concatenates_S1x32x2048x64_S1x32x2048x64_S1x32x2048x128_d3 : Shape.Concatenates [S1x32x2048x64, S1x32x2048x64] S1x32x2048x128 3
  reducesTo_S1x32x128x128_S32x128x128_d0 : S1x32x128x128.ReducesTo [0] S32x128x128
  transposes_S32x128x1x2048_S1x32x2048x128_2_0_3_1 : S32x128x1x2048.Transposes [2, 0, 3, 1] S1x32x2048x128
  bcast_S1x32x1x128_S1x32x2048x128_0_1_2_3 : S1x32x1x128.BroadcastsInDim S1x32x2048x128 (![0, 1, 2, 3] : Fin 4 → Fin S1x32x2048x128.rank)
  bcast_S_S1x32x2048x2048 : S_.BroadcastsInDim S1x32x2048x2048 (![] : Fin 0 → Fin S1x32x2048x2048.rank)
  bcast_S_S2048x2048 : S_.BroadcastsInDim S2048x2048 (![] : Fin 0 → Fin S2048x2048.rank)
  bcast_S2048x2048_S1x32x2048x2048_2_3 : S2048x2048.BroadcastsInDim S1x32x2048x2048 (![2, 3] : Fin 2 → Fin S1x32x2048x2048.rank)
  reducesTo_S1x32x2048x2048_S1x32x2048_d3 : S1x32x2048x2048.ReducesTo [3] S1x32x2048
  bcast_S1x32x2048_S1x32x2048x1_0_1_2 : S1x32x2048.BroadcastsInDim S1x32x2048x1 (![0, 1, 2] : Fin 3 → Fin S1x32x2048x1.rank)
  bcast_S_S1x32x2048x1 : S_.BroadcastsInDim S1x32x2048x1 (![] : Fin 0 → Fin S1x32x2048x1.rank)
  bcast_S1x32x2048x1_S1x32x2048x2048_0_1_2_3 : S1x32x2048x1.BroadcastsInDim S1x32x2048x2048 (![0, 1, 2, 3] : Fin 4 → Fin S1x32x2048x2048.rank)
  dot_S1x2048x4096_S4096x4096_S1x2048x4096_2_0_01_1_n_n_wf : DotDims.WF S1x2048x4096 S4096x4096 S1x2048x4096 [2] [0] [0, 1] [1] [] []
  dot_S1x2048x4096_S4096x1024_S1x2048x1024_2_0_01_1_n_n_wf : DotDims.WF S1x2048x4096 S4096x1024 S1x2048x1024 [2] [0] [0, 1] [1] [] []
  dot_S32x128x128_S1x32x2048x128_S32x128x1x2048_1_3_2_02_0_1_wf : DotDims.WF S32x128x128 S1x32x2048x128 S32x128x1x2048 [1] [3] [2] [0, 2] [0] [1]
  dot_S1x32x2048x128_S1x32x2048x128_S1x32x2048x2048_3_3_2_2_01_01_wf : DotDims.WF S1x32x2048x128 S1x32x2048x128 S1x32x2048x2048 [3] [3] [2] [2] [0, 1] [0, 1]

variable [Facts]

def dot_S1x2048x4096_S4096x4096_S1x2048x4096_2_0_01_1_n_n : DotDims S1x2048x4096 S4096x4096 S1x2048x4096 where
  lhsContracting := [2]
  rhsContracting := [0]
  lhsNonContracting := [0, 1]
  rhsNonContracting := [1]
  lhsBatch := []
  rhsBatch := []
  wf := dot_S1x2048x4096_S4096x4096_S1x2048x4096_2_0_01_1_n_n_wf
def dot_S1x2048x4096_S4096x1024_S1x2048x1024_2_0_01_1_n_n : DotDims S1x2048x4096 S4096x1024 S1x2048x1024 where
  lhsContracting := [2]
  rhsContracting := [0]
  lhsNonContracting := [0, 1]
  rhsNonContracting := [1]
  lhsBatch := []
  rhsBatch := []
  wf := dot_S1x2048x4096_S4096x1024_S1x2048x1024_2_0_01_1_n_n_wf
def dot_S32x128x128_S1x32x2048x128_S32x128x1x2048_1_3_2_02_0_1 : DotDims S32x128x128 S1x32x2048x128 S32x128x1x2048 where
  lhsContracting := [1]
  rhsContracting := [3]
  lhsNonContracting := [2]
  rhsNonContracting := [0, 2]
  lhsBatch := [0]
  rhsBatch := [1]
  wf := dot_S32x128x128_S1x32x2048x128_S32x128x1x2048_1_3_2_02_0_1_wf
def dot_S1x32x2048x128_S1x32x2048x128_S1x32x2048x2048_3_3_2_2_01_01 : DotDims S1x32x2048x128 S1x32x2048x128 S1x32x2048x2048 where
  lhsContracting := [3]
  rhsContracting := [3]
  lhsNonContracting := [2]
  rhsNonContracting := [2]
  lhsBatch := [0, 1]
  rhsBatch := [0, 1]
  wf := dot_S1x32x2048x128_S1x32x2048x128_S1x32x2048x2048_3_3_2_2_01_01_wf
def fn_where {F : FTy → Type} [FloatOps F] (arg0 : IVec S1x32x2048x2048 1) (arg1 : FVec F S_ .f32) (arg2 : FVec F S_ .f32) : FVec F S1x32x2048x2048 .f32 :=
  let v0 : FVec F S1x32x2048x2048 .f32 := broadcastInDim S1x32x2048x2048 ![] bcast_S_S1x32x2048x2048 arg1
  let v1 : FVec F S1x32x2048x2048 .f32 := broadcastInDim S1x32x2048x2048 ![] bcast_S_S1x32x2048x2048 arg2
  let v2 : FVec F S1x32x2048x2048 .f32 := select arg0 v0 v1
  v2

def fn_tril {F : FTy → Type} [FloatOps F] (arg0 : FVec F S1x32x2048x2048 .f32) : FVec F S1x32x2048x2048 .f32 :=
  let v0 : IVec S2048x2048 32 := iotaInDim S2048x2048 32 0
  let c : IVec S_ 32 := constantI S_ 32 0#32
  let v1 : IVec S2048x2048 32 := broadcastInDim S2048x2048 ![] bcast_S_S2048x2048 c
  let v2 : IVec S2048x2048 32 := addi v0 v1
  let v3 : IVec S2048x2048 32 := iotaInDim S2048x2048 32 1
  let v4 : IVec S2048x2048 1 := cmpi .sge v2 v3
  let v5 : IVec S1x32x2048x2048 1 := broadcastInDim S1x32x2048x2048 ![2, 3] bcast_S2048x2048_S1x32x2048x2048_2_3 v4
  let cst : FVec F S_ .f32 := constant S_ .f32 0x00000000#32
  let v6 : FVec F S1x32x2048x2048 .f32 := broadcastInDim S1x32x2048x2048 ![] bcast_S_S1x32x2048x2048 cst
  let v7 : FVec F S1x32x2048x2048 .f32 := select v5 arg0 v6
  v7

def fn_tril_0 {F : FTy → Type} [FloatOps F] (arg0 : FVec F S1x32x2048x2048 .f32) : FVec F S1x32x2048x2048 .f32 :=
  let v0 : IVec S2048x2048 32 := iotaInDim S2048x2048 32 0
  let c : IVec S_ 32 := constantI S_ 32 0#32
  let v1 : IVec S2048x2048 32 := broadcastInDim S2048x2048 ![] bcast_S_S2048x2048 c
  let v2 : IVec S2048x2048 32 := addi v0 v1
  let v3 : IVec S2048x2048 32 := iotaInDim S2048x2048 32 1
  let v4 : IVec S2048x2048 1 := cmpi .sge v2 v3
  let v5 : IVec S1x32x2048x2048 1 := broadcastInDim S1x32x2048x2048 ![2, 3] bcast_S2048x2048_S1x32x2048x2048_2_3 v4
  let cst : FVec F S_ .f32 := constant S_ .f32 0x00000000#32
  let v6 : FVec F S1x32x2048x2048 .f32 := broadcastInDim S1x32x2048x2048 ![] bcast_S_S1x32x2048x2048 cst
  let v7 : FVec F S1x32x2048x2048 .f32 := select v5 arg0 v6
  v7

def fn_part4 {F : FTy → Type} [FloatOps F] (main_v51 : FVec F S1x32x2048x128 .f32) (main_v62 : FVec F S1x32x2048x128 .f32) (main_v81 : FVec F S1x32x2048 .f32) : IVec S1x32x2048x2048 1 :=
  let main_v82 : FVec F S1x32x2048x1 .f32 := broadcastInDim S1x32x2048x1 ![0, 1, 2] bcast_S1x32x2048_S1x32x2048x1_0_1_2 main_v81
  let main_cst_13 : FVec F S_ .f32 := constant S_ .f32 0x434D0000#32
  let main_v83 : FVec F S1x32x2048x1 .f32 := broadcastInDim S1x32x2048x1 ![] bcast_S_S1x32x2048x1 main_cst_13
  let main_v84 : IVec S1x32x2048x1 1 := cmpf .olt main_v82 main_v83
  let main_v85 : FVec F S1x32x2048x2048 .f32 := (fun l r => Host.dotGeneral dot_S1x32x2048x128_S1x32x2048x128_S1x32x2048x2048_3_3_2_2_01_01 none l r) main_v51 main_v62
  let main_v86 : FVec F S1x32x2048x2048 .f32 := fn_tril_0 (F := F) main_v85
  let main_v87 : FVec F S1x32x2048x2048 .f32 := Host.absf main_v86
  let main_cst_14 : FVec F S_ .f32 := constant S_ .f32 0x7F800000#32
  let main_v88 : FVec F S1x32x2048x2048 .f32 := broadcastInDim S1x32x2048x2048 ![] bcast_S_S1x32x2048x2048 main_cst_14
  let main_v89 : IVec S1x32x2048x2048 1 := cmpf .olt main_v87 main_v88
  let main_v90 : IVec S1x32x2048x2048 1 := broadcastInDim S1x32x2048x2048 ![0, 1, 2, 3] bcast_S1x32x2048x1_S1x32x2048x2048_0_1_2_3 main_v84
  let main_v91 : IVec S1x32x2048x2048 1 := andi main_v90 main_v89
  main_v91

def fn_part3 {F : FTy → Type} [FloatOps F] (main_arg5 : FVec F S1x32x128x128 .f32) (main_arg6 : FVec F S1x32x1x128 .f32) (main_v51 : FVec F S1x32x2048x128 .f32) (main_v62 : FVec F S1x32x2048x128 .f32) (main_cst_7 : FVec F S_ .f32) : IVec S1x32x2048x2048 1 :=
  let main_v63 : FVec F S32x128x128 .f32 := (fun x v => Host.reduceAdd x v reducesTo_S1x32x128x128_S32x128x128_d0 h_S_) main_arg5 main_cst_7
  let main_v64 : FVec F S32x128x1x2048 .f32 := (fun l r => Host.dotGeneral dot_S32x128x128_S1x32x2048x128_S32x128x1x2048_1_3_2_02_0_1 none l r) main_v63 main_v51
  let main_v65 : FVec F S1x32x2048x128 .f32 := (transpose S1x32x2048x128 [2, 0, 3, 1] · transposes_S32x128x1x2048_S1x32x2048x128_2_0_3_1) main_v64
  let main_v66 : FVec F S1x32x2048x128 .f32 := broadcastInDim S1x32x2048x128 ![0, 1, 2, 3] bcast_S1x32x1x128_S1x32x2048x128_0_1_2_3 main_arg6
  let main_v67 : FVec F S1x32x2048x128 .f32 := addf main_v65 main_v66
  let main_v68 : FVec F S1x32x2048x128 .f32 := Host.sign main_v67
  let main_cst_8 : FVec F S_ .f32 := constant S_ .f32 0x00000000#32
  let main_v69 : FVec F S32x128x128 .f32 := (fun x v => Host.reduceAdd x v reducesTo_S1x32x128x128_S32x128x128_d0 h_S_) main_arg5 main_cst_8
  let main_v70 : FVec F S32x128x1x2048 .f32 := (fun l r => Host.dotGeneral dot_S32x128x128_S1x32x2048x128_S32x128x1x2048_1_3_2_02_0_1 none l r) main_v69 main_v62
  let main_v71 : FVec F S1x32x2048x128 .f32 := (transpose S1x32x2048x128 [2, 0, 3, 1] · transposes_S32x128x1x2048_S1x32x2048x128_2_0_3_1) main_v70
  let main_v72 : FVec F S1x32x2048x128 .f32 := broadcastInDim S1x32x2048x128 ![0, 1, 2, 3] bcast_S1x32x1x128_S1x32x2048x128_0_1_2_3 main_arg6
  let main_v73 : FVec F S1x32x2048x128 .f32 := addf main_v71 main_v72
  let main_v74 : FVec F S1x32x2048x128 .f32 := Host.sign main_v73
  let main_v75 : FVec F S1x32x2048x2048 .f32 := (fun l r => Host.dotGeneral dot_S1x32x2048x128_S1x32x2048x128_S1x32x2048x2048_3_3_2_2_01_01 none l r) main_v68 main_v74
  let main_cst_9 : FVec F S_ .f32 := constant S_ .f32 0x42FE0000#32
  let main_v76 : FVec F S1x32x2048x2048 .f32 := broadcastInDim S1x32x2048x2048 ![] bcast_S_S1x32x2048x2048 main_cst_9
  let main_v77 : IVec S1x32x2048x2048 1 := cmpf .oge main_v75 main_v76
  let main_cst_10 : FVec F S_ .f32 := constant S_ .f32 0x3F800000#32
  let main_cst_11 : FVec F S_ .f32 := constant S_ .f32 0x00000000#32
  let main_v78 : FVec F S1x32x2048x2048 .f32 := fn_where (F := F) main_v77 main_cst_10 main_cst_11
  let main_v79 : FVec F S1x32x2048x2048 .f32 := fn_tril (F := F) main_v78
  let main_v80 : FVec F S1x32x2048x2048 .f32 := id main_v79
  let main_cst_12 : FVec F S_ .f32 := constant S_ .f32 0x00000000#32
  let main_v81 : FVec F S1x32x2048 .f32 := (fun x v => Host.reduceAdd x v reducesTo_S1x32x2048x2048_S1x32x2048_d3 h_S_) main_v80 main_cst_12
  fn_part4 (F := F) main_v51 main_v62 main_v81

def fn_part2 {F : FTy → Type} [FloatOps F] (main_arg5 : FVec F S1x32x128x128 .f32) (main_arg6 : FVec F S1x32x1x128 .f32) (main_v15 : FVec F S1x32x2048x128 .f32) (main_v20 : FVec F S1x32x2048x128 .f32) (main_v38 : FVec F S2048x128 .f32) (main_v39 : FVec F S2048x128 .f32) : IVec S1x32x2048x2048 1 :=
  let main_v40 : FVec F S2048x128 .f32 := Host.sin main_v38
  let main_v41 : FVec F S1x1x2048x128 .f32 := broadcastInDim S1x1x2048x128 ![2, 3] bcast_S2048x128_S1x1x2048x128_2_3 main_v39
  let main_v42 : FVec F S1x32x2048x128 .f32 := broadcastInDim S1x32x2048x128 ![0, 1, 2, 3] bcast_S1x1x2048x128_S1x32x2048x128_0_1_2_3 main_v41
  let main_v43 : FVec F S1x32x2048x128 .f32 := mulf main_v15 main_v42
  let main_v44 : FVec F S1x32x2048x64 .f32 := (extractStridedSlice S1x32x2048x64 ![0, 0, 0, 0] · slices_S1x32x2048x128_S1x32x2048x64_0_0_0_0) main_v15
  let main_v45 : FVec F S1x32x2048x64 .f32 := (extractStridedSlice S1x32x2048x64 ![0, 0, 0, 64] · slices_S1x32x2048x128_S1x32x2048x64_0_0_0_64) main_v15
  let main_v46 : FVec F S1x32x2048x64 .f32 := Host.negf main_v45
  let main_v47 : FVec F S1x32x2048x128 .f32 := (fun a b => concatenate S1x32x2048x128 3 [⟨S1x32x2048x64, a⟩, ⟨S1x32x2048x64, b⟩] concatenates_S1x32x2048x64_S1x32x2048x64_S1x32x2048x128_d3) main_v46 main_v44
  let main_v48 : FVec F S1x1x2048x128 .f32 := broadcastInDim S1x1x2048x128 ![2, 3] bcast_S2048x128_S1x1x2048x128_2_3 main_v40
  let main_v49 : FVec F S1x32x2048x128 .f32 := broadcastInDim S1x32x2048x128 ![0, 1, 2, 3] bcast_S1x1x2048x128_S1x32x2048x128_0_1_2_3 main_v48
  let main_v50 : FVec F S1x32x2048x128 .f32 := mulf main_v47 main_v49
  let main_v51 : FVec F S1x32x2048x128 .f32 := addf main_v43 main_v50
  let main_v52 : FVec F S1x1x2048x128 .f32 := broadcastInDim S1x1x2048x128 ![2, 3] bcast_S2048x128_S1x1x2048x128_2_3 main_v39
  let main_v53 : FVec F S1x32x2048x128 .f32 := broadcastInDim S1x32x2048x128 ![0, 1, 2, 3] bcast_S1x1x2048x128_S1x32x2048x128_0_1_2_3 main_v52
  let main_v54 : FVec F S1x32x2048x128 .f32 := mulf main_v20 main_v53
  let main_v55 : FVec F S1x32x2048x64 .f32 := (extractStridedSlice S1x32x2048x64 ![0, 0, 0, 0] · slices_S1x32x2048x128_S1x32x2048x64_0_0_0_0) main_v20
  let main_v56 : FVec F S1x32x2048x64 .f32 := (extractStridedSlice S1x32x2048x64 ![0, 0, 0, 64] · slices_S1x32x2048x128_S1x32x2048x64_0_0_0_64) main_v20
  let main_v57 : FVec F S1x32x2048x64 .f32 := Host.negf main_v56
  let main_v58 : FVec F S1x32x2048x128 .f32 := (fun a b => concatenate S1x32x2048x128 3 [⟨S1x32x2048x64, a⟩, ⟨S1x32x2048x64, b⟩] concatenates_S1x32x2048x64_S1x32x2048x64_S1x32x2048x128_d3) main_v57 main_v55
  let main_v59 : FVec F S1x1x2048x128 .f32 := broadcastInDim S1x1x2048x128 ![2, 3] bcast_S2048x128_S1x1x2048x128_2_3 main_v40
  let main_v60 : FVec F S1x32x2048x128 .f32 := broadcastInDim S1x32x2048x128 ![0, 1, 2, 3] bcast_S1x1x2048x128_S1x32x2048x128_0_1_2_3 main_v59
  let main_v61 : FVec F S1x32x2048x128 .f32 := mulf main_v58 main_v60
  let main_v62 : FVec F S1x32x2048x128 .f32 := addf main_v54 main_v61
  let main_cst_7 : FVec F S_ .f32 := constant S_ .f32 0x00000000#32
  fn_part3 (F := F) main_arg5 main_arg6 main_v51 main_v62 main_cst_7

def fn_part1 {F : FTy → Type} [FloatOps F] (main_arg5 : FVec F S1x32x128x128 .f32) (main_arg6 : FVec F S1x32x1x128 .f32) (main_v15 : FVec F S1x32x2048x128 .f32) (main_v20 : FVec F S1x32x2048x128 .f32) : IVec S1x32x2048x2048 1 :=
  let main_v21 : FVec F S64 .f32 := sitofp .f32 (iotaInDim S64 32 0)
  let main_cst_2 : FVec F S_ .f32 := constant S_ .f32 0x40000000#32
  let main_v22 : FVec F S64 .f32 := broadcastInDim S64 ![] bcast_S_S64 main_cst_2
  let main_v23 : FVec F S64 .f32 := mulf main_v22 main_v21
  let main_cst_3 : FVec F S_ .f32 := constant S_ .f32 0x00000000#32
  let main_v24 : FVec F S64 .f32 := broadcastInDim S64 ![] bcast_S_S64 main_cst_3
  let main_v25 : FVec F S64 .f32 := addf main_v24 main_v23
  let main_cst_4 : FVec F S_ .f32 := constant S_ .f32 0x43000000#32
  let main_v26 : FVec F S64 .f32 := broadcastInDim S64 ![] bcast_S_S64 main_cst_4
  let main_v27 : FVec F S64 .f32 := Host.divf main_v25 main_v26
  let main_cst_5 : FVec F S_ .f32 := constant S_ .f32 0x461C4000#32
  let main_v28 : FVec F S64 .f32 := broadcastInDim S64 ![] bcast_S_S64 main_cst_5
  let main_v29 : FVec F S64 .f32 := Host.powf main_v28 main_v27
  let main_cst_6 : FVec F S_ .f32 := constant S_ .f32 0x3F800000#32
  let main_v30 : FVec F S64 .f32 := broadcastInDim S64 ![] bcast_S_S64 main_cst_6
  let main_v31 : FVec F S64 .f32 := Host.divf main_v30 main_v29
  let main_v32 : FVec F S2048 .f32 := sitofp .f32 (iotaInDim S2048 32 0)
  let main_v33 : FVec F S2048x1 .f32 := broadcastInDim S2048x1 ![0] bcast_S2048_S2048x1_0 main_v32
  let main_v34 : FVec F S1x64 .f32 := broadcastInDim S1x64 ![1] bcast_S64_S1x64_1 main_v31
  let main_v35 : FVec F S2048x64 .f32 := broadcastInDim S2048x64 ![0, 1] bcast_S2048x1_S2048x64_0_1 main_v33
  let main_v36 : FVec F S2048x64 .f32 := broadcastInDim S2048x64 ![0, 1] bcast_S1x64_S2048x64_0_1 main_v34
  let main_v37 : FVec F S2048x64 .f32 := mulf main_v35 main_v36
  let main_v38 : FVec F S2048x128 .f32 := (fun a b => concatenate S2048x128 1 [⟨S2048x64, a⟩, ⟨S2048x64, b⟩] concatenates_S2048x64_S2048x64_S2048x128_d1) main_v37 main_v37
  let main_v39 : FVec F S2048x128 .f32 := Host.cos main_v38
  fn_part2 (F := F) main_arg5 main_arg6 main_v15 main_v20 main_v38 main_v39

def fn {F : FTy → Type} [FloatOps F] (main_arg0 : FVec F S1x2048x4096 .f32) (main_arg1 : FVec F S4096x4096 .f32) (main_arg2 : FVec F S4096x1024 .f32) (main_arg3 : FVec F S4096x1024 .f32) (main_arg4 : FVec F S4096x4096 .f32) (main_arg5 : FVec F S1x32x128x128 .f32) (main_arg6 : FVec F S1x32x1x128 .f32) (main_arg7 : FVec F S4096 .f32) (main_arg8 : FVec F S4096 .f32) (main_arg9 : FVec F S4096x11008 .f32) (main_arg10 : FVec F S4096x11008 .f32) (main_arg11 : FVec F S11008x4096 .f32) : IVec S1x32x2048x2048 1 :=
  let main_v0 : FVec F S1x2048x4096 .f32 := mulf main_arg0 main_arg0
  let main_cst : FVec F S_ .f32 := constant S_ .f32 0x00000000#32
  let main_v1 : FVec F S1x2048 .f32 := (fun x v => Host.reduceAdd x v reducesTo_S1x2048x4096_S1x2048_d2 h_S_) main_v0 main_cst
  let main_v2 : FVec F S1x2048x1 .f32 := broadcastInDim S1x2048x1 ![0, 1] bcast_S1x2048_S1x2048x1_0_1 main_v1
  let main_cst_0 : FVec F S_ .f32 := constant S_ .f32 0x45800000#32
  let main_v3 : FVec F S1x2048x1 .f32 := broadcastInDim S1x2048x1 ![] bcast_S_S1x2048x1 main_cst_0
  let main_v4 : FVec F S1x2048x1 .f32 := Host.divf main_v2 main_v3
  let main_cst_1 : FVec F S_ .f32 := constant S_ .f32 0x358637BD#32
  let main_v5 : FVec F S1x2048x1 .f32 := broadcastInDim S1x2048x1 ![] bcast_S_S1x2048x1 main_cst_1
  let main_v6 : FVec F S1x2048x1 .f32 := addf main_v4 main_v5
  let main_v7 : FVec F S1x2048x1 .f32 := Host.rsqrt main_v6
  let main_v8 : FVec F S1x2048x4096 .f32 := broadcastInDim S1x2048x4096 ![0, 1, 2] bcast_S1x2048x1_S1x2048x4096_0_1_2 main_v7
  let main_v9 : FVec F S1x2048x4096 .f32 := mulf main_arg0 main_v8
  let main_v10 : FVec F S1x1x4096 .f32 := broadcastInDim S1x1x4096 ![2] bcast_S4096_S1x1x4096_2 main_arg7
  let main_v11 : FVec F S1x2048x4096 .f32 := broadcastInDim S1x2048x4096 ![0, 1, 2] bcast_S1x1x4096_S1x2048x4096_0_1_2 main_v10
  let main_v12 : FVec F S1x2048x4096 .f32 := mulf main_v9 main_v11
  let main_v13 : FVec F S1x2048x4096 .f32 := (fun l r => Host.dotGeneral dot_S1x2048x4096_S4096x4096_S1x2048x4096_2_0_01_1_n_n none l r) main_v12 main_arg1
  let main_v14 : FVec F S1x2048x32x128 .f32 := shapeCast S1x2048x32x128 main_v13 shapeCasts_S1x2048x4096_S1x2048x32x128
  let main_v15 : FVec F S1x32x2048x128 .f32 := (transpose S1x32x2048x128 [0, 2, 1, 3] · transposes_S1x2048x32x128_S1x32x2048x128_0_2_1_3) main_v14
  let main_v16 : FVec F S1x2048x1024 .f32 := (fun l r => Host.dotGeneral dot_S1x2048x4096_S4096x1024_S1x2048x1024_2_0_01_1_n_n none l r) main_v12 main_arg2
  let main_v17 : FVec F S1x2048x8x128 .f32 := shapeCast S1x2048x8x128 main_v16 shapeCasts_S1x2048x1024_S1x2048x8x128
  let main_v18 : FVec F S1x8x2048x128 .f32 := (transpose S1x8x2048x128 [0, 2, 1, 3] · transposes_S1x2048x8x128_S1x8x2048x128_0_2_1_3) main_v17
  let main_v19 : FVec F S1x8x4x2048x128 .f32 := broadcastInDim S1x8x4x2048x128 ![0, 1, 3, 4] bcast_S1x8x2048x128_S1x8x4x2048x128_0_1_3_4 main_v18
  let main_v20 : FVec F S1x32x2048x128 .f32 := shapeCast S1x32x2048x128 main_v19 shapeCasts_S1x8x4x2048x128_S1x32x2048x128
  fn_part1 (F := F) main_arg5 main_arg6 main_v15 main_v20
-- ==== Kernel.lean ====
abbrev S1x2048x4096 : Shape := ⟨3, ![1, 2048, 4096]⟩
abbrev S4096x4096 : Shape := ⟨2, ![4096, 4096]⟩
abbrev S4096x1024 : Shape := ⟨2, ![4096, 1024]⟩
abbrev S1x32x128x128 : Shape := ⟨4, ![1, 32, 128, 128]⟩
abbrev S1x32x1x128 : Shape := ⟨4, ![1, 32, 1, 128]⟩
abbrev S4096 : Shape := ⟨1, ![4096]⟩
abbrev S4096x11008 : Shape := ⟨2, ![4096, 11008]⟩
abbrev S11008x4096 : Shape := ⟨2, ![11008, 4096]⟩
abbrev S2048x4096 : Shape := ⟨2, ![2048, 4096]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S256x256 : Shape := ⟨2, ![256, 256]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S4096x6144 : Shape := ⟨2, ![4096, 6144]⟩
abbrev S2048x6144 : Shape := ⟨2, ![2048, 6144]⟩
abbrev S512x4096 : Shape := ⟨2, ![512, 4096]⟩
abbrev S512x1024 : Shape := ⟨2, ![512, 1024]⟩
abbrev S32x128x128 : Shape := ⟨3, ![32, 128, 128]⟩
abbrev S32x1x128 : Shape := ⟨3, ![32, 1, 128]⟩
abbrev S1x128x128 : Shape := ⟨3, ![1, 128, 128]⟩
abbrev S1x1x128 : Shape := ⟨3, ![1, 1, 128]⟩
abbrev S128x128 : Shape := ⟨2, ![128, 128]⟩
abbrev S1x128 : Shape := ⟨2, ![1, 128]⟩
abbrev S256x128 : Shape := ⟨2, ![256, 128]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩
abbrev S256x2048 : Shape := ⟨2, ![256, 2048]⟩
abbrev S2048x11008 : Shape := ⟨2, ![2048, 11008]⟩
abbrev S4096x256 : Shape := ⟨2, ![4096, 256]⟩
abbrev S2048x256 : Shape := ⟨2, ![2048, 256]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 72
  | .vmem => 161
  | .smem => 0
  | _ => 0

abbrev vmemTy0_0 (i : Nat) : BufTy := match i % 128 with
  | 0 => ⟨S256x4096, .f32⟩
  | 1 => ⟨S256x4096, .f32⟩
  | 2 => ⟨S1x4096, .f32⟩
  | 3 => ⟨S256x4096, .bf16⟩
  | 4 => ⟨S256x4096, .bf16⟩
  | 5 => ⟨S512x4096, .bf16⟩
  | 6 => ⟨S512x4096, .bf16⟩
  | 7 => ⟨S4096x1024, .bf16⟩
  | 8 => ⟨S4096x1024, .bf16⟩
  | 9 => ⟨S512x1024, .f32⟩
  | 10 => ⟨S512x1024, .f32⟩
  | 11 => ⟨S2048x128, .f32⟩
  | 12 => ⟨S2048x128, .f32⟩
  | 13 => ⟨S2048x128, .f32⟩
  | 14 => ⟨S2048x128, .f32⟩
  | 15 => ⟨S2048x128, .f32⟩
  | 16 => ⟨S2048x128, .f32⟩
  | 17 => ⟨S1x128x128, .f32⟩
  | 18 => ⟨S1x128x128, .f32⟩
  | 19 => ⟨S1x1x128, .f32⟩
  | 20 => ⟨S1x1x128, .f32⟩
  | 21 => ⟨S2048x128, .bf16⟩
  | 22 => ⟨S2048x128, .bf16⟩
  | 23 => ⟨S2048x128, .bf16⟩
  | 24 => ⟨S2048x128, .bf16⟩
  | 25 => ⟨S2048x128, .bf16⟩
  | 26 => ⟨S2048x128, .bf16⟩
  | 27 => ⟨S2048x128, .bf16⟩
  | 28 => ⟨S2048x128, .bf16⟩
  | 29 => ⟨S256x128, .bf16⟩
  | 30 => ⟨S256x128, .bf16⟩
  | 31 => ⟨S256x128, .bf16⟩
  | 32 => ⟨S256x128, .bf16⟩
  | 33 => ⟨S256x128, .bf16⟩
  | 34 => ⟨S256x128, .bf16⟩
  | 35 => ⟨S256x128, .bf16⟩
  | 36 => ⟨S256x128, .bf16⟩
  | 37 => ⟨S256x128, .f32⟩
  | 38 => ⟨S256x128, .f32⟩
  | 39 => ⟨S256x256, .bf16⟩
  | 40 => ⟨S256x128, .bf16⟩
  | 41 => ⟨S256x128, .bf16⟩
  | 42 => ⟨S256x128, .bf16⟩
  | 43 => ⟨S256x128, .bf16⟩
  | 44 => ⟨S512x128, .bf16⟩
  | 45 => ⟨S512x128, .bf16⟩
  | 46 => ⟨S256x128, .bf16⟩
  | 47 => ⟨S256x128, .bf16⟩
  | 48 => ⟨S512x128, .bf16⟩
  | 49 => ⟨S512x128, .bf16⟩
  | 50 => ⟨S512x128, .f32⟩
  | 51 => ⟨S512x128, .f32⟩
  | 52 => ⟨S256x256, .bf16⟩
  | 53 => ⟨S256x128, .bf16⟩
  | 54 => ⟨S256x128, .bf16⟩
  | 55 => ⟨S256x128, .bf16⟩
  | 56 => ⟨S256x128, .bf16⟩
  | 57 => ⟨S768x128, .bf16⟩
  | 58 => ⟨S768x128, .bf16⟩
  | 59 => ⟨S256x128, .bf16⟩
  | 60 => ⟨S256x128, .bf16⟩
  | 61 => ⟨S768x128, .bf16⟩
  | 62 => ⟨S768x128, .bf16⟩
  | 63 => ⟨S768x128, .f32⟩
  | 64 => ⟨S768x128, .f32⟩
  | 65 => ⟨S256x256, .bf16⟩
  | 66 => ⟨S256x128, .bf16⟩
  | 67 => ⟨S256x128, .bf16⟩
  | 68 => ⟨S256x128, .bf16⟩
  | 69 => ⟨S256x128, .bf16⟩
  | 70 => ⟨S1024x128, .bf16⟩
  | 71 => ⟨S1024x128, .bf16⟩
  | 72 => ⟨S256x128, .bf16⟩
  | 73 => ⟨S256x128, .bf16⟩
  | 74 => ⟨S1024x128, .bf16⟩
  | 75 => ⟨S1024x128, .bf16⟩
  | 76 => ⟨S1024x128, .f32⟩
  | 77 => ⟨S1024x128, .f32⟩
  | 78 => ⟨S256x256, .bf16⟩
  | 79 => ⟨S256x128, .bf16⟩
  | 80 => ⟨S256x128, .bf16⟩
  | 81 => ⟨S256x128, .bf16⟩
  | 82 => ⟨S256x128, .bf16⟩
  | 83 => ⟨S1280x128, .bf16⟩
  | 84 => ⟨S1280x128, .bf16⟩
  | 85 => ⟨S256x128, .bf16⟩
  | 86 => ⟨S256x128, .bf16⟩
  | 87 => ⟨S1280x128, .bf16⟩
  | 88 => ⟨S1280x128, .bf16⟩
  | 89 => ⟨S1280x128, .f32⟩
  | 90 => ⟨S1280x128, .f32⟩
  | 91 => ⟨S256x256, .bf16⟩
  | 92 => ⟨S256x128, .bf16⟩
  | 93 => ⟨S256x128, .bf16⟩
  | 94 => ⟨S256x128, .bf16⟩
  | 95 => ⟨S256x128, .bf16⟩
  | 96 => ⟨S1536x128, .bf16⟩
  | 97 => ⟨S1536x128, .bf16⟩
  | 98 => ⟨S256x128, .bf16⟩
  | 99 => ⟨S256x128, .bf16⟩
  | 100 => ⟨S1536x128, .bf16⟩
  | 101 => ⟨S1536x128, .bf16⟩
  | 102 => ⟨S1536x128, .f32⟩
  | 103 => ⟨S1536x128, .f32⟩
  | 104 => ⟨S256x256, .bf16⟩
  | 105 => ⟨S256x128, .bf16⟩
  | 106 => ⟨S256x128, .bf16⟩
  | 107 => ⟨S256x128, .bf16⟩
  | 108 => ⟨S256x128, .bf16⟩
  | 109 => ⟨S1792x128, .bf16⟩
  | 110 => ⟨S1792x128, .bf16⟩
  | 111 => ⟨S256x128, .bf16⟩
  | 112 => ⟨S256x128, .bf16⟩
  | 113 => ⟨S1792x128, .bf16⟩
  | 114 => ⟨S1792x128, .bf16⟩
  | 115 => ⟨S1792x128, .f32⟩
  | 116 => ⟨S1792x128, .f32⟩
  | 117 => ⟨S256x256, .bf16⟩
  | 118 => ⟨S256x128, .bf16⟩
  | 119 => ⟨S256x128, .bf16⟩
  | 120 => ⟨S256x128, .bf16⟩
  | 121 => ⟨S256x128, .bf16⟩
  | 122 => ⟨S2048x128, .bf16⟩
  | 123 => ⟨S2048x128, .bf16⟩
  | 124 => ⟨S256x128, .bf16⟩
  | 125 => ⟨S256x128, .bf16⟩
  | 126 => ⟨S2048x128, .bf16⟩
  | 127 => ⟨S2048x128, .bf16⟩
  | _ => ⟨S1x2048x4096, .f32⟩

abbrev vmemTy0_1 (i : Nat) : BufTy := match i % 128 with
  | 0 => ⟨S2048x128, .f32⟩
  | 1 => ⟨S2048x128, .f32⟩
  | 2 => ⟨S256x256, .bf16⟩
  | 3 => ⟨S256x128, .bf16⟩
  | 4 => ⟨S256x128, .bf16⟩
  | 5 => ⟨S512x4096, .bf16⟩
  | 6 => ⟨S512x4096, .bf16⟩
  | 7 => ⟨S4096x1024, .bf16⟩
  | 8 => ⟨S4096x1024, .bf16⟩
  | 9 => ⟨S512x1024, .f32⟩
  | 10 => ⟨S512x1024, .f32⟩
  | 11 => ⟨S512x1024, .f32⟩
  | 12 => ⟨S512x1024, .f32⟩
  | 13 => ⟨S256x4096, .f32⟩
  | 14 => ⟨S256x4096, .f32⟩
  | 15 => ⟨S1x4096, .f32⟩
  | 16 => ⟨S256x4096, .bf16⟩
  | 17 => ⟨S256x4096, .bf16⟩
  | 18 => ⟨S2048x4096, .bf16⟩
  | 19 => ⟨S4096x256, .f32⟩
  | 20 => ⟨S4096x256, .f32⟩
  | 21 => ⟨S4096x256, .f32⟩
  | 22 => ⟨S4096x256, .f32⟩
  | 23 => ⟨S2048x256, .bf16⟩
  | 24 => ⟨S2048x256, .bf16⟩
  | 25 => ⟨S512x11008, .bf16⟩
  | 26 => ⟨S512x11008, .bf16⟩
  | 27 => ⟨S11008x512, .bf16⟩
  | 28 => ⟨S11008x512, .bf16⟩
  | 29 => ⟨S512x512, .f32⟩
  | 30 => ⟨S512x512, .f32⟩
  | 31 => ⟨S512x512, .f32⟩
  | 32 => ⟨S512x512, .f32⟩
  | _ => ⟨S1x2048x4096, .f32⟩

abbrev vmemTy (i : Nat) : BufTy := match i / 128 with
  | 0 => vmemTy0_0 i
  | 1 => vmemTy0_1 i
  | _ => ⟨S1x2048x4096, .f32⟩

abbrev bufTy : (tb : Table) → Fin (tcTables nBuf tb) → BufTy
  | .hbm, ⟨0, _⟩ => ⟨S1x2048x4096, .f32⟩
  | .hbm, ⟨1, _⟩ => ⟨S4096x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S1x32x128x128, .f32⟩
  | .hbm, ⟨6, _⟩ => ⟨S1x32x1x128, .f32⟩
  | .hbm, ⟨7, _⟩ => ⟨S4096, .f32⟩
  | .hbm, ⟨8, _⟩ => ⟨S4096, .f32⟩
  | .hbm, ⟨9, _⟩ => ⟨S4096x11008, .f32⟩
  | .hbm, ⟨10, _⟩ => ⟨S4096x11008, .f32⟩
  | .hbm, ⟨11, _⟩ => ⟨S11008x4096, .f32⟩
  | .hbm, ⟨12, _⟩ => ⟨S2048x4096, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S2048, .f32⟩
  | .hbm, ⟨30, _⟩ => ⟨S2048x1, .f32⟩
  | .hbm, ⟨31, _⟩ => ⟨S1x64, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S256x256, .i32⟩
  | .hbm, ⟨39, _⟩ => ⟨S256x256, .i32⟩
  | .hbm, ⟨40, _⟩ => ⟨S256x256, .i1⟩
  | .hbm, ⟨41, _⟩ => ⟨S256x256, .bf16⟩
  | .hbm, ⟨42, _⟩ => ⟨S1x4096, .f32⟩
  | .hbm, ⟨43, _⟩ => ⟨S2048x4096, .bf16⟩
  | .hbm, ⟨44, _⟩ => ⟨S4096x4096, .bf16⟩
  | .hbm, ⟨45, _⟩ => ⟨S4096x1024, .bf16⟩
  | .hbm, ⟨46, _⟩ => ⟨S4096x1024, .bf16⟩
  | .hbm, ⟨47, _⟩ => ⟨S4096x6144, .bf16⟩
  | .hbm, ⟨48, _⟩ => ⟨S2048x6144, .f32⟩
  | .hbm, ⟨49, _⟩ => ⟨S32x128x128, .f32⟩
  | .hbm, ⟨50, _⟩ => ⟨S32x1x128, .f32⟩
  | .hbm, ⟨51, _⟩ => ⟨S2048x4096, .bf16⟩
  | .hbm, ⟨52, _⟩ => ⟨S2048x4096, .bf16⟩
  | .hbm, ⟨53, _⟩ => ⟨S2048x4096, .bf16⟩
  | .hbm, ⟨54, _⟩ => ⟨S2048x4096, .bf16⟩
  | .hbm, ⟨55, _⟩ => ⟨S256x4096, .bf16⟩
  | .hbm, ⟨56, _⟩ => ⟨S256x4096, .bf16⟩
  | .hbm, ⟨57, _⟩ => ⟨S256x4096, .bf16⟩
  | .hbm, ⟨58, _⟩ => ⟨S256x4096, .bf16⟩
  | .hbm, ⟨59, _⟩ => ⟨S256x4096, .bf16⟩
  | .hbm, ⟨60, _⟩ => ⟨S256x4096, .bf16⟩
  | .hbm, ⟨61, _⟩ => ⟨S256x4096, .bf16⟩
  | .hbm, ⟨62, _⟩ => ⟨S256x4096, .bf16⟩
  | .hbm, ⟨63, _⟩ => ⟨S2048x4096, .bf16⟩
  | .hbm, ⟨64, _⟩ => ⟨S4096x4096, .bf16⟩
  | .hbm, ⟨65, _⟩ => ⟨S2048x4096, .f32⟩
  | .hbm, ⟨66, _⟩ => ⟨S1x4096, .f32⟩
  | .hbm, ⟨67, _⟩ => ⟨S2048x4096, .bf16⟩
  | .hbm, ⟨68, _⟩ => ⟨S2048x11008, .bf16⟩
  | .hbm, ⟨69, _⟩ => ⟨S11008x4096, .bf16⟩
  | .hbm, ⟨70, _⟩ => ⟨S2048x4096, .f32⟩
  | .hbm, ⟨71, _⟩ => ⟨S1x2048x4096, .f32⟩
  | .local _ .vmem, ⟨i, _⟩ => vmemTy i
  | _, _ => ⟨S1x2048x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 161 → Bool
  | ⟨i, _⟩ => dmaSemScopedAt i

abbrev sig : RefSig :=
  ofTc nBuf bufTy 0 161 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34_0 : Ref sig .tc := ⟨.hbm, 51, rfl⟩
abbrev main_v34_1 : Ref sig .tc := ⟨.hbm, 52, rfl⟩
abbrev main_v34_2 : Ref sig .tc := ⟨.hbm, 53, rfl⟩
abbrev main_v34_3 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg5_1 : Ref sig .tc := ⟨.vmem, 20, rfl⟩
abbrev cc2_stg6_0 : Ref sig .tc := ⟨.vmem, 21, rfl⟩
abbrev cc2_stg6_1 : Ref sig .tc := ⟨.vmem, 22, rfl⟩
abbrev cc2_stg7_0 : Ref sig .tc := ⟨.vmem, 23, rfl⟩
abbrev cc2_stg7_1 : Ref sig .tc := ⟨.vmem, 24, rfl⟩
abbrev cc2_stg8_0 : Ref sig .tc := ⟨.vmem, 25, rfl⟩
abbrev cc2_stg8_1 : Ref sig .tc := ⟨.vmem, 26, rfl⟩
abbrev cc2_stg9_0 : Ref sig .tc := ⟨.vmem, 27, rfl⟩
abbrev cc2_stg9_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg4_1 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg6_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc4_stg4_0 : Ref sig .tc := ⟨.vmem, 50, rfl⟩
abbrev cc4_stg4_1 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg6_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg2_1 : Ref sig .tc := ⟨.vmem, 60, rfl⟩
abbrev cc5_stg3_0 : Ref sig .tc := ⟨.vmem, 61, rfl⟩
abbrev cc5_stg3_1 : Ref sig .tc := ⟨.vmem, 62, rfl⟩
abbrev cc5_stg4_0 : Ref sig .tc := ⟨.vmem, 63, rfl⟩
abbrev cc5_stg4_1 : Ref sig .tc := ⟨.vmem, 64, rfl⟩
abbrev cc5_stg5_0 : Ref sig .tc := ⟨.vmem, 65, rfl⟩
abbrev cc5_stg6_0 : Ref sig .tc := ⟨.vmem, 66, rfl⟩
abbrev cc5_stg6_1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg1_1 : Ref sig .tc := ⟨.vmem, 71, rfl⟩
abbrev cc6_stg2_0 : Ref sig .tc := ⟨.vmem, 72, rfl⟩
abbrev cc6_stg2_1 : Ref sig .tc := ⟨.vmem, 73, rfl⟩
abbrev cc6_stg3_0 : Ref sig .tc := ⟨.vmem, 74, rfl⟩
abbrev cc6_stg3_1 : Ref sig .tc := ⟨.vmem, 75, rfl⟩
abbrev cc6_stg4_0 : Ref sig .tc := ⟨.vmem, 76, rfl⟩
abbrev cc6_stg4_1 : Ref sig .tc := ⟨.vmem, 77, rfl⟩
abbrev cc6_stg5_0 : Ref sig .tc := ⟨.vmem, 78, rfl⟩
abbrev cc6_stg6_0 : Ref sig .tc := ⟨.vmem, 79, rfl⟩
abbrev cc6_stg6_1 : Ref sig .tc := ⟨.vmem, 80, rfl⟩
abbrev cc7_stg0_0 : Ref sig .tc := ⟨.vmem, 81, rfl⟩
abbrev cc7_stg0_1 : Ref sig .tc := ⟨.vmem, 82, rfl⟩
abbrev cc7_stg1_0 : Ref sig .tc := ⟨.vmem, 83, rfl⟩
abbrev cc7_stg1_1 : Ref sig .tc := ⟨.vmem, 84, rfl⟩
abbrev cc7_stg2_0 : Ref sig .tc := ⟨.vmem, 85, rfl⟩
abbrev cc7_stg2_1 : Ref sig .tc := ⟨.vmem, 86, rfl⟩
abbrev cc7_stg3_0 : Ref sig .tc := ⟨.vmem, 87, rfl⟩
abbrev cc7_stg3_1 : Ref sig .tc := ⟨.vmem, 88, rfl⟩
abbrev cc7_stg4_0 : Ref sig .tc := ⟨.vmem, 89, rfl⟩
abbrev cc7_stg4_1 : Ref sig .tc := ⟨.vmem, 90, rfl⟩
abbrev cc7_stg5_0 : Ref sig .tc := ⟨.vmem, 91, rfl⟩
abbrev cc7_stg6_0 : Ref sig .tc := ⟨.vmem, 92, rfl⟩
abbrev cc7_stg6_1 : Ref sig .tc := ⟨.vmem, 93, rfl⟩
abbrev cc8_stg0_0 : Ref sig .tc := ⟨.vmem, 94, rfl⟩
abbrev cc8_stg0_1 : Ref sig .tc := ⟨.vmem, 95, rfl⟩
abbrev cc8_stg1_0 : Ref sig .tc := ⟨.vmem, 96, rfl⟩
abbrev cc8_stg1_1 : Ref sig .tc := ⟨.vmem, 97, rfl⟩
abbrev cc8_stg2_0 : Ref sig .tc := ⟨.vmem, 98, rfl⟩
abbrev cc8_stg2_1 : Ref sig .tc := ⟨.vmem, 99, rfl⟩
abbrev cc8_stg3_0 : Ref sig .tc := ⟨.vmem, 100, rfl⟩
abbrev cc8_stg3_1 : Ref sig .tc := ⟨.vmem, 101, rfl⟩
abbrev cc8_stg4_0 : Ref sig .tc := ⟨.vmem, 102, rfl⟩
abbrev cc8_stg4_1 : Ref sig .tc := ⟨.vmem, 103, rfl⟩
abbrev cc8_stg5_0 : Ref sig .tc := ⟨.vmem, 104, rfl⟩
abbrev cc8_stg6_0 : Ref sig .tc := ⟨.vmem, 105, rfl⟩
abbrev cc8_stg6_1 : Ref sig .tc := ⟨.vmem, 106, rfl⟩
abbrev cc9_stg0_0 : Ref sig .tc := ⟨.vmem, 107, rfl⟩
abbrev cc9_stg0_1 : Ref sig .tc := ⟨.vmem, 108, rfl⟩
abbrev cc9_stg1_0 : Ref sig .tc := ⟨.vmem, 109, rfl⟩
abbrev cc9_stg1_1 : Ref sig .tc := ⟨.vmem, 110, rfl⟩
abbrev cc9_stg2_0 : Ref sig .tc := ⟨.vmem, 111, rfl⟩
abbrev cc9_stg2_1 : Ref sig .tc := ⟨.vmem, 112, rfl⟩
abbrev cc9_stg3_0 : Ref sig .tc := ⟨.vmem, 113, rfl⟩
abbrev cc9_stg3_1 : Ref sig .tc := ⟨.vmem, 114, rfl⟩
abbrev cc9_stg4_0 : Ref sig .tc := ⟨.vmem, 115, rfl⟩
abbrev cc9_stg4_1 : Ref sig .tc := ⟨.vmem, 116, rfl⟩
abbrev cc9_stg5_0 : Ref sig .tc := ⟨.vmem, 117, rfl⟩
abbrev cc9_stg6_0 : Ref sig .tc := ⟨.vmem, 118, rfl⟩
abbrev cc9_stg6_1 : Ref sig .tc := ⟨.vmem, 119, rfl⟩
abbrev cc10_stg0_0 : Ref sig .tc := ⟨.vmem, 120, rfl⟩
abbrev cc10_stg0_1 : Ref sig .tc := ⟨.vmem, 121, rfl⟩
abbrev cc10_stg1_0 : Ref sig .tc := ⟨.vmem, 122, rfl⟩
abbrev cc10_stg1_1 : Ref sig .tc := ⟨.vmem, 123, rfl⟩
abbrev cc10_stg2_0 : Ref sig .tc := ⟨.vmem, 124, rfl⟩
abbrev cc10_stg2_1 : Ref sig .tc := ⟨.vmem, 125, rfl⟩
abbrev cc10_stg3_0 : Ref sig .tc := ⟨.vmem, 126, rfl⟩
abbrev cc10_stg3_1 : Ref sig .tc := ⟨.vmem, 127, rfl⟩
abbrev cc10_stg4_0 : Ref sig .tc := ⟨.vmem, 128, rfl⟩
abbrev cc10_stg4_1 : Ref sig .tc := ⟨.vmem, 129, rfl⟩
abbrev cc10_stg5_0 : Ref sig .tc := ⟨.vmem, 130, rfl⟩
abbrev cc10_stg6_0 : Ref sig .tc := ⟨.vmem, 131, rfl⟩
abbrev cc10_stg6_1 : Ref sig .tc := ⟨.vmem, 132, rfl⟩
abbrev cc11_stg0_0 : Ref sig .tc := ⟨.vmem, 133, rfl⟩
abbrev cc11_stg0_1 : Ref sig .tc := ⟨.vmem, 134, rfl⟩
abbrev cc11_stg1_0 : Ref sig .tc := ⟨.vmem, 135, rfl⟩
abbrev cc11_stg1_1 : Ref sig .tc := ⟨.vmem, 136, rfl⟩
abbrev cc11_stg2_0 : Ref sig .tc := ⟨.vmem, 137, rfl⟩
abbrev cc11_stg2_1 : Ref sig .tc := ⟨.vmem, 138, rfl⟩
abbrev cc11_stg3_0 : Ref sig .tc := ⟨.vmem, 139, rfl⟩
abbrev cc11_stg3_1 : Ref sig .tc := ⟨.vmem, 140, rfl⟩
abbrev cc12_stg0_0 : Ref sig .tc := ⟨.vmem, 141, rfl⟩
abbrev cc12_stg0_1 : Ref sig .tc := ⟨.vmem, 142, rfl⟩
abbrev cc12_stg1_0 : Ref sig .tc := ⟨.vmem, 143, rfl⟩
abbrev cc12_stg2_0 : Ref sig .tc := ⟨.vmem, 144, rfl⟩
abbrev cc12_stg2_1 : Ref sig .tc := ⟨.vmem, 145, rfl⟩
abbrev cc13_stg0_0 : Ref sig .tc := ⟨.vmem, 146, rfl⟩
abbrev cc13_stg1_0 : Ref sig .tc := ⟨.vmem, 147, rfl⟩
abbrev cc13_stg1_1 : Ref sig .tc := ⟨.vmem, 148, rfl⟩
abbrev cc13_stg2_0 : Ref sig .tc := ⟨.vmem, 149, rfl⟩
abbrev cc13_stg2_1 : Ref sig .tc := ⟨.vmem, 150, rfl⟩
abbrev cc13_stg3_0 : Ref sig .tc := ⟨.vmem, 151, rfl⟩
abbrev cc13_stg3_1 : Ref sig .tc := ⟨.vmem, 152, rfl⟩
abbrev cc14_stg0_0 : Ref sig .tc := ⟨.vmem, 153, rfl⟩
abbrev cc14_stg0_1 : Ref sig .tc := ⟨.vmem, 154, rfl⟩
abbrev cc14_stg1_0 : Ref sig .tc := ⟨.vmem, 155, rfl⟩
abbrev cc14_stg1_1 : Ref sig .tc := ⟨.vmem, 156, rfl⟩
abbrev cc14_stg2_0 : Ref sig .tc := ⟨.vmem, 157, rfl⟩
abbrev cc14_stg2_1 : Ref sig .tc := ⟨.vmem, 158, rfl⟩
abbrev cc14_stg3_0 : Ref sig .tc := ⟨.vmem, 159, rfl⟩
abbrev cc14_stg3_1 : Ref sig .tc := ⟨.vmem, 160, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem4_1 : DmaSem sig := 18
abbrev cc2_sem5_0 : DmaSem sig := 19
abbrev cc2_sem5_1 : DmaSem sig := 20
abbrev cc2_sem6_0 : DmaSem sig := 21
abbrev cc2_sem6_1 : DmaSem sig := 22
abbrev cc2_sem7_0 : DmaSem sig := 23
abbrev cc2_sem7_1 : DmaSem sig := 24
abbrev cc2_sem8_0 : DmaSem sig := 25
abbrev cc2_sem8_1 : DmaSem sig := 26
abbrev cc2_sem9_0 : DmaSem sig := 27
abbrev cc2_sem9_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem4_1 : DmaSem sig := 38
abbrev cc3_sem5_0 : DmaSem sig := 39
abbrev cc3_sem6_0 : DmaSem sig := 40
abbrev cc3_sem6_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem3_1 : DmaSem sig := 49
abbrev cc4_sem4_0 : DmaSem sig := 50
abbrev cc4_sem4_1 : DmaSem sig := 51
abbrev cc4_sem5_0 : DmaSem sig := 52
abbrev cc4_sem6_0 : DmaSem sig := 53
abbrev cc4_sem6_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem2_1 : DmaSem sig := 60
abbrev cc5_sem3_0 : DmaSem sig := 61
abbrev cc5_sem3_1 : DmaSem sig := 62
abbrev cc5_sem4_0 : DmaSem sig := 63
abbrev cc5_sem4_1 : DmaSem sig := 64
abbrev cc5_sem5_0 : DmaSem sig := 65
abbrev cc5_sem6_0 : DmaSem sig := 66
abbrev cc5_sem6_1 : DmaSem sig := 67
abbrev cc6_sem0_0 : DmaSem sig := 68
abbrev cc6_sem0_1 : DmaSem sig := 69
abbrev cc6_sem1_0 : DmaSem sig := 70
abbrev cc6_sem1_1 : DmaSem sig := 71
abbrev cc6_sem2_0 : DmaSem sig := 72
abbrev cc6_sem2_1 : DmaSem sig := 73
abbrev cc6_sem3_0 : DmaSem sig := 74
abbrev cc6_sem3_1 : DmaSem sig := 75
abbrev cc6_sem4_0 : DmaSem sig := 76
abbrev cc6_sem4_1 : DmaSem sig := 77
abbrev cc6_sem5_0 : DmaSem sig := 78
abbrev cc6_sem6_0 : DmaSem sig := 79
abbrev cc6_sem6_1 : DmaSem sig := 80
abbrev cc7_sem0_0 : DmaSem sig := 81
abbrev cc7_sem0_1 : DmaSem sig := 82
abbrev cc7_sem1_0 : DmaSem sig := 83
abbrev cc7_sem1_1 : DmaSem sig := 84
abbrev cc7_sem2_0 : DmaSem sig := 85
abbrev cc7_sem2_1 : DmaSem sig := 86
abbrev cc7_sem3_0 : DmaSem sig := 87
abbrev cc7_sem3_1 : DmaSem sig := 88
abbrev cc7_sem4_0 : DmaSem sig := 89
abbrev cc7_sem4_1 : DmaSem sig := 90
abbrev cc7_sem5_0 : DmaSem sig := 91
abbrev cc7_sem6_0 : DmaSem sig := 92
abbrev cc7_sem6_1 : DmaSem sig := 93
abbrev cc8_sem0_0 : DmaSem sig := 94
abbrev cc8_sem0_1 : DmaSem sig := 95
abbrev cc8_sem1_0 : DmaSem sig := 96
abbrev cc8_sem1_1 : DmaSem sig := 97
abbrev cc8_sem2_0 : DmaSem sig := 98
abbrev cc8_sem2_1 : DmaSem sig := 99
abbrev cc8_sem3_0 : DmaSem sig := 100
abbrev cc8_sem3_1 : DmaSem sig := 101
abbrev cc8_sem4_0 : DmaSem sig := 102
abbrev cc8_sem4_1 : DmaSem sig := 103
abbrev cc8_sem5_0 : DmaSem sig := 104
abbrev cc8_sem6_0 : DmaSem sig := 105
abbrev cc8_sem6_1 : DmaSem sig := 106
abbrev cc9_sem0_0 : DmaSem sig := 107
abbrev cc9_sem0_1 : DmaSem sig := 108
abbrev cc9_sem1_0 : DmaSem sig := 109
abbrev cc9_sem1_1 : DmaSem sig := 110
abbrev cc9_sem2_0 : DmaSem sig := 111
abbrev cc9_sem2_1 : DmaSem sig := 112
abbrev cc9_sem3_0 : DmaSem sig := 113
abbrev cc9_sem3_1 : DmaSem sig := 114
abbrev cc9_sem4_0 : DmaSem sig := 115
abbrev cc9_sem4_1 : DmaSem sig := 116
abbrev cc9_sem5_0 : DmaSem sig := 117
abbrev cc9_sem6_0 : DmaSem sig := 118
abbrev cc9_sem6_1 : DmaSem sig := 119
abbrev cc10_sem0_0 : DmaSem sig := 120
abbrev cc10_sem0_1 : DmaSem sig := 121
abbrev cc10_sem1_0 : DmaSem sig := 122
abbrev cc10_sem1_1 : DmaSem sig := 123
abbrev cc10_sem2_0 : DmaSem sig := 124
abbrev cc10_sem2_1 : DmaSem sig := 125
abbrev cc10_sem3_0 : DmaSem sig := 126
abbrev cc10_sem3_1 : DmaSem sig := 127
abbrev cc10_sem4_0 : DmaSem sig := 128
abbrev cc10_sem4_1 : DmaSem sig := 129
abbrev cc10_sem5_0 : DmaSem sig := 130
abbrev cc10_sem6_0 : DmaSem sig := 131
abbrev cc10_sem6_1 : DmaSem sig := 132
abbrev cc11_sem0_0 : DmaSem sig := 133
abbrev cc11_sem0_1 : DmaSem sig := 134
abbrev cc11_sem1_0 : DmaSem sig := 135
abbrev cc11_sem1_1 : DmaSem sig := 136
abbrev cc11_sem2_0 : DmaSem sig := 137
abbrev cc11_sem2_1 : DmaSem sig := 138
abbrev cc11_sem3_0 : DmaSem sig := 139
abbrev cc11_sem3_1 : DmaSem sig := 140
abbrev cc12_sem0_0 : DmaSem sig := 141
abbrev cc12_sem0_1 : DmaSem sig := 142
abbrev cc12_sem1_0 : DmaSem sig := 143
abbrev cc12_sem2_0 : DmaSem sig := 144
abbrev cc12_sem2_1 : DmaSem sig := 145
abbrev cc13_sem0_0 : DmaSem sig := 146
abbrev cc13_sem1_0 : DmaSem sig := 147
abbrev cc13_sem1_1 : DmaSem sig := 148
abbrev cc13_sem2_0 : DmaSem sig := 149
abbrev cc13_sem2_1 : DmaSem sig := 150
abbrev cc13_sem3_0 : DmaSem sig := 151
abbrev cc13_sem3_1 : DmaSem sig := 152
abbrev cc14_sem0_0 : DmaSem sig := 153
abbrev cc14_sem0_1 : DmaSem sig := 154
abbrev cc14_sem1_0 : DmaSem sig := 155
abbrev cc14_sem1_1 : DmaSem sig := 156
abbrev cc14_sem2_0 : DmaSem sig := 157
abbrev cc14_sem2_1 : DmaSem sig := 158
abbrev cc14_sem3_0 : DmaSem sig := 159
abbrev cc14_sem3_1 : DmaSem sig := 160

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![6, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32 : BitVec 32 := 32#32
  let v17 : BitVec 32 := Scalar.addi c32_i32 v16
  let c0_i32_4 : BitVec 32 := 0#32
  let c0_i32_5 : BitVec 32 := 0#32
  ![c0_i32_4.toNat, v17.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x128x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2048x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2048x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2048x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2048x128 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c40_i32 : BitVec 32 := 40#32
  let v17 : BitVec 32 := Scalar.addi c40_i32 v16
  let c0_i32_4 : BitVec 32 := 0#32
  let c0_i32_5 : BitVec 32 := 0#32
  ![c0_i32_4.toNat, v17.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S256x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S256x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S256x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c1_i32 : BitVec 32 := 1#32
  let c0_i32 : BitVec 32 := 0#32
  ![c1_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c1_i32 : BitVec 32 := 1#32
  let c0_i32 : BitVec 32 := 0#32
  ![c1_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c40_i32 : BitVec 32 := 40#32
  let v17 : BitVec 32 := Scalar.addi c40_i32 v16
  let c0_i32_4 : BitVec 32 := 0#32
  let c0_i32_5 : BitVec 32 := 0#32
  ![c0_i32_4.toNat, v17.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S256x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S512x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S256x256 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S256x128 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c2_i32 : BitVec 32 := 2#32
  let c0_i32 : BitVec 32 := 0#32
  ![c2_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c2_i32 : BitVec 32 := 2#32
  let c0_i32 : BitVec 32 := 0#32
  ![c2_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_4 (i : grid5.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c40_i32 : BitVec 32 := 40#32
  let v17 : BitVec 32 := Scalar.addi c40_i32 v16
  let c0_i32_4 : BitVec 32 := 0#32
  let c0_i32_5 : BitVec 32 := 0#32
  ![c0_i32_4.toNat, v17.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S256x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S768x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S768x128 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S768x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S256x256 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S256x128 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c3_i32 : BitVec 32 := 3#32
  let c0_i32 : BitVec 32 := 0#32
  ![c3_i32.toNat, arg0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let c3_i32 : BitVec 32 := 3#32
  let c0_i32 : BitVec 32 := 0#32
  ![c3_i32.toNat, arg0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_4 (i : grid6.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c40_i32 : BitVec 32 := 40#32
  let v17 : BitVec 32 := Scalar.addi c40_i32 v16
  let c0_i32_4 : BitVec 32 := 0#32
  let c0_i32_5 : BitVec 32 := 0#32
  ![c0_i32_4.toNat, v17.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 2 → Memref sig .tc .vmem S256x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1024x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x128 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1024x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1024x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S256x256 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S256x128 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![32], ![false]⟩

def cc7_transform_0 (i : grid7.Coords) : Fin 2 → Nat :=
  let arg0 : BitVec 32 := BitVec.ofNat 32 (i 0).val
  let c4_i32 : BitVec 32 := 4#32
  let c0_i32 : BitVec 32 := 0#32
  ![c4_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let c4_i32 : BitVec 32 := 4#32
  let c0_i32 : BitVec 32 := 0#32
  ![c4_i32.toNat, arg0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_4 (i : grid7.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c40_i32 : BitVec 32 := 40#32
  let v17 : BitVec 32 := Scalar.addi c40_i32 v16
  let c0_i32_4 : BitVec 32 := 0#32
  let c0_i32_5 : BitVec 32 := 0#32
  ![c0_i32_4.toNat, v17.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 2 → Memref sig .tc .vmem S256x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1280x128 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S256x128 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1280x128 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S1280x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S256x256 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S256x128 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![32], ![false]⟩

def cc8_transform_0 (i : grid8.Coords) : Fin 2 → Nat :=
  let arg0 : BitVec 32 := BitVec.ofNat 32 (i 0).val
  let c5_i32 : BitVec 32 := 5#32
  let c0_i32 : BitVec 32 := 0#32
  ![c5_i32.toNat, arg0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_2 (i : grid8.Coords) : Fin 2 → Nat :=
  let arg0 : BitVec 32 := BitVec.ofNat 32 (i 0).val
  let c5_i32 : BitVec 32 := 5#32
  let c0_i32 : BitVec 32 := 0#32
  ![c5_i32.toNat, arg0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_4 (i : grid8.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c40_i32 : BitVec 32 := 40#32
  let v17 : BitVec 32 := Scalar.addi c40_i32 v16
  let c0_i32_4 : BitVec 32 := 0#32
  let c0_i32_5 : BitVec 32 := 0#32
  ![c0_i32_4.toNat, v17.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage8_0 : Fin 2 → Memref sig .tc .vmem S256x128 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1536x128 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S256x128 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S1536x128 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S1536x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S256x256 .bf16 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S256x128 .bf16 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![32], ![false]⟩

def cc9_transform_0 (i : grid9.Coords) : Fin 2 → Nat :=
  let arg0 : BitVec 32 := BitVec.ofNat 32 (i 0).val
  let c6_i32 : BitVec 32 := 6#32
  let c0_i32 : BitVec 32 := 0#32
  ![c6_i32.toNat, arg0.toNat]

def cc9_transform_1 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_2 (i : grid9.Coords) : Fin 2 → Nat :=
  let arg0 : BitVec 32 := BitVec.ofNat 32 (i 0).val
  let c6_i32 : BitVec 32 := 6#32
  let c0_i32 : BitVec 32 := 0#32
  ![c6_i32.toNat, arg0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_4 (i : grid9.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c40_i32 : BitVec 32 := 40#32
  let v17 : BitVec 32 := Scalar.addi c40_i32 v16
  let c0_i32_4 : BitVec 32 := 0#32
  let c0_i32_5 : BitVec 32 := 0#32
  ![c0_i32_4.toNat, v17.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage9_0 : Fin 2 → Memref sig .tc .vmem S256x128 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1792x128 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S256x128 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S1792x128 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S1792x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S256x256 .bf16 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S256x128 .bf16 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![32], ![false]⟩

def cc10_transform_0 (i : grid10.Coords) : Fin 2 → Nat :=
  let arg0 : BitVec 32 := BitVec.ofNat 32 (i 0).val
  let c7_i32 : BitVec 32 := 7#32
  let c0_i32 : BitVec 32 := 0#32
  ![c7_i32.toNat, arg0.toNat]

def cc10_transform_1 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_2 (i : grid10.Coords) : Fin 2 → Nat :=
  let arg0 : BitVec 32 := BitVec.ofNat 32 (i 0).val
  let c7_i32 : BitVec 32 := 7#32
  let c0_i32 : BitVec 32 := 0#32
  ![c7_i32.toNat, arg0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_4 (i : grid10.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c40_i32 : BitVec 32 := 40#32
  let v17 : BitVec 32 := Scalar.addi c40_i32 v16
  let c0_i32_4 : BitVec 32 := 0#32
  let c0_i32_5 : BitVec 32 := 0#32
  ![c0_i32_4.toNat, v17.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage10_0 : Fin 2 → Memref sig .tc .vmem S256x128 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2048x128 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S256x128 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S2048x128 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S2048x128 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 1 → Memref sig .tc .vmem S256x256 .bf16 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S256x128 .bf16 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨2, ![4, 4], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage11_0 : Fin 2 → Memref sig .tc .vmem S512x4096 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![false, true]

abbrev stage11_1 : Fin 2 → Memref sig .tc .vmem S4096x1024 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true, false]

abbrev stage11_2 : Fin 2 → Memref sig .tc .vmem S512x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]

abbrev stage11_3 : Fin 2 → Memref sig .tc .vmem S512x1024 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true]

abbrev grid12 : Pipeline.Grid := ⟨1, ![8], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S256x4096 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x4096 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S256x4096 .bf16 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![43], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_1 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage13_0 : Fin 1 → Memref sig .tc .vmem S2048x4096 .bf16 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![false]

abbrev stage13_1 : Fin 2 → Memref sig .tc .vmem S4096x256 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S4096x256 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 2 → Memref sig .tc .vmem S2048x256 .bf16 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨2, ![8, 4], ![false, false]⟩

def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc14_transform_3 (i : grid14.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage14_0 : Fin 2 → Memref sig .tc .vmem S512x11008 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![false, true]

abbrev stage14_1 : Fin 2 → Memref sig .tc .vmem S11008x512 .bf16 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true, false]

abbrev stage14_2 : Fin 2 → Memref sig .tc .vmem S512x512 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, true]

abbrev stage14_3 : Fin 2 → Memref sig .tc .vmem S512x512 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true, true]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S1x2048x4096 : Shape := ⟨3, ![1, 2048, 4096]⟩
abbrev S4096x4096 : Shape := ⟨2, ![4096, 4096]⟩
abbrev S4096x1024 : Shape := ⟨2, ![4096, 1024]⟩
abbrev S1x32x128x128 : Shape := ⟨4, ![1, 32, 128, 128]⟩
abbrev S1x32x1x128 : Shape := ⟨4, ![1, 32, 1, 128]⟩
abbrev S4096 : Shape := ⟨1, ![4096]⟩
abbrev S4096x11008 : Shape := ⟨2, ![4096, 11008]⟩
abbrev S11008x4096 : Shape := ⟨2, ![11008, 4096]⟩
abbrev S_ : Shape := ⟨0, ![]⟩
abbrev S1x2048 : Shape := ⟨2, ![1, 2048]⟩
abbrev S1x2048x1 : Shape := ⟨3, ![1, 2048, 1]⟩
abbrev S1x1x4096 : Shape := ⟨3, ![1, 1, 4096]⟩
abbrev S1x2048x32x128 : Shape := ⟨4, ![1, 2048, 32, 128]⟩
abbrev S1x32x2048x128 : Shape := ⟨4, ![1, 32, 2048, 128]⟩
abbrev S1x2048x1024 : Shape := ⟨3, ![1, 2048, 1024]⟩
abbrev S1x2048x8x128 : Shape := ⟨4, ![1, 2048, 8, 128]⟩
abbrev S1x8x2048x128 : Shape := ⟨4, ![1, 8, 2048, 128]⟩
abbrev S1x8x4x2048x128 : Shape := ⟨5, ![1, 8, 4, 2048, 128]⟩
abbrev S64 : Shape := ⟨1, ![64]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x1x2048x128 : Shape := ⟨4, ![1, 1, 2048, 128]⟩
abbrev S1x32x2048x64 : Shape := ⟨4, ![1, 32, 2048, 64]⟩
abbrev S32x128x128 : Shape := ⟨3, ![32, 128, 128]⟩
abbrev S32x128x1x2048 : Shape := ⟨4, ![32, 128, 1, 2048]⟩
abbrev S1x32x2048x2048 : Shape := ⟨4, ![1, 32, 2048, 2048]⟩
abbrev S2048x2048 : Shape := ⟨2, ![2048, 2048]⟩
abbrev S1x1x2048x2048 : Shape := ⟨4, ![1, 1, 2048, 2048]⟩
abbrev S1x32x2048x205 : Shape := ⟨4, ![1, 32, 2048, 205]⟩
abbrev S1 : Shape := ⟨1, ![1]⟩
abbrev S1x1x1x1 : Shape := ⟨4, ![1, 1, 1, 1]⟩
abbrev S32 : Shape := ⟨1, ![32]⟩
abbrev S1x32x1x1 : Shape := ⟨4, ![1, 32, 1, 1]⟩
abbrev S1x1x2048x1 : Shape := ⟨4, ![1, 1, 2048, 1]⟩
abbrev S1x32x2048x205x1 : Shape := ⟨5, ![1, 32, 2048, 205, 1]⟩
abbrev S1x32x2048x205x4 : Shape := ⟨5, ![1, 32, 2048, 205, 4]⟩
abbrev S1x32x2048 : Shape := ⟨3, ![1, 32, 2048]⟩
abbrev S1x32x2048x1 : Shape := ⟨4, ![1, 32, 2048, 1]⟩
abbrev S1x2048x11008 : Shape := ⟨3, ![1, 2048, 11008]⟩

abbrev nBuf : Space → Nat
  | .hbm => 223
  | .vmem => 0
  | .smem => 0
  | _ => 0

abbrev hbmTy0_0 (i : Nat) : BufTy := match i % 128 with
  | 0 => ⟨S1x2048x4096, .f32⟩
  | 1 => ⟨S4096x4096, .f32⟩
  | 2 => ⟨S4096x1024, .f32⟩
  | 3 => ⟨S4096x1024, .f32⟩
  | 4 => ⟨S4096x4096, .f32⟩
  | 5 => ⟨S1x32x128x128, .f32⟩
  | 6 => ⟨S1x32x1x128, .f32⟩
  | 7 => ⟨S4096, .f32⟩
  | 8 => ⟨S4096, .f32⟩
  | 9 => ⟨S4096x11008, .f32⟩
  | 10 => ⟨S4096x11008, .f32⟩
  | 11 => ⟨S11008x4096, .f32⟩
  | 12 => ⟨S1x2048x4096, .f32⟩
  | 13 => ⟨S_, .f32⟩
  | 14 => ⟨S1x2048, .f32⟩
  | 15 => ⟨S1x2048x1, .f32⟩
  | 16 => ⟨S_, .f32⟩
  | 17 => ⟨S1x2048x1, .f32⟩
  | 18 => ⟨S1x2048x1, .f32⟩
  | 19 => ⟨S_, .f32⟩
  | 20 => ⟨S1x2048x1, .f32⟩
  | 21 => ⟨S1x2048x1, .f32⟩
  | 22 => ⟨S1x2048x1, .f32⟩
  | 23 => ⟨S1x2048x4096, .f32⟩
  | 24 => ⟨S1x2048x4096, .f32⟩
  | 25 => ⟨S1x1x4096, .f32⟩
  | 26 => ⟨S1x2048x4096, .f32⟩
  | 27 => ⟨S1x2048x4096, .f32⟩
  | 28 => ⟨S1x2048x4096, .f32⟩
  | 29 => ⟨S1x2048x32x128, .f32⟩
  | 30 => ⟨S1x32x2048x128, .f32⟩
  | 31 => ⟨S1x2048x1024, .f32⟩
  | 32 => ⟨S1x2048x8x128, .f32⟩
  | 33 => ⟨S1x8x2048x128, .f32⟩
  | 34 => ⟨S1x2048x1024, .f32⟩
  | 35 => ⟨S1x2048x8x128, .f32⟩
  | 36 => ⟨S1x8x2048x128, .f32⟩
  | 37 => ⟨S1x8x4x2048x128, .f32⟩
  | 38 => ⟨S1x32x2048x128, .f32⟩
  | 39 => ⟨S1x8x4x2048x128, .f32⟩
  | 40 => ⟨S1x32x2048x128, .f32⟩
  | 41 => ⟨S64, .f32⟩
  | 42 => ⟨S_, .f32⟩
  | 43 => ⟨S64, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S2048, .f32⟩
  | 58 => ⟨S2048x1, .f32⟩
  | 59 => ⟨S1x64, .f32⟩
  | 60 => ⟨S2048x64, .f32⟩
  | 61 => ⟨S2048x64, .f32⟩
  | 62 => ⟨S2048x64, .f32⟩
  | 63 => ⟨S2048x128, .f32⟩
  | 64 => ⟨S2048x128, .f32⟩
  | 65 => ⟨S2048x128, .f32⟩
  | 66 => ⟨S1x1x2048x128, .f32⟩
  | 67 => ⟨S1x32x2048x128, .f32⟩
  | 68 => ⟨S1x32x2048x128, .f32⟩
  | 69 => ⟨S1x32x2048x64, .f32⟩
  | 70 => ⟨S1x32x2048x64, .f32⟩
  | 71 => ⟨S1x32x2048x64, .f32⟩
  | 72 => ⟨S1x32x2048x128, .f32⟩
  | 73 => ⟨S1x1x2048x128, .f32⟩
  | 74 => ⟨S1x32x2048x128, .f32⟩
  | 75 => ⟨S1x32x2048x128, .f32⟩
  | 76 => ⟨S1x32x2048x128, .f32⟩
  | 77 => ⟨S1x1x2048x128, .f32⟩
  | 78 => ⟨S1x32x2048x128, .f32⟩
  | 79 => ⟨S1x32x2048x128, .f32⟩
  | 80 => ⟨S1x32x2048x64, .f32⟩
  | 81 => ⟨S1x32x2048x64, .f32⟩
  | 82 => ⟨S1x32x2048x64, .f32⟩
  | 83 => ⟨S1x32x2048x128, .f32⟩
  | 84 => ⟨S1x1x2048x128, .f32⟩
  | 85 => ⟨S1x32x2048x128, .f32⟩
  | 86 => ⟨S1x32x2048x128, .f32⟩
  | 87 => ⟨S1x32x2048x128, .f32⟩
  | 88 => ⟨S_, .f32⟩
  | 89 => ⟨S32x128x128, .f32⟩
  | 90 => ⟨S32x128x1x2048, .f32⟩
  | 91 => ⟨S1x32x2048x128, .f32⟩
  | 92 => ⟨S1x32x2048x128, .f32⟩
  | 93 => ⟨S1x32x2048x128, .f32⟩
  | 94 => ⟨S_, .f32⟩
  | 95 => ⟨S32x128x128, .f32⟩
  | 96 => ⟨S32x128x1x2048, .f32⟩
  | 97 => ⟨S1x32x2048x128, .f32⟩
  | 98 => ⟨S1x32x2048x128, .f32⟩
  | 99 => ⟨S1x32x2048x128, .f32⟩
  | 100 => ⟨S1x32x2048x128, .f32⟩
  | 101 => ⟨S1x32x2048x128, .f32⟩
  | 102 => ⟨S1x32x2048x2048, .f32⟩
  | 103 => ⟨S_, .f32⟩
  | 104 => ⟨S2048x2048, .f32⟩
  | 105 => ⟨S2048x2048, .i32⟩
  | 106 => ⟨S_, .i32⟩
  | 107 => ⟨S2048x2048, .i32⟩
  | 108 => ⟨S2048x2048, .i32⟩
  | 109 => ⟨S2048x2048, .i32⟩
  | 110 => ⟨S2048x2048, .i1⟩
  | 111 => ⟨S_, .f32⟩
  | 112 => ⟨S2048x2048, .f32⟩
  | 113 => ⟨S2048x2048, .f32⟩
  | 114 => ⟨S1x1x2048x2048, .f32⟩
  | 115 => ⟨S1x32x2048x2048, .f32⟩
  | 116 => ⟨S1x32x2048x2048, .f32⟩
  | 117 => ⟨S1x32x2048x205, .f32⟩
  | 118 => ⟨S1x32x2048x205, .i32⟩
  | 119 => ⟨S_, .f32⟩
  | 120 => ⟨S1x32x2048x2048, .f32⟩
  | 121 => ⟨S1, .i32⟩
  | 122 => ⟨S1x1x1x1, .i32⟩
  | 123 => ⟨S32, .i32⟩
  | 124 => ⟨S1x32x1x1, .i32⟩
  | 125 => ⟨S2048, .i32⟩
  | 126 => ⟨S1x1x2048x1, .i32⟩
  | 127 => ⟨S_, .i32⟩
  | _ => ⟨S1x2048x4096, .f32⟩

abbrev hbmTy0_1 (i : Nat) : BufTy := match i % 128 with
  | 0 => ⟨S1x1x1x1, .i32⟩
  | 1 => ⟨S1x1x1x1, .i1⟩
  | 2 => ⟨S_, .i32⟩
  | 3 => ⟨S1x1x1x1, .i32⟩
  | 4 => ⟨S1x1x1x1, .i32⟩
  | 5 => ⟨S1x1x1x1, .i32⟩
  | 6 => ⟨S_, .i32⟩
  | 7 => ⟨S1x32x1x1, .i32⟩
  | 8 => ⟨S1x32x1x1, .i1⟩
  | 9 => ⟨S_, .i32⟩
  | 10 => ⟨S1x32x1x1, .i32⟩
  | 11 => ⟨S1x32x1x1, .i32⟩
  | 12 => ⟨S1x32x1x1, .i32⟩
  | 13 => ⟨S_, .i32⟩
  | 14 => ⟨S1x1x2048x1, .i32⟩
  | 15 => ⟨S1x1x2048x1, .i1⟩
  | 16 => ⟨S_, .i32⟩
  | 17 => ⟨S1x1x2048x1, .i32⟩
  | 18 => ⟨S1x1x2048x1, .i32⟩
  | 19 => ⟨S1x1x2048x1, .i32⟩
  | 20 => ⟨S_, .i32⟩
  | 21 => ⟨S1x32x2048x205, .i32⟩
  | 22 => ⟨S1x32x2048x205, .i1⟩
  | 23 => ⟨S_, .i32⟩
  | 24 => ⟨S1x32x2048x205, .i32⟩
  | 25 => ⟨S1x32x2048x205, .i32⟩
  | 26 => ⟨S1x32x2048x205, .i32⟩
  | 27 => ⟨S1x32x2048x205, .i32⟩
  | 28 => ⟨S1x32x2048x205, .i32⟩
  | 29 => ⟨S1x32x2048x205, .i32⟩
  | 30 => ⟨S1x32x2048x205x1, .i32⟩
  | 31 => ⟨S1x32x2048x205x1, .i32⟩
  | 32 => ⟨S1x32x2048x205x1, .i32⟩
  | 33 => ⟨S1x32x2048x205x1, .i32⟩
  | 34 => ⟨S1x32x2048x205x4, .i32⟩
  | 35 => ⟨S_, .f32⟩
  | 36 => ⟨S1x32x2048x205, .f32⟩
  | 37 => ⟨S1x32x2048x2048, .f32⟩
  | 38 => ⟨S1x32x2048x2048, .f32⟩
  | 39 => ⟨S_, .f32⟩
  | 40 => ⟨S_, .f32⟩
  | 41 => ⟨S1x32x2048x2048, .f32⟩
  | 42 => ⟨S1x32x2048x2048, .f32⟩
  | 43 => ⟨S1x32x2048x2048, .f32⟩
  | 44 => ⟨S1x32x2048x2048, .f32⟩
  | 45 => ⟨S1x32x2048x2048, .f32⟩
  | 46 => ⟨S_, .f32⟩
  | 47 => ⟨S1x32x2048, .f32⟩
  | 48 => ⟨S_, .f32⟩
  | 49 => ⟨S1x32x2048, .f32⟩
  | 50 => ⟨S1x32x2048, .f32⟩
  | 51 => ⟨S1x32x2048x1, .f32⟩
  | 52 => ⟨S1x32x2048x2048, .f32⟩
  | 53 => ⟨S1x32x2048x2048, .f32⟩
  | 54 => ⟨S1x32x2048x2048, .f32⟩
  | 55 => ⟨S_, .f32⟩
  | 56 => ⟨S1x32x2048, .f32⟩
  | 57 => ⟨S1x32x2048x1, .f32⟩
  | 58 => ⟨S1x32x2048x2048, .f32⟩
  | 59 => ⟨S1x32x2048x2048, .f32⟩
  | 60 => ⟨S1x32x2048x128, .f32⟩
  | 61 => ⟨S1x2048x32x128, .f32⟩
  | 62 => ⟨S1x2048x4096, .f32⟩
  | 63 => ⟨S1x2048x4096, .f32⟩
  | 64 => ⟨S1x2048x4096, .f32⟩
  | 65 => ⟨S1x2048x4096, .f32⟩
  | 66 => ⟨S_, .f32⟩
  | 67 => ⟨S1x2048, .f32⟩
  | 68 => ⟨S1x2048x1, .f32⟩
  | 69 => ⟨S_, .f32⟩
  | 70 => ⟨S1x2048x1, .f32⟩
  | 71 => ⟨S1x2048x1, .f32⟩
  | 72 => ⟨S_, .f32⟩
  | 73 => ⟨S1x2048x1, .f32⟩
  | 74 => ⟨S1x2048x1, .f32⟩
  | 75 => ⟨S1x2048x1, .f32⟩
  | 76 => ⟨S1x2048x4096, .f32⟩
  | 77 => ⟨S1x2048x4096, .f32⟩
  | 78 => ⟨S1x1x4096, .f32⟩
  | 79 => ⟨S1x2048x4096, .f32⟩
  | 80 => ⟨S1x2048x4096, .f32⟩
  | 81 => ⟨S1x2048x11008, .f32⟩
  | 82 => ⟨S1x2048x11008, .f32⟩
  | 83 => ⟨S1x2048x11008, .f32⟩
  | 84 => ⟨S_, .f32⟩
  | 85 => ⟨S1x2048x11008, .f32⟩
  | 86 => ⟨S1x2048x11008, .f32⟩
  | 87 => ⟨S_, .f32⟩
  | 88 => ⟨S1x2048x11008, .f32⟩
  | 89 => ⟨S1x2048x11008, .f32⟩
  | 90 => ⟨S1x2048x11008, .f32⟩
  | 91 => ⟨S1x2048x11008, .f32⟩
  | 92 => ⟨S1x2048x11008, .f32⟩
  | 93 => ⟨S1x2048x4096, .f32⟩
  | 94 => ⟨S1x2048x4096, .f32⟩
  | _ => ⟨S1x2048x4096, .f32⟩

abbrev hbmTy (i : Nat) : BufTy := match i / 128 with
  | 0 => hbmTy0_0 i
  | 1 => hbmTy0_1 i
  | _ => ⟨S1x2048x4096, .f32⟩

abbrev bufTy : (tb : Table) → Fin (tcTables nBuf tb) → BufTy
  | .hbm, ⟨i, _⟩ => hbmTy i
  | _, _ => ⟨S1x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_7 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_8 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_9 : Ref sig .tc := ⟨.hbm, 103, rfl⟩
abbrev main_v81 : Ref sig .tc := ⟨.hbm, 104, rfl⟩
abbrev main_call0_v0 : Ref sig .tc := ⟨.hbm, 105, rfl⟩
abbrev main_call0_c : Ref sig .tc := ⟨.hbm, 106, rfl⟩
abbrev main_call0_v1 : Ref sig .tc := ⟨.hbm, 107, rfl⟩
abbrev main_call0_v2 : Ref sig .tc := ⟨.hbm, 108, rfl⟩
abbrev main_call0_v3 : Ref sig .tc := ⟨.hbm, 109, rfl⟩
abbrev main_call0_v4 : Ref sig .tc := ⟨.hbm, 110, rfl⟩
abbrev main_call0_cst : Ref sig .tc := ⟨.hbm, 111, rfl⟩
abbrev main_call0_v5 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_values : Ref sig .tc := ⟨.hbm, 117, rfl⟩
abbrev main_indices : Ref sig .tc := ⟨.hbm, 118, rfl⟩
abbrev main_cst_10 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_c : Ref sig .tc := ⟨.hbm, 127, rfl⟩
abbrev main_v93 : Ref sig .tc := ⟨.hbm, 128, rfl⟩
abbrev main_v94 : Ref sig .tc := ⟨.hbm, 129, rfl⟩
abbrev main_c_11 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_12 : Ref sig .tc := ⟨.hbm, 134, rfl⟩
abbrev main_v98 : Ref sig .tc := ⟨.hbm, 135, rfl⟩
abbrev main_v99 : Ref sig .tc := ⟨.hbm, 136, rfl⟩
abbrev main_c_13 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_14 : Ref sig .tc := ⟨.hbm, 141, rfl⟩
abbrev main_v103 : Ref sig .tc := ⟨.hbm, 142, rfl⟩
abbrev main_v104 : Ref sig .tc := ⟨.hbm, 143, rfl⟩
abbrev main_c_15 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_c_16 : Ref sig .tc := ⟨.hbm, 148, rfl⟩
abbrev main_v108 : Ref sig .tc := ⟨.hbm, 149, rfl⟩
abbrev main_v109 : Ref sig .tc := ⟨.hbm, 150, rfl⟩
abbrev main_c_17 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_18 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_19 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_cst_20 : Ref sig .tc := ⟨.hbm, 174, rfl⟩
abbrev main_v130 : Ref sig .tc := ⟨.hbm, 175, rfl⟩
abbrev main_cst_21 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_22 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_23 : Ref sig .tc := ⟨.hbm, 194, rfl⟩
abbrev main_v147 : Ref sig .tc := ⟨.hbm, 195, rfl⟩
abbrev main_v148 : Ref sig .tc := ⟨.hbm, 196, rfl⟩
abbrev main_cst_24 : Ref sig .tc := ⟨.hbm, 197, rfl⟩
abbrev main_v149 : Ref sig .tc := ⟨.hbm, 198, rfl⟩
abbrev main_v150 : Ref sig .tc := ⟨.hbm, 199, rfl⟩
abbrev main_cst_25 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_call1_v0 : Ref sig .tc := ⟨.hbm, 210, rfl⟩
abbrev main_call1_v1 : Ref sig .tc := ⟨.hbm, 211, rfl⟩
abbrev main_call1_cst : Ref sig .tc := ⟨.hbm, 212, rfl⟩
abbrev main_call1_v2 : Ref sig .tc := ⟨.hbm, 213, rfl⟩
abbrev main_call1_v3 : Ref sig .tc := ⟨.hbm, 214, rfl⟩
abbrev main_call1_cst_0 : Ref sig .tc := ⟨.hbm, 215, rfl⟩
abbrev main_call1_v4 : Ref sig .tc := ⟨.hbm, 216, rfl⟩
abbrev main_call1_v5 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩

abbrev nD : Nat := 1
abbrev τ : Topo := Topo.v7x

variable {F : FTy → Type} [FloatOps F]
-- ==== Proof.RegionKit.lean ====
/-
  What a program of several kernel regions between host stretches needs of each region, stated once for every region:
  the proof data built from what one run of the body leaves (`datOf`), the body obligation from one run of the body
  (`datOf_obligation`), the region as a segment of @main (`segOf`), and what the region leaves in the buffers
  (`exitOf`, `exitOf_arr`, `exitOf_keeps`).
-/
module

public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

noncomputable section

namespace Cert.RegionKit

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type} [∀ e, Nonempty (Val e)] {Λ₀ : Sem.Labels}

local notation "𝕄" => MT nD τ sig Unit Val ℕ (UR sig nD τ) ℕ

/-! ## Blocks as the body sees them -/

/-- No block the grid reaches is cut at its array's end. -/
def Uncut (cfg : Cfg sig Λ₀) : Prop :=
  ∀ (w : Fin cfg.W) (t : Fin cfg.N) (a : Fin (cfg.win w).shape.rank),
    (cfg.win w).xsize (cfg.grid.coords t) a = (cfg.win w).size a

/-- The contents of one staging buffer of every window. -/
abbrev Blocks (Val : EltTy → Type) (cfg : Cfg sig Λ₀) : Type :=
  (w : Fin cfg.W) → (cfg.win w).block.Idx → Val (cfg.win w).elt

/-- Window `w`'s block at point `t`, read off its array at contents `A`. -/
def seen {cfg : Cfg sig Λ₀} {c : Dev nD}
    (A : (w : Fin cfg.W) → Buf Val ((cfg.win w).arr.view.loc (c.tc : Thread nD τ))) (t : Fin cfg.N) : Blocks Val cfg :=
  fun w => (cfg.win w).fill (cfg.grid.coords t) (fun _ => Classical.choice inferInstance)
    (((cfg.win w).blk t).view.read Val (A w))

/-- A block read off its array is that array at the block's place, at every index. -/
theorem seen_apply {cfg : Cfg sig Λ₀} (hu : Uncut cfg) {c : Dev nD}
    (A : (w : Fin cfg.W) → Buf Val ((cfg.win w).arr.view.loc (c.tc : Thread nD τ))) (t : Fin cfg.N) (w : Fin cfg.W)
    (j : (cfg.win w).block.Idx) :
    seen A t w j = ((cfg.win w).blk t).view.read Val (A w) (fun a => ⟨(j a).val, by
      rw [show ((cfg.win w).xblock (cfg.grid.coords t)).size a = (cfg.win w).size a from hu w t a]; exact (j a).isLt⟩) := by
  have hm : (cfg.win w).moved (cfg.grid.coords t) j = true :=
    ((cfg.win w).moved_iff _ j).mpr fun a => by rw [hu w t a]; exact (j a).isLt
  unfold seen Window.fill
  rw [dif_pos hm]

/-- An uncut block has no cut stated for it. -/
theorem clip_none {cfg : Cfg sig Λ₀} (hu : Uncut cfg) (w : Fin cfg.W) (t : Fin cfg.N) :
    (cfg.win w).clip (cfg.grid.coords t) = fun _ => none := by
  funext a
  have h := (cfg.win w).hclip (cfg.grid.coords t) a
  have hx := hu w t a
  unfold Window.xsize at hx
  cases hc : (cfg.win w).clip (cfg.grid.coords t) a with
  | none => rfl
  | some n =>
    rw [hc] at h hx
    exact absurd hx (Nat.ne_of_lt h.2.1)

section Data

variable (cfg : Cfg sig Λ₀) (c : Dev nD)

/-- The proof data of a region entered with its windows' arrays at `A`: after the body at point `t` the staging
    buffers hold `y t` of the blocks the body saw; every scoped buffer outside the windows and the generator register are
    left alone; nothing is owed. -/
def datOf (y : Fin cfg.N → Blocks Val cfg → Blocks Val cfg)
    (A : (w : Fin cfg.W) → Buf Val ((cfg.win w).arr.view.loc (c.tc : Thread nD τ))) :
    Dat τ Val Unit ℕ (UR sig nD τ) ℕ cfg c where
  A := A
  after w t := y t (seen A t) w
  Φ _ := ΦA cfg.spec c
  q := shareOf cfg.spec
  owed _ := 0

/-- One run of the body at every point: from the input buffers at blocks `x` and the output buffers at anything to every
    buffer at `y t x`. -/
def Runs (defs₀ : Defs nD τ sig Val Λ₀) (y : Fin cfg.N → Blocks Val cfg → Blocks Val cfg) : Prop :=
  ∀ (c : Dev nD) (t : Fin cfg.N) (x : Blocks Val cfg),
    (bigSep Finset.univ fun w : Fin cfg.W => match (cfg.win w).isOut with
        | true => iprop(∃ d, owns (c : Thread nD τ) ((cfg.win w).stage (cfg.slots t w)) fullShare d)
        | false => owns (c : Thread nD τ) ((cfg.win w).stage (cfg.slots t w)) fullShare (x w) : sProp 𝕄)
      ⊢ wp frame (wpE defs₀ Variants.none c none) Set.univ (defs₀ .tc cfg.body (cfg.bodyArgs t (cfg.slots t))) fun _ =>
          bigSep Finset.univ fun w : Fin cfg.W =>
            owns (c : Thread nD τ) ((cfg.win w).stage (cfg.slots t w)) fullShare (y t x w)

/-- The body leaves what it was handed in every input buffer. -/
def Keeps (y : Fin cfg.N → Blocks Val cfg → Blocks Val cfg) : Prop :=
  ∀ t x (w : Fin cfg.W), (cfg.win w).isOut = false → y t x w = x w

variable {cfg}

/-- Writing one output buffer leaves every input buffer. -/
theorem keeps_update (o : Fin cfg.W) (ho : (cfg.win o).isOut = true)
    (f : Fin cfg.N → Blocks Val cfg → (cfg.win o).block.Idx → Val (cfg.win o).elt) :
    Keeps cfg fun t x => Function.update x o (f t x) := fun t x w hw => by
  have h : w ≠ o := fun h => by subst h; rw [ho] at hw; exact Bool.noConfusion hw
  exact Function.update_of_ne h _ _

/-- Leaving every buffer leaves the input buffers. -/
theorem keeps_all : Keeps (Val := Val) cfg fun _ x => x := fun _ _ _ _ => rfl

/-- One output buffer more. -/
theorem Keeps.update {y : Fin cfg.N → Blocks Val cfg → Blocks Val cfg} (hy : Keeps cfg y) (o : Fin cfg.W)
    (ho : (cfg.win o).isOut = true) (f : Fin cfg.N → Blocks Val cfg → (cfg.win o).block.Idx → Val (cfg.win o).elt) :
    Keeps cfg fun t x => Function.update (y t x) o (f t x) := fun t x w hw => by
  have h : w ≠ o := fun h => by subst h; rw [ho] at hw; exact Bool.noConfusion hw
  exact (Function.update_of_ne h _ _).trans (hy t x w hw)

/-- An input buffer holds its block at every point, whether fetched there or at an earlier point of the same block. -/
theorem datOf_before (hu : Uncut cfg) (hidle : ∀ w i, cfg.idle w i = false)
    {y : Fin cfg.N → Blocks Val cfg → Blocks Val cfg} (hk : Keeps cfg y)
    (A : (w : Fin cfg.W) → Buf Val ((cfg.win w).arr.view.loc (c.tc : Thread nD τ)))
    (w : Fin cfg.W) (hw : (cfg.win w).isOut = false) (t : Fin cfg.N) (d) :
    (datOf cfg c y A).before w t d = seen A t w := by
  have hall (t : Fin cfg.N) (j) : (cfg.win w).moved (cfg.grid.coords t) j = true :=
    ((cfg.win w).moved_iff _ j).mpr fun a => by rw [hu w t a]; exact (j a).isLt
  rw [(datOf cfg c y A).before_in_eq_fetched w hw (hidle w)
    (fun t t' _ => by rw [clip_none hu, clip_none hu])
    (fun t => by
      show (cfg.win w).cut _ (y t (seen A t) w) = _
      rw [hk t _ w hw]; unfold seen; rw [Window.cut_fill]; rfl) t d]
  unfold Dat.fetched seen Window.fill
  funext j
  rw [dif_pos (hall t j), dif_pos (hall t j)]
  rfl

/-- The body obligation of those proof data, from one run of the body. -/
theorem datOf_obligation {defs₀ : Defs nD τ sig Val Λ₀} (hu : Uncut cfg) (hidle : ∀ w i, cfg.idle w i = false)
    {y : Fin cfg.N → Blocks Val cfg → Blocks Val cfg} (hk : Keeps cfg y) (hrun : Runs cfg defs₀ y)
    (A : (w : Fin cfg.W) → Buf Val ((cfg.win w).arr.view.loc (c.tc : Thread nD τ))) :
    BodyObligation (datOf cfg c y A) defs₀ Variants.none () Set.univ := by
  intro t
  have hpre : (bigSep Finset.univ fun w : Fin cfg.W =>
        iprop(∃ d, owns (c : Thread nD τ) ((cfg.win w).stage (cfg.slots t w)) fullShare ((datOf cfg c y A).before w t d)) : sProp 𝕄)
      ⊢ bigSep Finset.univ fun w : Fin cfg.W => match (cfg.win w).isOut with
        | true => iprop(∃ d, owns (c : Thread nD τ) ((cfg.win w).stage (cfg.slots t w)) fullShare d)
        | false => owns (c : Thread nD τ) ((cfg.win w).stage (cfg.slots t w)) fullShare (seen A t w) := by
    refine bigSep_mono fun w _ => ?_
    cases hw : (cfg.win w).isOut with
    | true =>
      show (iprop(∃ d, owns (c : Thread nD τ) ((cfg.win w).stage (cfg.slots t w)) fullShare ((datOf cfg c y A).before w t d)) : sProp 𝕄)
        ⊢ iprop(∃ d, owns (c : Thread nD τ) ((cfg.win w).stage (cfg.slots t w)) fullShare d)
      iintro ⟨%d, H⟩; iexists _; iexact H
    | false =>
      show (iprop(∃ d, owns (c : Thread nD τ) ((cfg.win w).stage (cfg.slots t w)) fullShare ((datOf cfg c y A).before w t d)) : sProp 𝕄)
        ⊢ owns (c : Thread nD τ) ((cfg.win w).stage (cfg.slots t w)) fullShare (seen A t w)
      iintro ⟨%d, H⟩
      rw [datOf_before c hu hidle hk A w hw t d]
      iexact H
  have hpost : (bigSep Finset.univ fun w : Fin cfg.W =>
        owns (c : Thread nD τ) ((cfg.win w).stage (cfg.slots t w)) fullShare (y t (seen A t) w) : sProp 𝕄)
      ⊢ bigSep Finset.univ fun w : Fin cfg.W => match cfg.idle w (cfg.grid.coords t) with
        | true => match (cfg.win w).flush t with
          | false => iprop(∃ d, owns (c : Thread nD τ) ((cfg.win w).stage (cfg.slots t w)) fullShare ((datOf cfg c y A).before w t d))
          | true => owns (c : Thread nD τ) ((cfg.win w).stage (cfg.slots t w)) fullShare ((datOf cfg c y A).after w t)
        | false => owns (c : Thread nD τ) ((cfg.win w).stage (cfg.slots t w)) fullShare ((datOf cfg c y A).after w t) := by
    refine bigSep_mono fun w _ => ?_
    rw [hidle w]
    exact BIBase.Entails.refl (P := (owns (c : Thread nD τ) ((cfg.win w).stage (cfg.slots t w)) fullShare (y t (seen A t) w) : sProp 𝕄))
  iintro ⟨HΦ, Ho, H⟩
  iapply (wp_mono _ _ _ fun _ => sep_mono (P := (datOf cfg c y A).Φ t.castSucc) BIBase.Entails.rfl
    (sep_mono (P := (datOf cfg c y A).owesAt () t.castSucc) BIBase.Entails.rfl hpost))
  iapply (wp_frame_l _ _ _)
  isplitl [HΦ]; · iexact HΦ
  iapply (wp_frame_l _ _ _)
  isplitl [Ho]; · iexact Ho
  iapply (hrun c t (seen A t))
  iapply hpre; iexact H

end Data

/-! ## What a region leaves, and the region as a segment -/

section Exit

variable (cfg : Cfg sig Λ₀) (c : Dev nD)

/-- The windows' arrays in the buffers at `W`. -/
abbrev arraysOf (W : Valuation τ sig Val) (w : Fin cfg.W) : Buf Val ((cfg.win w).arr.view.loc (c.tc : Thread nD τ)) :=
  W (Proc.devRef .tc (arrRef cfg.spec w))

/-- The buffers a region entered with the buffers at `W` leaves: each output array at its write-backs folded, every other
    buffer as it was. -/
def exitOf (y : Fin cfg.N → Blocks Val cfg → Blocks Val cfg) (W : Valuation τ sig Val) : Valuation τ sig Val :=
  withArrays cfg.spec c W fun w => (datOf cfg c y (arraysOf cfg c W)).arrAt w cfg.N

variable {cfg}

/-- Each of the region's arrays is left at the fold of its write-backs. -/
theorem exitOf_arr (hsh : SharedIn cfg.spec) (y : Fin cfg.N → Blocks Val cfg → Blocks Val cfg) (W : Valuation τ sig Val)
    (w : Fin cfg.W) :
    exitOf cfg c y W (Proc.devRef .tc (arrRef cfg.spec w)) = (datOf cfg c y (arraysOf cfg c W)).arrAt w cfg.N :=
  (datOf cfg c y (arraysOf cfg c W)).withArrays_arrAt hsh W (fun _ => rfl) w

/-- A buffer that is no array of the region is left as it was. -/
theorem exitOf_rest (y : Fin cfg.N → Blocks Val cfg → Blocks Val cfg) (W : Valuation τ sig Val) (b : Ref sig .tc)
    (hb : ∀ w, arrRef cfg.spec w ≠ b) : exitOf cfg c y W (Proc.devRef .tc b) = W (Proc.devRef .tc b) :=
  withArrays_of_ne cfg.spec c _ _ b hb

/-- A buffer that is no OUTPUT array of the region is left as it was. -/
theorem exitOf_keeps (hsh : SharedIn cfg.spec) (y : Fin cfg.N → Blocks Val cfg → Blocks Val cfg) (W : Valuation τ sig Val)
    (b : Ref sig .tc) (hb : ∀ w : Fin cfg.W, arrRef cfg.spec w = b → (cfg.win w).isOut = false) :
    exitOf cfg c y W (Proc.devRef .tc b) = W (Proc.devRef .tc b) := by
  by_cases h : ∃ w : Fin cfg.W, arrRef cfg.spec w = b
  · obtain ⟨w, rfl⟩ := h
    exact (exitOf_arr c hsh y W w).trans ((datOf cfg c y (arraysOf cfg c W)).arrAt_in w (hb w rfl) _)
  · exact exitOf_rest c y W b fun w e => h ⟨w, e⟩

/-- A buffer outside a list that holds every output array of the region is left as it was. -/
theorem exitOf_of_not_mem (hsh : SharedIn cfg.spec) (y : Fin cfg.N → Blocks Val cfg → Blocks Val cfg) (W : Valuation τ sig Val)
    (L : List (Ref sig .tc)) (hL : ∀ w : Fin cfg.W, (cfg.win w).isOut = true → arrRef cfg.spec w ∈ L) (b : Ref sig .tc)
    (h : b ∉ L) : exitOf cfg c y W (Proc.devRef .tc b) = W (Proc.devRef .tc b) :=
  exitOf_keeps c hsh y W b fun w e => by
    cases hw : (cfg.win w).isOut with
    | true => exact absurd (e ▸ hL w hw) h
    | false => rfl

end Exit

section Segment

variable {P : Type} [Fintype P] (cfgs : P → Cfg sig Λ₀)

/-- Distinct arrays are shared by no two windows. -/
theorem facts₀ {cfgs : P → Cfg sig Λ₀} {p : P} (h : LaunchFacts (nD := nD) (τ := τ) cfgs p) :
    LaunchFacts₀ (nD := nD) (τ := τ) cfgs p :=
  ⟨h.cellOf_inj, h.win.to₀, SharedIn.of_injective h.win.arr_inj, h.block_pos, h.arr_whole, h.stage_whole⟩

/-- The pipelines with no prefetched table. -/
abbrev pcs (p : P) : PCfg sig Λ₀ Val := (cfgs p).toPCfg

/-- The one admissible contents of no table. -/
abbrev noTables (p : P) : (pcs (Val := Val) cfgs p).Adm := (cfgs p).toPCfg_adm

/-- What rides beside the buffers through every segment: the core's generator register at some state and nothing owed. -/
abbrev Beside (c : Dev nD) : sProp 𝕄 :=
  iprop((∃ r, prngReg c r) ∗ ∃ S, owes (c : Thread nD τ) (0 : CellTallies nD τ sig Unit) S)

/-- The state of a thread between two segments: every unscoped buffer at `W`. -/
abbrev Holds (c : Dev nD) (W : Valuation τ sig Val) : sProp 𝕄 :=
  iprop(StableHlo.held (c : Thread nD τ) (ucRefs τ sig) W ∗ Beside c)

-- the library's lemmas are stated over the pinned configurations, met here by unfolding plain definitions
set_option backward.isDefEq.respectTransparency.types false in
/-- Region `p` as a segment of @main: entered with the buffers at `W`, left at `exitOf`. -/
def segOf (pdats : (p : P) → (c : Dev nD) → Dat τ Val Unit ℕ (UR sig nD τ) ℕ (pin (pcs (Val := Val) cfgs) (noTables cfgs) p) c)
    (defs₀ : Defs nD τ sig Val Λ₀) (p : P) (h : LaunchFacts₀ (nD := nD) (τ := τ) cfgs p)
    (y : Fin (cfgs p).N → Blocks Val (cfgs p) → Blocks Val (cfgs p)) (W : Dev nD → Valuation τ sig Val)
    (hd : ∀ c, pdats p c = datOf (cfgs p) c y (arraysOf (cfgs p) c (W c)))
    (hu : Uncut (cfgs p)) (hidle : ∀ w i, (cfgs p).idle w i = false) (hk : Keeps (cfgs p) y) (hrun : Runs (nD := nD) (τ := τ) (cfgs p) defs₀ y) :
    RegionSeg (pcs (Val := Val) cfgs) (noTables cfgs) pdats () defs₀ Variants.none (fun _ => ∅) (fun _ _ => 0) p where
  win := h.win
  block_pos := h.block_pos
  stage_whole := h.stage_whole
  K := PEmpty
  osem k := k.elim
  ho := OwnSemFacts.none _
  hbody c := by rw [hd c]; exact (datOf_obligation c hu hidle hk hrun _).loose
  hwaits := hwaits_of_owed_zero _ _ _ _ _ _ p fun c t => by rw [hd c]; rfl
  pre c := Holds c (W c)
  post c := Holds c (exitOf (cfgs p) c y (W c))
  X c := iprop(∃ r, prngReg c r)
  Y c := iprop(∃ r, prngReg c r)
  Z c := unscopedRest (Ix := Unit) (Name := ℕ) (U := UR sig nD τ) (Lvl := ℕ) (cfgs p).spec c fun b => W c (Proc.devRef .tc b)
  hentry c := by
    rw [ownSems0_none]
    have hsplit := arrays_of_unscopedBufs_shared (p := p) (pcs (Val := Val) cfgs) (noTables cfgs) pdats h.win h.sharedIn h.arr_whole c
      (fun w _ => by rw [hd c]; rfl) (fun b => W c (Proc.devRef .tc b)) (fun w => by rw [hd c]; rfl)
    rw [unscopedBufs_held] at hsplit
    iintro ⟨⟨Hub, Hp, HO⟩, -, -⟩
    ihave H := hsplit $$ Hub
    icases H with ⟨Ha, Hrest⟩
    imodintro
    isplitl [Ha]; · iexact Ha
    isplitr; · unfold prefHeld; rw [show (Finset.univ : Finset (Fin 0)) = ∅ from rfl, BI.bigSep_empty]; iempintro
    isplitl [HO]
    · rw [hd c]
      unfold Dat.owesAt owesWithin
      icases HO with ⟨%S, HO⟩; iexists S; isplitr; · ipureintro; exact fun _ _ => Or.inl trivial
      iexact HO
    isplitl [Hp]; · iexact Hp
    iexact Hrest
  hin c := by
    rw [show (pdats p c).Φ 0 = ΦA (cfgs p).spec c from by rw [hd c]; rfl]; unfold ΦA
    iintro ⟨Hp, -, Hr⟩
    isplitl [Hr]; · iexact Hr
    iexact Hp
  hout c := by
    rw [ownSems0_none, show (pdats p c).Φ (Fin.last _) = ΦA (cfgs p).spec c from by rw [hd c]; rfl]; unfold ΦA
    iintro ⟨Hr, Hp⟩
    isplitl [Hp]; · iexact Hp
    isplitr; · iempintro
    iexact Hr
  hexit c := by
    have hjoin := unscopedBufs_of_arrays_shared (p := p) (pcs (Val := Val) cfgs) (noTables cfgs) (Ix := Unit) (Name := ℕ) (U := UR sig nD τ) (Lvl := ℕ)
      h.win h.sharedIn h.arr_whole c pdats (fun w _ => by rw [hd c]; rfl)
      (fun b => W c (Proc.devRef .tc b)) (fun b => exitOf (cfgs p) c y (W c) (Proc.devRef .tc b)) ((pdats p c).arrAt · (cfgs p).N)
      (fun w => by rw [hd c]; exact (exitOf_arr c h.sharedIn y (W c) w).symm)
      (fun b hb => exitOf_rest c y (W c) b fun w e => hb (Finset.mem_image.mpr ⟨w, Finset.mem_univ _, e⟩))
    rw [unscopedBufs_held] at hjoin
    iintro ⟨Ha, HO, HY, Hrest⟩
    imodintro
    isplitl [Ha Hrest]
    · iapply hjoin; isplitl [Ha] <;> iassumption
    isplitl [HY]; · iexact HY
    rw [hd c]
    unfold Dat.owesAt owesWithin
    icases HO with ⟨%S, -, HO⟩; iexists S; iexact HO

end Segment

end Cert.RegionKit

end
-- ==== Proof.WholeBody.lean ====
/-
  Bodies that read each of their input buffers whole and write their output buffer whole: what one run leaves, for any
  number of such reads, from one rule for a whole read and one for a whole write.
-/
module

public import Idealize.ShloMosaic.Lib.Pipeline.FrameBody
public import Idealize.ShloMosaic.Lib.Pipeline.RegionsLoop
public import Idealize.ShloMosaic.Lib.Pipeline.ValueKit
public import Idealize.ShloMosaic.Lib.Tactic

@[expose] public section

noncomputable section

namespace Cert.WholeBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type} [∀ e, Nonempty (Val e)] {Λ : Sem.Labels}

local notation "𝕄" => MT nD τ sig Unit Val ℕ (UR sig nD τ) ℕ

/-- The rectangle of a whole shape, from any spelling of the zero offsets. -/
abbrev all (S : Shape) (off : Fin S.rank → ℕ) (inb : ∀ a, off a + S.size a ≤ S.size a) : Rect S := Rect.unit off S.size inb

/-- The whole rectangle takes every index to itself. -/
theorem all_idx {S : Shape} {off : Fin S.rank → ℕ} (inb : ∀ a, off a + S.size a ≤ S.size a) (j : S.Idx) :
    (all S off inb).idx j = j := by
  funext a
  apply Fin.ext
  have h := inb a
  have h0 : off a = 0 := by omega
  simp [LoadRect.idx_apply, Rect.unit, h0]

variable (defs : Defs nD τ sig Val Λ) (c : Dev nD) {α : Type}

/-- A whole read yields what the buffer holds, and leaves it. -/
theorem wp_load_all {S : Shape} {e : EltTy} {m : Memref sig .tc .vmem S e} {off : Fin S.rank → ℕ}
    {inb : ∀ a, off a + S.size a ≤ S.size a} {hl : m.view.LoadsAt (all S off inb).toLoadRect} {x : S.Idx → Val e}
    {k : (S.Idx → Val e) → Prog (TpuEff nD τ sig Val Λ .tc) α} {Q : α → sProp 𝕄} :
    (owns (c : Thread nD τ) m fullShare x : sProp 𝕄)
      ⊢ iprop((owns (c : Thread nD τ) m fullShare x -∗ wp frame (wpE defs Variants.none c none) Set.univ (k x) Q)
        -∗ wp frame (wpE defs Variants.none c none) Set.univ (.op (.load m (all S off inb).toLoadRect hl) k) Q) := by
  unfold owns
  iintro ⟨%f, %hf, H⟩ Hk
  sl_step
  have hx : (m.view.readAt Val (all S off inb).toLoadRect f : S.Idx → Val e) = x := by
    funext j
    rw [← hf]
    exact congrArg (m.view.read Val f) (all_idx inb j)
  rw [hx]
  iapply Hk
  iexists f
  isplitr
  · ipureintro; exact hf
  · iexact H

/-- A whole write leaves what it wrote. -/
theorem wp_store_all {S : Shape} {e : EltTy} {m : Memref sig .tc .vmem S e} {off : Fin S.rank → ℕ}
    {inb : ∀ a, off a + S.size a ≤ S.size a} {w : S.Idx → Val e}
    {hx : (m.access (all S off inb)).Stores Finset.univ} {hm : (Finset.univ : Finset (all S off inb).shape.Idx) = Finset.univ ∨ ∀ a, (all S off inb).stride a = 1}
    {k : PUnit → Prog (TpuEff nD τ sig Val Λ .tc) α} {Q : α → sProp 𝕄} :
    (iprop(∃ d, owns (c : Thread nD τ) m fullShare d) : sProp 𝕄)
      ⊢ iprop((owns (c : Thread nD τ) m fullShare w -∗ wp frame (wpE defs Variants.none c none) Set.univ (k ⟨⟩) Q)
        -∗ wp frame (wpE defs Variants.none c none) Set.univ (.op (.store m (all S off inb) w Finset.univ hx hm) k) Q) := by
  unfold owns
  iintro ⟨%d, %f, -, H⟩ Hk
  sl_step
  iapply Hk
  iexists _
  isplitr
  swap
  · iexact H
  ipureintro
  have h := View.read_writes_eq_canon m.view f [⟨all S off inb, w⟩] (fun y =>
    ⟨_, List.mem_singleton_self _, by rw [← all_idx inb y]; exact LoadRect.idx_mem _ _⟩)
  exact h.trans (View.canon_cons_unit_lit inb w [] fun a => by have := inb a; omega)

/-- A write whose old contents are read first and not used. -/
theorem wp_fill {S : Shape} {e : EltTy} {m : Memref sig .tc .vmem S e} {off off' : Fin S.rank → ℕ}
    {inb : ∀ a, off a + S.size a ≤ S.size a} {inb' : ∀ a, off' a + S.size a ≤ S.size a}
    {hl : m.view.LoadsAt (all S off' inb').toLoadRect} {w : S.Idx → Val e}
    {hx : (m.access (all S off inb)).Stores Finset.univ} {hm : (Finset.univ : Finset (all S off inb).shape.Idx) = Finset.univ ∨ ∀ a, (all S off inb).stride a = 1}
    {k : PUnit → Prog (TpuEff nD τ sig Val Λ .tc) α} {Q : α → sProp 𝕄} :
    (iprop(∃ d, owns (c : Thread nD τ) m fullShare d) : sProp 𝕄)
      ⊢ iprop((owns (c : Thread nD τ) m fullShare w -∗ wp frame (wpE defs Variants.none c none) Set.univ (k ⟨⟩) Q)
        -∗ wp frame (wpE defs Variants.none c none) Set.univ
          (.op (.load m (all S off' inb').toLoadRect hl) fun _ => .op (.store m (all S off inb) w Finset.univ hx hm) k) Q) := by
  iintro ⟨%d, H⟩ Hk
  iapply wp_load_all defs c $$ [H]
  · iexact H
  iintro H
  iapply wp_store_all defs c $$ [H]
  · iexists d; iexact H
  iexact Hk

variable {S0 S1 S2 S3 S4 S5 S6 : Shape} {e0 e1 e2 e3 e4 e5 e6 : EltTy}

/-- Two inputs, one output. -/
theorem run₂ (a0 : Memref sig .tc .vmem S0 e0) (a1 : Memref sig .tc .vmem S1 e1) (a2 : Memref sig .tc .vmem S2 e2)
    {o0 : Fin S0.rank → ℕ} {i0 : ∀ a, o0 a + S0.size a ≤ S0.size a} {l0 : a0.view.LoadsAt (all S0 o0 i0).toLoadRect}
    {o1 : Fin S1.rank → ℕ} {i1 : ∀ a, o1 a + S1.size a ≤ S1.size a} {l1 : a1.view.LoadsAt (all S1 o1 i1).toLoadRect}
    {o2 : Fin S2.rank → ℕ} {i2 : ∀ a, o2 a + S2.size a ≤ S2.size a} {l2 : a2.view.LoadsAt (all S2 o2 i2).toLoadRect}
    {hx : (a2.access (all S2 o2 i2)).Stores Finset.univ}
    {hm : (Finset.univ : Finset (all S2 o2 i2).shape.Idx) = Finset.univ ∨ ∀ a, (all S2 o2 i2).stride a = 1}
    (p : (S0.Idx → Val e0) → (S1.Idx → Val e1) → S2.Idx → Val e2) {B : Prog (TpuEff nD τ sig Val Λ .tc) PUnit}
    (hB : B = .op (.load a0 (all S0 o0 i0).toLoadRect l0) fun x0 => .op (.load a1 (all S1 o1 i1).toLoadRect l1) fun x1 =>
      .op (.load a2 (all S2 o2 i2).toLoadRect l2) fun _ => .op (.store a2 (all S2 o2 i2) (p x0 x1) Finset.univ hx hm) fun _ => .ret ⟨⟩)
    (x0 : S0.Idx → Val e0) (x1 : S1.Idx → Val e1) :
    iprop(owns (c : Thread nD τ) a0 fullShare x0 ∗ owns (c : Thread nD τ) a1 fullShare x1
        ∗ (∃ d, owns (c : Thread nD τ) a2 fullShare d))
      ⊢ wp frame (wpE defs Variants.none c none) Set.univ B fun _ => (iprop(owns (c : Thread nD τ) a0 fullShare x0
        ∗ owns (c : Thread nD τ) a1 fullShare x1 ∗ owns (c : Thread nD τ) a2 fullShare (p x0 x1)) : sProp 𝕄) := by
  subst hB
  iintro ⟨H0, H1, H2⟩
  iapply wp_load_all defs c $$ H0; iintro H0
  iapply wp_load_all defs c $$ H1; iintro H1
  iapply wp_fill defs c $$ H2; iintro H2
  sl_step
  isplitl [H0]; · iexact H0
  isplitl [H1]; · iexact H1
  iexact H2

/-- Three inputs, one output. -/
theorem run₃ (a0 : Memref sig .tc .vmem S0 e0) (a1 : Memref sig .tc .vmem S1 e1) (a2 : Memref sig .tc .vmem S2 e2)
    (a3 : Memref sig .tc .vmem S3 e3)
    {o0 : Fin S0.rank → ℕ} {i0 : ∀ a, o0 a + S0.size a ≤ S0.size a} {l0 : a0.view.LoadsAt (all S0 o0 i0).toLoadRect}
    {o1 : Fin S1.rank → ℕ} {i1 : ∀ a, o1 a + S1.size a ≤ S1.size a} {l1 : a1.view.LoadsAt (all S1 o1 i1).toLoadRect}
    {o2 : Fin S2.rank → ℕ} {i2 : ∀ a, o2 a + S2.size a ≤ S2.size a} {l2 : a2.view.LoadsAt (all S2 o2 i2).toLoadRect}
    {o3 : Fin S3.rank → ℕ} {i3 : ∀ a, o3 a + S3.size a ≤ S3.size a} {l3 : a3.view.LoadsAt (all S3 o3 i3).toLoadRect}
    {hx : (a3.access (all S3 o3 i3)).Stores Finset.univ}
    {hm : (Finset.univ : Finset (all S3 o3 i3).shape.Idx) = Finset.univ ∨ ∀ a, (all S3 o3 i3).stride a = 1}
    (p : (S0.Idx → Val e0) → (S1.Idx → Val e1) → (S2.Idx → Val e2) → S3.Idx → Val e3)
    {B : Prog (TpuEff nD τ sig Val Λ .tc) PUnit}
    (hB : B = .op (.load a0 (all S0 o0 i0).toLoadRect l0) fun x0 => .op (.load a1 (all S1 o1 i1).toLoadRect l1) fun x1 =>
      .op (.load a2 (all S2 o2 i2).toLoadRect l2) fun x2 => .op (.load a3 (all S3 o3 i3).toLoadRect l3) fun _ =>
      .op (.store a3 (all S3 o3 i3) (p x0 x1 x2) Finset.univ hx hm) fun _ => .ret ⟨⟩)
    (x0 : S0.Idx → Val e0) (x1 : S1.Idx → Val e1) (x2 : S2.Idx → Val e2) :
    iprop(owns (c : Thread nD τ) a0 fullShare x0 ∗ owns (c : Thread nD τ) a1 fullShare x1
        ∗ owns (c : Thread nD τ) a2 fullShare x2 ∗ (∃ d, owns (c : Thread nD τ) a3 fullShare d))
      ⊢ wp frame (wpE defs Variants.none c none) Set.univ B fun _ => (iprop(owns (c : Thread nD τ) a0 fullShare x0
        ∗ owns (c : Thread nD τ) a1 fullShare x1 ∗ owns (c : Thread nD τ) a2 fullShare x2
        ∗ owns (c : Thread nD τ) a3 fullShare (p x0 x1 x2)) : sProp 𝕄) := by
  subst hB
  iintro ⟨H0, H1, H2, H3⟩
  iapply wp_load_all defs c $$ H0; iintro H0
  iapply wp_load_all defs c $$ H1; iintro H1
  iapply wp_load_all defs c $$ H2; iintro H2
  iapply wp_fill defs c $$ H3; iintro H3
  sl_step
  isplitl [H0]; · iexact H0
  isplitl [H1]; · iexact H1
  isplitl [H2]; · iexact H2
  iexact H3

/-- Six inputs, one output; the sixth input is read third. -/
theorem run₆ (a0 : Memref sig .tc .vmem S0 e0) (a1 : Memref sig .tc .vmem S1 e1) (a2 : Memref sig .tc .vmem S2 e2)
    (a3 : Memref sig .tc .vmem S3 e3) (a4 : Memref sig .tc .vmem S4 e4) (a5 : Memref sig .tc .vmem S5 e5)
    (a6 : Memref sig .tc .vmem S6 e6)
    {o0 : Fin S0.rank → ℕ} {i0 : ∀ a, o0 a + S0.size a ≤ S0.size a} {l0 : a0.view.LoadsAt (all S0 o0 i0).toLoadRect}
    {o1 : Fin S1.rank → ℕ} {i1 : ∀ a, o1 a + S1.size a ≤ S1.size a} {l1 : a1.view.LoadsAt (all S1 o1 i1).toLoadRect}
    {o2 : Fin S2.rank → ℕ} {i2 : ∀ a, o2 a + S2.size a ≤ S2.size a} {l2 : a2.view.LoadsAt (all S2 o2 i2).toLoadRect}
    {o3 : Fin S3.rank → ℕ} {i3 : ∀ a, o3 a + S3.size a ≤ S3.size a} {l3 : a3.view.LoadsAt (all S3 o3 i3).toLoadRect}
    {o4 : Fin S4.rank → ℕ} {i4 : ∀ a, o4 a + S4.size a ≤ S4.size a} {l4 : a4.view.LoadsAt (all S4 o4 i4).toLoadRect}
    {o5 : Fin S5.rank → ℕ} {i5 : ∀ a, o5 a + S5.size a ≤ S5.size a} {l5 : a5.view.LoadsAt (all S5 o5 i5).toLoadRect}
    {o6 : Fin S6.rank → ℕ} {i6 : ∀ a, o6 a + S6.size a ≤ S6.size a} {l6 : a6.view.LoadsAt (all S6 o6 i6).toLoadRect}
    {hx : (a6.access (all S6 o6 i6)).Stores Finset.univ}
    {hm : (Finset.univ : Finset (all S6 o6 i6).shape.Idx) = Finset.univ ∨ ∀ a, (all S6 o6 i6).stride a = 1}
    {p p' : (S0.Idx → Val e0) → (S1.Idx → Val e1) → (S2.Idx → Val e2) → (S3.Idx → Val e3) → (S4.Idx → Val e4)
      → (S5.Idx → Val e5) → S6.Idx → Val e6}
    {B : Prog (TpuEff nD τ sig Val Λ .tc) PUnit}
    (hB : B = .op (.load a0 (all S0 o0 i0).toLoadRect l0) fun x0 => .op (.load a1 (all S1 o1 i1).toLoadRect l1) fun x1 =>
      .op (.load a5 (all S5 o5 i5).toLoadRect l5) fun x5 => .op (.load a2 (all S2 o2 i2).toLoadRect l2) fun x2 =>
      .op (.load a3 (all S3 o3 i3).toLoadRect l3) fun x3 => .op (.load a4 (all S4 o4 i4).toLoadRect l4) fun x4 =>
      .op (.load a6 (all S6 o6 i6).toLoadRect l6) fun _ =>
      .op (.store a6 (all S6 o6 i6) (p x0 x1 x2 x3 x4 x5) Finset.univ hx hm) fun _ => .ret ⟨⟩)
    (hp : p = p')
    (x0 : S0.Idx → Val e0) (x1 : S1.Idx → Val e1) (x2 : S2.Idx → Val e2) (x3 : S3.Idx → Val e3) (x4 : S4.Idx → Val e4)
    (x5 : S5.Idx → Val e5) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ owns (c : Thread nD τ) a5 fullShare x5
        ∗ (∃ d, owns (c : Thread nD τ) a6 fullShare d))
      ⊢ wp frame (wpE defs Variants.none c none) Set.univ B fun _ => (iprop(owns (c : Thread nD τ) a0 fullShare x0
        ∗ owns (c : Thread nD τ) a1 fullShare x1 ∗ owns (c : Thread nD τ) a2 fullShare x2
        ∗ owns (c : Thread nD τ) a3 fullShare x3 ∗ owns (c : Thread nD τ) a4 fullShare x4
        ∗ owns (c : Thread nD τ) a5 fullShare x5 ∗ owns (c : Thread nD τ) a6 fullShare (p' x0 x1 x2 x3 x4 x5)) : sProp 𝕄) := by
  subst hB hp
  iintro ⟨H0, H1, H2, H3, H4, H5, H6⟩
  iapply wp_load_all defs c $$ H0; iintro H0
  iapply wp_load_all defs c $$ H1; iintro H1
  iapply wp_load_all defs c $$ H5; iintro H5
  iapply wp_load_all defs c $$ H2; iintro H2
  iapply wp_load_all defs c $$ H3; iintro H3
  iapply wp_load_all defs c $$ H4; iintro H4
  iapply wp_fill defs c $$ H6; iintro H6
  sl_step
  isplitl [H0]; · iexact H0
  isplitl [H1]; · iexact H1
  isplitl [H2]; · iexact H2
  isplitl [H3]; · iexact H3
  isplitl [H4]; · iexact H4
  isplitl [H5]; · iexact H5
  iexact H6

variable {T : Shape} {e : EltTy}

/-- Six inputs and four outputs of one shape, written one after another. -/
theorem run₆₄ (a0 : Memref sig .tc .vmem S0 e0) (a1 : Memref sig .tc .vmem S1 e1) (a2 : Memref sig .tc .vmem S2 e2)
    (a3 : Memref sig .tc .vmem S3 e3) (a4 : Memref sig .tc .vmem S4 e4) (a5 : Memref sig .tc .vmem S5 e5)
    (b0 b1 b2 b3 : Memref sig .tc .vmem T e)
    {o0 : Fin S0.rank → ℕ} {i0 : ∀ a, o0 a + S0.size a ≤ S0.size a} {l0 : a0.view.LoadsAt (all S0 o0 i0).toLoadRect}
    {o1 : Fin S1.rank → ℕ} {i1 : ∀ a, o1 a + S1.size a ≤ S1.size a} {l1 : a1.view.LoadsAt (all S1 o1 i1).toLoadRect}
    {o2 : Fin S2.rank → ℕ} {i2 : ∀ a, o2 a + S2.size a ≤ S2.size a} {l2 : a2.view.LoadsAt (all S2 o2 i2).toLoadRect}
    {o3 : Fin S3.rank → ℕ} {i3 : ∀ a, o3 a + S3.size a ≤ S3.size a} {l3 : a3.view.LoadsAt (all S3 o3 i3).toLoadRect}
    {o4 : Fin S4.rank → ℕ} {i4 : ∀ a, o4 a + S4.size a ≤ S4.size a} {l4 : a4.view.LoadsAt (all S4 o4 i4).toLoadRect}
    {o5 : Fin S5.rank → ℕ} {i5 : ∀ a, o5 a + S5.size a ≤ S5.size a} {l5 : a5.view.LoadsAt (all S5 o5 i5).toLoadRect}
    {o : Fin T.rank → ℕ} {i : ∀ a, o a + T.size a ≤ T.size a}
    {hm : (Finset.univ : Finset (all T o i).shape.Idx) = Finset.univ ∨ ∀ a, (all T o i).stride a = 1}
    {m0 : b0.view.LoadsAt (all T o i).toLoadRect} {n0 : (b0.access (all T o i)).Stores Finset.univ}
    {m1 : b1.view.LoadsAt (all T o i).toLoadRect} {n1 : (b1.access (all T o i)).Stores Finset.univ}
    {m2 : b2.view.LoadsAt (all T o i).toLoadRect} {n2 : (b2.access (all T o i)).Stores Finset.univ}
    {m3 : b3.view.LoadsAt (all T o i).toLoadRect} {n3 : (b3.access (all T o i)).Stores Finset.univ}
    (p0 p1 p2 p3 : (S0.Idx → Val e0) → (S1.Idx → Val e1) → (S2.Idx → Val e2) → (S3.Idx → Val e3) → (S4.Idx → Val e4) → (S5.Idx → Val e5) → T.Idx → Val e)
    {B : Prog (TpuEff nD τ sig Val Λ .tc) PUnit}
    (hB : B = .op (.load a2 (all S2 o2 i2).toLoadRect l2) fun x2 =>
      .op (.load a3 (all S3 o3 i3).toLoadRect l3) fun x3 =>
      .op (.load a4 (all S4 o4 i4).toLoadRect l4) fun x4 =>
      .op (.load a5 (all S5 o5 i5).toLoadRect l5) fun x5 =>
      .op (.load a0 (all S0 o0 i0).toLoadRect l0) fun x0 =>
      .op (.load a1 (all S1 o1 i1).toLoadRect l1) fun x1 =>
      .op (.load b0 (all T o i).toLoadRect m0) fun _ =>
      .op (.store b0 (all T o i) (p0 x0 x1 x2 x3 x4 x5) Finset.univ n0 hm) fun _ =>
      .op (.load b1 (all T o i).toLoadRect m1) fun _ =>
      .op (.store b1 (all T o i) (p1 x0 x1 x2 x3 x4 x5) Finset.univ n1 hm) fun _ =>
      .op (.load b2 (all T o i).toLoadRect m2) fun _ =>
      .op (.store b2 (all T o i) (p2 x0 x1 x2 x3 x4 x5) Finset.univ n2 hm) fun _ =>
      .op (.load b3 (all T o i).toLoadRect m3) fun _ =>
      .op (.store b3 (all T o i) (p3 x0 x1 x2 x3 x4 x5) Finset.univ n3 hm) fun _ => .ret ⟨⟩)
    (x0 : S0.Idx → Val e0) (x1 : S1.Idx → Val e1) (x2 : S2.Idx → Val e2) (x3 : S3.Idx → Val e3) (x4 : S4.Idx → Val e4) (x5 : S5.Idx → Val e5) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
        ∗ (∃ d, owns (c : Thread nD τ) b0 fullShare d) ∗ (∃ d, owns (c : Thread nD τ) b1 fullShare d) ∗ (∃ d, owns (c : Thread nD τ) b2 fullShare d) ∗ (∃ d, owns (c : Thread nD τ) b3 fullShare d))
      ⊢ wp frame (wpE defs Variants.none c none) Set.univ B fun _ => (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
        ∗ owns (c : Thread nD τ) b0 fullShare (p0 x0 x1 x2 x3 x4 x5) ∗ owns (c : Thread nD τ) b1 fullShare (p1 x0 x1 x2 x3 x4 x5) ∗ owns (c : Thread nD τ) b2 fullShare (p2 x0 x1 x2 x3 x4 x5) ∗ owns (c : Thread nD τ) b3 fullShare (p3 x0 x1 x2 x3 x4 x5)) : sProp 𝕄) := by
  subst hB
  iintro ⟨H0, H1, H2, H3, H4, H5, G0, G1, G2, G3⟩
  iapply wp_load_all defs c $$ H2; iintro H2
  iapply wp_load_all defs c $$ H3; iintro H3
  iapply wp_load_all defs c $$ H4; iintro H4
  iapply wp_load_all defs c $$ H5; iintro H5
  iapply wp_load_all defs c $$ H0; iintro H0
  iapply wp_load_all defs c $$ H1; iintro H1
  iapply wp_fill defs c $$ G0; iintro G0
  iapply wp_fill defs c $$ G1; iintro G1
  iapply wp_fill defs c $$ G2; iintro G2
  iapply wp_fill defs c $$ G3; iintro G3
  sl_step
  isplitl [H0]; · iexact H0
  isplitl [H1]; · iexact H1
  isplitl [H2]; · iexact H2
  isplitl [H3]; · iexact H3
  isplitl [H4]; · iexact H4
  isplitl [H5]; · iexact H5
  isplitl [G0]; · iexact G0
  isplitl [G1]; · iexact G1
  isplitl [G2]; · iexact G2
  iexact G3

end Cert.WholeBody

end
-- ==== Proof.AttnOut.lean ====
/-
  One query block of the masked attention, as the kernel computes it, over any number of 256-column key chunks.
  The eight attention launches differ in the number of key columns and in the first query row; their bodies' results are
  all `attn` at those two numbers (the modules of the regions show it), so the attention's value is proved once.
-/
module

public import Idealize.ShloMosaic.PureOps
public import Idealize.ShloMosaic.Lib.Tactic

@[expose] public section

noncomputable section

namespace Cert.AttnOut

open Idealize.ShloMosaic

variable {F : FTy → Type} [FloatOps F]

/-- The shape of a matrix. -/
abbrev M (a b : ℕ) : Shape := ⟨2, ![a, b]⟩
/-- The shape of a list of row values. -/
abbrev V (a : ℕ) : Shape := ⟨1, ![a]⟩

/-- The shape relations one query block against `s = 256 n` key columns stands on, and how the chunks are cut from a
    row and laid side by side. -/
structure Cuts (F : FTy → Type) [FloatOps F] (s n : ℕ) where
  iota0 : (M 256 s).Iotas .tc 32 [0]
  iota1 : (M 256 s).Iotas .tc 32 [1]
  bcast : (M 256 1).Broadcasts (M 256 s)
  bcastChunk : (M 256 1).Broadcasts (M 256 256)
  reduces : (M 256 s).Reduces [1] (V 256)
  column : (V 256).ShapeCasts (M 256 1)
  lastColumn : (M 256 256).Slices ![0, 255] (M 256 1)
  slices : ∀ c : Fin n, (M 256 s).Slices ![0, 256 * c.val] (M 256 256)
  wfT : DotDims.WF (M 256 128) (M s 128) (M 256 s) [1] [1] [0] [0] [] []
  wfV : DotDims.WF (M 256 s) (M s 128) (M 256 128) [1] [0] [0] [1] [] []
  wfC : DotDims.WF (M 256 256) (M 256 256) (M 256 256) [1] [0] [0] [1] [] []
  bits : FTy.bits .bf16 < FTy.bits .f32
  wide : 1 < 32
  join : (Fin n → FVec F (M 256 256) .f32) → FVec F (M 256 s) .f32

variable {s n : ℕ} (k : Cuts F s n)

/-- Rows against rows: the contraction of the last axes. -/
def Cuts.dotT : DotDims (M 256 128) (M s 128) (M 256 s) where
  lhsContracting := [1]
  rhsContracting := [1]
  lhsNonContracting := [0]
  rhsNonContracting := [0]
  lhsBatch := []
  rhsBatch := []
  wf := k.wfT

/-- Weights against values. -/
def Cuts.dotV : DotDims (M 256 s) (M s 128) (M 256 128) where
  lhsContracting := [1]
  rhsContracting := [0]
  lhsNonContracting := [0]
  rhsNonContracting := [1]
  lhsBatch := []
  rhsBatch := []
  wf := k.wfV

/-- A chunk against the triangle of ones. -/
def Cuts.dotC : DotDims (M 256 256) (M 256 256) (M 256 256) where
  lhsContracting := [1]
  rhsContracting := [0]
  lhsNonContracting := [0]
  rhsNonContracting := [1]
  lhsBatch := []
  rhsBatch := []
  wf := k.wfC

/-- The row number of each place, in the whole sequence. -/
def rowAt (q0 : BitVec 32) : IVec (M 256 s) 32 := addi (broadcast (M 256 s) q0) (iota .tc (M 256 s) 32 [0] k.iota0)

/-- Whether a place's key is not after its query. -/
def inBand (q0 : BitVec 32) : IVec (M 256 s) 1 := cmpi .sle (iota .tc (M 256 s) 32 [1] k.iota1) (rowAt k q0)

/-- The draft score of each place: the hash agreement inside the band, a low constant outside. -/
def draft (q0 : BitVec 32) (qh : FVec F (M 256 128) .bf16) (kh : FVec F (M s 128) .bf16) : FVec F (M 256 s) .f32 :=
  select (inBand k q0) (matmul k.dotT none qh kh (constant (F := F) (M 256 s) .f32 0x00000000#32))
    (broadcast (M 256 s) (Scalar.ofBits (F := F) .f32 0xC47A0000#32))

/-- A column of one word. -/
def colOf (b : BitVec 32) : FVec F (M 256 1) .f32 := broadcast (M 256 1) (Scalar.ofBits (F := F) .f32 b)

/-- One row value from the places of each row. -/
def rowSum (x : FVec F (M 256 s) .f32) : FVec F (M 256 1) .f32 :=
  shapeCast (M 256 1) (multiReduction .add [1] (V 256) x 0x00000000#32 k.reduces (.inl rfl) rfl) k.column

/-- The number of draft scores of a row that reach a threshold. -/
def reach (d : FVec F (M 256 s) .f32) (mid : FVec F (M 256 1) .f32) : FVec F (M 256 1) .f32 :=
  rowSum k (sitofp .f32 (extui 32 (cmpf .oge d (broadcastTo (M 256 s) mid k.bcast)) k.wide))

/-- The middle of a bracket, rounded down. -/
def middle (lo hi : FVec F (M 256 1) .f32) : FVec F (M 256 1) .f32 := floor (mulf (addf lo hi) (colOf 0x3F000000#32))

/-- A bracket of each row's threshold: the lower end, the upper end, the number of scores that reach the upper end. -/
structure Bracket (F : FTy → Type) where
  lo : FVec F (M 256 1) .f32
  hi : FVec F (M 256 1) .f32
  cnt : FVec F (M 256 1) .f32

/-- One halving. -/
def halve (d : FVec F (M 256 s) .f32) (b : Bracket F) : Bracket F where
  lo := select (cmpf .oge (reach k d (middle b.lo b.hi)) (colOf 0x434D0000#32)) (middle b.lo b.hi) b.lo
  hi := select (cmpf .oge (reach k d (middle b.lo b.hi)) (colOf 0x434D0000#32)) b.hi (middle b.lo b.hi)
  cnt := select (cmpf .oge (reach k d (middle b.lo b.hi)) (colOf 0x434D0000#32)) b.cnt (reach k d (middle b.lo b.hi))

/-- The bracket after some halvings. -/
def bracket (d : FVec F (M 256 s) .f32) : ℕ → Bracket F
  | 0 => ⟨colOf 0xC3000000#32, colOf 0x43000000#32, colOf 0x00000000#32⟩
  | i + 1 => halve k d (bracket d i)

/-- Where the draft score equals the threshold. -/
def ties (d : FVec F (M 256 s) .f32) : IVec (M 256 s) 1 := cmpf .oeq d (broadcastTo (M 256 s) (bracket k d 8).lo k.bcast)

/-- The ties as ones and zeros. -/
def tieWeights (d : FVec F (M 256 s) .f32) : FVec F (M 256 s) .bf16 :=
  truncf .bf16 (sitofp .f32 (extui 32 (ties k d) k.wide)) k.bits

/-- The ranks of a chunk's ties within the chunk. -/
def chunkRank (d : FVec F (M 256 s) .f32) (tri : FVec F (M 256 256) .bf16) (c : Fin n) : FVec F (M 256 256) .f32 :=
  matmul k.dotC none (extractStridedSlice (M 256 256) ![0, 256 * c.val] (tieWeights k d) (k.slices c)) tri
    (constant (F := F) (M 256 256) .f32 0x00000000#32)

/-- The number of a row's ties before a chunk. -/
def before (d : FVec F (M 256 s) .f32) (tri : FVec F (M 256 256) .bf16) : ℕ → FVec F (M 256 1) .f32
  | 0 => colOf 0x00000000#32
  | c + 1 => if h : c < n then
      addf (before d tri c) (extractStridedSlice (M 256 1) ![0, 255] (chunkRank k d tri ⟨c, h⟩) k.lastColumn)
    else before d tri c

/-- The rank of every tie in its row. -/
def ranks (d : FVec F (M 256 s) .f32) (tri : FVec F (M 256 256) .bf16) : FVec F (M 256 s) .f32 :=
  k.join fun c => addf (chunkRank k d tri c) (broadcastTo (M 256 256) (before k d tri c.val) k.bcastChunk)

/-- The places kept: above the threshold, or a tie of a low enough rank, or in the band of a row with few keys. -/
def kept (q0 : BitVec 32) (d : FVec F (M 256 s) .f32) (tri : FVec F (M 256 256) .bf16) : IVec (M 256 s) 1 :=
  ori (ori (cmpf .ogt d (broadcastTo (M 256 s) (bracket k d 8).lo k.bcast))
      (andi (ties k d) (cmpf .ole (ranks k d tri)
        (broadcastTo (M 256 s) (subf (colOf 0x434D0000#32) (bracket k d 8).cnt) k.bcast))))
    (andi (cmpi .slt (rowAt k q0) (broadcast (M 256 s) 205#32)) (inBand k q0))

/-- The scores, scaled, with a low constant wherever the key is not kept. -/
def scores (q0 : BitVec 32) (scale mask : F .f32) (d : FVec F (M 256 s) .f32) (tri : FVec F (M 256 256) .bf16)
    (qr : FVec F (M 256 128) .bf16) (kr : FVec F (M s 128) .bf16) : FVec F (M 256 s) .f32 :=
  select (kept k q0 d tri)
    (mulf (matmul k.dotT none qr kr (constant (F := F) (M 256 s) .f32 0x00000000#32)) (broadcast (M 256 s) scale))
    (broadcast (M 256 s) mask)

/-- The exponentials of the scores under their row's largest. -/
def exps (x : FVec F (M 256 s) .f32) : FVec F (M 256 s) .f32 :=
  exp (subf x (broadcastTo (M 256 s)
    (shapeCast (M 256 1) (multiReduction .maximumf [1] (V 256) x 0xFF800000#32 k.reduces (.inl rfl) rfl) k.column) k.bcast))

/-- The weights: each exponential over its row's sum. -/
def weights (x : FVec F (M 256 s) .f32) : FVec F (M 256 s) .bf16 :=
  truncf .bf16 (divf (exps k x) (broadcastTo (M 256 s) (rowSum k (exps k x)) k.bcast)) k.bits

/-- The attention of one query block. -/
def attn (q0 : BitVec 32) (scale mask : F .f32) (qh : FVec F (M 256 128) .bf16) (kh : FVec F (M s 128) .bf16)
    (qr : FVec F (M 256 128) .bf16) (kr : FVec F (M s 128) .bf16) (v : FVec F (M s 128) .f32)
    (tri : FVec F (M 256 256) .bf16) : FVec F (M 256 128) .bf16 :=
  truncf .bf16 (matmul k.dotV none (weights k (scores k q0 scale mask (draft k q0 qh kh) tri qr kr))
    (truncf .bf16 v k.bits) (constant (F := F) (M 256 128) .f32 0x00000000#32)) k.bits

/-- The body's result: the attention of the blocks as read, each cast to its own shape. -/
def attnBlock (q0 : BitVec 32) (scale mask : F .f32) (x0 : FVec F (M 256 128) .bf16) (x1 : FVec F (M s 128) .bf16)
    (x2 : FVec F (M 256 128) .bf16) (x3 : FVec F (M s 128) .bf16) (x4 : FVec F (M s 128) .f32)
    (x5 : FVec F (M 256 256) .bf16) : FVec F (M 256 128) .bf16 :=
  attn k q0 scale mask (shapeCast _ x0 (.refl _)) (shapeCast _ x1 (.refl _)) (shapeCast _ x2 (.refl _))
    (shapeCast _ x3 (.refl _)) (shapeCast _ x4 (.refl _)) (shapeCast _ x5 (.refl _))

end Cert.AttnOut

end
-- ==== Proof.AttnCuts.lean ====
/-
  The shape relations of the eight attention launches, and their chunks laid side by side.
-/
module

public import proofs.«01_k».proof.Proof.AttnOut

@[expose] public section

noncomputable section

namespace Cert.AttnOut

open Idealize.ShloMosaic

variable {F : FTy → Type} [FloatOps F]

/-- The relations that do not speak of the chunks' number, from the ones that do. -/
abbrev cutsOf (s n : ℕ)
    (h0 : (M 256 s).Iotas .tc 32 [0]) (h1 : (M 256 s).Iotas .tc 32 [1]) (hb : (M 256 1).Broadcasts (M 256 s))
    (hr : (M 256 s).Reduces [1] (V 256)) (hs : ∀ c : Fin n, (M 256 s).Slices ![0, 256 * c.val] (M 256 256))
    (hT : DotDims.WF (M 256 128) (M s 128) (M 256 s) [1] [1] [0] [0] [] [])
    (hV : DotDims.WF (M 256 s) (M s 128) (M 256 128) [1] [0] [0] [1] [] [])
    (join : (Fin n → FVec F (M 256 256) .f32) → FVec F (M 256 s) .f32) : Cuts F s n where
  iota0 := h0
  iota1 := h1
  bcast := hb
  bcastChunk := by decide
  reduces := hr
  column := by decide
  lastColumn := by decide
  slices := hs
  wfT := hT
  wfV := hV
  wfC := by decide
  bits := by decide
  wide := by decide
  join := join

/-- The chunks of a row laid side by side. -/
abbrev beside (s n : ℕ) (h : Shape.Concatenates (List.replicate n (M 256 256)) (M 256 s) 1) (f : Fin n → FVec F (M 256 256) .f32) :
    FVec F (M 256 s) .f32 :=
  concatenate (M 256 s) 1 (List.ofFn fun c => (⟨M 256 256, f c⟩ : (t : Shape) × (t.Idx → F .f32)))
    (by rw [List.map_ofFn]; simpa [Function.comp_def, List.ofFn_const] using h)

/-- The shapes and cuts of the attention over this many keys. -/
def cuts1 : Cuts F 256 1 := cutsOf 256 1 (by decide) (by decide) (by decide) (by decide) (by decide) (by decide) (by decide) fun f => f 0
/-- The shapes and cuts of the attention over this many keys. -/
def cuts2 : Cuts F 512 2 := cutsOf 512 2 (by decide) (by decide) (by decide) (by decide) (by decide) (by decide) (by decide) (beside 512 2 (by decide))
/-- The shapes and cuts of the attention over this many keys. -/
def cuts3 : Cuts F 768 3 := cutsOf 768 3 (by decide) (by decide) (by decide) (by decide) (by decide) (by decide) (by decide) (beside 768 3 (by decide))
/-- The shapes and cuts of the attention over this many keys. -/
def cuts4 : Cuts F 1024 4 := cutsOf 1024 4 (by decide) (by decide) (by decide) (by decide) (by decide) (by decide) (by decide) (beside 1024 4 (by decide))
/-- The shapes and cuts of the attention over this many keys. -/
def cuts5 : Cuts F 1280 5 := cutsOf 1280 5 (by decide) (by decide) (by decide) (by decide) (by decide) (by decide) (by decide) (beside 1280 5 (by decide))
/-- The shapes and cuts of the attention over this many keys. -/
def cuts6 : Cuts F 1536 6 := cutsOf 1536 6 (by decide) (by decide) (by decide) (by decide) (by decide) (by decide) (by decide) (beside 1536 6 (by decide))
/-- The shapes and cuts of the attention over this many keys. -/
def cuts7 : Cuts F 1792 7 := cutsOf 1792 7 (by decide) (by decide) (by decide) (by decide) (by decide) (by decide) (by decide) (beside 1792 7 (by decide))
/-- The shapes and cuts of the attention over this many keys. -/
def cuts8 : Cuts F 2048 8 := cutsOf 2048 8 (by decide) (by decide) (by decide) (by decide) (by decide) (by decide) (by decide) (beside 2048 8 (by decide))

end Cert.AttnOut

end
-- ==== Proof.KernelIdeal.Plain.lean ====
/-
  The launches beside the attention: what one run of each body leaves.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.RegionKit
public import proofs.«01_k».proof.Proof.WholeBody
public import proofs.«01_k».proof.Proof.AttnCuts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.RegionKit Cert.AttnOut Cert.WholeBody

variable {F : FTy → Type} [FloatOps F] [Named F]

/-- One block of the first normalisation. -/
def rmsA (x0 : Vec F S256x4096 .f32) (x1 : Vec F S1x4096 .f32) : Vec F S256x4096 .bf16 :=
  k0_pay1 x0 x1

/-- One block of the three projections. -/
def projQKV (x0 : Vec F S512x4096 .bf16) (x1 : Vec F S4096x1024 .bf16) : Vec F S512x1024 .f32 :=
  k1_pay1 x0 x1

/-- One block of the output projection onto the input. -/
def projO (x0 : Vec F S512x4096 .bf16) (x1 : Vec F S4096x1024 .bf16) (x2 : Vec F S512x1024 .f32) : Vec F S512x1024 .f32 :=
  k11_pay1 x0 x1 x2

/-- One block of the second normalisation. -/
def rmsB (x0 : Vec F S256x4096 .f32) (x1 : Vec F S1x4096 .f32) : Vec F S256x4096 .bf16 :=
  k12_pay1 x0 x1

/-- One block of the gated up projections. -/
def gateUp (x0 : Vec F S2048x4096 .bf16) (x1 : Vec F S4096x256 .f32) (x2 : Vec F S4096x256 .f32) : Vec F S2048x256 .bf16 :=
  k13_pay1 x0 x1 x2

/-- One block of the down projection onto its input. -/
def down (x0 : Vec F S512x11008 .bf16) (x1 : Vec F S11008x512 .bf16) (x2 : Vec F S512x512 .f32) : Vec F S512x512 .f32 :=
  k14_pay1 x0 x1 x2

/-! ## Launch 0: the first normalisation -/

/-- What one run of the body of launch 0 leaves in its buffers. -/
def y0 (_ : Fin cfg0.N) (x : Blocks (Elt F) cfg0) : Blocks (Elt F) cfg0 :=
  Function.update x 2 (rmsA (x 0) (x 1))

/-- The body changes none of the windows it reads. -/
theorem keeps0 : Keeps cfg0 (y0 (F := F)) := keeps_update (cfg := cfg0) 2 rfl _

/-- Every window is whole: no block runs over the edge of its array. -/
theorem uncut0 : Uncut cfg0 := by unfold Uncut; decide +kernel

/-- No window is idle at any step. -/
theorem idle0 : ∀ w i, cfg0.idle w i = false := fun _ _ => rfl

/-- The table of bodies holds this call's body at this call's row. -/
theorem row0 (t : Fin cfg0.N) : defs₀ (F := F) .tc cfg0.body (cfg0.bodyArgs t (cfg0.slots t)) = bodyAt0 t := by
  unfold defs₀; rw [Defs.onTc_tc]

/-- The body runs from any contents of its blocks and leaves the blocks stated above. -/
theorem runs0 : Runs (nD := nD) (τ := τ) cfg0 (defs₀ (F := F)) y0 := by
  intro c t x
  rw [bigSep_W0, bigSep_W0, row0]
  exact run₂ (defs₀ (F := F)) c _ _ _ rmsA rfl (x 0) (x 1)

/-! ## Launch 1: the three projections -/

/-- What one run of the body of launch 1 leaves in its buffers. -/
def y1 (_ : Fin cfg1.N) (x : Blocks (Elt F) cfg1) : Blocks (Elt F) cfg1 :=
  Function.update x 2 (projQKV (x 0) (x 1))

/-- The body changes none of the windows it reads. -/
theorem keeps1 : Keeps cfg1 (y1 (F := F)) := keeps_update (cfg := cfg1) 2 rfl _

/-- Every window is whole: no block runs over the edge of its array. -/
theorem uncut1 : Uncut cfg1 := by unfold Uncut; decide +kernel

/-- No window is idle at any step. -/
theorem idle1 : ∀ w i, cfg1.idle w i = false := fun _ _ => rfl

/-- The table of bodies holds this call's body at this call's row. -/
theorem row1 (t : Fin cfg1.N) : defs₀ (F := F) .tc cfg1.body (cfg1.bodyArgs t (cfg1.slots t)) = bodyAt1 t := by
  unfold defs₀; rw [Defs.onTc_tc]

/-- The body runs from any contents of its blocks and leaves the blocks stated above. -/
theorem runs1 : Runs (nD := nD) (τ := τ) cfg1 (defs₀ (F := F)) y1 := by
  intro c t x
  rw [bigSep_W1, bigSep_W1, row1]
  exact run₂ (defs₀ (F := F)) c _ _ _ projQKV rfl (x 0) (x 1)

/-! ## Launch 11: the output projection onto the input -/

/-- What one run of the body of launch 11 leaves in its buffers. -/
def y11 (_ : Fin cfg11.N) (x : Blocks (Elt F) cfg11) : Blocks (Elt F) cfg11 :=
  Function.update x 3 (projO (x 0) (x 1) (x 2))

/-- The body changes none of the windows it reads. -/
theorem keeps11 : Keeps cfg11 (y11 (F := F)) := keeps_update (cfg := cfg11) 3 rfl _

/-- Every window is whole: no block runs over the edge of its array. -/
theorem uncut11 : Uncut cfg11 := by unfold Uncut; decide +kernel

/-- No window is idle at any step. -/
theorem idle11 : ∀ w i, cfg11.idle w i = false := fun _ _ => rfl

/-- The table of bodies holds this call's body at this call's row. -/
theorem row11 (t : Fin cfg11.N) : defs₀ (F := F) .tc cfg11.body (cfg11.bodyArgs t (cfg11.slots t)) = bodyAt11 t := by
  unfold defs₀; rw [Defs.onTc_tc]

/-- The body runs from any contents of its blocks and leaves the blocks stated above. -/
theorem runs11 : Runs (nD := nD) (τ := τ) cfg11 (defs₀ (F := F)) y11 := by
  intro c t x
  rw [bigSep_W11, bigSep_W11, row11]
  exact run₃ (defs₀ (F := F)) c _ _ _ _ projO rfl (x 0) (x 1) (x 2)

/-! ## Launch 12: the second normalisation -/

/-- What one run of the body of launch 12 leaves in its buffers. -/
def y12 (_ : Fin cfg12.N) (x : Blocks (Elt F) cfg12) : Blocks (Elt F) cfg12 :=
  Function.update x 2 (rmsB (x 0) (x 1))

/-- The body changes none of the windows it reads. -/
theorem keeps12 : Keeps cfg12 (y12 (F := F)) := keeps_update (cfg := cfg12) 2 rfl _

/-- Every window is whole: no block runs over the edge of its array. -/
theorem uncut12 : Uncut cfg12 := by unfold Uncut; decide +kernel

/-- No window is idle at any step. -/
theorem idle12 : ∀ w i, cfg12.idle w i = false := fun _ _ => rfl

/-- The table of bodies holds this call's body at this call's row. -/
theorem row12 (t : Fin cfg12.N) : defs₀ (F := F) .tc cfg12.body (cfg12.bodyArgs t (cfg12.slots t)) = bodyAt12 t := by
  unfold defs₀; rw [Defs.onTc_tc]

/-- The body runs from any contents of its blocks and leaves the blocks stated above. -/
theorem runs12 : Runs (nD := nD) (τ := τ) cfg12 (defs₀ (F := F)) y12 := by
  intro c t x
  rw [bigSep_W12, bigSep_W12, row12]
  exact run₂ (defs₀ (F := F)) c _ _ _ rmsB rfl (x 0) (x 1)

/-! ## Launch 13: the gated up projections -/

/-- What one run of the body of launch 13 leaves in its buffers. -/
def y13 (_ : Fin cfg13.N) (x : Blocks (Elt F) cfg13) : Blocks (Elt F) cfg13 :=
  Function.update x 3 (gateUp (x 0) (x 1) (x 2))

/-- The body changes none of the windows it reads. -/
theorem keeps13 : Keeps cfg13 (y13 (F := F)) := keeps_update (cfg := cfg13) 3 rfl _

/-- Every window is whole: no block runs over the edge of its array. -/
theorem uncut13 : Uncut cfg13 := by unfold Uncut; decide +kernel

/-- No window is idle at any step. -/
theorem idle13 : ∀ w i, cfg13.idle w i = false := fun _ _ => rfl

/-- The table of bodies holds this call's body at this call's row. -/
theorem row13 (t : Fin cfg13.N) : defs₀ (F := F) .tc cfg13.body (cfg13.bodyArgs t (cfg13.slots t)) = bodyAt13 t := by
  unfold defs₀; rw [Defs.onTc_tc]

/-- The body runs from any contents of its blocks and leaves the blocks stated above. -/
theorem runs13 : Runs (nD := nD) (τ := τ) cfg13 (defs₀ (F := F)) y13 := by
  intro c t x
  rw [bigSep_W13, bigSep_W13, row13]
  exact run₃ (defs₀ (F := F)) c _ _ _ _ gateUp rfl (x 0) (x 1) (x 2)

/-! ## Launch 14: the down projection onto its input -/

/-- What one run of the body of launch 14 leaves in its buffers. -/
def y14 (_ : Fin cfg14.N) (x : Blocks (Elt F) cfg14) : Blocks (Elt F) cfg14 :=
  Function.update x 3 (down (x 0) (x 1) (x 2))

/-- The body changes none of the windows it reads. -/
theorem keeps14 : Keeps cfg14 (y14 (F := F)) := keeps_update (cfg := cfg14) 3 rfl _

/-- Every window is whole: no block runs over the edge of its array. -/
theorem uncut14 : Uncut cfg14 := by unfold Uncut; decide +kernel

/-- No window is idle at any step. -/
theorem idle14 : ∀ w i, cfg14.idle w i = false := fun _ _ => rfl

/-- The table of bodies holds this call's body at this call's row. -/
theorem row14 (t : Fin cfg14.N) : defs₀ (F := F) .tc cfg14.body (cfg14.bodyArgs t (cfg14.slots t)) = bodyAt14 t := by
  unfold defs₀; rw [Defs.onTc_tc]

/-- The body runs from any contents of its blocks and leaves the blocks stated above. -/
theorem runs14 : Runs (nD := nD) (τ := τ) cfg14 (defs₀ (F := F)) y14 := by
  intro c t x
  rw [bigSep_W14, bigSep_W14, row14]
  exact run₃ (defs₀ (F := F)) c _ _ _ _ down rfl (x 0) (x 1) (x 2)

end Cert.KernelIdeal.Gen

end
-- ==== Proof.KernelIdeal.RopeHash.lean ====
/-
  The launch that rotates queries and keys and hashes them: what one run of its body leaves.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.RegionKit
public import proofs.«01_k».proof.Proof.WholeBody
public import proofs.«01_k».proof.Proof.AttnCuts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.RegionKit Cert.AttnOut Cert.WholeBody

variable {F : FTy → Type} [FloatOps F] [Named F]

/-- The hash of the rotated queries. -/
def hashQ (x0 x1 x2 x3 : Vec F S2048x128 .f32) (x4 : Vec F S1x128x128 .f32) (x5 : Vec F S1x1x128 .f32) : Vec F S2048x128 .bf16 :=
  k2_pay1 (k2_pay9 x2 x3 x4 x5 x0)

/-- The hash of the rotated keys. -/
def hashK (x0 x1 x2 x3 : Vec F S2048x128 .f32) (x4 : Vec F S1x128x128 .f32) (x5 : Vec F S1x1x128 .f32) : Vec F S2048x128 .bf16 :=
  k2_pay2 (k2_pay5 x5) (k2_pay7 x2 x3 x1) (k2_pay8 x4)

/-- The rotated queries. -/
def ropeQ (x0 x1 x2 x3 : Vec F S2048x128 .f32) (x4 : Vec F S1x128x128 .f32) (x5 : Vec F S1x1x128 .f32) : Vec F S2048x128 .bf16 :=
  k2_pay6 x2 x3 x0

/-- The rotated keys. -/
def ropeK (x0 x1 x2 x3 : Vec F S2048x128 .f32) (x4 : Vec F S1x128x128 .f32) (x5 : Vec F S1x1x128 .f32) : Vec F S2048x128 .bf16 :=
  k2_pay7 x2 x3 x1

/-! ## Launch 2: rotation and hash -/

/-- What one run of the body of launch 2 leaves in its buffers. -/
def y2 (_ : Fin cfg2.N) (x : Blocks (Elt F) cfg2) : Blocks (Elt F) cfg2 :=
  Function.update (Function.update (Function.update (Function.update (x) 6 (ropeQ (x 0) (x 1) (x 2) (x 3) (x 4) (x 5))) 7 (ropeK (x 0) (x 1) (x 2) (x 3) (x 4) (x 5))) 8 (hashQ (x 0) (x 1) (x 2) (x 3) (x 4) (x 5))) 9 (hashK (x 0) (x 1) (x 2) (x 3) (x 4) (x 5))

/-- The body changes none of the windows it reads. -/
theorem keeps2 : Keeps cfg2 (y2 (F := F)) := ((((keeps_all.update (cfg := cfg2) 6 rfl _).update (cfg := cfg2) 7 rfl _).update (cfg := cfg2) 8 rfl _).update (cfg := cfg2) 9 rfl _)

/-- Every window is whole: no block runs over the edge of its array. -/
theorem uncut2 : Uncut cfg2 := by unfold Uncut; decide +kernel

/-- No window is idle at any step. -/
theorem idle2 : ∀ w i, cfg2.idle w i = false := fun _ _ => rfl

/-- The table of bodies holds this call's body at this call's row. -/
theorem row2 (t : Fin cfg2.N) : defs₀ (F := F) .tc cfg2.body (cfg2.bodyArgs t (cfg2.slots t)) = bodyAt2 t := by
  unfold defs₀; rw [Defs.onTc_tc]

/-- The body runs from any contents of its blocks and leaves the blocks stated above. -/
theorem runs2 : Runs (nD := nD) (τ := τ) cfg2 (defs₀ (F := F)) y2 := by
  intro c t x
  rw [bigSep_W2, bigSep_W2, row2]
  exact run₆₄ (defs₀ (F := F)) c _ _ _ _ _ _ _ _ _ _ ropeQ ropeK hashQ hashK rfl (x 0) (x 1) (x 2) (x 3) (x 4) (x 5)

end Cert.KernelIdeal.Gen

end
-- ==== Proof.KernelIdeal.Attn3.lean ====
/-
  The attention of query block 0: what one run of its body leaves.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.RegionKit
public import proofs.«01_k».proof.Proof.WholeBody
public import proofs.«01_k».proof.Proof.AttnCuts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.RegionKit Cert.AttnOut Cert.WholeBody

variable {F : FTy → Type} [FloatOps F] [Named F]

/-- The attention of query block 0 against the keys up to its end. -/
def out3 (x0 : Vec F S256x128 .bf16) (x1 : Vec F S256x128 .bf16) (x2 : Vec F S256x128 .bf16) (x3 : Vec F S256x128 .bf16)
    (x4 : Vec F S256x128 .f32) (x5 : Vec F S256x256 .bf16) : Vec F S256x128 .bf16 :=
  attnBlock cuts1 0#32 (Named.named κ "scale" 0x3DB504F3#32) (Named.named κ "mask" 0xF149F2CA#32) x0 x1 x2 x3 x4 x5

/-! ## Launch 3: attention of query block 0 -/

/-- What one run of the body of launch 3 leaves in its buffers. -/
def y3 (_ : Fin cfg3.N) (x : Blocks (Elt F) cfg3) : Blocks (Elt F) cfg3 :=
  Function.update x 6 (out3 (x 0) (x 1) (x 2) (x 3) (x 4) (x 5))

/-- The body changes none of the windows it reads. -/
theorem keeps3 : Keeps cfg3 (y3 (F := F)) := keeps_update (cfg := cfg3) 6 rfl _

/-- Every window is whole: no block runs over the edge of its array. -/
theorem uncut3 : Uncut cfg3 := by unfold Uncut; decide +kernel

/-- No window is idle at any step. -/
theorem idle3 : ∀ w i, cfg3.idle w i = false := fun _ _ => rfl

/-- The table of bodies holds this call's body at this call's row. -/
theorem row3 (t : Fin cfg3.N) : defs₀ (F := F) .tc cfg3.body (cfg3.bodyArgs t (cfg3.slots t)) = bodyAt3 t := by
  unfold defs₀; rw [Defs.onTc_tc]

/-- The body runs from any contents of its blocks and leaves the blocks stated above. -/
theorem runs3 : Runs (nD := nD) (τ := τ) cfg3 (defs₀ (F := F)) y3 := by
  intro c t x
  rw [bigSep_W3, bigSep_W3, row3]
  exact run₆ (defs₀ (F := F)) c _ _ _ _ _ _ _ rfl (p' := out3) (by chain_rfl) (x 0) (x 1) (x 2) (x 3) (x 4) (x 5)

end Cert.KernelIdeal.Gen

end
-- ==== Proof.KernelIdeal.Attn4.lean ====
/-
  The attention of query block 1: what one run of its body leaves.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.RegionKit
public import proofs.«01_k».proof.Proof.WholeBody
public import proofs.«01_k».proof.Proof.AttnCuts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.RegionKit Cert.AttnOut Cert.WholeBody

variable {F : FTy → Type} [FloatOps F] [Named F]

/-- The attention of query block 1 against the keys up to its end. -/
def out4 (x0 : Vec F S256x128 .bf16) (x1 : Vec F S512x128 .bf16) (x2 : Vec F S256x128 .bf16) (x3 : Vec F S512x128 .bf16)
    (x4 : Vec F S512x128 .f32) (x5 : Vec F S256x256 .bf16) : Vec F S256x128 .bf16 :=
  attnBlock cuts2 256#32 (Named.named κ "scale" 0x3DB504F3#32) (Named.named κ "mask" 0xF149F2CA#32) x0 x1 x2 x3 x4 x5

/-! ## Launch 4: attention of query block 1 -/

/-- What one run of the body of launch 4 leaves in its buffers. -/
def y4 (_ : Fin cfg4.N) (x : Blocks (Elt F) cfg4) : Blocks (Elt F) cfg4 :=
  Function.update x 6 (out4 (x 0) (x 1) (x 2) (x 3) (x 4) (x 5))

/-- The body changes none of the windows it reads. -/
theorem keeps4 : Keeps cfg4 (y4 (F := F)) := keeps_update (cfg := cfg4) 6 rfl _

/-- Every window is whole: no block runs over the edge of its array. -/
theorem uncut4 : Uncut cfg4 := by unfold Uncut; decide +kernel

/-- No window is idle at any step. -/
theorem idle4 : ∀ w i, cfg4.idle w i = false := fun _ _ => rfl

/-- The table of bodies holds this call's body at this call's row. -/
theorem row4 (t : Fin cfg4.N) : defs₀ (F := F) .tc cfg4.body (cfg4.bodyArgs t (cfg4.slots t)) = bodyAt4 t := by
  unfold defs₀; rw [Defs.onTc_tc]

/-- The body runs from any contents of its blocks and leaves the blocks stated above. -/
theorem runs4 : Runs (nD := nD) (τ := τ) cfg4 (defs₀ (F := F)) y4 := by
  intro c t x
  rw [bigSep_W4, bigSep_W4, row4]
  exact run₆ (defs₀ (F := F)) c _ _ _ _ _ _ _ rfl (p' := out4) (by chain_rfl) (x 0) (x 1) (x 2) (x 3) (x 4) (x 5)

end Cert.KernelIdeal.Gen

end
-- ==== Proof.KernelIdeal.Attn5.lean ====
/-
  The attention of query block 2: what one run of its body leaves.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.RegionKit
public import proofs.«01_k».proof.Proof.WholeBody
public import proofs.«01_k».proof.Proof.AttnCuts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.RegionKit Cert.AttnOut Cert.WholeBody

variable {F : FTy → Type} [FloatOps F] [Named F]

/-- The attention of query block 2 against the keys up to its end. -/
def out5 (x0 : Vec F S256x128 .bf16) (x1 : Vec F S768x128 .bf16) (x2 : Vec F S256x128 .bf16) (x3 : Vec F S768x128 .bf16)
    (x4 : Vec F S768x128 .f32) (x5 : Vec F S256x256 .bf16) : Vec F S256x128 .bf16 :=
  attnBlock cuts3 512#32 (Named.named κ "scale" 0x3DB504F3#32) (Named.named κ "mask" 0xF149F2CA#32) x0 x1 x2 x3 x4 x5

/-! ## Launch 5: attention of query block 2 -/

/-- What one run of the body of launch 5 leaves in its buffers. -/
def y5 (_ : Fin cfg5.N) (x : Blocks (Elt F) cfg5) : Blocks (Elt F) cfg5 :=
  Function.update x 6 (out5 (x 0) (x 1) (x 2) (x 3) (x 4) (x 5))

/-- The body changes none of the windows it reads. -/
theorem keeps5 : Keeps cfg5 (y5 (F := F)) := keeps_update (cfg := cfg5) 6 rfl _

/-- Every window is whole: no block runs over the edge of its array. -/
theorem uncut5 : Uncut cfg5 := by unfold Uncut; decide +kernel

/-- No window is idle at any step. -/
theorem idle5 : ∀ w i, cfg5.idle w i = false := fun _ _ => rfl

/-- The table of bodies holds this call's body at this call's row. -/
theorem row5 (t : Fin cfg5.N) : defs₀ (F := F) .tc cfg5.body (cfg5.bodyArgs t (cfg5.slots t)) = bodyAt5 t := by
  unfold defs₀; rw [Defs.onTc_tc]

/-- The body runs from any contents of its blocks and leaves the blocks stated above. -/
theorem runs5 : Runs (nD := nD) (τ := τ) cfg5 (defs₀ (F := F)) y5 := by
  intro c t x
  rw [bigSep_W5, bigSep_W5, row5]
  exact run₆ (defs₀ (F := F)) c _ _ _ _ _ _ _ rfl (p' := out5) (by chain_rfl) (x 0) (x 1) (x 2) (x 3) (x 4) (x 5)

end Cert.KernelIdeal.Gen

end
-- ==== Proof.KernelIdeal.Attn6.lean ====
/-
  The attention of query block 3: what one run of its body leaves.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.RegionKit
public import proofs.«01_k».proof.Proof.WholeBody
public import proofs.«01_k».proof.Proof.AttnCuts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.RegionKit Cert.AttnOut Cert.WholeBody

variable {F : FTy → Type} [FloatOps F] [Named F]

/-- The attention of query block 3 against the keys up to its end. -/
def out6 (x0 : Vec F S256x128 .bf16) (x1 : Vec F S1024x128 .bf16) (x2 : Vec F S256x128 .bf16) (x3 : Vec F S1024x128 .bf16)
    (x4 : Vec F S1024x128 .f32) (x5 : Vec F S256x256 .bf16) : Vec F S256x128 .bf16 :=
  attnBlock cuts4 768#32 (Named.named κ "scale" 0x3DB504F3#32) (Named.named κ "mask" 0xF149F2CA#32) x0 x1 x2 x3 x4 x5

/-! ## Launch 6: attention of query block 3 -/

/-- What one run of the body of launch 6 leaves in its buffers. -/
def y6 (_ : Fin cfg6.N) (x : Blocks (Elt F) cfg6) : Blocks (Elt F) cfg6 :=
  Function.update x 6 (out6 (x 0) (x 1) (x 2) (x 3) (x 4) (x 5))

/-- The body changes none of the windows it reads. -/
theorem keeps6 : Keeps cfg6 (y6 (F := F)) := keeps_update (cfg := cfg6) 6 rfl _

/-- Every window is whole: no block runs over the edge of its array. -/
theorem uncut6 : Uncut cfg6 := by unfold Uncut; decide +kernel

/-- No window is idle at any step. -/
theorem idle6 : ∀ w i, cfg6.idle w i = false := fun _ _ => rfl

/-- The table of bodies holds this call's body at this call's row. -/
theorem row6 (t : Fin cfg6.N) : defs₀ (F := F) .tc cfg6.body (cfg6.bodyArgs t (cfg6.slots t)) = bodyAt6 t := by
  unfold defs₀; rw [Defs.onTc_tc]

/-- The body runs from any contents of its blocks and leaves the blocks stated above. -/
theorem runs6 : Runs (nD := nD) (τ := τ) cfg6 (defs₀ (F := F)) y6 := by
  intro c t x
  rw [bigSep_W6, bigSep_W6, row6]
  exact run₆ (defs₀ (F := F)) c _ _ _ _ _ _ _ rfl (p' := out6) (by chain_rfl) (x 0) (x 1) (x 2) (x 3) (x 4) (x 5)

end Cert.KernelIdeal.Gen

end
-- ==== Proof.KernelIdeal.Attn7.lean ====
/-
  The attention of query block 4: what one run of its body leaves.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.RegionKit
public import proofs.«01_k».proof.Proof.WholeBody
public import proofs.«01_k».proof.Proof.AttnCuts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.RegionKit Cert.AttnOut Cert.WholeBody

variable {F : FTy → Type} [FloatOps F] [Named F]

/-- The attention of query block 4 against the keys up to its end. -/
def out7 (x0 : Vec F S256x128 .bf16) (x1 : Vec F S1280x128 .bf16) (x2 : Vec F S256x128 .bf16) (x3 : Vec F S1280x128 .bf16)
    (x4 : Vec F S1280x128 .f32) (x5 : Vec F S256x256 .bf16) : Vec F S256x128 .bf16 :=
  attnBlock cuts5 1024#32 (Named.named κ "scale" 0x3DB504F3#32) (Named.named κ "mask" 0xF149F2CA#32) x0 x1 x2 x3 x4 x5

/-! ## Launch 7: attention of query block 4 -/

/-- What one run of the body of launch 7 leaves in its buffers. -/
def y7 (_ : Fin cfg7.N) (x : Blocks (Elt F) cfg7) : Blocks (Elt F) cfg7 :=
  Function.update x 6 (out7 (x 0) (x 1) (x 2) (x 3) (x 4) (x 5))

/-- The body changes none of the windows it reads. -/
theorem keeps7 : Keeps cfg7 (y7 (F := F)) := keeps_update (cfg := cfg7) 6 rfl _

/-- Every window is whole: no block runs over the edge of its array. -/
theorem uncut7 : Uncut cfg7 := by unfold Uncut; decide +kernel

/-- No window is idle at any step. -/
theorem idle7 : ∀ w i, cfg7.idle w i = false := fun _ _ => rfl

/-- The table of bodies holds this call's body at this call's row. -/
theorem row7 (t : Fin cfg7.N) : defs₀ (F := F) .tc cfg7.body (cfg7.bodyArgs t (cfg7.slots t)) = bodyAt7 t := by
  unfold defs₀; rw [Defs.onTc_tc]

/-- The body runs from any contents of its blocks and leaves the blocks stated above. -/
theorem runs7 : Runs (nD := nD) (τ := τ) cfg7 (defs₀ (F := F)) y7 := by
  intro c t x
  rw [bigSep_W7, bigSep_W7, row7]
  exact run₆ (defs₀ (F := F)) c _ _ _ _ _ _ _ rfl (p' := out7) (by chain_rfl) (x 0) (x 1) (x 2) (x 3) (x 4) (x 5)

end Cert.KernelIdeal.Gen

end
-- ==== Proof.KernelIdeal.Attn8.lean ====
/-
  The attention of query block 5: what one run of its body leaves.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.RegionKit
public import proofs.«01_k».proof.Proof.WholeBody
public import proofs.«01_k».proof.Proof.AttnCuts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.RegionKit Cert.AttnOut Cert.WholeBody

variable {F : FTy → Type} [FloatOps F] [Named F]

/-- The attention of query block 5 against the keys up to its end. -/
def out8 (x0 : Vec F S256x128 .bf16) (x1 : Vec F S1536x128 .bf16) (x2 : Vec F S256x128 .bf16) (x3 : Vec F S1536x128 .bf16)
    (x4 : Vec F S1536x128 .f32) (x5 : Vec F S256x256 .bf16) : Vec F S256x128 .bf16 :=
  attnBlock cuts6 1280#32 (Named.named κ "scale" 0x3DB504F3#32) (Named.named κ "mask" 0xF149F2CA#32) x0 x1 x2 x3 x4 x5

/-! ## Launch 8: attention of query block 5 -/

/-- What one run of the body of launch 8 leaves in its buffers. -/
def y8 (_ : Fin cfg8.N) (x : Blocks (Elt F) cfg8) : Blocks (Elt F) cfg8 :=
  Function.update x 6 (out8 (x 0) (x 1) (x 2) (x 3) (x 4) (x 5))

/-- The body changes none of the windows it reads. -/
theorem keeps8 : Keeps cfg8 (y8 (F := F)) := keeps_update (cfg := cfg8) 6 rfl _

/-- Every window is whole: no block runs over the edge of its array. -/
theorem uncut8 : Uncut cfg8 := by unfold Uncut; decide +kernel

/-- No window is idle at any step. -/
theorem idle8 : ∀ w i, cfg8.idle w i = false := fun _ _ => rfl

/-- The table of bodies holds this call's body at this call's row. -/
theorem row8 (t : Fin cfg8.N) : defs₀ (F := F) .tc cfg8.body (cfg8.bodyArgs t (cfg8.slots t)) = bodyAt8 t := by
  unfold defs₀; rw [Defs.onTc_tc]

/-- The body runs from any contents of its blocks and leaves the blocks stated above. -/
theorem runs8 : Runs (nD := nD) (τ := τ) cfg8 (defs₀ (F := F)) y8 := by
  intro c t x
  rw [bigSep_W8, bigSep_W8, row8]
  exact run₆ (defs₀ (F := F)) c _ _ _ _ _ _ _ rfl (p' := out8) (by chain_rfl) (x 0) (x 1) (x 2) (x 3) (x 4) (x 5)

end Cert.KernelIdeal.Gen

end
-- ==== Proof.KernelIdeal.Attn9.lean ====
/-
  The attention of query block 6: what one run of its body leaves.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.RegionKit
public import proofs.«01_k».proof.Proof.WholeBody
public import proofs.«01_k».proof.Proof.AttnCuts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.RegionKit Cert.AttnOut Cert.WholeBody

variable {F : FTy → Type} [FloatOps F] [Named F]

/-- The attention of query block 6 against the keys up to its end. -/
def out9 (x0 : Vec F S256x128 .bf16) (x1 : Vec F S1792x128 .bf16) (x2 : Vec F S256x128 .bf16) (x3 : Vec F S1792x128 .bf16)
    (x4 : Vec F S1792x128 .f32) (x5 : Vec F S256x256 .bf16) : Vec F S256x128 .bf16 :=
  attnBlock cuts7 1536#32 (Named.named κ "scale" 0x3DB504F3#32) (Named.named κ "mask" 0xF149F2CA#32) x0 x1 x2 x3 x4 x5

/-! ## Launch 9: attention of query block 6 -/

/-- What one run of the body of launch 9 leaves in its buffers. -/
def y9 (_ : Fin cfg9.N) (x : Blocks (Elt F) cfg9) : Blocks (Elt F) cfg9 :=
  Function.update x 6 (out9 (x 0) (x 1) (x 2) (x 3) (x 4) (x 5))

/-- The body changes none of the windows it reads. -/
theorem keeps9 : Keeps cfg9 (y9 (F := F)) := keeps_update (cfg := cfg9) 6 rfl _

/-- Every window is whole: no block runs over the edge of its array. -/
theorem uncut9 : Uncut cfg9 := by unfold Uncut; decide +kernel

/-- No window is idle at any step. -/
theorem idle9 : ∀ w i, cfg9.idle w i = false := fun _ _ => rfl

/-- The table of bodies holds this call's body at this call's row. -/
theorem row9 (t : Fin cfg9.N) : defs₀ (F := F) .tc cfg9.body (cfg9.bodyArgs t (cfg9.slots t)) = bodyAt9 t := by
  unfold defs₀; rw [Defs.onTc_tc]

/-- The body runs from any contents of its blocks and leaves the blocks stated above. -/
theorem runs9 : Runs (nD := nD) (τ := τ) cfg9 (defs₀ (F := F)) y9 := by
  intro c t x
  rw [bigSep_W9, bigSep_W9, row9]
  exact run₆ (defs₀ (F := F)) c _ _ _ _ _ _ _ rfl (p' := out9) (by chain_rfl) (x 0) (x 1) (x 2) (x 3) (x 4) (x 5)

end Cert.KernelIdeal.Gen

end
-- ==== Proof.KernelIdeal.Attn10.lean ====
/-
  The attention of query block 7: what one run of its body leaves.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.RegionKit
public import proofs.«01_k».proof.Proof.WholeBody
public import proofs.«01_k».proof.Proof.AttnCuts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.RegionKit Cert.AttnOut Cert.WholeBody

variable {F : FTy → Type} [FloatOps F] [Named F]

/-- The attention of query block 7 against the keys up to its end. -/
def out10 (x0 : Vec F S256x128 .bf16) (x1 : Vec F S2048x128 .bf16) (x2 : Vec F S256x128 .bf16) (x3 : Vec F S2048x128 .bf16)
    (x4 : Vec F S2048x128 .f32) (x5 : Vec F S256x256 .bf16) : Vec F S256x128 .bf16 :=
  attnBlock cuts8 1792#32 (Named.named κ "scale" 0x3DB504F3#32) (Named.named κ "mask" 0xF149F2CA#32) x0 x1 x2 x3 x4 x5

/-! ## Launch 10: attention of query block 7 -/

/-- What one run of the body of launch 10 leaves in its buffers. -/
def y10 (_ : Fin cfg10.N) (x : Blocks (Elt F) cfg10) : Blocks (Elt F) cfg10 :=
  Function.update x 6 (out10 (x 0) (x 1) (x 2) (x 3) (x 4) (x 5))

/-- The body changes none of the windows it reads. -/
theorem keeps10 : Keeps cfg10 (y10 (F := F)) := keeps_update (cfg := cfg10) 6 rfl _

/-- Every window is whole: no block runs over the edge of its array. -/
theorem uncut10 : Uncut cfg10 := by unfold Uncut; decide +kernel

/-- No window is idle at any step. -/
theorem idle10 : ∀ w i, cfg10.idle w i = false := fun _ _ => rfl

/-- The table of bodies holds this call's body at this call's row. -/
theorem row10 (t : Fin cfg10.N) : defs₀ (F := F) .tc cfg10.body (cfg10.bodyArgs t (cfg10.slots t)) = bodyAt10 t := by
  unfold defs₀; rw [Defs.onTc_tc]

/-- The body runs from any contents of its blocks and leaves the blocks stated above. -/
theorem runs10 : Runs (nD := nD) (τ := τ) cfg10 (defs₀ (F := F)) y10 := by
  intro c t x
  rw [bigSep_W10, bigSep_W10, row10]
  exact run₆ (defs₀ (F := F)) c _ _ _ _ _ _ _ rfl (p' := out10) (by chain_rfl) (x 0) (x 1) (x 2) (x 3) (x 4) (x 5)

end Cert.KernelIdeal.Gen

end
-- ==== Proof.KernelIdeal.Boundaries.lean ====
/-
  The contents of the buffers at every boundary between two items of the program, from the launch memory on, and what each
  item leaves as it was.
-/
module

public import proofs.«01_k».proof.Proof.KernelIdeal.Plain
public import proofs.«01_k».proof.Proof.KernelIdeal.RopeHash
public import proofs.«01_k».proof.Proof.KernelIdeal.Attn3
public import proofs.«01_k».proof.Proof.KernelIdeal.Attn4
public import proofs.«01_k».proof.Proof.KernelIdeal.Attn5
public import proofs.«01_k».proof.Proof.KernelIdeal.Attn6
public import proofs.«01_k».proof.Proof.KernelIdeal.Attn7
public import proofs.«01_k».proof.Proof.KernelIdeal.Attn8
public import proofs.«01_k».proof.Proof.KernelIdeal.Attn9
public import proofs.«01_k».proof.Proof.KernelIdeal.Attn10

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.RegionKit

variable {F : FTy → Type} [FloatOps F] [Named F]
variable (m : (ℓ : Loc nD τ sig) → Buf (Elt F) ℓ) (c : Dev nD)

/-! ## The references every item writes -/

/-- What the host operations `hostOps0` write. -/
abbrev hostOuts0 : List (Ref sig .tc) := [main_v0, main_v1, main_cst, main_v2, main_v3, main_cst_0, main_v4, main_v5, main_cst_1, main_v6, main_v7, main_cst_2, main_v8, main_v9, main_cst_3, main_v10, main_v11, main_v12, main_v13, main_v14, main_v15, main_v16, main_v17, main_v18, main_v19, main_v20, main_v21, main_v22, main_v23, main_v24, main_v25]
/-- These host operations write only the buffers listed. -/
theorem hostOps0_writes : (hostOps0 : List (HloOp τ sig (Elt F))).Forall fun op => op.writes ⊆ (hostOuts0.map (Proc.devRef (τ := τ) .tc)).toFinset :=
  StableHlo.forall_writes_sub_of_map rfl
/-- These host operations leave no buffer undetermined. -/
theorem hostOps0_fresh : (hostOps0 : List (HloOp τ sig (Elt F))).Forall fun op => op.fresh = ∅ := by
  simp only [List.Forall]; repeat' constructor

/-- The arrays launch 0 writes. -/
abbrev outs0 : List (Ref sig .tc) := [main_v26]
/-- Every output array of the call is in the list. -/
theorem outs0_all : ∀ w : Fin cfg0.W, (cfg0.win w).isOut = true → Pipeline.arrRef cfg0.spec w ∈ outs0 := by decide +kernel

/-- What the host operations `hostOps1` write. -/
abbrev hostOuts1 : List (Ref sig .tc) := [main_v27, main_v28, main_v29, main_v30]
/-- These host operations write only the buffers listed. -/
theorem hostOps1_writes : (hostOps1 : List (HloOp τ sig (Elt F))).Forall fun op => op.writes ⊆ (hostOuts1.map (Proc.devRef (τ := τ) .tc)).toFinset :=
  StableHlo.forall_writes_sub_of_map rfl
/-- These host operations leave no buffer undetermined. -/
theorem hostOps1_fresh : (hostOps1 : List (HloOp τ sig (Elt F))).Forall fun op => op.fresh = ∅ := by
  simp only [List.Forall]; repeat' constructor

/-- The arrays launch 1 writes. -/
abbrev outs1 : List (Ref sig .tc) := [main_v31]
/-- Every output array of the call is in the list. -/
theorem outs1_all : ∀ w : Fin cfg1.W, (cfg1.win w).isOut = true → Pipeline.arrRef cfg1.spec w ∈ outs1 := by decide +kernel

/-- What the host operations `hostOps2` write. -/
abbrev hostOuts2 : List (Ref sig .tc) := [main_v32, main_v33]
/-- These host operations write only the buffers listed. -/
theorem hostOps2_writes : (hostOps2 : List (HloOp τ sig (Elt F))).Forall fun op => op.writes ⊆ (hostOuts2.map (Proc.devRef (τ := τ) .tc)).toFinset :=
  StableHlo.forall_writes_sub_of_map rfl
/-- These host operations leave no buffer undetermined. -/
theorem hostOps2_fresh : (hostOps2 : List (HloOp τ sig (Elt F))).Forall fun op => op.fresh = ∅ := by
  simp only [List.Forall]; repeat' constructor

/-- The arrays launch 2 writes. -/
abbrev outs2 : List (Ref sig .tc) := [main_v34_0, main_v34_1, main_v34_2, main_v34_3]
/-- Every output array of the call is in the list. -/
theorem outs2_all : ∀ w : Fin cfg2.W, (cfg2.win w).isOut = true → Pipeline.arrRef cfg2.spec w ∈ outs2 := by decide +kernel

/-- The arrays launch 3 writes. -/
abbrev outs3 : List (Ref sig .tc) := [main_v35]
/-- Every output array of the call is in the list. -/
theorem outs3_all : ∀ w : Fin cfg3.W, (cfg3.win w).isOut = true → Pipeline.arrRef cfg3.spec w ∈ outs3 := by decide +kernel

/-- The arrays launch 4 writes. -/
abbrev outs4 : List (Ref sig .tc) := [main_v36]
/-- Every output array of the call is in the list. -/
theorem outs4_all : ∀ w : Fin cfg4.W, (cfg4.win w).isOut = true → Pipeline.arrRef cfg4.spec w ∈ outs4 := by decide +kernel

/-- The arrays launch 5 writes. -/
abbrev outs5 : List (Ref sig .tc) := [main_v37]
/-- Every output array of the call is in the list. -/
theorem outs5_all : ∀ w : Fin cfg5.W, (cfg5.win w).isOut = true → Pipeline.arrRef cfg5.spec w ∈ outs5 := by decide +kernel

/-- The arrays launch 6 writes. -/
abbrev outs6 : List (Ref sig .tc) := [main_v38]
/-- Every output array of the call is in the list. -/
theorem outs6_all : ∀ w : Fin cfg6.W, (cfg6.win w).isOut = true → Pipeline.arrRef cfg6.spec w ∈ outs6 := by decide +kernel

/-- The arrays launch 7 writes. -/
abbrev outs7 : List (Ref sig .tc) := [main_v39]
/-- Every output array of the call is in the list. -/
theorem outs7_all : ∀ w : Fin cfg7.W, (cfg7.win w).isOut = true → Pipeline.arrRef cfg7.spec w ∈ outs7 := by decide +kernel

/-- The arrays launch 8 writes. -/
abbrev outs8 : List (Ref sig .tc) := [main_v40]
/-- Every output array of the call is in the list. -/
theorem outs8_all : ∀ w : Fin cfg8.W, (cfg8.win w).isOut = true → Pipeline.arrRef cfg8.spec w ∈ outs8 := by decide +kernel

/-- The arrays launch 9 writes. -/
abbrev outs9 : List (Ref sig .tc) := [main_v41]
/-- Every output array of the call is in the list. -/
theorem outs9_all : ∀ w : Fin cfg9.W, (cfg9.win w).isOut = true → Pipeline.arrRef cfg9.spec w ∈ outs9 := by decide +kernel

/-- The arrays launch 10 writes. -/
abbrev outs10 : List (Ref sig .tc) := [main_v42]
/-- Every output array of the call is in the list. -/
theorem outs10_all : ∀ w : Fin cfg10.W, (cfg10.win w).isOut = true → Pipeline.arrRef cfg10.spec w ∈ outs10 := by decide +kernel

/-- What the host operations `hostOps11` write. -/
abbrev hostOuts11 : List (Ref sig .tc) := [main_v43, main_v44]
/-- These host operations write only the buffers listed. -/
theorem hostOps11_writes : (hostOps11 : List (HloOp τ sig (Elt F))).Forall fun op => op.writes ⊆ (hostOuts11.map (Proc.devRef (τ := τ) .tc)).toFinset :=
  StableHlo.forall_writes_sub_of_map rfl
/-- These host operations leave no buffer undetermined. -/
theorem hostOps11_fresh : (hostOps11 : List (HloOp τ sig (Elt F))).Forall fun op => op.fresh = ∅ := by
  simp only [List.Forall]; repeat' constructor

/-- The arrays launch 11 writes. -/
abbrev outs11 : List (Ref sig .tc) := [main_v45]
/-- Every output array of the call is in the list. -/
theorem outs11_all : ∀ w : Fin cfg11.W, (cfg11.win w).isOut = true → Pipeline.arrRef cfg11.spec w ∈ outs11 := by decide +kernel

/-- What the host operations `hostOps12` write. -/
abbrev hostOuts12 : List (Ref sig .tc) := [main_v46]
/-- These host operations write only the buffers listed. -/
theorem hostOps12_writes : (hostOps12 : List (HloOp τ sig (Elt F))).Forall fun op => op.writes ⊆ (hostOuts12.map (Proc.devRef (τ := τ) .tc)).toFinset :=
  StableHlo.forall_writes_sub_of_map rfl
/-- These host operations leave no buffer undetermined. -/
theorem hostOps12_fresh : (hostOps12 : List (HloOp τ sig (Elt F))).Forall fun op => op.fresh = ∅ := by
  simp only [List.Forall]; repeat' constructor

/-- The arrays launch 12 writes. -/
abbrev outs12 : List (Ref sig .tc) := [main_v47]
/-- Every output array of the call is in the list. -/
theorem outs12_all : ∀ w : Fin cfg12.W, (cfg12.win w).isOut = true → Pipeline.arrRef cfg12.spec w ∈ outs12 := by decide +kernel

/-- The arrays launch 13 writes. -/
abbrev outs13 : List (Ref sig .tc) := [main_v48]
/-- Every output array of the call is in the list. -/
theorem outs13_all : ∀ w : Fin cfg13.W, (cfg13.win w).isOut = true → Pipeline.arrRef cfg13.spec w ∈ outs13 := by decide +kernel

/-- What the host operations `hostOps14` write. -/
abbrev hostOuts14 : List (Ref sig .tc) := [main_v49]
/-- These host operations write only the buffers listed. -/
theorem hostOps14_writes : (hostOps14 : List (HloOp τ sig (Elt F))).Forall fun op => op.writes ⊆ (hostOuts14.map (Proc.devRef (τ := τ) .tc)).toFinset :=
  StableHlo.forall_writes_sub_of_map rfl
/-- These host operations leave no buffer undetermined. -/
theorem hostOps14_fresh : (hostOps14 : List (HloOp τ sig (Elt F))).Forall fun op => op.fresh = ∅ := by
  simp only [List.Forall]; repeat' constructor

/-- The arrays launch 14 writes. -/
abbrev outs14 : List (Ref sig .tc) := [main_v50]
/-- Every output array of the call is in the list. -/
theorem outs14_all : ∀ w : Fin cfg14.W, (cfg14.win w).isOut = true → Pipeline.arrRef cfg14.spec w ∈ outs14 := by decide +kernel

/-- What the host operations `hostOps15` write. -/
abbrev hostOuts15 : List (Ref sig .tc) := [main_v51]
/-- These host operations write only the buffers listed. -/
theorem hostOps15_writes : (hostOps15 : List (HloOp τ sig (Elt F))).Forall fun op => op.writes ⊆ (hostOuts15.map (Proc.devRef (τ := τ) .tc)).toFinset :=
  StableHlo.forall_writes_sub_of_map rfl
/-- These host operations leave no buffer undetermined. -/
theorem hostOps15_fresh : (hostOps15 : List (HloOp τ sig (Elt F))).Forall fun op => op.fresh = ∅ := by
  simp only [List.Forall]; repeat' constructor

/-! ## The boundaries -/

/-- At launch. -/
def W0 : Valuation τ sig (Elt F) := fun b => m (c, b)

/-- After `hostOps0`. -/
def W1 : Valuation τ sig (Elt F) := StableHlo.after hostOps0 (W0 m c)
/-- A buffer that this step does not write is as it was before it. -/
theorem W1_of (b : Ref sig .tc) (h : b ∉ hostOuts0) : W1 m c (Proc.devRef .tc b) = W0 m c (Proc.devRef .tc b) :=
  StableHlo.after_of_writes_sub hostOps0 _ hostOps0_writes h

/-- After launch 0. -/
def W2 : Valuation τ sig (Elt F) := exitOf cfg0 c y0 (W1 m c)
/-- A buffer that this step does not write is as it was before it. -/
theorem W2_of (b : Ref sig .tc) (h : b ∉ outs0) : W2 m c (Proc.devRef .tc b) = W1 m c (Proc.devRef .tc b) :=
  exitOf_of_not_mem c (Cert.RegionKit.facts₀ launch0).sharedIn y0 _ outs0 outs0_all b h

/-- After `hostOps1`. -/
def W3 : Valuation τ sig (Elt F) := StableHlo.after hostOps1 (W2 m c)
/-- A buffer that this step does not write is as it was before it. -/
theorem W3_of (b : Ref sig .tc) (h : b ∉ hostOuts1) : W3 m c (Proc.devRef .tc b) = W2 m c (Proc.devRef .tc b) :=
  StableHlo.after_of_writes_sub hostOps1 _ hostOps1_writes h

/-- After launch 1. -/
def W4 : Valuation τ sig (Elt F) := exitOf cfg1 c y1 (W3 m c)
/-- A buffer that this step does not write is as it was before it. -/
theorem W4_of (b : Ref sig .tc) (h : b ∉ outs1) : W4 m c (Proc.devRef .tc b) = W3 m c (Proc.devRef .tc b) :=
  exitOf_of_not_mem c (Cert.RegionKit.facts₀ launch1).sharedIn y1 _ outs1 outs1_all b h

/-- After `hostOps2`. -/
def W5 : Valuation τ sig (Elt F) := StableHlo.after hostOps2 (W4 m c)
/-- A buffer that this step does not write is as it was before it. -/
theorem W5_of (b : Ref sig .tc) (h : b ∉ hostOuts2) : W5 m c (Proc.devRef .tc b) = W4 m c (Proc.devRef .tc b) :=
  StableHlo.after_of_writes_sub hostOps2 _ hostOps2_writes h

/-- After launch 2. -/
def W6 : Valuation τ sig (Elt F) := exitOf cfg2 c y2 (W5 m c)
/-- A buffer that this step does not write is as it was before it. -/
theorem W6_of (b : Ref sig .tc) (h : b ∉ outs2) : W6 m c (Proc.devRef .tc b) = W5 m c (Proc.devRef .tc b) :=
  exitOf_of_not_mem c launch₀2.sharedIn y2 _ outs2 outs2_all b h

/-- After launch 3. -/
def W7 : Valuation τ sig (Elt F) := exitOf cfg3 c y3 (W6 m c)
/-- A buffer that this step does not write is as it was before it. -/
theorem W7_of (b : Ref sig .tc) (h : b ∉ outs3) : W7 m c (Proc.devRef .tc b) = W6 m c (Proc.devRef .tc b) :=
  exitOf_of_not_mem c (Cert.RegionKit.facts₀ launch3).sharedIn y3 _ outs3 outs3_all b h

/-- After launch 4. -/
def W8 : Valuation τ sig (Elt F) := exitOf cfg4 c y4 (W7 m c)
/-- A buffer that this step does not write is as it was before it. -/
theorem W8_of (b : Ref sig .tc) (h : b ∉ outs4) : W8 m c (Proc.devRef .tc b) = W7 m c (Proc.devRef .tc b) :=
  exitOf_of_not_mem c (Cert.RegionKit.facts₀ launch4).sharedIn y4 _ outs4 outs4_all b h

/-- After launch 5. -/
def W9 : Valuation τ sig (Elt F) := exitOf cfg5 c y5 (W8 m c)
/-- A buffer that this step does not write is as it was before it. -/
theorem W9_of (b : Ref sig .tc) (h : b ∉ outs5) : W9 m c (Proc.devRef .tc b) = W8 m c (Proc.devRef .tc b) :=
  exitOf_of_not_mem c (Cert.RegionKit.facts₀ launch5).sharedIn y5 _ outs5 outs5_all b h

/-- After launch 6. -/
def W10 : Valuation τ sig (Elt F) := exitOf cfg6 c y6 (W9 m c)
/-- A buffer that this step does not write is as it was before it. -/
theorem W10_of (b : Ref sig .tc) (h : b ∉ outs6) : W10 m c (Proc.devRef .tc b) = W9 m c (Proc.devRef .tc b) :=
  exitOf_of_not_mem c (Cert.RegionKit.facts₀ launch6).sharedIn y6 _ outs6 outs6_all b h

/-- After launch 7. -/
def W11 : Valuation τ sig (Elt F) := exitOf cfg7 c y7 (W10 m c)
/-- A buffer that this step does not write is as it was before it. -/
theorem W11_of (b : Ref sig .tc) (h : b ∉ outs7) : W11 m c (Proc.devRef .tc b) = W10 m c (Proc.devRef .tc b) :=
  exitOf_of_not_mem c (Cert.RegionKit.facts₀ launch7).sharedIn y7 _ outs7 outs7_all b h

/-- After launch 8. -/
def W12 : Valuation τ sig (Elt F) := exitOf cfg8 c y8 (W11 m c)
/-- A buffer that this step does not write is as it was before it. -/
theorem W12_of (b : Ref sig .tc) (h : b ∉ outs8) : W12 m c (Proc.devRef .tc b) = W11 m c (Proc.devRef .tc b) :=
  exitOf_of_not_mem c (Cert.RegionKit.facts₀ launch8).sharedIn y8 _ outs8 outs8_all b h

/-- After launch 9. -/
def W13 : Valuation τ sig (Elt F) := exitOf cfg9 c y9 (W12 m c)
/-- A buffer that this step does not write is as it was before it. -/
theorem W13_of (b : Ref sig .tc) (h : b ∉ outs9) : W13 m c (Proc.devRef .tc b) = W12 m c (Proc.devRef .tc b) :=
  exitOf_of_not_mem c (Cert.RegionKit.facts₀ launch9).sharedIn y9 _ outs9 outs9_all b h

/-- After launch 10. -/
def W14 : Valuation τ sig (Elt F) := exitOf cfg10 c y10 (W13 m c)
/-- A buffer that this step does not write is as it was before it. -/
theorem W14_of (b : Ref sig .tc) (h : b ∉ outs10) : W14 m c (Proc.devRef .tc b) = W13 m c (Proc.devRef .tc b) :=
  exitOf_of_not_mem c (Cert.RegionKit.facts₀ launch10).sharedIn y10 _ outs10 outs10_all b h

/-- After `hostOps11`. -/
def W15 : Valuation τ sig (Elt F) := StableHlo.after hostOps11 (W14 m c)
/-- A buffer that this step does not write is as it was before it. -/
theorem W15_of (b : Ref sig .tc) (h : b ∉ hostOuts11) : W15 m c (Proc.devRef .tc b) = W14 m c (Proc.devRef .tc b) :=
  StableHlo.after_of_writes_sub hostOps11 _ hostOps11_writes h

/-- After launch 11. -/
def W16 : Valuation τ sig (Elt F) := exitOf cfg11 c y11 (W15 m c)
/-- A buffer that this step does not write is as it was before it. -/
theorem W16_of (b : Ref sig .tc) (h : b ∉ outs11) : W16 m c (Proc.devRef .tc b) = W15 m c (Proc.devRef .tc b) :=
  exitOf_of_not_mem c (Cert.RegionKit.facts₀ launch11).sharedIn y11 _ outs11 outs11_all b h

/-- After `hostOps12`. -/
def W17 : Valuation τ sig (Elt F) := StableHlo.after hostOps12 (W16 m c)
/-- A buffer that this step does not write is as it was before it. -/
theorem W17_of (b : Ref sig .tc) (h : b ∉ hostOuts12) : W17 m c (Proc.devRef .tc b) = W16 m c (Proc.devRef .tc b) :=
  StableHlo.after_of_writes_sub hostOps12 _ hostOps12_writes h

/-- After launch 12. -/
def W18 : Valuation τ sig (Elt F) := exitOf cfg12 c y12 (W17 m c)
/-- A buffer that this step does not write is as it was before it. -/
theorem W18_of (b : Ref sig .tc) (h : b ∉ outs12) : W18 m c (Proc.devRef .tc b) = W17 m c (Proc.devRef .tc b) :=
  exitOf_of_not_mem c (Cert.RegionKit.facts₀ launch12).sharedIn y12 _ outs12 outs12_all b h

/-- After launch 13. -/
def W19 : Valuation τ sig (Elt F) := exitOf cfg13 c y13 (W18 m c)
/-- A buffer that this step does not write is as it was before it. -/
theorem W19_of (b : Ref sig .tc) (h : b ∉ outs13) : W19 m c (Proc.devRef .tc b) = W18 m c (Proc.devRef .tc b) :=
  exitOf_of_not_mem c (Cert.RegionKit.facts₀ launch13).sharedIn y13 _ outs13 outs13_all b h

/-- After `hostOps14`. -/
def W20 : Valuation τ sig (Elt F) := StableHlo.after hostOps14 (W19 m c)
/-- A buffer that this step does not write is as it was before it. -/
theorem W20_of (b : Ref sig .tc) (h : b ∉ hostOuts14) : W20 m c (Proc.devRef .tc b) = W19 m c (Proc.devRef .tc b) :=
  StableHlo.after_of_writes_sub hostOps14 _ hostOps14_writes h

/-- After launch 14. -/
def W21 : Valuation τ sig (Elt F) := exitOf cfg14 c y14 (W20 m c)
/-- A buffer that this step does not write is as it was before it. -/
theorem W21_of (b : Ref sig .tc) (h : b ∉ outs14) : W21 m c (Proc.devRef .tc b) = W20 m c (Proc.devRef .tc b) :=
  exitOf_of_not_mem c (Cert.RegionKit.facts₀ launch14).sharedIn y14 _ outs14 outs14_all b h

/-- After `hostOps15`. -/
def W22 : Valuation τ sig (Elt F) := StableHlo.after hostOps15 (W21 m c)
/-- A buffer that this step does not write is as it was before it. -/
theorem W22_of (b : Ref sig .tc) (h : b ∉ hostOuts15) : W22 m c (Proc.devRef .tc b) = W21 m c (Proc.devRef .tc b) :=
  StableHlo.after_of_writes_sub hostOps15 _ hostOps15_writes h

/-- A reference no item writes ends as launched. -/
theorem W22_arg (b : Ref sig .tc) (h : b ∉ hostOuts0 ++ outs0 ++ hostOuts1 ++ outs1 ++ hostOuts2 ++ outs2 ++ outs3 ++ outs4 ++ outs5 ++ outs6 ++ outs7 ++ outs8 ++ outs9 ++ outs10 ++ hostOuts11 ++ outs11 ++ hostOuts12 ++ outs12 ++ outs13 ++ hostOuts14 ++ outs14 ++ hostOuts15) :
    W22 m c (Proc.devRef .tc b) = m (c, Proc.devRef .tc b) := by
  simp only [List.mem_append, not_or] at h
  obtain ⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩ := h
  rw [W22_of m c b h21, W21_of m c b h20, W20_of m c b h19, W19_of m c b h18, W18_of m c b h17, W17_of m c b h16, W16_of m c b h15, W15_of m c b h14, W14_of m c b h13, W13_of m c b h12, W12_of m c b h11, W11_of m c b h10, W10_of m c b h9, W9_of m c b h8, W8_of m c b h7, W7_of m c b h6, W6_of m c b h5, W5_of m c b h4, W4_of m c b h3, W3_of m c b h2, W2_of m c b h1, W1_of m c b h0]
  rfl

end Cert.KernelIdeal.Gen

end
-- ==== Proof.KernelIdeal.Run.lean ====
/-
  The program as host stretches and launches, and what every run of it ends at: each unscoped buffer at the last boundary's
  contents, every counter at zero.
-/
module

public import proofs.«01_k».proof.Proof.KernelIdeal.Boundaries

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.RegionKit

variable {F : FTy → Type} [FloatOps F] [Named F]

local notation "𝕄" => MT nD τ sig Unit (Elt F) ℕ (UR sig nD τ) ℕ

variable (m : (ℓ : Loc nD τ sig) → Buf (Elt F) ℓ)

/-- The proof data of every launch, each entered at its boundary's contents. -/
def pdats : (p : Fin 15) → (c : Dev nD) → Dat τ (Elt F) Unit ℕ (UR sig nD τ) ℕ (Pipeline.pin (pcs (Val := Elt F) cfgs) (noTables cfgs) p) c
  | ⟨0, _⟩ => fun c => datOf cfg0 c y0 (arraysOf cfg0 c (W1 m c))
  | ⟨1, _⟩ => fun c => datOf cfg1 c y1 (arraysOf cfg1 c (W3 m c))
  | ⟨2, _⟩ => fun c => datOf cfg2 c y2 (arraysOf cfg2 c (W5 m c))
  | ⟨3, _⟩ => fun c => datOf cfg3 c y3 (arraysOf cfg3 c (W6 m c))
  | ⟨4, _⟩ => fun c => datOf cfg4 c y4 (arraysOf cfg4 c (W7 m c))
  | ⟨5, _⟩ => fun c => datOf cfg5 c y5 (arraysOf cfg5 c (W8 m c))
  | ⟨6, _⟩ => fun c => datOf cfg6 c y6 (arraysOf cfg6 c (W9 m c))
  | ⟨7, _⟩ => fun c => datOf cfg7 c y7 (arraysOf cfg7 c (W10 m c))
  | ⟨8, _⟩ => fun c => datOf cfg8 c y8 (arraysOf cfg8 c (W11 m c))
  | ⟨9, _⟩ => fun c => datOf cfg9 c y9 (arraysOf cfg9 c (W12 m c))
  | ⟨10, _⟩ => fun c => datOf cfg10 c y10 (arraysOf cfg10 c (W13 m c))
  | ⟨11, _⟩ => fun c => datOf cfg11 c y11 (arraysOf cfg11 c (W15 m c))
  | ⟨12, _⟩ => fun c => datOf cfg12 c y12 (arraysOf cfg12 c (W17 m c))
  | ⟨13, _⟩ => fun c => datOf cfg13 c y13 (arraysOf cfg13 c (W18 m c))
  | ⟨14, _⟩ => fun c => datOf cfg14 c y14 (arraysOf cfg14 c (W20 m c))

/-- A host stretch as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcs (Val := Elt F) cfgs) (defs₀ (F := F)) Variants.none (fun _ => (∅ : Finset Unit)) (fun _ _ => (0 : ℕ)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

/-- Launch 0 as a segment. -/
abbrev reg0 := segOf cfgs (pdats m) (defs₀ (F := F)) 0 (Cert.RegionKit.facts₀ launch0) y0 (fun c => W1 m c) (fun c => rfl) uncut0 idle0 keeps0 runs0

/-- Launch 1 as a segment. -/
abbrev reg1 := segOf cfgs (pdats m) (defs₀ (F := F)) 1 (Cert.RegionKit.facts₀ launch1) y1 (fun c => W3 m c) (fun c => rfl) uncut1 idle1 keeps1 runs1

/-- Launch 2 as a segment. -/
abbrev reg2 := segOf cfgs (pdats m) (defs₀ (F := F)) 2 launch₀2 y2 (fun c => W5 m c) (fun c => rfl) uncut2 idle2 keeps2 runs2

/-- Launch 3 as a segment. -/
abbrev reg3 := segOf cfgs (pdats m) (defs₀ (F := F)) 3 (Cert.RegionKit.facts₀ launch3) y3 (fun c => W6 m c) (fun c => rfl) uncut3 idle3 keeps3 runs3

/-- Launch 4 as a segment. -/
abbrev reg4 := segOf cfgs (pdats m) (defs₀ (F := F)) 4 (Cert.RegionKit.facts₀ launch4) y4 (fun c => W7 m c) (fun c => rfl) uncut4 idle4 keeps4 runs4

/-- Launch 5 as a segment. -/
abbrev reg5 := segOf cfgs (pdats m) (defs₀ (F := F)) 5 (Cert.RegionKit.facts₀ launch5) y5 (fun c => W8 m c) (fun c => rfl) uncut5 idle5 keeps5 runs5

/-- Launch 6 as a segment. -/
abbrev reg6 := segOf cfgs (pdats m) (defs₀ (F := F)) 6 (Cert.RegionKit.facts₀ launch6) y6 (fun c => W9 m c) (fun c => rfl) uncut6 idle6 keeps6 runs6

/-- Launch 7 as a segment. -/
abbrev reg7 := segOf cfgs (pdats m) (defs₀ (F := F)) 7 (Cert.RegionKit.facts₀ launch7) y7 (fun c => W10 m c) (fun c => rfl) uncut7 idle7 keeps7 runs7

/-- Launch 8 as a segment. -/
abbrev reg8 := segOf cfgs (pdats m) (defs₀ (F := F)) 8 (Cert.RegionKit.facts₀ launch8) y8 (fun c => W11 m c) (fun c => rfl) uncut8 idle8 keeps8 runs8

/-- Launch 9 as a segment. -/
abbrev reg9 := segOf cfgs (pdats m) (defs₀ (F := F)) 9 (Cert.RegionKit.facts₀ launch9) y9 (fun c => W12 m c) (fun c => rfl) uncut9 idle9 keeps9 runs9

/-- Launch 10 as a segment. -/
abbrev reg10 := segOf cfgs (pdats m) (defs₀ (F := F)) 10 (Cert.RegionKit.facts₀ launch10) y10 (fun c => W13 m c) (fun c => rfl) uncut10 idle10 keeps10 runs10

/-- Launch 11 as a segment. -/
abbrev reg11 := segOf cfgs (pdats m) (defs₀ (F := F)) 11 (Cert.RegionKit.facts₀ launch11) y11 (fun c => W15 m c) (fun c => rfl) uncut11 idle11 keeps11 runs11

/-- Launch 12 as a segment. -/
abbrev reg12 := segOf cfgs (pdats m) (defs₀ (F := F)) 12 (Cert.RegionKit.facts₀ launch12) y12 (fun c => W17 m c) (fun c => rfl) uncut12 idle12 keeps12 runs12

/-- Launch 13 as a segment. -/
abbrev reg13 := segOf cfgs (pdats m) (defs₀ (F := F)) 13 (Cert.RegionKit.facts₀ launch13) y13 (fun c => W18 m c) (fun c => rfl) uncut13 idle13 keeps13 runs13

/-- Launch 14 as a segment. -/
abbrev reg14 := segOf cfgs (pdats m) (defs₀ (F := F)) 14 (Cert.RegionKit.facts₀ launch14) y14 (fun c => W20 m c) (fun c => rfl) uncut14 idle14 keeps14 runs14

/-- The program's items in order. -/
abbrev segs : List (Pipeline.Seg (pcs (Val := Elt F) cfgs) (noTables cfgs) (pdats m) () defs₀ Variants.none (fun _ => ∅) (fun _ _ => 0)) :=
  [ .host (hostSeg hostOps0 hostOps0_sub hostOps0_fresh (fun c => W0 m c)),
    .region (reg0 m),
    .host (hostSeg hostOps1 hostOps1_sub hostOps1_fresh (fun c => W2 m c)),
    .region (reg1 m),
    .host (hostSeg hostOps2 hostOps2_sub hostOps2_fresh (fun c => W4 m c)),
    .region (reg2 m),
    .region (reg3 m),
    .region (reg4 m),
    .region (reg5 m),
    .region (reg6 m),
    .region (reg7 m),
    .region (reg8 m),
    .region (reg9 m),
    .region (reg10 m),
    .host (hostSeg hostOps11 hostOps11_sub hostOps11_fresh (fun c => W14 m c)),
    .region (reg11 m),
    .host (hostSeg hostOps12 hostOps12_sub hostOps12_fresh (fun c => W16 m c)),
    .region (reg12 m),
    .region (reg13 m),
    .host (hostSeg hostOps14 hostOps14_sub hostOps14_fresh (fun c => W19 m c)),
    .region (reg14 m),
    .host (hostSeg hostOps15 hostOps15_sub hostOps15_fresh (fun c => W21 m c)) ]

/-- The program is its items, run in order. -/
theorem main_run (c : Dev nD) : main (F := F) c = Pipeline.Seg.run (segs m) := (main_chain c).trans (by chain_rfl)

/-- Every semaphore belongs to a scope. -/
theorem no_unscoped : ∀ sm : SemLoc sig, sm.isScoped .tc = true := by decide

/-- A buffer outside the scopes is among those the run tracks. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (ρ : Dev nD → PrngReg)

set_option backward.isDefEq.respectTransparency.types false in
/-- Every weakly fair run of the program from any memory, the counters at zero, ends, without a fault, with every unscoped
    buffer at `W22` and every counter at zero. -/
theorem ends : θ_run defs (onTc (τ := τ) (main (F := F))) ⟨m, fun _ => 0, ρ⟩ (fun r =>
    (∀ (c : Dev nD), ∀ b ∈ Pipeline.ucRefs τ sig, r.2.mem (((c : Thread nD τ)).1, b) = W22 m c b) ∧ r.2.sem = fun _ => 0) :=
  Pipeline.θ_run_regions_kit_sems (pcs (Val := Elt F) cfgs) (noTables cfgs) (pdats m) () cellOf_inj emb₁ defs₀ Variants.none (fun _ => ∅) (fun _ _ => 0)
    m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => Holds c (W0 m c))
    (Tₙ := fun c => iprop(StableHlo.held (c : Thread nD τ) (Pipeline.ucRefs τ sig) (W22 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hostSeg, Pipeline.HostSeg.ofOps]
      iintro ⟨Hh, Hp, HO⟩
      isplitl [Hh Hp]
      · isplitl [Hh]; · iexact Hh
        iexact Hp
      iexact HO⟩)
    (hinit := by
      refine Pipeline.initEach _ _ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m c b)
    (hfin := fun c s' => by
      iintro ⟨⟨Hh, -⟩, HSI⟩
      unfold StableHlo.held
      imodintro
      iapply (pointsTo_read_all (Pipeline.ucRefs τ sig) (fun b => (((c : Thread nD τ)).1, b)) (W22 m c) s')
      isplitl [Hh] <;> iassumption)
    (hQ := fun s h hz => ⟨h, funext fun g => hz g (.inr (no_unscoped g.2))⟩)

/-- Each argument array ends as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c =>
    have k : ∀ b : Ref sig .tc, ¬ (Proc.devRef .tc b : DevRef τ sig).isScoped → b ∉ hostOuts0 ++ outs0 ++ hostOuts1 ++ outs1 ++ hostOuts2 ++ outs2 ++ outs3 ++ outs4 ++ outs5 ++ outs6 ++ outs7 ++ outs8 ++ outs9 ++ outs10 ++ hostOuts11 ++ outs11 ++ hostOuts12 ++ outs12 ++ outs13 ++ hostOuts14 ++ outs14 ++ hostOuts15 →
        r.2.mem ((c.tc : Thread nD τ).loc b) = m ((c.tc : Thread nD τ).loc b) := fun b hb hn =>
      (h.1 c _ (mem_uc b hb)).trans (W22_arg m c b hn)
    ⟨k main_arg0 (by decide) (by decide +kernel),
     k main_arg1 (by decide) (by decide +kernel),
     k main_arg2 (by decide) (by decide +kernel),
     k main_arg3 (by decide) (by decide +kernel),
     k main_arg4 (by decide) (by decide +kernel),
     k main_arg5 (by decide) (by decide +kernel),
     k main_arg6 (by decide) (by decide +kernel),
     k main_arg7 (by decide) (by decide +kernel),
     k main_arg8 (by decide) (by decide +kernel),
     k main_arg9 (by decide) (by decide +kernel),
     k main_arg10 (by decide) (by decide +kernel),
     k main_arg11 (by decide) (by decide +kernel)⟩, h.2⟩) (ends m ρ)

end Cert.KernelIdeal.Gen

end
-- ==== Proof.Reference.Stages.lean ====
/-
  The reference's host operations in stages, and the run of the reference through them: every buffer ends at what the
  stages, one after another, leave in it.
-/
module

public import proofs.«01_k».proof.ReferenceIdeal
public import proofs.«01_k».proof.Proof.Gen.ReferenceIdeal
public import Idealize.ShloMosaic.Lib.Claim
public import Idealize.ShloMosaic.Lib.Quiescent

@[expose] public section

set_option maxRecDepth 16384

noncomputable section

namespace Cert.ReferenceIdeal.Stages

open Idealize.ShloMosaic Idealize.SL.Sem Cert.ReferenceIdeal.Gen

variable {F : FTy → Type} [FloatOps F]

/-- The operations of the first normalisation. -/
abbrev opsNorm : List (HloOp τ sig (Elt F)) :=
  [ StableHlo.binary main_arg0 main_arg0 main_v0 (mulf : (⟨S1x2048x4096, .f32⟩ : BufTy).Contents (Elt F) → (⟨S1x2048x4096, .f32⟩ : BufTy).Contents (Elt F) → (⟨S1x2048x4096, .f32⟩ : BufTy).Contents (Elt F)),
    StableHlo.nullary main_cst (constant S_ .f32 0x00000000#32),
    StableHlo.binary main_v0 main_cst main_v1 ((fun x v => Host.reduceAdd x v reducesTo_S1x2048x4096_S1x2048_d2 h_S_) : (⟨S1x2048x4096, .f32⟩ : BufTy).Contents (Elt F) → (⟨S_, .f32⟩ : BufTy).Contents (Elt F) → (⟨S1x2048, .f32⟩ : BufTy).Contents (Elt F)),
    StableHlo.unary main_v1 main_v2 (broadcastInDim S1x2048x1 ![0, 1] bcast_S1x2048_S1x2048x1_0_1 : (⟨S1x2048, .f32⟩ : BufTy).Contents (Elt F) → (⟨S1x2048x1, .f32⟩ : BufTy).Contents (Elt F)),
    StableHlo.nullary main_cst_0 (constant S_ .f32 0x45800000#32),
    StableHlo.unary main_cst_0 main_v3 (broadcastInDim S1x2048x1 ![] bcast_S_S1x2048x1 : (⟨S_, .f32⟩ : BufTy).Contents (Elt F) → (⟨S1x2048x1, .f32⟩ : BufTy).Contents (Elt F)),
    StableHlo.binary main_v2 main_v3 main_v4 (Host.divf : (⟨S1x2048x1, .f32⟩ : BufTy).Contents (Elt F) → (⟨S1x2048x1, .f32⟩ : BufTy).Contents (Elt F) → (⟨S1x2048x1, .f32⟩ : BufTy).Contents (Elt F)),
    StableHlo.nullary main_cst_1 (constant S_ .f32 0x358637BD#32),
    StableHlo.unary main_cst_1 main_v5 (broadcastInDim S1x2048x1 ![] bcast_S_S1x2048x1 : (⟨S_, .f32⟩ : BufTy).Contents (Elt F) → (⟨S1x2048x1, .f32⟩ : BufTy).Contents (Elt F)),
    StableHlo.binary main_v4 main_v5 main_v6 (addf : (⟨S1x2048x1, .f32⟩ : BufTy).Contents (Elt F) → (⟨S1x2048x1, .f32⟩ : BufTy).Contents (Elt F) → (⟨S1x2048x1, .f32⟩ : BufTy).Contents (Elt F)),
    StableHlo.unary main_v6 main_v7 (Host.rsqrt : (⟨S1x2048x1, .f32⟩ : BufTy).Contents (Elt F) → (⟨S1x2048x1, .f32⟩ : BufTy).Contents (Elt F)),
    StableHlo.unary main_v7 main_v8 (broadcastInDim S1x2048x4096 ![0, 1, 2] bcast_S1x2048x1_S1x2048x4096_0_1_2 : (⟨S1x2048x1, .f32⟩ : BufTy).Contents (Elt F) → (⟨S1x2048x4096, .f32⟩ : BufTy).Contents (Elt F)),
    StableHlo.binary main_arg0 main_v8 main_v9 (mulf : (⟨S1x2048x4096, .f32⟩ : BufTy).Contents (Elt F) → (⟨S1x2048x4096, .f32⟩ : BufTy).Contents (Elt F) → (⟨S1x2048x4096, .f32⟩ : BufTy).Contents (Elt F)),
    StableHlo.unary main_arg7 main_v10 (broadcastInDim S1x1x4096 ![2] bcast_S4096_S1x1x4096_2 : (⟨S4096, .f32⟩ : BufTy).Contents (Elt F) → (⟨S1x1x4096, .f32⟩ : BufTy).Contents (Elt F)),
    StableHlo.unary main_v10 main_v11 (broadcastInDim S1x2048x4096 ![0, 1, 2] bcast_S1x1x4096_S1x2048x4096_0_1_2 : (⟨S1x1x4096, .f32⟩ : BufTy).Contents (Elt F) → (⟨S1x2048x4096, .f32⟩ : BufTy).Contents (Elt F)),
    StableHlo.binary main_v9 main_v11 main_v12 (mulf : (⟨S1x2048x4096, .f32⟩ : BufTy).Contents (Elt F) → (⟨S1x2048x4096, .f32⟩ : BufTy).Contents (Elt F) → (⟨S1x2048x4096, .f32⟩ : BufTy).Contents (Elt F)) ]

/-- The buffers they write. -/
abbrev outsNorm : List (Ref sig .tc) := [main_v0, main_cst, main_v1, main_v2, main_cst_0, main_v3, main_v4, main_cst_1, main_v5, main_v6, main_v7, main_v8, main_v9, main_v10, main_v11, main_v12]

/-- The operations of this stage write only the buffers listed. -/
theorem opsNorm_writes : (opsNorm : List (HloOp τ sig (Elt F))).Forall fun op => op.writes ⊆ (outsNorm.map (Proc.devRef (τ := τ) .tc)).toFinset :=
  StableHlo.forall_writes_sub_of_map rfl

/-- The operations of the three projections, split into heads. -/
abbrev opsProj : List (HloOp τ sig (Elt F)) :=
  [ StableHlo.binary main_v12 main_arg1 main_v13 ((fun l r => Host.dotGeneral dot_S1x2048x4096_S4096x4096_S1x2048x4096_2_0_01_1_n_n none l r) : (⟨S1x2048x4096, .f32⟩ : BufTy).Contents (Elt F) → (⟨S4096x4096, .f32⟩ : BufTy).Contents (Elt F) → (⟨S1x2048x4096, .f32⟩ : BufTy).Contents (Elt F)),
    StableHlo.reshape main_v13 main_v14 (rfl : (.f32 : EltTy) = .f32) shapeCasts_S1x2048x4096_S1x2048x32x128,
    StableHlo.unary main_v14 main_v15 ((transpose S1x32x2048x128 [0, 2, 1, 3] · transposes_S1x2048x32x128_S1x32x2048x128_0_2_1_3) : (⟨S1x2048x32x128, .f32⟩ : BufTy).Contents (Elt F) → (⟨S1x32x2048x128, .f32⟩ : BufTy).Contents (Elt F)),
    StableHlo.binary main_v12 main_arg2 main_v16 ((fun l r => Host.dotGeneral dot_S1x2048x4096_S4096x1024_S1x2048x1024_2_0_01_1_n_n none l r) : (⟨S1x2048x4096, .f32⟩ : BufTy).Contents (Elt F) → (⟨S4096x1024, .f32⟩ : BufTy).Contents (Elt F) → (⟨S1x2048x1024, .f32⟩ : BufTy).Contents (Elt F)),
    StableHlo.reshape main_v16 main_v17 (rfl : (.f32 : EltTy) = .f32) shapeCasts_S1x2048x1024_S1x2048x8x128,
    StableHlo.unary main_v17 main_v18 ((transpose S1x8x2048x128 [0, 2, 1, 3] · transposes_S1x2048x8x128_S1x8x2048x128_0_2_1_3) : (⟨S1x2048x8x128, .f32⟩ : BufTy).Contents (Elt F) → (⟨S1x8x2048x128, .f32⟩ : BufTy).Contents (Elt F)),
    StableHlo.binary main_v12 main_arg3 main_v19 ((fun l r => Host.dotGeneral dot_S1x2048x4096_S4096x1024_S1x2048x1024_2_0_01_1_n_n none l r) : (⟨S1x2048x4096, .f32⟩ : BufTy).Contents (Elt F) → (⟨S4096x1024, .f32⟩ : BufTy).Contents (Elt F) → (⟨S1x2048x1024, .f32⟩ : BufTy).Contents (Elt F)),
    StableHlo.reshape main_v19 main_v20 (rfl : (.f32 : EltTy) = .f32) shapeCasts_S1x2048x1024_S1x2048x8x128,
    StableHlo.unary main_v20 main_v21 ((transpose S1x8x2048x128 [0, 2, 1, 3] · transposes_S1x2048x8x128_S1x8x2048x128_0_2_1_3) : (⟨S1x2048x8x128, .f32⟩ : BufTy).Contents (Elt F) → (⟨S1x8x2048x128, .f32⟩ : BufTy).Contents (Elt F)),
    StableHlo.unary main_v18 main_v22 (broadcastInDim S1x8x4x2048x128 ![0, 1, 3, 4] bcast_S1x8x2048x128_S1x8x4x2048x128_0_1_3_4 : (⟨S1x8x2048x128, .f32⟩ : BufTy).Contents (Elt F) → (⟨S1x8x4x2048x128, .f32⟩ : BufTy).Contents (Elt F)),
    StableHlo.reshape main_v22 main_v23 (rfl : (.f32 : EltTy) = .f32) shapeCasts_S1x8x4x2048x128_S1x32x2048x128,
    StableHlo.unary main_v21 main_v24 (broadcastInDim S1x8x4x2048x128 ![0, 1, 3, 4] bcast_S1x8x2048x128_S1x8x4x2048x128_0_1_3_4 : (⟨S1x8x2048x128, .f32⟩ : BufTy).Contents (Elt F) → (⟨S1x8x4x2048x128, .f32⟩ : BufTy).Contents (Elt F)),
    StableHlo.reshape main_v24 main_v25 (rfl : (.f32 : EltTy) = .f32) shapeCasts_S1x8x4x2048x128_S1x32x2048x128 ]

/-- The buffers they write. -/
abbrev outsProj : List (Ref sig .tc) := [main_v13, main_v14, main_v15, main_v16, main_v17, main_v18, main_v19, main_v20, main_v21, main_v22, main_v23, main_v24, main_v25]

/-- The operations of this stage write only the buffers listed. -/
theorem opsProj_writes : (opsProj : List (HloOp τ sig (Elt F))).Forall fun op => op.writes ⊆ (outsProj.map (Proc.devRef (τ := τ) .tc)).toFinset :=
  StableHlo.forall_writes_sub_of_map rfl

/-- The operations of the cosines and sines of the rotation. -/
abbrev opsAngles : List (HloOp τ sig (Elt F)) :=
  [ StableHlo.nullary main_v26 (sitofp .f32 (iotaInDim S64 32 0)),
    StableHlo.nullary main_cst_2 (constant S_ .f32 0x40000000#32),
    StableHlo.unary main_cst_2 main_v27 (broadcastInDim S64 ![] bcast_S_S64 : (⟨S_, .f32⟩ : BufTy).Contents (Elt F) → (⟨S64, .f32⟩ : BufTy).Contents (Elt F)),
    StableHlo.binary main_v27 main_v26 main_v28 (mulf : (⟨S64, .f32⟩ : BufTy).Contents (Elt F) → (⟨S64, .f32⟩ : BufTy).Contents (Elt F) → (⟨S64, .f32⟩ : BufTy).Contents (Elt F)),
    StableHlo.nullary main_cst_3 (constant S_ .f32 0x00000000#32),
    StableHlo.unary main_cst_3 main_v29 (broadcastInDim S64 ![] bcast_S_S64 : (⟨S_, .f32⟩ : BufTy).Contents (Elt F) → (⟨S64, .f32⟩ : BufTy).Contents (Elt F)),
    StableHlo.binary main_v29 main_v28 main_v30 (addf : (⟨S64, .f32⟩ : BufTy).Contents (Elt F) → (⟨S64, .f32⟩ : BufTy).Contents (Elt F) → (⟨S64, .f32⟩ : BufTy).Contents (Elt F)),
    StableHlo.nullary main_cst_4 (constant S_ .f32 0x43000000#32),
    StableHlo.unary main_cst_4 main_v31 (broadcastInDim S64 ![] bcast_S_S64 : (⟨S_, .f32⟩ : BufTy).Contents (Elt F) → (⟨S64, .f32⟩ : BufTy).Contents (Elt F)),
    StableHlo.binary main_v30 main_v31 main_v32 (Host.divf : (⟨S64, .f32⟩ : BufTy).Contents (Elt F) → (⟨S64, .f32⟩ : BufTy).Contents (Elt F) → (⟨S64, .f32⟩ : BufTy).Contents (Elt F)),
    StableHlo.nullary main_cst_5 (constant S_ .f32 0x461C4000#32),
    StableHlo.unary main_cst_5 main_v33 (broadcastInDim S64 ![] bcast_S_S64 : (⟨S_, .f32⟩ : BufTy).Contents (Elt F) → (⟨S64, .f32⟩ : BufTy).Contents (Elt F)),
    StableHlo.binary main_v33 main_v32 main_v34 (Host.powf : (⟨S64, .f32⟩ : BufTy).Contents (Elt F) → (⟨S64, .f32⟩ : BufTy).Contents (Elt F) → (⟨S64, .f32⟩ : BufTy).Contents (Elt F)),
    StableHlo.nullary main_cst_6 (constant S_ .f32 0x3F800000#32),
    StableHlo.unary main_cst_6 main_v35 (broadcastInDim S64 ![] bcast_S_S64 : (⟨S_, .f32⟩ : BufTy).Contents (Elt F) → (⟨S64, .f32⟩ : BufTy).Contents (Elt F)),
    StableHlo.binary main_v35 main_v34 main_v36 (Host.divf : (⟨S64, .f32⟩ : BufTy).Contents (Elt F) → (⟨S64, .f32⟩ : BufTy).Contents (Elt F) → (⟨S64, .f32⟩ : BufTy).Contents (Elt F)),
    StableHlo.nullary main_v37 (sitofp .f32 (iotaInDim S2048 32 0)),
    StableHlo.unary main_v37 main_v38 (broadcastInDim S2048x1 ![0] bcast_S2048_S2048x1_0 : (⟨S2048, .f32⟩ : BufTy).Contents (Elt F) → (⟨S2048x1, .f32⟩ : BufTy).Contents (Elt F)),
    StableHlo.unary main_v36 main_v39 (broadcastInDim S1x64 ![1] bcast_S64_S1x64_1 : (⟨S64, .f32⟩ : BufTy).Contents (Elt F) → (⟨S1x64, .f32⟩ : BufTy).Contents (Elt F)),
    StableHlo.unary main_v38 main_v40 (broadcastInDim S2048x64 ![0, 1] bcast_S2048x1_S2048x64_0_1 : (⟨S2048x1, .f32⟩ : BufTy).Contents (Elt F) → (⟨S2048x64, .f32⟩ : BufTy).Contents (Elt F)),
    StableHlo.unary main_v39 main_v41 (broadcastInDim S2048x64 ![0, 1] bcast_S1x64_S2048x64_0_1 : (⟨S1x64, .f32⟩ : BufTy).Contents (Elt F) → (⟨S2048x64, .f32⟩ : BufTy).Contents (Elt F)),
    StableHlo.binary main_v40 main_v41 main_v42 (mulf : (⟨S2048x64, .f32⟩ : BufTy).Contents (Elt F) → (⟨S2048x64, .f32⟩ : BufTy).Contents (Elt F) → (⟨S2048x64, .f32⟩ : BufTy).Contents (Elt F)),
    StableHlo.binary main_v42 main_v42 main_v43 ((fun a b => concatenate S2048x128 1 [⟨S2048x64, a⟩, ⟨S2048x64, b⟩] concatenates_S2048x64_S2048x64_S2048x128_d1) : (⟨S2048x64, .f32⟩ : BufTy).Contents (Elt F) → (⟨S2048x64, .f32⟩ : BufTy).Contents (Elt F) → (⟨S2048x128, .f32⟩ : BufTy).Contents (Elt F)),
    StableHlo.unary main_v43 main_v44 (Host.cos : (⟨S2048x128, .f32⟩ : BufTy).Contents (Elt F) → (⟨S2048x128, .f32⟩ : BufTy).Contents (Elt F)),
    StableHlo.unary main_v43 main_v45 (Host.sin : (⟨S2048x128, .f32⟩ : BufTy).Contents (Elt F) → (⟨S2048x128, .f32⟩ : BufTy).Contents (Elt F)) ]

/-- The buffers they write. -/
abbrev outsAngles : List (Ref sig .tc) := [main_v26, main_cst_2, main_v27, main_v28, main_cst_3, main_v29, main_v30, main_cst_4, main_v31, main_v32, main_cst_5, main_v33, main_v34, main_cst_6, main_v35, main_v36, main_v37, main_v38, main_v39, main_v40, main_v41, main_v42, main_v43, main_v44, main_v45]

/-- The operations of this stage write only the buffers listed. -/
theorem opsAngles_writes : (opsAngles : List (HloOp τ sig (Elt F))).Forall fun op => op.writes ⊆ (outsAngles.map (Proc.devRef (τ := τ) .tc)).toFinset :=
  StableHlo.forall_writes_sub_of_map rfl

/-- The operations of the rotated queries and keys. -/
abbrev opsRope : List (HloOp τ sig (Elt F)) :=
  [ StableHlo.unary main_v44 main_v46 (broadcastInDim S1x1x2048x128 ![2, 3] bcast_S2048x128_S1x1x2048x128_2_3 : (⟨S2048x128, .f32⟩ : BufTy).Contents (Elt F) → (⟨S1x1x2048x128, .f32⟩ : BufTy).Contents (Elt F)),
    StableHlo.unary main_v46 main_v47 (broadcastInDim S1x32x2048x128 ![0, 1, 2, 3] bcast_S1x1x2048x128_S1x32x2048x128_0_1_2_3 : (⟨S1x1x2048x128, .f32⟩ : BufTy).Contents (Elt F) → (⟨S1x32x2048x128, .f32⟩ : BufTy).Contents (Elt F)),
    StableHlo.binary main_v15 main_v47 main_v48 (mulf : (⟨S1x32x2048x128, .f32⟩ : BufTy).Contents (Elt F) → (⟨S1x32x2048x128, .f32⟩ : BufTy).Contents (Elt F) → (⟨S1x32x2048x128, .f32⟩ : BufTy).Contents (Elt F)),
    StableHlo.unary main_v15 main_v49 ((extractStridedSlice S1x32x2048x64 ![0, 0, 0, 0] · slices_S1x32x2048x128_S1x32x2048x64_0_0_0_0) : (⟨S1x32x2048x128, .f32⟩ : BufTy).Contents (Elt F) → (⟨S1x32x2048x64, .f32⟩ : BufTy).Contents (Elt F)),
    StableHlo.unary main_v15 main_v50 ((extractStridedSlice S1x32x2048x64 ![0, 0, 0, 64] · slices_S1x32x2048x128_S1x32x2048x64_0_0_0_64) : (⟨S1x32x2048x128, .f32⟩ : BufTy).Contents (Elt F) → (⟨S1x32x2048x64, .f32⟩ : BufTy).Contents (Elt F)),
    StableHlo.unary main_v50 main_v51 (Host.negf : (⟨S1x32x2048x64, .f32⟩ : BufTy).Contents (Elt F) → (⟨S1x32x2048x64, .f32⟩ : BufTy).Contents (Elt F)),
    StableHlo.binary main_v51 main_v49 main_v52 ((fun a b => concatenate S1x32x2048x128 3 [⟨S1x32x2048x64, a⟩, ⟨S1x32x2048x64, b⟩] concatenates_S1x32x2048x64_S1x32x2048x64_S1x32x2048x128_d3) : (⟨S1x32x2048x64, .f32⟩ : BufTy).Contents (Elt F) → (⟨S1x32x2048x64, .f32⟩ : BufTy).Contents (Elt F) → (⟨S1x32x2048x128, .f32⟩ : BufTy).Contents (Elt F)),
    StableHlo.unary main_v45 main_v53 (broadcastInDim S1x1x2048x128 ![2, 3] bcast_S2048x128_S1x1x2048x128_2_3 : (⟨S2048x128, .f32⟩ : BufTy).Contents (Elt F) → (⟨S1x1x2048x128, .f32⟩ : BufTy).Contents (Elt F)),
    StableHlo.unary main_v53 main_v54 (broadcastInDim S1x32x2048x128 ![0, 1, 2, 3] bcast_S1x1x2048x128_S1x32x2048x128_0_1_2_3 : (⟨S1x1x2048x128, .f32⟩ : BufTy).Contents (Elt F) → (⟨S1x32x2048x128, .f32⟩ : BufTy).Contents (Elt F)),
    StableHlo.binary main_v52 main_v54 main_v55 (mulf : (⟨S1x32x2048x128, .f32⟩ : BufTy).Contents (Elt F) → (⟨S1x32x2048x128, .f32⟩ : BufTy).Contents (Elt F) → (⟨S1x32x2048x128, .f32⟩ : BufTy).Contents (Elt F)),
    StableHlo.binary main_v48 main_v55 main_v56 (addf : (⟨S1x32x2048x128, .f32⟩ : BufTy).Contents (Elt F) → (⟨S1x32x2048x128, .f32⟩ : BufTy).Contents (Elt F) → (⟨S1x32x2048x128, .f32⟩ : BufTy).Contents (Elt F)),
    StableHlo.unary main_v44 main_v57 (broadcastInDim S1x1x2048x128 ![2, 3] bcast_S2048x128_S1x1x2048x128_2_3 : (⟨S2048x128, .f32⟩ : BufTy).Contents (Elt F) → (⟨S1x1x2048x128, .f32⟩ : BufTy).Contents (Elt F)),
    StableHlo.unary main_v57 main_v58 (broadcastInDim S1x32x2048x128 ![0, 1, 2, 3] bcast_S1x1x2048x128_S1x32x2048x128_0_1_2_3 : (⟨S1x1x2048x128, .f32⟩ : BufTy).Contents (Elt F) → (⟨S1x32x2048x128, .f32⟩ : BufTy).Contents (Elt F)),
    StableHlo.binary main_v23 main_v58 main_v59 (mulf : (⟨S1x32x2048x128, .f32⟩ : BufTy).Contents (Elt F) → (⟨S1x32x2048x128, .f32⟩ : BufTy).Contents (Elt F) → (⟨S1x32x2048x128, .f32⟩ : BufTy).Contents (Elt F)),
    StableHlo.unary main_v23 main_v60 ((extractStridedSlice S1x32x2048x64 ![0, 0, 0, 0] · slices_S1x32x2048x128_S1x32x2048x64_0_0_0_0) : (⟨S1x32x2048x128, .f32⟩ : BufTy).Contents (Elt F) → (⟨S1x32x2048x64, .f32⟩ : BufTy).Contents (Elt F)),
    StableHlo.unary main_v23 main_v61 ((extractStridedSlice S1x32x2048x64 ![0, 0, 0, 64] · slices_S1x32x2048x128_S1x32x2048x64_0_0_0_64) : (⟨S1x32x2048x128, .f32⟩ : BufTy).Contents (Elt F) → (⟨S1x32x2048x64, .f32⟩ : BufTy).Contents (Elt F)),
    StableHlo.unary main_v61 main_v62 (Host.negf : (⟨S1x32x2048x64, .f32⟩ : BufTy).Contents (Elt F) → (⟨S1x32x2048x64, .f32⟩ : BufTy).Contents (Elt F)),
    StableHlo.binary main_v62 main_v60 main_v63 ((fun a b => concatenate S1x32x2048x128 3 [⟨S1x32x2048x64, a⟩, ⟨S1x32x2048x64, b⟩] concatenates_S1x32x2048x64_S1x32x2048x64_S1x32x2048x128_d3) : (⟨S1x32x2048x64, .f32⟩ : BufTy).Contents (Elt F) → (⟨S1x32x2048x64, .f32⟩ : BufTy).Contents (Elt F) → (⟨S1x32x2048x128, .f32⟩ : BufTy).Contents (Elt F)),
    StableHlo.unary main_v45 main_v64 (broadcastInDim S1x1x2048x128 ![2, 3] bcast_S2048x128_S1x1x2048x128_2_3 : (⟨S2048x128, .f32⟩ : BufTy).Contents (Elt F) → (⟨S1x1x2048x128, .f32⟩ : BufTy).Contents (Elt F)),
    StableHlo.unary main_v64 main_v65 (broadcastInDim S1x32x2048x128 ![0, 1, 2, 3] bcast_S1x1x2048x128_S1x32x2048x128_0_1_2_3 : (⟨S1x1x2048x128, .f32⟩ : BufTy).Contents (Elt F) → (⟨S1x32x2048x128, .f32⟩ : BufTy).Contents (Elt F)),
    StableHlo.binary main_v63 main_v65 main_v66 (mulf : (⟨S1x32x2048x128, .f32⟩ : BufTy).Contents (Elt F) → (⟨S1x32x2048x128, .f32⟩ : BufTy).Contents (Elt F) → (⟨S1x32x2048x128, .f32⟩ : BufTy).Contents (Elt F)),
    StableHlo.binary main_v59 main_v66 main_v67 (addf : (⟨S1x32x2048x128, .f32⟩ : BufTy).Contents (Elt F) → (⟨S1x32x2048x128, .f32⟩ : BufTy).Contents (Elt F) → (⟨S1x32x2048x128, .f32⟩ : BufTy).Contents (Elt F)) ]

/-- The buffers they write. -/
abbrev outsRope : List (Ref sig .tc) := [main_v46, main_v47, main_v48, main_v49, main_v50, main_v51, main_v52, main_v53, main_v54, main_v55, main_v56, main_v57, main_v58, main_v59, main_v60, main_v61, main_v62, main_v63, main_v64, main_v65, main_v66, main_v67]

/-- The operations of this stage write only the buffers listed. -/
theorem opsRope_writes : (opsRope : List (HloOp τ sig (Elt F))).Forall fun op => op.writes ⊆ (outsRope.map (Proc.devRef (τ := τ) .tc)).toFinset :=
  StableHlo.forall_writes_sub_of_map rfl

/-- The operations of the signs of the hashed queries and keys. -/
abbrev opsHash : List (HloOp τ sig (Elt F)) :=
  [ StableHlo.nullary main_cst_7 (constant S_ .f32 0x00000000#32),
    StableHlo.binary main_arg5 main_cst_7 main_v68 ((fun x v => Host.reduceAdd x v reducesTo_S1x32x128x128_S32x128x128_d0 h_S_) : (⟨S1x32x128x128, .f32⟩ : BufTy).Contents (Elt F) → (⟨S_, .f32⟩ : BufTy).Contents (Elt F) → (⟨S32x128x128, .f32⟩ : BufTy).Contents (Elt F)),
    StableHlo.binary main_v68 main_v56 main_v69 ((fun l r => Host.dotGeneral dot_S32x128x128_S1x32x2048x128_S32x128x1x2048_1_3_2_02_0_1 none l r) : (⟨S32x128x128, .f32⟩ : BufTy).Contents (Elt F) → (⟨S1x32x2048x128, .f32⟩ : BufTy).Contents (Elt F) → (⟨S32x128x1x2048, .f32⟩ : BufTy).Contents (Elt F)),
    StableHlo.unary main_v69 main_v70 ((transpose S1x32x2048x128 [2, 0, 3, 1] · transposes_S32x128x1x2048_S1x32x2048x128_2_0_3_1) : (⟨S32x128x1x2048, .f32⟩ : BufTy).Contents (Elt F) → (⟨S1x32x2048x128, .f32⟩ : BufTy).Contents (Elt F)),
    StableHlo.unary main_arg6 main_v71 (broadcastInDim S1x32x2048x128 ![0, 1, 2, 3] bcast_S1x32x1x128_S1x32x2048x128_0_1_2_3 : (⟨S1x32x1x128, .f32⟩ : BufTy).Contents (Elt F) → (⟨S1x32x2048x128, .f32⟩ : BufTy).Contents (Elt F)),
    StableHlo.binary main_v70 main_v71 main_v72 (addf : (⟨S1x32x2048x128, .f32⟩ : BufTy).Contents (Elt F) → (⟨S1x32x2048x128, .f32⟩ : BufTy).Contents (Elt F) → (⟨S1x32x2048x128, .f32⟩ : BufTy).Contents (Elt F)),
    StableHlo.nullary main_cst_8 (constant S_ .f32 0x00000000#32),
    StableHlo.binary main_arg5 main_cst_8 main_v73 ((fun x v => Host.reduceAdd x v reducesTo_S1x32x128x128_S32x128x128_d0 h_S_) : (⟨S1x32x128x128, .f32⟩ : BufTy).Contents (Elt F) → (⟨S_, .f32⟩ : BufTy).Contents (Elt F) → (⟨S32x128x128, .f32⟩ : BufTy).Contents (Elt F)),
    StableHlo.binary main_v73 main_v67 main_v74 ((fun l r => Host.dotGeneral dot_S32x128x128_S1x32x2048x128_S32x128x1x2048_1_3_2_02_0_1 none l r) : (⟨S32x128x128, .f32⟩ : BufTy).Contents (Elt F) → (⟨S1x32x2048x128, .f32⟩ : BufTy).Contents (Elt F) → (⟨S32x128x1x2048, .f32⟩ : BufTy).Contents (Elt F)),
    StableHlo.unary main_v74 main_v75 ((transpose S1x32x2048x128 [2, 0, 3, 1] · transposes_S32x128x1x2048_S1x32x2048x128_2_0_3_1) : (⟨S32x128x1x2048, .f32⟩ : BufTy).Contents (Elt F) → (⟨S1x32x2048x128, .f32⟩ : BufTy).Contents (Elt F)),
    StableHlo.unary main_arg6 main_v76 (broadcastInDim S1x32x2048x128 ![0, 1, 2, 3] bcast_S1x32x1x128_S1x32x2048x128_0_1_2_3 : (⟨S1x32x1x128, .f32⟩ : BufTy).Contents (Elt F) → (⟨S1x32x2048x128, .f32⟩ : BufTy).Contents (Elt F)),
    StableHlo.binary main_v75 main_v76 main_v77 (addf : (⟨S1x32x2048x128, .f32⟩ : BufTy).Contents (Elt F) → (⟨S1x32x2048x128, .f32⟩ : BufTy).Contents (Elt F) → (⟨S1x32x2048x128, .f32⟩ : BufTy).Contents (Elt F)),
    StableHlo.unary main_v72 main_v78 (Host.sign : (⟨S1x32x2048x128, .f32⟩ : BufTy).Contents (Elt F) → (⟨S1x32x2048x128, .f32⟩ : BufTy).Contents (Elt F)),
    StableHlo.unary main_v77 main_v79 (Host.sign : (⟨S1x32x2048x128, .f32⟩ : BufTy).Contents (Elt F) → (⟨S1x32x2048x128, .f32⟩ : BufTy).Contents (Elt F)) ]

/-- The buffers they write. -/
abbrev outsHash : List (Ref sig .tc) := [main_cst_7, main_v68, main_v69, main_v70, main_v71, main_v72, main_cst_8, main_v73, main_v74, main_v75, main_v76, main_v77, main_v78, main_v79]

/-- The operations of this stage write only the buffers listed. -/
theorem opsHash_writes : (opsHash : List (HloOp τ sig (Elt F))).Forall fun op => op.writes ⊆ (outsHash.map (Proc.devRef (τ := τ) .tc)).toFinset :=
  StableHlo.forall_writes_sub_of_map rfl

/-- The operations of the draft scores under the causal mask. -/
abbrev opsDraft : List (HloOp τ sig (Elt F)) :=
  [ StableHlo.binary main_v78 main_v79 main_v80 ((fun l r => Host.dotGeneral dot_S1x32x2048x128_S1x32x2048x128_S1x32x2048x2048_3_3_2_2_01_01 none l r) : (⟨S1x32x2048x128, .f32⟩ : BufTy).Contents (Elt F) → (⟨S1x32x2048x128, .f32⟩ : BufTy).Contents (Elt F) → (⟨S1x32x2048x2048, .f32⟩ : BufTy).Contents (Elt F)),
    StableHlo.nullary main_cst_9 (constant S_ .f32 0xFF800000#32),
    StableHlo.unary main_cst_9 main_v81 (broadcastInDim S2048x2048 ![] bcast_S_S2048x2048 : (⟨S_, .f32⟩ : BufTy).Contents (Elt F) → (⟨S2048x2048, .f32⟩ : BufTy).Contents (Elt F)),
    StableHlo.TRef.nullary (.of main_call0_v0) (iotaInDim S2048x2048 32 0),
    StableHlo.TRef.nullary (.of main_call0_c) (constantI S_ 32 0#32),
    StableHlo.TRef.unary (.of main_call0_c) (.of main_call0_v1) (broadcastInDim S2048x2048 ![] bcast_S_S2048x2048),
    StableHlo.TRef.binary (.of main_call0_v0) (.of main_call0_v1) (.of main_call0_v2) addi,
    StableHlo.TRef.nullary (.of main_call0_v3) (iotaInDim S2048x2048 32 1),
    StableHlo.TRef.binary (.of main_call0_v2) (.of main_call0_v3) (.of main_call0_v4) (cmpi .sge),
    StableHlo.TRef.nullary (.of main_call0_cst) (constant S_ .f32 0x00000000#32),
    StableHlo.TRef.unary (.of main_call0_cst) (.of main_call0_v5) (broadcastInDim S2048x2048 ![] bcast_S_S2048x2048),
    StableHlo.TRef.ternary (.of main_call0_v4) (.of main_call0_v5) (.of main_v81) (.of main_v82) select,
    StableHlo.unary main_v82 main_v83 (broadcastInDim S1x1x2048x2048 ![2, 3] bcast_S2048x2048_S1x1x2048x2048_2_3 : (⟨S2048x2048, .f32⟩ : BufTy).Contents (Elt F) → (⟨S1x1x2048x2048, .f32⟩ : BufTy).Contents (Elt F)),
    StableHlo.unary main_v83 main_v84 (broadcastInDim S1x32x2048x2048 ![0, 1, 2, 3] bcast_S1x1x2048x2048_S1x32x2048x2048_0_1_2_3 : (⟨S1x1x2048x2048, .f32⟩ : BufTy).Contents (Elt F) → (⟨S1x32x2048x2048, .f32⟩ : BufTy).Contents (Elt F)),
    StableHlo.binary main_v80 main_v84 main_v85 (addf : (⟨S1x32x2048x2048, .f32⟩ : BufTy).Contents (Elt F) → (⟨S1x32x2048x2048, .f32⟩ : BufTy).Contents (Elt F) → (⟨S1x32x2048x2048, .f32⟩ : BufTy).Contents (Elt F)) ]

/-- The buffers they write. -/
abbrev outsDraft : List (Ref sig .tc) := [main_v80, main_cst_9, main_v81, main_call0_v0, main_call0_c, main_call0_v1, main_call0_v2, main_call0_v3, main_call0_v4, main_call0_cst, main_call0_v5, main_v82, main_v83, main_v84, main_v85]

/-- The operations of this stage write only the buffers listed. -/
theorem opsDraft_writes : (opsDraft : List (HloOp τ sig (Elt F))).Forall fun op => op.writes ⊆ (outsDraft.map (Proc.devRef (τ := τ) .tc)).toFinset :=
  StableHlo.forall_writes_sub_of_map rfl

/-- The operations of the kept scores and their columns. -/
abbrev opsTop : List (HloOp τ sig (Elt F)) :=
  [ StableHlo.unary main_v85 main_values ((fun x => (Host.topK S1x32x2048x205 3 (FloatOps.cmpfTotal .gt) x sliceFits_S1x32x2048x2048_S1x32x2048x205).1) : (⟨S1x32x2048x2048, .f32⟩ : BufTy).Contents (Elt F) → (⟨S1x32x2048x205, .f32⟩ : BufTy).Contents (Elt F)),
    StableHlo.unary main_v85 main_indices ((fun x => (Host.topK S1x32x2048x205 3 (FloatOps.cmpfTotal .gt) x sliceFits_S1x32x2048x2048_S1x32x2048x205).2) : (⟨S1x32x2048x2048, .f32⟩ : BufTy).Contents (Elt F) → (⟨S1x32x2048x205, .i32⟩ : BufTy).Contents (Elt F)) ]

/-- The buffers they write. -/
abbrev outsTop : List (Ref sig .tc) := [main_values, main_indices]

/-- The operations of this stage write only the buffers listed. -/
theorem opsTop_writes : (opsTop : List (HloOp τ sig (Elt F))).Forall fun op => op.writes ⊆ (outsTop.map (Proc.devRef (τ := τ) .tc)).toFinset :=
  StableHlo.forall_writes_sub_of_map rfl

/-- The operations of the rows to scatter to. -/
abbrev opsRows : List (HloOp τ sig (Elt F)) :=
  [ StableHlo.nullary main_cst_10 (constant S_ .f32 0xFF800000#32),
    StableHlo.unary main_cst_10 main_v86 (broadcastInDim S1x32x2048x2048 ![] bcast_S_S1x32x2048x2048 : (⟨S_, .f32⟩ : BufTy).Contents (Elt F) → (⟨S1x32x2048x2048, .f32⟩ : BufTy).Contents (Elt F)),
    StableHlo.nullary main_v87 (iotaInDim S1 32 0),
    StableHlo.unary main_v87 main_v88 (broadcastInDim S1x1x1x1 ![0] bcast_S1_S1x1x1x1_0 : (⟨S1, .i32⟩ : BufTy).Contents (Elt F) → (⟨S1x1x1x1, .i32⟩ : BufTy).Contents (Elt F)),
    StableHlo.nullary main_v89 (iotaInDim S32 32 0),
    StableHlo.unary main_v89 main_v90 (broadcastInDim S1x32x1x1 ![1] bcast_S32_S1x32x1x1_1 : (⟨S32, .i32⟩ : BufTy).Contents (Elt F) → (⟨S1x32x1x1, .i32⟩ : BufTy).Contents (Elt F)),
    StableHlo.nullary main_v91 (iotaInDim S2048 32 0),
    StableHlo.unary main_v91 main_v92 (broadcastInDim S1x1x2048x1 ![2] bcast_S2048_S1x1x2048x1_2 : (⟨S2048, .i32⟩ : BufTy).Contents (Elt F) → (⟨S1x1x2048x1, .i32⟩ : BufTy).Contents (Elt F)),
    StableHlo.nullary main_c (constantI S_ 32 0#32),
    StableHlo.unary main_c main_v93 (broadcastInDim S1x1x1x1 ![] bcast_S_S1x1x1x1 : (⟨S_, .i32⟩ : BufTy).Contents (Elt F) → (⟨S1x1x1x1, .i32⟩ : BufTy).Contents (Elt F)),
    StableHlo.binary main_v88 main_v93 main_v94 (cmpi .slt : (⟨S1x1x1x1, .i32⟩ : BufTy).Contents (Elt F) → (⟨S1x1x1x1, .i32⟩ : BufTy).Contents (Elt F) → (⟨S1x1x1x1, .i1⟩ : BufTy).Contents (Elt F)),
    StableHlo.nullary main_c_11 (constantI S_ 32 1#32),
    StableHlo.unary main_c_11 main_v95 (broadcastInDim S1x1x1x1 ![] bcast_S_S1x1x1x1 : (⟨S_, .i32⟩ : BufTy).Contents (Elt F) → (⟨S1x1x1x1, .i32⟩ : BufTy).Contents (Elt F)),
    StableHlo.binary main_v88 main_v95 main_v96 (addi : (⟨S1x1x1x1, .i32⟩ : BufTy).Contents (Elt F) → (⟨S1x1x1x1, .i32⟩ : BufTy).Contents (Elt F) → (⟨S1x1x1x1, .i32⟩ : BufTy).Contents (Elt F)),
    StableHlo.ternary main_v94 main_v96 main_v88 main_v97 (select : (⟨S1x1x1x1, .i1⟩ : BufTy).Contents (Elt F) → (⟨S1x1x1x1, .i32⟩ : BufTy).Contents (Elt F) → (⟨S1x1x1x1, .i32⟩ : BufTy).Contents (Elt F) → (⟨S1x1x1x1, .i32⟩ : BufTy).Contents (Elt F)),
    StableHlo.nullary main_c_12 (constantI S_ 32 0#32),
    StableHlo.unary main_c_12 main_v98 (broadcastInDim S1x32x1x1 ![] bcast_S_S1x32x1x1 : (⟨S_, .i32⟩ : BufTy).Contents (Elt F) → (⟨S1x32x1x1, .i32⟩ : BufTy).Contents (Elt F)),
    StableHlo.binary main_v90 main_v98 main_v99 (cmpi .slt : (⟨S1x32x1x1, .i32⟩ : BufTy).Contents (Elt F) → (⟨S1x32x1x1, .i32⟩ : BufTy).Contents (Elt F) → (⟨S1x32x1x1, .i1⟩ : BufTy).Contents (Elt F)),
    StableHlo.nullary main_c_13 (constantI S_ 32 32#32),
    StableHlo.unary main_c_13 main_v100 (broadcastInDim S1x32x1x1 ![] bcast_S_S1x32x1x1 : (⟨S_, .i32⟩ : BufTy).Contents (Elt F) → (⟨S1x32x1x1, .i32⟩ : BufTy).Contents (Elt F)),
    StableHlo.binary main_v90 main_v100 main_v101 (addi : (⟨S1x32x1x1, .i32⟩ : BufTy).Contents (Elt F) → (⟨S1x32x1x1, .i32⟩ : BufTy).Contents (Elt F) → (⟨S1x32x1x1, .i32⟩ : BufTy).Contents (Elt F)),
    StableHlo.ternary main_v99 main_v101 main_v90 main_v102 (select : (⟨S1x32x1x1, .i1⟩ : BufTy).Contents (Elt F) → (⟨S1x32x1x1, .i32⟩ : BufTy).Contents (Elt F) → (⟨S1x32x1x1, .i32⟩ : BufTy).Contents (Elt F) → (⟨S1x32x1x1, .i32⟩ : BufTy).Contents (Elt F)),
    StableHlo.nullary main_c_14 (constantI S_ 32 0#32),
    StableHlo.unary main_c_14 main_v103 (broadcastInDim S1x1x2048x1 ![] bcast_S_S1x1x2048x1 : (⟨S_, .i32⟩ : BufTy).Contents (Elt F) → (⟨S1x1x2048x1, .i32⟩ : BufTy).Contents (Elt F)),
    StableHlo.binary main_v92 main_v103 main_v104 (cmpi .slt : (⟨S1x1x2048x1, .i32⟩ : BufTy).Contents (Elt F) → (⟨S1x1x2048x1, .i32⟩ : BufTy).Contents (Elt F) → (⟨S1x1x2048x1, .i1⟩ : BufTy).Contents (Elt F)),
    StableHlo.nullary main_c_15 (constantI S_ 32 2048#32),
    StableHlo.unary main_c_15 main_v105 (broadcastInDim S1x1x2048x1 ![] bcast_S_S1x1x2048x1 : (⟨S_, .i32⟩ : BufTy).Contents (Elt F) → (⟨S1x1x2048x1, .i32⟩ : BufTy).Contents (Elt F)),
    StableHlo.binary main_v92 main_v105 main_v106 (addi : (⟨S1x1x2048x1, .i32⟩ : BufTy).Contents (Elt F) → (⟨S1x1x2048x1, .i32⟩ : BufTy).Contents (Elt F) → (⟨S1x1x2048x1, .i32⟩ : BufTy).Contents (Elt F)),
    StableHlo.ternary main_v104 main_v106 main_v92 main_v107 (select : (⟨S1x1x2048x1, .i1⟩ : BufTy).Contents (Elt F) → (⟨S1x1x2048x1, .i32⟩ : BufTy).Contents (Elt F) → (⟨S1x1x2048x1, .i32⟩ : BufTy).Contents (Elt F) → (⟨S1x1x2048x1, .i32⟩ : BufTy).Contents (Elt F)),
    StableHlo.nullary main_c_16 (constantI S_ 32 0#32),
    StableHlo.unary main_c_16 main_v108 (broadcastInDim S1x32x2048x205 ![] bcast_S_S1x32x2048x205 : (⟨S_, .i32⟩ : BufTy).Contents (Elt F) → (⟨S1x32x2048x205, .i32⟩ : BufTy).Contents (Elt F)),
    StableHlo.binary main_indices main_v108 main_v109 (cmpi .slt : (⟨S1x32x2048x205, .i32⟩ : BufTy).Contents (Elt F) → (⟨S1x32x2048x205, .i32⟩ : BufTy).Contents (Elt F) → (⟨S1x32x2048x205, .i1⟩ : BufTy).Contents (Elt F)),
    StableHlo.nullary main_c_17 (constantI S_ 32 2048#32),
    StableHlo.unary main_c_17 main_v110 (broadcastInDim S1x32x2048x205 ![] bcast_S_S1x32x2048x205 : (⟨S_, .i32⟩ : BufTy).Contents (Elt F) → (⟨S1x32x2048x205, .i32⟩ : BufTy).Contents (Elt F)),
    StableHlo.binary main_indices main_v110 main_v111 (addi : (⟨S1x32x2048x205, .i32⟩ : BufTy).Contents (Elt F) → (⟨S1x32x2048x205, .i32⟩ : BufTy).Contents (Elt F) → (⟨S1x32x2048x205, .i32⟩ : BufTy).Contents (Elt F)),
    StableHlo.ternary main_v109 main_v111 main_indices main_v112 (select : (⟨S1x32x2048x205, .i1⟩ : BufTy).Contents (Elt F) → (⟨S1x32x2048x205, .i32⟩ : BufTy).Contents (Elt F) → (⟨S1x32x2048x205, .i32⟩ : BufTy).Contents (Elt F) → (⟨S1x32x2048x205, .i32⟩ : BufTy).Contents (Elt F)),
    StableHlo.unary main_v97 main_v113 (broadcastInDim S1x32x2048x205 ![0, 1, 2, 3] bcast_S1x1x1x1_S1x32x2048x205_0_1_2_3 : (⟨S1x1x1x1, .i32⟩ : BufTy).Contents (Elt F) → (⟨S1x32x2048x205, .i32⟩ : BufTy).Contents (Elt F)),
    StableHlo.unary main_v102 main_v114 (broadcastInDim S1x32x2048x205 ![0, 1, 2, 3] bcast_S1x32x1x1_S1x32x2048x205_0_1_2_3 : (⟨S1x32x1x1, .i32⟩ : BufTy).Contents (Elt F) → (⟨S1x32x2048x205, .i32⟩ : BufTy).Contents (Elt F)),
    StableHlo.unary main_v107 main_v115 (broadcastInDim S1x32x2048x205 ![0, 1, 2, 3] bcast_S1x1x2048x1_S1x32x2048x205_0_1_2_3 : (⟨S1x1x2048x1, .i32⟩ : BufTy).Contents (Elt F) → (⟨S1x32x2048x205, .i32⟩ : BufTy).Contents (Elt F)),
    StableHlo.unary main_v113 main_v116 (broadcastInDim S1x32x2048x205x1 ![0, 1, 2, 3] bcast_S1x32x2048x205_S1x32x2048x205x1_0_1_2_3 : (⟨S1x32x2048x205, .i32⟩ : BufTy).Contents (Elt F) → (⟨S1x32x2048x205x1, .i32⟩ : BufTy).Contents (Elt F)),
    StableHlo.unary main_v114 main_v117 (broadcastInDim S1x32x2048x205x1 ![0, 1, 2, 3] bcast_S1x32x2048x205_S1x32x2048x205x1_0_1_2_3 : (⟨S1x32x2048x205, .i32⟩ : BufTy).Contents (Elt F) → (⟨S1x32x2048x205x1, .i32⟩ : BufTy).Contents (Elt F)),
    StableHlo.unary main_v115 main_v118 (broadcastInDim S1x32x2048x205x1 ![0, 1, 2, 3] bcast_S1x32x2048x205_S1x32x2048x205x1_0_1_2_3 : (⟨S1x32x2048x205, .i32⟩ : BufTy).Contents (Elt F) → (⟨S1x32x2048x205x1, .i32⟩ : BufTy).Contents (Elt F)),
    StableHlo.unary main_v112 main_v119 (broadcastInDim S1x32x2048x205x1 ![0, 1, 2, 3] bcast_S1x32x2048x205_S1x32x2048x205x1_0_1_2_3 : (⟨S1x32x2048x205, .i32⟩ : BufTy).Contents (Elt F) → (⟨S1x32x2048x205x1, .i32⟩ : BufTy).Contents (Elt F)),
    StableHlo.nary ![main_v116, main_v117, main_v118, main_v119] main_v120 (fun u => (concatenate S1x32x2048x205x4 4 [⟨S1x32x2048x205x1, (u 0 : (⟨S1x32x2048x205x1, .i32⟩ : BufTy).Contents (Elt F))⟩, ⟨S1x32x2048x205x1, (u 1 : (⟨S1x32x2048x205x1, .i32⟩ : BufTy).Contents (Elt F))⟩, ⟨S1x32x2048x205x1, (u 2 : (⟨S1x32x2048x205x1, .i32⟩ : BufTy).Contents (Elt F))⟩, ⟨S1x32x2048x205x1, (u 3 : (⟨S1x32x2048x205x1, .i32⟩ : BufTy).Contents (Elt F))⟩] concatenates_S1x32x2048x205x1_S1x32x2048x205x1_S1x32x2048x205x1_S1x32x2048x205x1_S1x32x2048x205x4_d4 : (⟨S1x32x2048x205x4, .i32⟩ : BufTy).Contents (Elt F))) ]

/-- The buffers they write. -/
abbrev outsRows : List (Ref sig .tc) := [main_cst_10, main_v86, main_v87, main_v88, main_v89, main_v90, main_v91, main_v92, main_c, main_v93, main_v94, main_c_11, main_v95, main_v96, main_v97, main_c_12, main_v98, main_v99, main_c_13, main_v100, main_v101, main_v102, main_c_14, main_v103, main_v104, main_c_15, main_v105, main_v106, main_v107, main_c_16, main_v108, main_v109, main_c_17, main_v110, main_v111, main_v112, main_v113, main_v114, main_v115, main_v116, main_v117, main_v118, main_v119, main_v120]

/-- The operations of this stage write only the buffers listed. -/
theorem opsRows_writes : (opsRows : List (HloOp τ sig (Elt F))).Forall fun op => op.writes ⊆ (outsRows.map (Proc.devRef (τ := τ) .tc)).toFinset :=
  StableHlo.forall_writes_sub_of_map rfl

/-- The operations of the mask of the kept columns. -/
abbrev opsKeep : List (HloOp τ sig (Elt F)) :=
  [ StableHlo.nullary main_cst_18 (constant S_ .f32 0x00000000#32),
    StableHlo.unary main_cst_18 main_v121 (broadcastInDim S1x32x2048x205 ![] bcast_S_S1x32x2048x205 : (⟨S_, .f32⟩ : BufTy).Contents (Elt F) → (⟨S1x32x2048x205, .f32⟩ : BufTy).Contents (Elt F)),
    StableHlo.ternary main_v86 main_v120 main_v121 main_v122 ((fun x i u => Host.scatter scatter_S1x32x2048x2048_S1x32x2048x205x4_S1x32x2048x205_n_0123_0123_4 (fun _ b => b) x i u) : (⟨S1x32x2048x2048, .f32⟩ : BufTy).Contents (Elt F) → (⟨S1x32x2048x205x4, .i32⟩ : BufTy).Contents (Elt F) → (⟨S1x32x2048x205, .f32⟩ : BufTy).Contents (Elt F) → (⟨S1x32x2048x2048, .f32⟩ : BufTy).Contents (Elt F)) ]

/-- The buffers they write. -/
abbrev outsKeep : List (Ref sig .tc) := [main_cst_18, main_v121, main_v122]

/-- The operations of this stage write only the buffers listed. -/
theorem opsKeep_writes : (opsKeep : List (HloOp τ sig (Elt F))).Forall fun op => op.writes ⊆ (outsKeep.map (Proc.devRef (τ := τ) .tc)).toFinset :=
  StableHlo.forall_writes_sub_of_map rfl

/-- The operations of the masked scores. -/
abbrev opsScore : List (HloOp τ sig (Elt F)) :=
  [ StableHlo.binary main_v56 main_v67 main_v123 ((fun l r => Host.dotGeneral dot_S1x32x2048x128_S1x32x2048x128_S1x32x2048x2048_3_3_2_2_01_01 none l r) : (⟨S1x32x2048x128, .f32⟩ : BufTy).Contents (Elt F) → (⟨S1x32x2048x128, .f32⟩ : BufTy).Contents (Elt F) → (⟨S1x32x2048x2048, .f32⟩ : BufTy).Contents (Elt F)),
    StableHlo.nullary main_cst_19 (constant S_ .f32 0x43000000#32),
    StableHlo.unary main_cst_19 main_v124 (Host.sqrt : (⟨S_, .f32⟩ : BufTy).Contents (Elt F) → (⟨S_, .f32⟩ : BufTy).Contents (Elt F)),
    StableHlo.unary main_v124 main_v125 (broadcastInDim S1x32x2048x2048 ![] bcast_S_S1x32x2048x2048 : (⟨S_, .f32⟩ : BufTy).Contents (Elt F) → (⟨S1x32x2048x2048, .f32⟩ : BufTy).Contents (Elt F)),
    StableHlo.binary main_v123 main_v125 main_v126 (Host.divf : (⟨S1x32x2048x2048, .f32⟩ : BufTy).Contents (Elt F) → (⟨S1x32x2048x2048, .f32⟩ : BufTy).Contents (Elt F) → (⟨S1x32x2048x2048, .f32⟩ : BufTy).Contents (Elt F)),
    StableHlo.unary main_v83 main_v127 (broadcastInDim S1x32x2048x2048 ![0, 1, 2, 3] bcast_S1x1x2048x2048_S1x32x2048x2048_0_1_2_3 : (⟨S1x1x2048x2048, .f32⟩ : BufTy).Contents (Elt F) → (⟨S1x32x2048x2048, .f32⟩ : BufTy).Contents (Elt F)),
    StableHlo.binary main_v126 main_v127 main_v128 (addf : (⟨S1x32x2048x2048, .f32⟩ : BufTy).Contents (Elt F) → (⟨S1x32x2048x2048, .f32⟩ : BufTy).Contents (Elt F) → (⟨S1x32x2048x2048, .f32⟩ : BufTy).Contents (Elt F)),
    StableHlo.binary main_v128 main_v122 main_v129 (addf : (⟨S1x32x2048x2048, .f32⟩ : BufTy).Contents (Elt F) → (⟨S1x32x2048x2048, .f32⟩ : BufTy).Contents (Elt F) → (⟨S1x32x2048x2048, .f32⟩ : BufTy).Contents (Elt F)) ]

/-- The buffers they write. -/
abbrev outsScore : List (Ref sig .tc) := [main_v123, main_cst_19, main_v124, main_v125, main_v126, main_v127, main_v128, main_v129]

/-- The operations of this stage write only the buffers listed. -/
theorem opsScore_writes : (opsScore : List (HloOp τ sig (Elt F))).Forall fun op => op.writes ⊆ (outsScore.map (Proc.devRef (τ := τ) .tc)).toFinset :=
  StableHlo.forall_writes_sub_of_map rfl

/-- The operations of the weights. -/
abbrev opsSoft : List (HloOp τ sig (Elt F)) :=
  [ StableHlo.nullary main_cst_20 (constant S_ .f32 0xFF800000#32),
    StableHlo.binary main_v129 main_cst_20 main_v130 ((fun x v => Host.reduce FloatOps.maximumf x v reducesTo_S1x32x2048x2048_S1x32x2048_d3 h_S_) : (⟨S1x32x2048x2048, .f32⟩ : BufTy).Contents (Elt F) → (⟨S_, .f32⟩ : BufTy).Contents (Elt F) → (⟨S1x32x2048, .f32⟩ : BufTy).Contents (Elt F)),
    StableHlo.nullary main_cst_21 (constant S_ .f32 0xFF800000#32),
    StableHlo.unary main_cst_21 main_v131 (broadcastInDim S1x32x2048 ![] bcast_S_S1x32x2048 : (⟨S_, .f32⟩ : BufTy).Contents (Elt F) → (⟨S1x32x2048, .f32⟩ : BufTy).Contents (Elt F)),
    StableHlo.binary main_v131 main_v130 main_v132 (maximumf : (⟨S1x32x2048, .f32⟩ : BufTy).Contents (Elt F) → (⟨S1x32x2048, .f32⟩ : BufTy).Contents (Elt F) → (⟨S1x32x2048, .f32⟩ : BufTy).Contents (Elt F)),
    StableHlo.unary main_v132 main_v133 (broadcastInDim S1x32x2048x1 ![0, 1, 2] bcast_S1x32x2048_S1x32x2048x1_0_1_2 : (⟨S1x32x2048, .f32⟩ : BufTy).Contents (Elt F) → (⟨S1x32x2048x1, .f32⟩ : BufTy).Contents (Elt F)),
    StableHlo.unary main_v133 main_v134 (broadcastInDim S1x32x2048x2048 ![0, 1, 2, 3] bcast_S1x32x2048x1_S1x32x2048x2048_0_1_2_3 : (⟨S1x32x2048x1, .f32⟩ : BufTy).Contents (Elt F) → (⟨S1x32x2048x2048, .f32⟩ : BufTy).Contents (Elt F)),
    StableHlo.binary main_v129 main_v134 main_v135 (subf : (⟨S1x32x2048x2048, .f32⟩ : BufTy).Contents (Elt F) → (⟨S1x32x2048x2048, .f32⟩ : BufTy).Contents (Elt F) → (⟨S1x32x2048x2048, .f32⟩ : BufTy).Contents (Elt F)),
    StableHlo.unary main_v135 main_v136 (Host.exp : (⟨S1x32x2048x2048, .f32⟩ : BufTy).Contents (Elt F) → (⟨S1x32x2048x2048, .f32⟩ : BufTy).Contents (Elt F)),
    StableHlo.nullary main_cst_22 (constant S_ .f32 0x00000000#32),
    StableHlo.binary main_v136 main_cst_22 main_v137 ((fun x v => Host.reduceAdd x v reducesTo_S1x32x2048x2048_S1x32x2048_d3 h_S_) : (⟨S1x32x2048x2048, .f32⟩ : BufTy).Contents (Elt F) → (⟨S_, .f32⟩ : BufTy).Contents (Elt F) → (⟨S1x32x2048, .f32⟩ : BufTy).Contents (Elt F)),
    StableHlo.unary main_v137 main_v138 (broadcastInDim S1x32x2048x1 ![0, 1, 2] bcast_S1x32x2048_S1x32x2048x1_0_1_2 : (⟨S1x32x2048, .f32⟩ : BufTy).Contents (Elt F) → (⟨S1x32x2048x1, .f32⟩ : BufTy).Contents (Elt F)),
    StableHlo.unary main_v138 main_v139 (broadcastInDim S1x32x2048x2048 ![0, 1, 2, 3] bcast_S1x32x2048x1_S1x32x2048x2048_0_1_2_3 : (⟨S1x32x2048x1, .f32⟩ : BufTy).Contents (Elt F) → (⟨S1x32x2048x2048, .f32⟩ : BufTy).Contents (Elt F)),
    StableHlo.binary main_v136 main_v139 main_v140 (Host.divf : (⟨S1x32x2048x2048, .f32⟩ : BufTy).Contents (Elt F) → (⟨S1x32x2048x2048, .f32⟩ : BufTy).Contents (Elt F) → (⟨S1x32x2048x2048, .f32⟩ : BufTy).Contents (Elt F)) ]

/-- The buffers they write. -/
abbrev outsSoft : List (Ref sig .tc) := [main_cst_20, main_v130, main_cst_21, main_v131, main_v132, main_v133, main_v134, main_v135, main_v136, main_cst_22, main_v137, main_v138, main_v139, main_v140]

/-- The operations of this stage write only the buffers listed. -/
theorem opsSoft_writes : (opsSoft : List (HloOp τ sig (Elt F))).Forall fun op => op.writes ⊆ (outsSoft.map (Proc.devRef (τ := τ) .tc)).toFinset :=
  StableHlo.forall_writes_sub_of_map rfl

/-- The operations of the weighted values, heads joined. -/
abbrev opsHeads : List (HloOp τ sig (Elt F)) :=
  [ StableHlo.binary main_v140 main_v25 main_v141 ((fun l r => Host.dotGeneral dot_S1x32x2048x2048_S1x32x2048x128_S1x32x2048x128_3_2_2_3_01_01 none l r) : (⟨S1x32x2048x2048, .f32⟩ : BufTy).Contents (Elt F) → (⟨S1x32x2048x128, .f32⟩ : BufTy).Contents (Elt F) → (⟨S1x32x2048x128, .f32⟩ : BufTy).Contents (Elt F)),
    StableHlo.unary main_v141 main_v142 ((transpose S1x2048x32x128 [0, 2, 1, 3] · transposes_S1x32x2048x128_S1x2048x32x128_0_2_1_3) : (⟨S1x32x2048x128, .f32⟩ : BufTy).Contents (Elt F) → (⟨S1x2048x32x128, .f32⟩ : BufTy).Contents (Elt F)),
    StableHlo.reshape main_v142 main_v143 (rfl : (.f32 : EltTy) = .f32) shapeCasts_S1x2048x32x128_S1x2048x4096 ]

/-- The buffers they write. -/
abbrev outsHeads : List (Ref sig .tc) := [main_v141, main_v142, main_v143]

/-- The operations of this stage write only the buffers listed. -/
theorem opsHeads_writes : (opsHeads : List (HloOp τ sig (Elt F))).Forall fun op => op.writes ⊆ (outsHeads.map (Proc.devRef (τ := τ) .tc)).toFinset :=
  StableHlo.forall_writes_sub_of_map rfl

/-- The operations of the output projection and the first residual. -/
abbrev opsResid : List (HloOp τ sig (Elt F)) :=
  [ StableHlo.binary main_v143 main_arg4 main_v144 ((fun l r => Host.dotGeneral dot_S1x2048x4096_S4096x4096_S1x2048x4096_2_0_01_1_n_n none l r) : (⟨S1x2048x4096, .f32⟩ : BufTy).Contents (Elt F) → (⟨S4096x4096, .f32⟩ : BufTy).Contents (Elt F) → (⟨S1x2048x4096, .f32⟩ : BufTy).Contents (Elt F)),
    StableHlo.binary main_arg0 main_v144 main_v145 (addf : (⟨S1x2048x4096, .f32⟩ : BufTy).Contents (Elt F) → (⟨S1x2048x4096, .f32⟩ : BufTy).Contents (Elt F) → (⟨S1x2048x4096, .f32⟩ : BufTy).Contents (Elt F)) ]

/-- The buffers they write. -/
abbrev outsResid : List (Ref sig .tc) := [main_v144, main_v145]

/-- The operations of this stage write only the buffers listed. -/
theorem opsResid_writes : (opsResid : List (HloOp τ sig (Elt F))).Forall fun op => op.writes ⊆ (outsResid.map (Proc.devRef (τ := τ) .tc)).toFinset :=
  StableHlo.forall_writes_sub_of_map rfl

/-- The operations of the second normalisation. -/
abbrev opsNorm2 : List (HloOp τ sig (Elt F)) :=
  [ StableHlo.binary main_v145 main_v145 main_v146 (mulf : (⟨S1x2048x4096, .f32⟩ : BufTy).Contents (Elt F) → (⟨S1x2048x4096, .f32⟩ : BufTy).Contents (Elt F) → (⟨S1x2048x4096, .f32⟩ : BufTy).Contents (Elt F)),
    StableHlo.nullary main_cst_23 (constant S_ .f32 0x00000000#32),
    StableHlo.binary main_v146 main_cst_23 main_v147 ((fun x v => Host.reduceAdd x v reducesTo_S1x2048x4096_S1x2048_d2 h_S_) : (⟨S1x2048x4096, .f32⟩ : BufTy).Contents (Elt F) → (⟨S_, .f32⟩ : BufTy).Contents (Elt F) → (⟨S1x2048, .f32⟩ : BufTy).Contents (Elt F)),
    StableHlo.unary main_v147 main_v148 (broadcastInDim S1x2048x1 ![0, 1] bcast_S1x2048_S1x2048x1_0_1 : (⟨S1x2048, .f32⟩ : BufTy).Contents (Elt F) → (⟨S1x2048x1, .f32⟩ : BufTy).Contents (Elt F)),
    StableHlo.nullary main_cst_24 (constant S_ .f32 0x45800000#32),
    StableHlo.unary main_cst_24 main_v149 (broadcastInDim S1x2048x1 ![] bcast_S_S1x2048x1 : (⟨S_, .f32⟩ : BufTy).Contents (Elt F) → (⟨S1x2048x1, .f32⟩ : BufTy).Contents (Elt F)),
    StableHlo.binary main_v148 main_v149 main_v150 (Host.divf : (⟨S1x2048x1, .f32⟩ : BufTy).Contents (Elt F) → (⟨S1x2048x1, .f32⟩ : BufTy).Contents (Elt F) → (⟨S1x2048x1, .f32⟩ : BufTy).Contents (Elt F)),
    StableHlo.nullary main_cst_25 (constant S_ .f32 0x358637BD#32),
    StableHlo.unary main_cst_25 main_v151 (broadcastInDim S1x2048x1 ![] bcast_S_S1x2048x1 : (⟨S_, .f32⟩ : BufTy).Contents (Elt F) → (⟨S1x2048x1, .f32⟩ : BufTy).Contents (Elt F)),
    StableHlo.binary main_v150 main_v151 main_v152 (addf : (⟨S1x2048x1, .f32⟩ : BufTy).Contents (Elt F) → (⟨S1x2048x1, .f32⟩ : BufTy).Contents (Elt F) → (⟨S1x2048x1, .f32⟩ : BufTy).Contents (Elt F)),
    StableHlo.unary main_v152 main_v153 (Host.rsqrt : (⟨S1x2048x1, .f32⟩ : BufTy).Contents (Elt F) → (⟨S1x2048x1, .f32⟩ : BufTy).Contents (Elt F)),
    StableHlo.unary main_v153 main_v154 (broadcastInDim S1x2048x4096 ![0, 1, 2] bcast_S1x2048x1_S1x2048x4096_0_1_2 : (⟨S1x2048x1, .f32⟩ : BufTy).Contents (Elt F) → (⟨S1x2048x4096, .f32⟩ : BufTy).Contents (Elt F)),
    StableHlo.binary main_v145 main_v154 main_v155 (mulf : (⟨S1x2048x4096, .f32⟩ : BufTy).Contents (Elt F) → (⟨S1x2048x4096, .f32⟩ : BufTy).Contents (Elt F) → (⟨S1x2048x4096, .f32⟩ : BufTy).Contents (Elt F)),
    StableHlo.unary main_arg8 main_v156 (broadcastInDim S1x1x4096 ![2] bcast_S4096_S1x1x4096_2 : (⟨S4096, .f32⟩ : BufTy).Contents (Elt F) → (⟨S1x1x4096, .f32⟩ : BufTy).Contents (Elt F)),
    StableHlo.unary main_v156 main_v157 (broadcastInDim S1x2048x4096 ![0, 1, 2] bcast_S1x1x4096_S1x2048x4096_0_1_2 : (⟨S1x1x4096, .f32⟩ : BufTy).Contents (Elt F) → (⟨S1x2048x4096, .f32⟩ : BufTy).Contents (Elt F)),
    StableHlo.binary main_v155 main_v157 main_v158 (mulf : (⟨S1x2048x4096, .f32⟩ : BufTy).Contents (Elt F) → (⟨S1x2048x4096, .f32⟩ : BufTy).Contents (Elt F) → (⟨S1x2048x4096, .f32⟩ : BufTy).Contents (Elt F)) ]

/-- The buffers they write. -/
abbrev outsNorm2 : List (Ref sig .tc) := [main_v146, main_cst_23, main_v147, main_v148, main_cst_24, main_v149, main_v150, main_cst_25, main_v151, main_v152, main_v153, main_v154, main_v155, main_v156, main_v157, main_v158]

/-- The operations of this stage write only the buffers listed. -/
theorem opsNorm2_writes : (opsNorm2 : List (HloOp τ sig (Elt F))).Forall fun op => op.writes ⊆ (outsNorm2.map (Proc.devRef (τ := τ) .tc)).toFinset :=
  StableHlo.forall_writes_sub_of_map rfl

/-- The operations of the gated feed-forward block and the second residual. -/
abbrev opsMlp : List (HloOp τ sig (Elt F)) :=
  [ StableHlo.binary main_v158 main_arg9 main_v159 ((fun l r => Host.dotGeneral dot_S1x2048x4096_S4096x11008_S1x2048x11008_2_0_01_1_n_n none l r) : (⟨S1x2048x4096, .f32⟩ : BufTy).Contents (Elt F) → (⟨S4096x11008, .f32⟩ : BufTy).Contents (Elt F) → (⟨S1x2048x11008, .f32⟩ : BufTy).Contents (Elt F)),
    StableHlo.TRef.unary (.of main_v159) (.of main_call1_v0) Host.negf,
    StableHlo.TRef.unary (.of main_call1_v0) (.of main_call1_v1) Host.exp,
    StableHlo.TRef.nullary (.of main_call1_cst) (constant S_ .f32 0x3F800000#32),
    StableHlo.TRef.unary (.of main_call1_cst) (.of main_call1_v2) (broadcastInDim S1x2048x11008 ![] bcast_S_S1x2048x11008),
    StableHlo.TRef.binary (.of main_call1_v2) (.of main_call1_v1) (.of main_call1_v3) addf,
    StableHlo.TRef.nullary (.of main_call1_cst_0) (constant S_ .f32 0x3F800000#32),
    StableHlo.TRef.unary (.of main_call1_cst_0) (.of main_call1_v4) (broadcastInDim S1x2048x11008 ![] bcast_S_S1x2048x11008),
    StableHlo.TRef.binary (.of main_call1_v4) (.of main_call1_v3) (.of main_call1_v5) Host.divf,
    StableHlo.TRef.binary (.of main_v159) (.of main_call1_v5) (.of main_v160) mulf,
    StableHlo.binary main_v158 main_arg10 main_v161 ((fun l r => Host.dotGeneral dot_S1x2048x4096_S4096x11008_S1x2048x11008_2_0_01_1_n_n none l r) : (⟨S1x2048x4096, .f32⟩ : BufTy).Contents (Elt F) → (⟨S4096x11008, .f32⟩ : BufTy).Contents (Elt F) → (⟨S1x2048x11008, .f32⟩ : BufTy).Contents (Elt F)),
    StableHlo.binary main_v160 main_v161 main_v162 (mulf : (⟨S1x2048x11008, .f32⟩ : BufTy).Contents (Elt F) → (⟨S1x2048x11008, .f32⟩ : BufTy).Contents (Elt F) → (⟨S1x2048x11008, .f32⟩ : BufTy).Contents (Elt F)),
    StableHlo.binary main_v162 main_arg11 main_v163 ((fun l r => Host.dotGeneral dot_S1x2048x11008_S11008x4096_S1x2048x4096_2_0_01_1_n_n none l r) : (⟨S1x2048x11008, .f32⟩ : BufTy).Contents (Elt F) → (⟨S11008x4096, .f32⟩ : BufTy).Contents (Elt F) → (⟨S1x2048x4096, .f32⟩ : BufTy).Contents (Elt F)),
    StableHlo.binary main_v145 main_v163 main_v164 (addf : (⟨S1x2048x4096, .f32⟩ : BufTy).Contents (Elt F) → (⟨S1x2048x4096, .f32⟩ : BufTy).Contents (Elt F) → (⟨S1x2048x4096, .f32⟩ : BufTy).Contents (Elt F)) ]

/-- The buffers they write. -/
abbrev outsMlp : List (Ref sig .tc) := [main_v159, main_call1_v0, main_call1_v1, main_call1_cst, main_call1_v2, main_call1_v3, main_call1_cst_0, main_call1_v4, main_call1_v5, main_v160, main_v161, main_v162, main_v163, main_v164]

/-- The operations of this stage write only the buffers listed. -/
theorem opsMlp_writes : (opsMlp : List (HloOp τ sig (Elt F))).Forall fun op => op.writes ⊆ (outsMlp.map (Proc.devRef (τ := τ) .tc)).toFinset :=
  StableHlo.forall_writes_sub_of_map rfl

/-- All of them, in order. -/
abbrev ops : List (HloOp τ sig (Elt F)) :=
  opsNorm ++ (opsProj ++ (opsAngles ++ (opsRope ++ (opsHash ++ (opsDraft ++ (opsTop ++ (opsRows ++ (opsKeep ++ (opsScore ++ (opsSoft ++ (opsHeads ++ (opsResid ++ (opsNorm2 ++ (opsMlp))))))))))))))

variable (m : (ℓ : Loc nD τ sig) → Buf (Elt F) ℓ) (c : Dev nD)

/-- The contents once the first normalisation is reached. -/
def atNorm : Valuation τ sig (Elt F) := StableHlo.after opsNorm (StableHlo.launchContents m c)
/-- A buffer that this stage does not write is as it was before it. -/
theorem atNorm_of (b : Ref sig .tc) (h : b ∉ outsNorm) : atNorm m c (Proc.devRef .tc b) = (StableHlo.launchContents m c) (Proc.devRef .tc b) :=
  StableHlo.after_of_writes_sub opsNorm _ opsNorm_writes h

/-- The contents once the three projections, split into heads is reached. -/
def atProj : Valuation τ sig (Elt F) := StableHlo.after opsProj (atNorm m c)
/-- A buffer that this stage does not write is as it was before it. -/
theorem atProj_of (b : Ref sig .tc) (h : b ∉ outsProj) : atProj m c (Proc.devRef .tc b) = (atNorm m c) (Proc.devRef .tc b) :=
  StableHlo.after_of_writes_sub opsProj _ opsProj_writes h

/-- The contents once the cosines and sines of the rotation is reached. -/
def atAngles : Valuation τ sig (Elt F) := StableHlo.after opsAngles (atProj m c)
/-- A buffer that this stage does not write is as it was before it. -/
theorem atAngles_of (b : Ref sig .tc) (h : b ∉ outsAngles) : atAngles m c (Proc.devRef .tc b) = (atProj m c) (Proc.devRef .tc b) :=
  StableHlo.after_of_writes_sub opsAngles _ opsAngles_writes h

/-- The contents once the rotated queries and keys is reached. -/
def atRope : Valuation τ sig (Elt F) := StableHlo.after opsRope (atAngles m c)
/-- A buffer that this stage does not write is as it was before it. -/
theorem atRope_of (b : Ref sig .tc) (h : b ∉ outsRope) : atRope m c (Proc.devRef .tc b) = (atAngles m c) (Proc.devRef .tc b) :=
  StableHlo.after_of_writes_sub opsRope _ opsRope_writes h

/-- The contents once the signs of the hashed queries and keys is reached. -/
def atHash : Valuation τ sig (Elt F) := StableHlo.after opsHash (atRope m c)
/-- A buffer that this stage does not write is as it was before it. -/
theorem atHash_of (b : Ref sig .tc) (h : b ∉ outsHash) : atHash m c (Proc.devRef .tc b) = (atRope m c) (Proc.devRef .tc b) :=
  StableHlo.after_of_writes_sub opsHash _ opsHash_writes h

/-- The contents once the draft scores under the causal mask is reached. -/
def atDraft : Valuation τ sig (Elt F) := StableHlo.after opsDraft (atHash m c)
/-- A buffer that this stage does not write is as it was before it. -/
theorem atDraft_of (b : Ref sig .tc) (h : b ∉ outsDraft) : atDraft m c (Proc.devRef .tc b) = (atHash m c) (Proc.devRef .tc b) :=
  StableHlo.after_of_writes_sub opsDraft _ opsDraft_writes h

/-- The contents once the kept scores and their columns is reached. -/
def atTop : Valuation τ sig (Elt F) := StableHlo.after opsTop (atDraft m c)
/-- A buffer that this stage does not write is as it was before it. -/
theorem atTop_of (b : Ref sig .tc) (h : b ∉ outsTop) : atTop m c (Proc.devRef .tc b) = (atDraft m c) (Proc.devRef .tc b) :=
  StableHlo.after_of_writes_sub opsTop _ opsTop_writes h

/-- The contents once the rows to scatter to is reached. -/
def atRows : Valuation τ sig (Elt F) := StableHlo.after opsRows (atTop m c)
/-- A buffer that this stage does not write is as it was before it. -/
theorem atRows_of (b : Ref sig .tc) (h : b ∉ outsRows) : atRows m c (Proc.devRef .tc b) = (atTop m c) (Proc.devRef .tc b) :=
  StableHlo.after_of_writes_sub opsRows _ opsRows_writes h

/-- The contents once the mask of the kept columns is reached. -/
def atKeep : Valuation τ sig (Elt F) := StableHlo.after opsKeep (atRows m c)
/-- A buffer that this stage does not write is as it was before it. -/
theorem atKeep_of (b : Ref sig .tc) (h : b ∉ outsKeep) : atKeep m c (Proc.devRef .tc b) = (atRows m c) (Proc.devRef .tc b) :=
  StableHlo.after_of_writes_sub opsKeep _ opsKeep_writes h

/-- The contents once the masked scores is reached. -/
def atScore : Valuation τ sig (Elt F) := StableHlo.after opsScore (atKeep m c)
/-- A buffer that this stage does not write is as it was before it. -/
theorem atScore_of (b : Ref sig .tc) (h : b ∉ outsScore) : atScore m c (Proc.devRef .tc b) = (atKeep m c) (Proc.devRef .tc b) :=
  StableHlo.after_of_writes_sub opsScore _ opsScore_writes h

/-- The contents once the weights is reached. -/
def atSoft : Valuation τ sig (Elt F) := StableHlo.after opsSoft (atScore m c)
/-- A buffer that this stage does not write is as it was before it. -/
theorem atSoft_of (b : Ref sig .tc) (h : b ∉ outsSoft) : atSoft m c (Proc.devRef .tc b) = (atScore m c) (Proc.devRef .tc b) :=
  StableHlo.after_of_writes_sub opsSoft _ opsSoft_writes h

/-- The contents once the weighted values, heads joined is reached. -/
def atHeads : Valuation τ sig (Elt F) := StableHlo.after opsHeads (atSoft m c)
/-- A buffer that this stage does not write is as it was before it. -/
theorem atHeads_of (b : Ref sig .tc) (h : b ∉ outsHeads) : atHeads m c (Proc.devRef .tc b) = (atSoft m c) (Proc.devRef .tc b) :=
  StableHlo.after_of_writes_sub opsHeads _ opsHeads_writes h

/-- The contents once the output projection and the first residual is reached. -/
def atResid : Valuation τ sig (Elt F) := StableHlo.after opsResid (atHeads m c)
/-- A buffer that this stage does not write is as it was before it. -/
theorem atResid_of (b : Ref sig .tc) (h : b ∉ outsResid) : atResid m c (Proc.devRef .tc b) = (atHeads m c) (Proc.devRef .tc b) :=
  StableHlo.after_of_writes_sub opsResid _ opsResid_writes h

/-- The contents once the second normalisation is reached. -/
def atNorm2 : Valuation τ sig (Elt F) := StableHlo.after opsNorm2 (atResid m c)
/-- A buffer that this stage does not write is as it was before it. -/
theorem atNorm2_of (b : Ref sig .tc) (h : b ∉ outsNorm2) : atNorm2 m c (Proc.devRef .tc b) = (atResid m c) (Proc.devRef .tc b) :=
  StableHlo.after_of_writes_sub opsNorm2 _ opsNorm2_writes h

/-- The contents once the gated feed-forward block and the second residual is reached. -/
def atMlp : Valuation τ sig (Elt F) := StableHlo.after opsMlp (atNorm2 m c)
/-- A buffer that this stage does not write is as it was before it. -/
theorem atMlp_of (b : Ref sig .tc) (h : b ∉ outsMlp) : atMlp m c (Proc.devRef .tc b) = (atNorm2 m c) (Proc.devRef .tc b) :=
  StableHlo.after_of_writes_sub opsMlp _ opsMlp_writes h

/-- A buffer no operation writes ends as launched. -/
theorem ends_arg (b : Ref sig .tc) (h : b ∉ outsNorm ++ outsProj ++ outsAngles ++ outsRope ++ outsHash ++ outsDraft ++ outsTop ++ outsRows ++ outsKeep ++ outsScore ++ outsSoft ++ outsHeads ++ outsResid ++ outsNorm2 ++ outsMlp) :
    atMlp m c (Proc.devRef .tc b) = m ((c.tc : Thread nD τ).loc b) := by
  simp only [List.mem_append, not_or] at h
  obtain ⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩ := h
  rw [atMlp_of m c b h14, atNorm2_of m c b h13, atResid_of m c b h12, atHeads_of m c b h11, atSoft_of m c b h10, atScore_of m c b h9, atKeep_of m c b h8, atRows_of m c b h7, atTop_of m c b h6, atDraft_of m c b h5, atHash_of m c b h4, atRope_of m c b h3, atAngles_of m c b h2, atProj_of m c b h1, atNorm_of m c b h0]

/-- The program is its operations, run in order. -/
theorem main_seq (d : Dev nD) : StableHlo.IsSeq (main (F := F) d) ops := by
  hlo_seq

/-- What the operations leave is what the last stage leaves. -/
theorem after_ops : StableHlo.after ops (StableHlo.launchContents m c) = atMlp m c := by
  simp only [ops, StableHlo.after_append]
  rfl

/-- Every weakly fair run of the reference ends with every buffer at `atMlp` and every counter at zero. -/
theorem ends (ρ : Dev nD → PrngReg) : θ_run defs (onTc (τ := τ) (main (F := F))) ⟨m, fun _ => 0, ρ⟩ (fun r =>
    (∀ (c : Dev nD) (b : Ref sig .tc), r.2.mem ((c.tc : Thread nD τ).loc b) = atMlp m c (Proc.devRef .tc b)) ∧ r.2.sem = fun _ => 0) :=
  (θ_run defs _ _).mono (fun r h => ⟨fun c b => (h c b).trans (by rw [after_ops]),
      Idealize.ShloMosaic.sem_eq_zero_of_no_sems (by decide) r.2⟩)
    (StableHlo.run_hlo defs main (ops := ops) main_seq (by decide) (by decide) (by simp)
      (by intro _ h; (repeat (cases h with | head => rfl | tail _ h => ?_)); exact nomatch h) m ρ)

/-- Each argument array ends as launched, and every counter at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c =>
    have k : ∀ b : Ref sig .tc, b ∉ outsNorm ++ outsProj ++ outsAngles ++ outsRope ++ outsHash ++ outsDraft ++ outsTop ++ outsRows ++ outsKeep ++ outsScore ++ outsSoft ++ outsHeads ++ outsResid ++ outsNorm2 ++ outsMlp →
        r.2.mem ((c.tc : Thread nD τ).loc b) = m ((c.tc : Thread nD τ).loc b) := fun b hn => (h.1 c b).trans (ends_arg m c b hn)
    ⟨k main_arg0 (by decide +kernel),
     k main_arg1 (by decide +kernel),
     k main_arg2 (by decide +kernel),
     k main_arg3 (by decide +kernel),
     k main_arg4 (by decide +kernel),
     k main_arg5 (by decide +kernel),
     k main_arg6 (by decide +kernel),
     k main_arg7 (by decide +kernel),
     k main_arg8 (by decide +kernel),
     k main_arg9 (by decide +kernel),
     k main_arg10 (by decide +kernel),
     k main_arg11 (by decide +kernel)⟩, h.2⟩) (ends m ρ)

end Cert.ReferenceIdeal.Stages

end
-- ==== Proof.Value.Rank.lean ====
/-
  Which keys of a row are kept, as a count: a key up to the row is kept when fewer than 205 keys up to the row are ahead of
  it (a larger draft score, or the same one earlier in the sequence). The kernel finds the kept keys by eight halvings of a
  threshold and by the ranks of the keys at the threshold; the reference by a sort. Both are shown to be this count.
-/
module

public import Idealize.ShloMosaic.Lib.SortPrefix
public import Idealize.ShloMosaic.PureOps.Ideal

@[expose] public section

noncomputable section

namespace Cert.Rank

open Finset Idealize.ShloMosaic

variable {n : ℕ}

/-- The keys up to a row that are ahead of a key. -/
def ahead {α : Type} [LinearOrder α] (z : Fin n → α) (r : ℕ) (j : Fin n) : Finset (Fin n) :=
  univ.filter fun i => i.val ≤ r ∧ (z j < z i ∨ (z i = z j ∧ i < j))

/-- Whether a key is among the 205 kept of a row. -/
def Kept {α : Type} [LinearOrder α] (z : Fin n → α) (r : ℕ) (j : Fin n) : Prop := j.val ≤ r ∧ (ahead z r j).card < 205

instance {α : Type} [LinearOrder α] (z : Fin n → α) (r : ℕ) (j : Fin n) : Decidable (Kept z r j) :=
  inferInstanceAs (Decidable (_ ∧ _))

/-- Scores in the same order keep the same keys. -/
theorem kept_congr {α β : Type} [LinearOrder α] [LinearOrder β] (z : Fin n → α) (y : Fin n → β) (f : α → β) (hf : StrictMono f)
    (h : ∀ i, y i = f (z i)) (r : ℕ) (j : Fin n) : Kept y r j ↔ Kept z r j := by
  unfold Kept ahead
  simp only [h, hf.lt_iff_lt, hf.injective.eq_iff]

/-- A longer row of scores keeps the same keys, when the row's keys are all in the shorter one. -/
theorem kept_castLE {α : Type} [LinearOrder α] {s : ℕ} (hs : s ≤ n) (z : Fin n → α) (r : ℕ) (hr : r < s) (j : Fin s) :
    Kept (fun i : Fin s => z (i.castLE hs)) r j ↔ Kept z r (j.castLE hs) := by
  have e : (ahead (fun i : Fin s => z (i.castLE hs)) r j).card = (ahead z r (j.castLE hs)).card := by
    refine card_bij (fun i _ => i.castLE hs) (fun i hi => ?_) (fun a _ b _ hab => ?_) (fun b hb => ?_)
    · simp only [ahead, mem_filter, mem_univ, true_and] at hi ⊢
      exact hi
    · exact Fin.castLE_injective hs hab
    · simp only [ahead, mem_filter, mem_univ, true_and] at hb
      refine ⟨⟨b.val, by omega⟩, ?_, rfl⟩
      simp only [ahead, mem_filter, mem_univ, true_and]
      exact hb
  unfold Kept
  rw [e]
  rfl

/-! ## The kernel's way -/

/-- The number of scores that reach a threshold. -/
def reached (m : Fin n → ℤ) (t : ℤ) : ℕ := (univ.filter fun j => t ≤ m j).card

/-- One halving of a threshold's bracket: its ends, and the number of scores that reach the upper one. -/
def step (m : Fin n → ℤ) (b : ℤ × ℤ × ℕ) : ℤ × ℤ × ℕ :=
  if 205 ≤ reached m ((b.1 + b.2.1) / 2) then ((b.1 + b.2.1) / 2, b.2.1, b.2.2)
  else (b.1, (b.1 + b.2.1) / 2, reached m ((b.1 + b.2.1) / 2))

/-- The bracket after some halvings. -/
def steps (m : Fin n → ℤ) : ℕ → ℤ × ℤ × ℕ
  | 0 => (-128, 128, 0)
  | i + 1 => step m (steps m i)

/-- What a bracket of a given width knows. -/
structure Inv (m : Fin n → ℤ) (w : ℤ) (b : ℤ × ℤ × ℕ) : Prop where
  width : b.2.1 = b.1 + w
  low : -128 ≤ b.1
  atLow : b.1 = -128 ∨ 205 ≤ reached m b.1
  atHigh : (b.2.1 = 128 ∧ b.2.2 = 0) ∨ (b.2.2 = reached m b.2.1 ∧ b.2.2 < 205)

/-- A step of the bisection keeps its invariant. -/
theorem inv_step (m : Fin n → ℤ) (w : ℤ) (hw : 0 ≤ w) (b : ℤ × ℤ × ℕ) (h : Inv m (2 * w) b) : Inv m w (step m b) := by
  obtain ⟨h1, h2, h3, h4⟩ := h
  have e : (b.1 + b.2.1) / 2 = b.1 + w := by rw [h1]; omega
  unfold step
  rw [e]
  split
  · rename_i hc
    exact ⟨by show b.2.1 = _; rw [h1]; ring, by show -128 ≤ b.1 + w; omega, .inr hc, h4⟩
  · rename_i hc
    exact ⟨rfl, h2, h3, .inr ⟨rfl, by show reached m (b.1 + w) < 205; omega⟩⟩

/-- Every number of steps keeps the invariant. -/
theorem inv_steps (m : Fin n → ℤ) : Inv m 1 (steps m 8) := by
  have h0 : Inv m (2 * 128) (steps m 0) := ⟨by norm_num [steps], by norm_num [steps], .inl rfl, .inl ⟨rfl, rfl⟩⟩
  have h1 : Inv m (2 * 64) (steps m 1) := inv_step m _ (by decide) _ h0
  have h2 : Inv m (2 * 32) (steps m 2) := inv_step m _ (by decide) _ h1
  have h3 : Inv m (2 * 16) (steps m 3) := inv_step m _ (by decide) _ h2
  have h4 : Inv m (2 * 8) (steps m 4) := inv_step m _ (by decide) _ h3
  have h5 : Inv m (2 * 4) (steps m 5) := inv_step m _ (by decide) _ h4
  have h6 : Inv m (2 * 2) (steps m 6) := inv_step m _ (by decide) _ h5
  have h7 : Inv m (2 * 1) (steps m 7) := inv_step m _ (by decide) _ h6
  exact inv_step m _ (by decide) _ h7

/-- A row's scores with a low constant past the row. -/
def low (z : Fin n → ℤ) (r : ℕ) (j : Fin n) : ℤ := if j.val ≤ r then z j else -1000

/-- The rank of a key among the keys with the threshold's score. -/
def tieRank (m : Fin n → ℤ) (t : ℤ) (j : Fin n) : ℕ := (univ.filter fun i : Fin n => i.val ≤ j.val ∧ m i = t).card

/-- The threshold and the ranks at it keep the keys counted above, when fewer than 205 of the row's scores reach 127. -/
theorem kept_iff (z : Fin n → ℤ) (r : ℕ) (hr : r < n) (hz : ∀ j, -128 ≤ z j)
    (hfew : (univ.filter fun j : Fin n => j.val ≤ r ∧ 127 ≤ z j).card < 205) (j : Fin n) :
    ((steps (low z r) 8).1 < low z r j
      ∨ (low z r j = (steps (low z r) 8).1 ∧ (tieRank (low z r) (steps (low z r) 8).1 j : ℤ) ≤ 205 - ((steps (low z r) 8).2.2 : ℤ))
      ∨ (r < 205 ∧ j.val ≤ r)) ↔ Kept z r j := by
  obtain ⟨h1, h2, h3, h4⟩ := inv_steps (low z r)
  generalize hb : steps (low z r) 8 = b at *
  obtain ⟨L, H, C⟩ := b
  simp only at h1 h2 h3 h4 ⊢
  have hfew' : reached (low z r) 127 < 205 := by
    refine lt_of_le_of_lt (card_le_card fun i hi => ?_) hfew
    simp only [mem_filter, mem_univ, true_and] at hi ⊢
    unfold low at hi
    split at hi
    · exact ⟨by assumption, hi⟩
    · omega
  have h5 : C = reached (low z r) (L + 1) ∧ C < 205 := by
    rcases h4 with ⟨h4, -⟩ | h4
    · exfalso
      have : L = 127 := by omega
      subst this
      rcases h3 with h3 | h3 <;> omega
    · rw [← h1]; exact h4
  by_cases hj : j.val ≤ r
  · have hlow : ∀ i : Fin n, i.val ≤ r → low z r i = z i := fun i hi => if_pos hi
    rw [hlow j hj]
    by_cases hsmall : r < 205
    · refine iff_of_true (.inr (.inr ⟨hsmall, hj⟩)) ⟨hj, ?_⟩
      have hsub : ahead z r j ⊆ (univ.filter fun i : Fin n => i.val ≤ r).erase j := fun i hi => by
        simp only [ahead, mem_filter, mem_univ, true_and, mem_erase] at hi ⊢
        refine ⟨fun e => ?_, hi.1⟩
        subst e
        simp at hi
      have hle : (univ.filter fun i : Fin n => i.val ≤ r).card ≤ r + 1 := by
        have := card_le_card_of_injOn (s := univ.filter fun i : Fin n => i.val ≤ r) (t := range (r + 1)) (fun i : Fin n => i.val)
          (fun i hi => by simp at hi ⊢; omega) (fun a _ b _ hab => Fin.ext hab)
        rwa [card_range] at this
      have := card_le_card hsub
      rw [card_erase_of_mem (by simp [hj])] at this
      omega
    · have hshort : ¬ (r < 205 ∧ j.val ≤ r) := fun h => hsmall h.1
      have hLow : 205 ≤ reached (low z r) L := by
        rcases h3 with h3 | h3
        · subst h3
          refine le_trans ?_ (card_le_card (s := univ.filter fun i : Fin n => i.val ≤ r) fun i hi => ?_)
          · have := card_le_card_of_injOn (s := range (r + 1)) (t := univ.filter fun i : Fin n => i.val ≤ r)
              (fun i => if h : i < n then ⟨i, h⟩ else ⟨r, hr⟩)
              (fun i hi => by
                simp only [coe_range, Set.mem_Iio] at hi
                simp only [coe_filter, mem_univ, true_and, Set.mem_setOf_eq]
                rw [dif_pos (by omega)]; show i ≤ r; omega)
              (fun a ha b hb hab => by
                simp only [coe_range, Set.mem_Iio] at ha hb
                simp only at hab
                rw [dif_pos (by omega), dif_pos (by omega)] at hab
                exact congrArg Fin.val hab)
            rw [card_range] at this
            omega
          · simp only [mem_filter, mem_univ, true_and] at hi ⊢
            rw [hlow i hi]; exact hz i
        · exact h3
      rcases lt_trichotomy (z j) L with hlt | heq | hgt
      · refine iff_of_false ?_ fun hk => ?_
        · rintro (h | h | h)
          · omega
          · omega
          · exact hshort h
        · refine absurd hk.2 (not_lt.2 (hLow.trans (card_le_card fun i hi => ?_)))
          simp only [ahead, mem_filter, mem_univ, true_and] at hi ⊢
          unfold low at hi
          split at hi
          · exact ⟨by assumption, .inl (by omega)⟩
          · omega
      · have hcard : (ahead z r j).card + 1 = C + tieRank (low z r) L j := by
          have hunion : ahead z r j = (univ.filter fun i => L + 1 ≤ low z r i) ∪ (univ.filter fun i : Fin n => i.val ≤ j.val ∧ low z r i = L).erase j := by
            ext i
            simp only [ahead, mem_union, mem_erase, mem_filter, mem_univ, true_and]
            unfold low
            by_cases hi : i.val ≤ r
            · simp only [hi, ↓reduceIte, true_and, heq]
              constructor
              · rintro (h | h)
                · exact .inl (by omega)
                · exact .inr ⟨ne_of_lt h.2, le_of_lt (Fin.lt_def.1 h.2), h.1⟩
              · rintro (h | h)
                · exact .inl (by omega)
                · exact .inr ⟨h.2.2, lt_of_le_of_ne (Fin.le_def.2 h.2.1) h.1⟩
            · simp only [hi, ↓reduceIte, false_and, false_iff]
              rintro (h | h)
              · omega
              · omega
          have hdisj : Disjoint (univ.filter fun i => L + 1 ≤ low z r i) ((univ.filter fun i : Fin n => i.val ≤ j.val ∧ low z r i = L).erase j) := by
            rw [Finset.disjoint_left]
            intro i hi hi'
            simp only [mem_erase, mem_filter, mem_univ, true_and] at hi hi'
            omega
          have hmem : j ∈ univ.filter fun i : Fin n => i.val ≤ j.val ∧ low z r i = L := by
            simp only [mem_filter, mem_univ, true_and, le_refl]
            rw [hlow j hj, heq]
          have hpos : 0 < (univ.filter fun i : Fin n => i.val ≤ j.val ∧ low z r i = L).card := card_pos.2 ⟨j, hmem⟩
          rw [hunion, card_union_of_disjoint hdisj, card_erase_of_mem hmem, h5.1]
          unfold reached tieRank
          omega
        constructor
        · rintro (h | h | h)
          · omega
          · exact ⟨hj, by omega⟩
          · exact absurd h hshort
        · intro h
          have := h.2
          exact .inr (.inl ⟨heq, by omega⟩)
      · refine iff_of_true (.inl hgt) ⟨hj, lt_of_le_of_lt (card_le_card fun i hi => ?_) (h5.1 ▸ h5.2)⟩
        simp only [ahead, mem_filter, mem_univ, true_and] at hi ⊢
        rw [hlow i hi.1]
        omega
  · refine iff_of_false ?_ fun h => hj h.1
    have : low z r j = -1000 := if_neg hj
    rintro (h | h | h)
    · omega
    · omega
    · exact hj h.2

/-! ## The reference's way -/

section Sorting
variable {α : Type} [LinearOrder α]

/-- A sort that puts larger values first and keeps the order of equal ones is a sort by value, then position. -/
theorem insertBefore_position (R R' : Fin n → Fin n → Bool) (a : Fin n) (m : List (Fin n)) (h : ∀ b ∈ m, R b a = R' b a) :
    insertBefore R a m = insertBefore R' a m := insertBefore_congr R R' a m h

/-- Two orders that agree on every later element against every earlier one sort a list alike. -/
theorem stableSort_position (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_position R R' a _ fun b hb => h a b (hl.1 b ((perm_stableSort R' l).mem_iff.1 hb))

/-- Larger first, then earlier. -/
def first (x : Fin n → α) (a b : Fin n) : Bool := decide (x b < x a) || (decide (x a = x b) && decide (a < b))

/-- The order that breaks ties by position is strict and total. -/
theorem first_strict (x : Fin n → α) : StrictTotalBefore (first x) :=
  StrictTotalBefore.of_key_then_position (fun u v : α => decide (v < u)) x (fun a => by simp)
    (fun a b c hab hbc => by simp only [decide_eq_true_eq] at *; exact hbc.trans hab)
    (fun a b => by
      simp only [decide_eq_true_eq]
      rcases lt_trichotomy a b with h | h | h
      · exact .inr (.inr h)
      · exact .inr (.inl h)
      · exact .inl h)

/-- A stable sort by value is the sort by the order that breaks ties by position. -/
theorem sortedFrom_first (x : Fin n → α) : sortedFrom (fun a b : Fin n => decide (x b < x a)) = sortedFrom (first x) := by
  have e : sortPositions n (fun a b : Fin n => decide (x b < x a)) = sortPositions n (first x) := by
    refine stableSort_position _ _ _ (List.pairwise_lt_finRange n) fun a b hab => ?_
    have : decide (b < a) = false := decide_eq_false (not_lt.2 (le_of_lt hab))
    simp [first, this]
  funext k
  unfold sortedFrom
  rw [List.get_of_eq e]
  rfl

/-- The first `k` places of the sort hold the positions with fewer than `k` others ahead. -/
theorem sorted_iff (x : Fin n → α) (k : ℕ) (j : Fin n) :
    (∃ p : Fin n, p.val < k ∧ sortedFrom (fun a b : Fin n => decide (x b < x a)) p = j)
      ↔ (univ.filter fun i => x j < x i ∨ (x i = x j ∧ i < j)).card < k := by
  rw [sortedFrom_first]
  have hB := first_strict x
  have hord : ∀ p q, p < q → first x (sortedFrom (first x) p) (sortedFrom (first x) q) = true := fun p q hpq => by
    have h := sortedFrom_noInversion (first x) (first x) (fun a b h => hB.asymm a b h) (fun _ _ h => h) hB.negTrans p q hpq
    rcases hB.total _ _ ((sortedFrom_injective (first x)).ne (ne_of_lt hpq)) with h' | h'
    · exact h'
    · rw [h] at h'; exact absurd h' (by decide)
  have hcount : ∀ p, (univ.filter fun i => x (sortedFrom (first x) p) < x i ∨ (x i = x (sortedFrom (first x) p) ∧ i < sortedFrom (first x) p)).card = p.val := by
    intro p
    have : (univ.filter fun i => x (sortedFrom (first x) p) < x i ∨ (x i = x (sortedFrom (first x) p) ∧ i < sortedFrom (first x) p))
        = (Finset.Iio p).map ⟨sortedFrom (first x), sortedFrom_injective _⟩ := by
      ext i
      obtain ⟨q, rfl⟩ := sortedFrom_surjective (first x) i
      simp only [mem_filter, mem_univ, true_and, mem_map, Finset.mem_Iio, Function.Embedding.coeFn_mk]
      have hf : (x (sortedFrom (first x) p) < x (sortedFrom (first x) q) ∨ (x (sortedFrom (first x) q) = x (sortedFrom (first x) p)
          ∧ sortedFrom (first x) q < sortedFrom (first x) p)) ↔ first x (sortedFrom (first x) q) (sortedFrom (first x) p) = true := by
        simp [first]
      rw [hf]
      constructor
      · intro h
        refine ⟨q, ?_, rfl⟩
        rcases lt_trichotomy q p with h' | h' | h'
        · exact h'
        · subst h'; rw [hB.irrefl] at h; exact absurd h (by decide)
        · rw [hB.asymm _ _ (hord p q h')] at h; exact absurd h (by decide)
      · rintro ⟨q', hq', e⟩
        rw [← e]
        exact hord q' p hq'
    rw [this, card_map, Fin.card_Iio]
  obtain ⟨q, rfl⟩ := sortedFrom_surjective (first x) j
  rw [hcount q]
  constructor
  · rintro ⟨p, hp, e⟩
    rw [← sortedFrom_injective _ e]; exact hp
  · exact fun h => ⟨q, h, rfl⟩

/-- The keys counted above are those of the sort's first 205 that are up to the row, when the scores past the row are all
    below the others. -/
theorem kept_iff_sorted (x z : Fin n → α) (r : ℕ) (hx : ∀ i, i.val ≤ r → x i = z i) (hlow : ∀ i j, ¬ i.val ≤ r → j.val ≤ r → x i < z j)
    (j : Fin n) (hj : j.val ≤ r) :
    (∃ p : Fin n, p.val < 205 ∧ sortedFrom (fun a b : Fin n => decide (x b < x a)) p = j) ↔ Kept z r j := by
  rw [sorted_iff]
  have e : (univ.filter fun i => x j < x i ∨ (x i = x j ∧ i < j)) = ahead z r j := by
    ext i
    simp only [ahead, mem_filter, mem_univ, true_and, hx j hj]
    by_cases hi : i.val ≤ r
    · simp [hi, hx i hi]
    · have := hlow i j hi hj
      simp [hi, not_lt.2 this.le, this.ne]
  rw [e]
  exact ⟨fun h => ⟨hj, h⟩, fun h => h.2⟩

end Sorting

end Cert.Rank

end
-- ==== Proof.Value.Spec.lean ====
/-
  The decoder layer's scalar functions over the extended reals: what both programs compute at an index.
-/
module

public import Idealize.ShloMosaic.PureOps.Ideal
public import Idealize.ShloMosaic.Lib.Pointwise
public import proofs.«01_k».proof.Proof.Value.Rank

@[expose] public section

noncomputable section

namespace Cert.Spec

open Idealize.ShloMosaic

/-- One entry of a row's root-mean-square normalisation. -/
def rmsAt (x w : Fin 4096 → EReal) (k : Fin 4096) : EReal :=
  x k * Ideal.rsqrt (Ideal.div (∑ j, x j * x j) (Ideal.ofBits .f32 0x45800000#32) + Ideal.ofBits .f32 0x358637BD#32) * w k

/-- A row against a column. -/
def dotAt {n : ℕ} (a b : Fin n → EReal) : EReal := ∑ j, a j * b j

/-- The gate's activation. -/
def siluAt (g : EReal) : EReal := g * Ideal.logistic g

/-- One entry of a row's rotation by half its length. -/
def rotAt (x : Fin 128 → EReal) (d : Fin 128) : EReal :=
  if h : d.val < 64 then -x ⟨64 + d.val, by omega⟩ else x ⟨d.val - 64, by omega⟩

/-- One entry of a row after the rotary embedding. -/
def ropeAt (x cs sn : Fin 128 → EReal) (d : Fin 128) : EReal := x d * cs d + rotAt x d * sn d

/-- One entry of a row's sign hash. -/
def hashAt (x : Fin 128 → EReal) (p : Fin 128 → EReal) (b : EReal) : EReal := Ideal.sign (dotAt x p + b)

/-- The head a column of the joined heads belongs to. -/
def headOf (c : Fin 4096) : Fin 32 := ⟨c.val / 128, by have := c.isLt; omega⟩
/-- The place of a column in its head. -/
def dimOf (c : Fin 4096) : Fin 128 := ⟨c.val % 128, by omega⟩
/-- A head's column among the joined heads. -/
def col (h : Fin 32) (d : Fin 128) : Fin 4096 := ⟨h.val * 128 + d.val, by have := h.isLt; have := d.isLt; omega⟩
/-- The column of a head's shared key or value head. -/
def kvCol (h : Fin 32) (d : Fin 128) : Fin 1024 := ⟨h.val / 4 * 128 + d.val, by have := h.isLt; have := d.isLt; omega⟩
/-- A query column among the three projections side by side. -/
def qCol3 (h : Fin 32) (d : Fin 128) : Fin 6144 := ⟨h.val * 128 + d.val, by have := h.isLt; have := d.isLt; omega⟩
/-- A key column among the three projections side by side. -/
def kCol3 (h : Fin 32) (d : Fin 128) : Fin 6144 := ⟨(32 + h.val / 4) * 128 + d.val, by have := h.isLt; have := d.isLt; omega⟩
/-- A value column among the three projections side by side. -/
def vCol3 (h : Fin 32) (d : Fin 128) : Fin 6144 := ⟨(40 + h.val / 4) * 128 + d.val, by have := h.isLt; have := d.isLt; omega⟩

/-- The head of a head's column is that head. -/
theorem headOf_col (h : Fin 32) (d : Fin 128) : headOf (col h d) = h := Fin.ext (by
  show (h.val * 128 + d.val) / 128 = h.val
  have := d.isLt; omega)
/-- The place of a head's column is that place. -/
theorem dimOf_col (h : Fin 32) (d : Fin 128) : dimOf (col h d) = d := Fin.ext (by
  show (h.val * 128 + d.val) % 128 = d.val
  have := d.isLt; omega)
/-- A column is the column of its head and place. -/
theorem col_headOf_dimOf (c : Fin 4096) : col (headOf c) (dimOf c) = c := Fin.ext (by
  show c.val / 128 * 128 + c.val % 128 = c.val
  omega)

/-- A row's scores at the kept keys, the lowest value at the others. -/
def keptScore {n : ℕ} (d x : Fin n → EReal) (r : ℕ) (j : Fin n) : EReal :=
  if Cert.Rank.Kept d r j then x j else ⊥

/-- The exponential of a score under its row's largest. -/
def expAt {n : ℕ} (y : Fin n → EReal) (j : Fin n) : EReal := Ideal.exp (y j - Finset.univ.fold max ⊥ y)

/-- A row's scores through the softmax, against one column of the values. -/
def softAt {n : ℕ} (y v : Fin n → EReal) : EReal := ∑ j, Ideal.div (expAt y j) (∑ i, expAt y i) * v j

/-- One entry of a head's output: the draft scores `d` choose the keys, the scores `x` weigh the values `v`. -/
def headAt {n : ℕ} (d x v : Fin n → EReal) (r : ℕ) : EReal := softAt (keptScore d x r) v

end Cert.Spec

end
-- ==== Proof.Value.Plain.lean ====
/-
  The launches beside the attention, read at an index: what each leaves in its output array, as sums over the arrays it
  was entered with.
-/
module

public import proofs.«01_k».proof.Proof.KernelIdeal.Boundaries
public import Idealize.ShloMosaic.Lib.Pipeline.ValueKit
public import Idealize.ShloMosaic.Lib.Pointwise
public import Idealize.ShloMosaic.PureOps.Ideal
public import proofs.«01_k».proof.Proof.Value.Spec

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.RegionKit Cert.Spec

variable (c : Dev nD) (W : Valuation τ sig (Elt Ideal))

/-! ## The blocks' contents at an index -/

/-- An entry of the first normalisation's block. -/
theorem rmsA_apply (x : FVec Ideal S256x4096 .f32) (w : FVec Ideal S1x4096 .f32) (r : Fin 256) (k : Fin 4096) :
    rmsA (F := Ideal) x w (ix2 r k) = rmsAt (fun j => x (ix2 r j)) (fun j => w (ix2 0 j)) k := by
  pointwise [rmsA, k0_pay1, rmsAt]

/-- An entry of the second normalisation's block. -/
theorem rmsB_apply (x : FVec Ideal S256x4096 .f32) (w : FVec Ideal S1x4096 .f32) (r : Fin 256) (k : Fin 4096) :
    rmsB (F := Ideal) x w (ix2 r k) = rmsAt (fun j => x (ix2 r j)) (fun j => w (ix2 0 j)) k := by
  pointwise [rmsB, k12_pay1, rmsAt]

/-- An entry of the three projections' block. -/
theorem projQKV_apply (x : FVec Ideal S512x4096 .bf16) (w : FVec Ideal S4096x1024 .bf16) (r : Fin 512) (k : Fin 1024) :
    projQKV (F := Ideal) x w (ix2 r k) = dotAt (fun j => x (ix2 r j)) fun j => w (ix2 j k) := by
  pointwise [projQKV, k1_pay1, dotAt]

/-- An entry of the output projection's block, with the input added. -/
theorem projO_apply (x : FVec Ideal S512x4096 .bf16) (w : FVec Ideal S4096x1024 .bf16) (b : FVec Ideal S512x1024 .f32)
    (r : Fin 512) (k : Fin 1024) :
    projO (F := Ideal) x w b (ix2 r k) = (dotAt (fun j => x (ix2 r j)) fun j => w (ix2 j k)) + b (ix2 r k) := by
  pointwise [projO, k11_pay1, dotAt]

/-- An entry of the gated product's block. -/
theorem gateUp_apply (x : FVec Ideal S2048x4096 .bf16) (g u : FVec Ideal S4096x256 .f32) (r : Fin 2048) (k : Fin 256) :
    gateUp (F := Ideal) x g u (ix2 r k) = siluAt (dotAt (fun j => x (ix2 r j)) fun j => g (ix2 j k)) * dotAt (fun j => x (ix2 r j)) fun j => u (ix2 j k) := by
  pointwise [gateUp, k13_pay1, siluAt, dotAt]

/-- An entry of the last product's block, with the middle added. -/
theorem down_apply (x : FVec Ideal S512x11008 .bf16) (w : FVec Ideal S11008x512 .bf16) (b : FVec Ideal S512x512 .f32)
    (r : Fin 512) (k : Fin 512) :
    down (F := Ideal) x w b (ix2 r k) = (dotAt (fun j => x (ix2 r j)) fun j => w (ix2 j k)) + b (ix2 r k) := by
  pointwise [down, k14_pay1, dotAt]

/-! ## Launch 0: the first normalisation -/

/-- Which block each window takes at every step of the grid. -/
theorem idx0 : ∀ t : Fin cfg0.N, win0_0.index t = ![t.val, 0] ∧ win0_1.index t = ![0, 0] ∧ win0_2.index t = ![t.val, 0] :=
  (by decide +kernel : ∀ t : Fin grid0.N, _)

/-- What the window shows of its array at a step, entry by entry. -/
theorem seen0_0 (t : Fin cfg0.N) (j : S256x4096.Idx) (i : S2048x4096.Idx) (h0 : (i 0 : ℕ) = t.val * 256 + j 0) (h1 : (i 1 : ℕ) = j 1) :
    seen (arraysOf cfg0 c W) t 0 j = (W (Proc.devRef .tc main_v0) : FVec Ideal S2048x4096 .f32) i := by
  refine (seen_apply uncut0 _ t 0 j).trans ?_
  show arraysOf cfg0 c W 0 (((cfg0.win 0).blk t).view.emb _) = _
  blk_ext [idx0 t]

/-- What the window shows of its array at a step, entry by entry. -/
theorem seen0_1 (t : Fin cfg0.N) (j : S1x4096.Idx) (i : S1x4096.Idx) (h0 : (i 0 : ℕ) = j 0) (h1 : (i 1 : ℕ) = j 1) :
    seen (arraysOf cfg0 c W) t 1 j = (W (Proc.devRef .tc main_v25) : FVec Ideal S1x4096 .f32) i := by
  refine (seen_apply uncut0 _ t 1 j).trans ?_
  show arraysOf cfg0 c W 1 (((cfg0.win 1).blk t).view.emb _) = _
  blk_ext [idx0 t]

/-- What launch 0, the first normalisation, leaves in its output array. -/
theorem exit0 :
    exitOf cfg0 c y0 W (Proc.devRef .tc main_v26) = (fun i => rmsAt (fun j => (W (Proc.devRef .tc main_v0) : FVec Ideal S2048x4096 .f32) (ix2 (i 0) j)) (fun j => (W (Proc.devRef .tc main_v25) : FVec Ideal S1x4096 .f32) (ix2 0 j)) (i 1) : FVec Ideal S2048x4096 .bf16) := by
  refine (exitOf_arr c (Cert.RegionKit.facts₀ launch0).sharedIn y0 W 2).trans ?_
  refine (datOf cfg0 c y0 (arraysOf cfg0 c W)).arrAt_eq_of_covers 2 _ (by decide +kernel) fun t _ y => ?_
  blk_simp
  show rmsA (F := Ideal) (seen (arraysOf cfg0 c W) t 0) (seen (arraysOf cfg0 c W) t 1) y = _
  have e0 : ((((cfg0.win 2).blk t).view.emb y 0 : Fin _) : ℕ) = t.val * 256 + (y 0 : ℕ) := by blk_simp [idx0 t]
  have e1 : ((((cfg0.win 2).blk t).view.emb y 1 : Fin _) : ℕ) = (y 1 : ℕ) := by blk_simp [idx0 t]
  generalize ((cfg0.win 2).blk t).view.emb y = z at e0 e1 ⊢
  refine (congrArg _ (eq_ix2 y)).trans ((rmsA_apply _ _ (y 0) (y 1)).trans ?_)
  rw [show (z 1 : Fin 4096) = y 1 from Fin.ext e1]
  exact congrArg₂ (fun p q => rmsAt p q _) (funext fun j => seen0_0 c W t (ix2 (y 0) j) (ix2 (z 0) j) e0 rfl)
    (funext fun j => seen0_1 c W t (ix2 0 j) (ix2 0 j) rfl rfl)

/-! ## Launch 1: the three projections -/

/-- Which block each window takes at every step of the grid. -/
theorem idx1 : ∀ t : Fin cfg1.N, win1_0.index t = ![t.val % 4, 0] ∧ win1_1.index t = ![0, t.val / 4] ∧ win1_2.index t = ![t.val % 4, t.val / 4] :=
  (by decide +kernel : ∀ t : Fin grid1.N, _)

/-- What the window shows of its array at a step, entry by entry. -/
theorem seen1_0 (t : Fin cfg1.N) (j : S512x4096.Idx) (i : S2048x4096.Idx) (h0 : (i 0 : ℕ) = t.val % 4 * 512 + j 0) (h1 : (i 1 : ℕ) = j 1) :
    seen (arraysOf cfg1 c W) t 0 j = (W (Proc.devRef .tc main_v26) : FVec Ideal S2048x4096 .bf16) i := by
  refine (seen_apply uncut1 _ t 0 j).trans ?_
  show arraysOf cfg1 c W 0 (((cfg1.win 0).blk t).view.emb _) = _
  blk_ext [idx1 t]

/-- What the window shows of its array at a step, entry by entry. -/
theorem seen1_1 (t : Fin cfg1.N) (j : S4096x1024.Idx) (i : S4096x6144.Idx) (h0 : (i 0 : ℕ) = j 0) (h1 : (i 1 : ℕ) = t.val / 4 * 1024 + j 1) :
    seen (arraysOf cfg1 c W) t 1 j = (W (Proc.devRef .tc main_v30) : FVec Ideal S4096x6144 .bf16) i := by
  refine (seen_apply uncut1 _ t 1 j).trans ?_
  show arraysOf cfg1 c W 1 (((cfg1.win 1).blk t).view.emb _) = _
  blk_ext [idx1 t]

/-- What launch 1, the three projections, leaves in its output array. -/
theorem exit1 :
    exitOf cfg1 c y1 W (Proc.devRef .tc main_v31) = (fun i => dotAt (fun j => (W (Proc.devRef .tc main_v26) : FVec Ideal S2048x4096 .bf16) (ix2 (i 0) j)) (fun j => (W (Proc.devRef .tc main_v30) : FVec Ideal S4096x6144 .bf16) (ix2 j (i 1))) : FVec Ideal S2048x6144 .f32) := by
  refine (exitOf_arr c (Cert.RegionKit.facts₀ launch1).sharedIn y1 W 2).trans ?_
  refine (datOf cfg1 c y1 (arraysOf cfg1 c W)).arrAt_eq_of_covers 2 _ (by decide +kernel) fun t _ y => ?_
  blk_simp
  show projQKV (F := Ideal) (seen (arraysOf cfg1 c W) t 0) (seen (arraysOf cfg1 c W) t 1) y = _
  have e0 : ((((cfg1.win 2).blk t).view.emb y 0 : Fin _) : ℕ) = t.val % 4 * 512 + (y 0 : ℕ) := by blk_simp [idx1 t]
  have e1 : ((((cfg1.win 2).blk t).view.emb y 1 : Fin _) : ℕ) = t.val / 4 * 1024 + (y 1 : ℕ) := by blk_simp [idx1 t]
  generalize ((cfg1.win 2).blk t).view.emb y = z at e0 e1 ⊢
  refine (congrArg _ (eq_ix2 y)).trans ((projQKV_apply _ _ (y 0) (y 1)).trans ?_)
  exact congrArg₂ dotAt (funext fun j => seen1_0 c W t (ix2 (y 0) j) (ix2 (z 0) j) e0 rfl)
    (funext fun j => seen1_1 c W t (ix2 j (y 1)) (ix2 j (z 1)) rfl e1)

/-! ## Launch 11: the output projection onto the input -/

/-- Which block each window takes at every step of the grid. -/
theorem idx11 : ∀ t : Fin cfg11.N, win11_0.index t = ![t.val % 4, 0] ∧ win11_1.index t = ![0, t.val / 4] ∧ win11_2.index t = ![t.val % 4, t.val / 4] ∧ win11_3.index t = ![t.val % 4, t.val / 4] :=
  (by decide +kernel : ∀ t : Fin grid11.N, _)

/-- What the window shows of its array at a step, entry by entry. -/
theorem seen11_0 (t : Fin cfg11.N) (j : S512x4096.Idx) (i : S2048x4096.Idx) (h0 : (i 0 : ℕ) = t.val % 4 * 512 + j 0) (h1 : (i 1 : ℕ) = j 1) :
    seen (arraysOf cfg11 c W) t 0 j = (W (Proc.devRef .tc main_v43) : FVec Ideal S2048x4096 .bf16) i := by
  refine (seen_apply uncut11 _ t 0 j).trans ?_
  show arraysOf cfg11 c W 0 (((cfg11.win 0).blk t).view.emb _) = _
  blk_ext [idx11 t]

/-- What the window shows of its array at a step, entry by entry. -/
theorem seen11_1 (t : Fin cfg11.N) (j : S4096x1024.Idx) (i : S4096x4096.Idx) (h0 : (i 0 : ℕ) = j 0) (h1 : (i 1 : ℕ) = t.val / 4 * 1024 + j 1) :
    seen (arraysOf cfg11 c W) t 1 j = (W (Proc.devRef .tc main_v44) : FVec Ideal S4096x4096 .bf16) i := by
  refine (seen_apply uncut11 _ t 1 j).trans ?_
  show arraysOf cfg11 c W 1 (((cfg11.win 1).blk t).view.emb _) = _
  blk_ext [idx11 t]

/-- What the window shows of its array at a step, entry by entry. -/
theorem seen11_2 (t : Fin cfg11.N) (j : S512x1024.Idx) (i : S2048x4096.Idx) (h0 : (i 0 : ℕ) = t.val % 4 * 512 + j 0) (h1 : (i 1 : ℕ) = t.val / 4 * 1024 + j 1) :
    seen (arraysOf cfg11 c W) t 2 j = (W (Proc.devRef .tc main_v0) : FVec Ideal S2048x4096 .f32) i := by
  refine (seen_apply uncut11 _ t 2 j).trans ?_
  show arraysOf cfg11 c W 2 (((cfg11.win 2).blk t).view.emb _) = _
  blk_ext [idx11 t]

/-- What launch 11, the output projection onto the input, leaves in its output array. -/
theorem exit11 :
    exitOf cfg11 c y11 W (Proc.devRef .tc main_v45) = (fun i => (dotAt (fun j => (W (Proc.devRef .tc main_v43) : FVec Ideal S2048x4096 .bf16) (ix2 (i 0) j)) (fun j => (W (Proc.devRef .tc main_v44) : FVec Ideal S4096x4096 .bf16) (ix2 j (i 1)))) + (W (Proc.devRef .tc main_v0) : FVec Ideal S2048x4096 .f32) (ix2 (i 0) (i 1)) : FVec Ideal S2048x4096 .f32) := by
  refine (exitOf_arr c (Cert.RegionKit.facts₀ launch11).sharedIn y11 W 3).trans ?_
  refine (datOf cfg11 c y11 (arraysOf cfg11 c W)).arrAt_eq_of_covers 3 _ (by decide +kernel) fun t _ y => ?_
  blk_simp
  show projO (F := Ideal) (seen (arraysOf cfg11 c W) t 0) (seen (arraysOf cfg11 c W) t 1) (seen (arraysOf cfg11 c W) t 2) y = _
  have e0 : ((((cfg11.win 3).blk t).view.emb y 0 : Fin _) : ℕ) = t.val % 4 * 512 + (y 0 : ℕ) := by blk_simp [idx11 t]
  have e1 : ((((cfg11.win 3).blk t).view.emb y 1 : Fin _) : ℕ) = t.val / 4 * 1024 + (y 1 : ℕ) := by blk_simp [idx11 t]
  generalize ((cfg11.win 3).blk t).view.emb y = z at e0 e1 ⊢
  refine (congrArg _ (eq_ix2 y)).trans ((projO_apply _ _ _ (y 0) (y 1)).trans ?_)
  exact congrArg₂ (· + ·) (congrArg₂ dotAt (funext fun j => seen11_0 c W t (ix2 (y 0) j) (ix2 (z 0) j) e0 rfl)
    (funext fun j => seen11_1 c W t (ix2 j (y 1)) (ix2 j (z 1)) rfl e1))
    (seen11_2 c W t (ix2 (y 0) (y 1)) (ix2 (z 0) (z 1)) e0 e1)

/-! ## Launch 12: the second normalisation -/

/-- Which block each window takes at every step of the grid. -/
theorem idx12 : ∀ t : Fin cfg12.N, win12_0.index t = ![t.val, 0] ∧ win12_1.index t = ![0, 0] ∧ win12_2.index t = ![t.val, 0] :=
  (by decide +kernel : ∀ t : Fin grid12.N, _)

/-- What the window shows of its array at a step, entry by entry. -/
theorem seen12_0 (t : Fin cfg12.N) (j : S256x4096.Idx) (i : S2048x4096.Idx) (h0 : (i 0 : ℕ) = t.val * 256 + j 0) (h1 : (i 1 : ℕ) = j 1) :
    seen (arraysOf cfg12 c W) t 0 j = (W (Proc.devRef .tc main_v45) : FVec Ideal S2048x4096 .f32) i := by
  refine (seen_apply uncut12 _ t 0 j).trans ?_
  show arraysOf cfg12 c W 0 (((cfg12.win 0).blk t).view.emb _) = _
  blk_ext [idx12 t]

/-- What the window shows of its array at a step, entry by entry. -/
theorem seen12_1 (t : Fin cfg12.N) (j : S1x4096.Idx) (i : S1x4096.Idx) (h0 : (i 0 : ℕ) = j 0) (h1 : (i 1 : ℕ) = j 1) :
    seen (arraysOf cfg12 c W) t 1 j = (W (Proc.devRef .tc main_v46) : FVec Ideal S1x4096 .f32) i := by
  refine (seen_apply uncut12 _ t 1 j).trans ?_
  show arraysOf cfg12 c W 1 (((cfg12.win 1).blk t).view.emb _) = _
  blk_ext [idx12 t]

/-- What launch 12, the second normalisation, leaves in its output array. -/
theorem exit12 :
    exitOf cfg12 c y12 W (Proc.devRef .tc main_v47) = (fun i => rmsAt (fun j => (W (Proc.devRef .tc main_v45) : FVec Ideal S2048x4096 .f32) (ix2 (i 0) j)) (fun j => (W (Proc.devRef .tc main_v46) : FVec Ideal S1x4096 .f32) (ix2 0 j)) (i 1) : FVec Ideal S2048x4096 .bf16) := by
  refine (exitOf_arr c (Cert.RegionKit.facts₀ launch12).sharedIn y12 W 2).trans ?_
  refine (datOf cfg12 c y12 (arraysOf cfg12 c W)).arrAt_eq_of_covers 2 _ (by decide +kernel) fun t _ y => ?_
  blk_simp
  show rmsB (F := Ideal) (seen (arraysOf cfg12 c W) t 0) (seen (arraysOf cfg12 c W) t 1) y = _
  have e0 : ((((cfg12.win 2).blk t).view.emb y 0 : Fin _) : ℕ) = t.val * 256 + (y 0 : ℕ) := by blk_simp [idx12 t]
  have e1 : ((((cfg12.win 2).blk t).view.emb y 1 : Fin _) : ℕ) = (y 1 : ℕ) := by blk_simp [idx12 t]
  generalize ((cfg12.win 2).blk t).view.emb y = z at e0 e1 ⊢
  refine (congrArg _ (eq_ix2 y)).trans ((rmsB_apply _ _ (y 0) (y 1)).trans ?_)
  rw [show (z 1 : Fin 4096) = y 1 from Fin.ext e1]
  exact congrArg₂ (fun p q => rmsAt p q _) (funext fun j => seen12_0 c W t (ix2 (y 0) j) (ix2 (z 0) j) e0 rfl)
    (funext fun j => seen12_1 c W t (ix2 0 j) (ix2 0 j) rfl rfl)

/-! ## Launch 13: the gated up projections -/

/-- Which block each window takes at every step of the grid. -/
theorem idx13 : ∀ t : Fin cfg13.N, win13_0.index t = ![0, 0] ∧ win13_1.index t = ![0, t.val] ∧ win13_2.index t = ![0, t.val] ∧ win13_3.index t = ![0, t.val] :=
  (by decide +kernel : ∀ t : Fin grid13.N, _)

/-- What the window shows of its array at a step, entry by entry. -/
theorem seen13_0 (t : Fin cfg13.N) (j : S2048x4096.Idx) (i : S2048x4096.Idx) (h0 : (i 0 : ℕ) = j 0) (h1 : (i 1 : ℕ) = j 1) :
    seen (arraysOf cfg13 c W) t 0 j = (W (Proc.devRef .tc main_v47) : FVec Ideal S2048x4096 .bf16) i := by
  refine (seen_apply uncut13 _ t 0 j).trans ?_
  show arraysOf cfg13 c W 0 (((cfg13.win 0).blk t).view.emb _) = _
  blk_ext [idx13 t]

/-- What the window shows of its array at a step, entry by entry. -/
theorem seen13_1 (t : Fin cfg13.N) (j : S4096x256.Idx) (i : S4096x11008.Idx) (h0 : (i 0 : ℕ) = j 0) (h1 : (i 1 : ℕ) = t.val * 256 + j 1) :
    seen (arraysOf cfg13 c W) t 1 j = (W (Proc.devRef .tc main_arg9) : FVec Ideal S4096x11008 .f32) i := by
  refine (seen_apply uncut13 _ t 1 j).trans ?_
  show arraysOf cfg13 c W 1 (((cfg13.win 1).blk t).view.emb _) = _
  blk_ext [idx13 t]

/-- What the window shows of its array at a step, entry by entry. -/
theorem seen13_2 (t : Fin cfg13.N) (j : S4096x256.Idx) (i : S4096x11008.Idx) (h0 : (i 0 : ℕ) = j 0) (h1 : (i 1 : ℕ) = t.val * 256 + j 1) :
    seen (arraysOf cfg13 c W) t 2 j = (W (Proc.devRef .tc main_arg10) : FVec Ideal S4096x11008 .f32) i := by
  refine (seen_apply uncut13 _ t 2 j).trans ?_
  show arraysOf cfg13 c W 2 (((cfg13.win 2).blk t).view.emb _) = _
  blk_ext [idx13 t]

/-- What launch 13, the gated up projections, leaves in its output array. -/
theorem exit13 :
    exitOf cfg13 c y13 W (Proc.devRef .tc main_v48) = (fun i => siluAt (dotAt (fun j => (W (Proc.devRef .tc main_v47) : FVec Ideal S2048x4096 .bf16) (ix2 (i 0) j)) (fun j => (W (Proc.devRef .tc main_arg9) : FVec Ideal S4096x11008 .f32) (ix2 j (i 1)))) * dotAt (fun j => (W (Proc.devRef .tc main_v47) : FVec Ideal S2048x4096 .bf16) (ix2 (i 0) j)) (fun j => (W (Proc.devRef .tc main_arg10) : FVec Ideal S4096x11008 .f32) (ix2 j (i 1))) : FVec Ideal S2048x11008 .bf16) := by
  refine (exitOf_arr c (Cert.RegionKit.facts₀ launch13).sharedIn y13 W 3).trans ?_
  refine (datOf cfg13 c y13 (arraysOf cfg13 c W)).arrAt_eq_of_covers 3 _ (by decide +kernel) fun t _ y => ?_
  blk_simp
  show gateUp (F := Ideal) (seen (arraysOf cfg13 c W) t 0) (seen (arraysOf cfg13 c W) t 1) (seen (arraysOf cfg13 c W) t 2) y = _
  have e0 : ((((cfg13.win 3).blk t).view.emb y 0 : Fin _) : ℕ) = (y 0 : ℕ) := by blk_simp [idx13 t]
  have e1 : ((((cfg13.win 3).blk t).view.emb y 1 : Fin _) : ℕ) = t.val * 256 + (y 1 : ℕ) := by blk_simp [idx13 t]
  generalize ((cfg13.win 3).blk t).view.emb y = z at e0 e1 ⊢
  refine (congrArg _ (eq_ix2 y)).trans ((gateUp_apply _ _ _ (y 0) (y 1)).trans ?_)
  exact congrArg₂ (fun p q => siluAt p * q) (congrArg₂ dotAt (funext fun j => seen13_0 c W t (ix2 (y 0) j) (ix2 (z 0) j) e0 rfl)
    (funext fun j => seen13_1 c W t (ix2 j (y 1)) (ix2 j (z 1)) rfl e1))
    (congrArg₂ dotAt (funext fun j => seen13_0 c W t (ix2 (y 0) j) (ix2 (z 0) j) e0 rfl)
    (funext fun j => seen13_2 c W t (ix2 j (y 1)) (ix2 j (z 1)) rfl e1))

/-! ## Launch 14: the down projection -/

/-- Which block each window takes at every step of the grid. -/
theorem idx14 : ∀ t : Fin cfg14.N, win14_0.index t = ![t.val % 4, 0] ∧ win14_1.index t = ![0, t.val / 4] ∧ win14_2.index t = ![t.val % 4, t.val / 4] ∧ win14_3.index t = ![t.val % 4, t.val / 4] :=
  (by decide +kernel : ∀ t : Fin grid14.N, _)

/-- What the window shows of its array at a step, entry by entry. -/
theorem seen14_0 (t : Fin cfg14.N) (j : S512x11008.Idx) (i : S2048x11008.Idx) (h0 : (i 0 : ℕ) = t.val % 4 * 512 + j 0) (h1 : (i 1 : ℕ) = j 1) :
    seen (arraysOf cfg14 c W) t 0 j = (W (Proc.devRef .tc main_v48) : FVec Ideal S2048x11008 .bf16) i := by
  refine (seen_apply uncut14 _ t 0 j).trans ?_
  show arraysOf cfg14 c W 0 (((cfg14.win 0).blk t).view.emb _) = _
  blk_ext [idx14 t]

/-- What the window shows of its array at a step, entry by entry. -/
theorem seen14_1 (t : Fin cfg14.N) (j : S11008x512.Idx) (i : S11008x4096.Idx) (h0 : (i 0 : ℕ) = j 0) (h1 : (i 1 : ℕ) = t.val / 4 * 512 + j 1) :
    seen (arraysOf cfg14 c W) t 1 j = (W (Proc.devRef .tc main_v49) : FVec Ideal S11008x4096 .bf16) i := by
  refine (seen_apply uncut14 _ t 1 j).trans ?_
  show arraysOf cfg14 c W 1 (((cfg14.win 1).blk t).view.emb _) = _
  blk_ext [idx14 t]

/-- What the window shows of its array at a step, entry by entry. -/
theorem seen14_2 (t : Fin cfg14.N) (j : S512x512.Idx) (i : S2048x4096.Idx) (h0 : (i 0 : ℕ) = t.val % 4 * 512 + j 0) (h1 : (i 1 : ℕ) = t.val / 4 * 512 + j 1) :
    seen (arraysOf cfg14 c W) t 2 j = (W (Proc.devRef .tc main_v45) : FVec Ideal S2048x4096 .f32) i := by
  refine (seen_apply uncut14 _ t 2 j).trans ?_
  show arraysOf cfg14 c W 2 (((cfg14.win 2).blk t).view.emb _) = _
  blk_ext [idx14 t]

/-- What launch 14, the down projection, leaves in its output array. -/
theorem exit14 :
    exitOf cfg14 c y14 W (Proc.devRef .tc main_v50) = (fun i => (dotAt (fun j => (W (Proc.devRef .tc main_v48) : FVec Ideal S2048x11008 .bf16) (ix2 (i 0) j)) (fun j => (W (Proc.devRef .tc main_v49) : FVec Ideal S11008x4096 .bf16) (ix2 j (i 1)))) + (W (Proc.devRef .tc main_v45) : FVec Ideal S2048x4096 .f32) (ix2 (i 0) (i 1)) : FVec Ideal S2048x4096 .f32) := by
  refine (exitOf_arr c (Cert.RegionKit.facts₀ launch14).sharedIn y14 W 3).trans ?_
  refine (datOf cfg14 c y14 (arraysOf cfg14 c W)).arrAt_eq_of_covers 3 _ (by decide +kernel) fun t _ y => ?_
  blk_simp
  show down (F := Ideal) (seen (arraysOf cfg14 c W) t 0) (seen (arraysOf cfg14 c W) t 1) (seen (arraysOf cfg14 c W) t 2) y = _
  have e0 : ((((cfg14.win 3).blk t).view.emb y 0 : Fin _) : ℕ) = t.val % 4 * 512 + (y 0 : ℕ) := by blk_simp [idx14 t]
  have e1 : ((((cfg14.win 3).blk t).view.emb y 1 : Fin _) : ℕ) = t.val / 4 * 512 + (y 1 : ℕ) := by blk_simp [idx14 t]
  generalize ((cfg14.win 3).blk t).view.emb y = z at e0 e1 ⊢
  refine (congrArg _ (eq_ix2 y)).trans ((down_apply _ _ _ (y 0) (y 1)).trans ?_)
  exact congrArg₂ (· + ·) (congrArg₂ dotAt (funext fun j => seen14_0 c W t (ix2 (y 0) j) (ix2 (z 0) j) e0 rfl)
    (funext fun j => seen14_1 c W t (ix2 j (y 1)) (ix2 j (z 1)) rfl e1))
    (seen14_2 c W t (ix2 (y 0) (y 1)) (ix2 (z 0) (z 1)) e0 e1)

end Cert.KernelIdeal.Value

end
-- ==== Proof.Value.RopeHash.lean ====
/-
  The launch that rotates queries and keys and hashes them, read at an index.
-/
module

public import proofs.«01_k».proof.Proof.Value.Plain

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.RegionKit Cert.Spec

variable (c : Dev nD) (W : Valuation τ sig (Elt Ideal))

/-! ## The block's contents at an index -/

section Block
variable (x0 x1 x2 x3 : FVec Ideal S2048x128 .f32) (x4 : FVec Ideal S1x128x128 .f32) (x5 : FVec Ideal S1x1x128 .f32)

/-- An entry of the rotated queries' block. -/
theorem ropeQ_apply (r : Fin 2048) (d : Fin 128) : ropeQ (F := Ideal) x0 x1 x2 x3 x4 x5 (ix2 r d)
    = ropeAt (fun d => x0 (ix2 r d)) (fun d => x2 (ix2 r d)) (fun d => x3 (ix2 r d)) d := by
  pointwise [ropeQ, k2_pay6, k2_pay3, k2_pay4]
  unfold ropeAt rotAt
  refine congrArg₂ (· + ·) rfl (congrArg₂ (· * ·) ?_ rfl)
  split <;> simp

/-- An entry of the rotated keys' block. -/
theorem ropeK_apply (r : Fin 2048) (d : Fin 128) : ropeK (F := Ideal) x0 x1 x2 x3 x4 x5 (ix2 r d)
    = ropeAt (fun d => x1 (ix2 r d)) (fun d => x2 (ix2 r d)) (fun d => x3 (ix2 r d)) d := by
  pointwise [ropeK, k2_pay7, k2_pay3, k2_pay4]
  unfold ropeAt rotAt
  refine congrArg₂ (· + ·) rfl (congrArg₂ (· * ·) ?_ rfl)
  split <;> simp

/-- The sign by comparisons is the sign. -/
theorem sign_apply (v : EReal) :
    (if 0 < FloatOps.absf (F := Ideal) (φ := .f32) v then (if v < 0 then Ideal.ofBits .f32 3212836864#32 else 1) else v) = Ideal.sign v := by
  have hm : Ideal.ofBits .f32 3212836864#32 = -1 := by
    simp [Ideal.ofBits, Ideal.ieee, -EReal.coe_mul]; norm_num
  rw [hm]
  show (if 0 < max v (-v) then _ else _) = _
  rcases lt_trichotomy v 0 with h | h | h
  · rw [if_pos (lt_max_of_lt_right (EReal.neg_pos.mpr h)), if_pos h]
    induction v with
    | bot => simp
    | top => simp at h
    | coe a => rw [Ideal.sign_coe, sign_neg (by exact_mod_cast h)]; simp
  · subst h
    rw [if_neg (by simp)]
    have := Ideal.sign_coe 0
    simpa using this.symm
  · rw [if_pos (lt_max_of_lt_left h), if_neg (not_lt.mpr h.le)]
    induction v with
    | bot => simp at h
    | top => simp
    | coe a => rw [Ideal.sign_coe, sign_pos (by exact_mod_cast h)]; simp

/-- An entry of the hashed queries' block. -/
theorem hashQ_apply (r : Fin 2048) (e : Fin 128) : hashQ (F := Ideal) x0 x1 x2 x3 x4 x5 (ix2 r e)
    = hashAt (ropeAt (fun d => x0 (ix2 r d)) (fun d => x2 (ix2 r d)) (fun d => x3 (ix2 r d))) (fun d => x4 (ix3 0 d e)) (x5 (ix3 0 0 e)) := by
  pointwise [hashQ, k2_pay1, k2_pay9, k2_pay5, k2_pay8]
  refine (sign_apply _).trans (congrArg Ideal.sign (congrArg₂ (· + ·) (Finset.sum_congr rfl fun d _ => ?_) rfl))
  exact congrArg₂ (· * ·) (ropeQ_apply x0 x1 x2 x3 x4 x5 r d) rfl

/-- An entry of the hashed keys' block. -/
theorem hashK_apply (r : Fin 2048) (e : Fin 128) : hashK (F := Ideal) x0 x1 x2 x3 x4 x5 (ix2 r e)
    = hashAt (ropeAt (fun d => x1 (ix2 r d)) (fun d => x2 (ix2 r d)) (fun d => x3 (ix2 r d))) (fun d => x4 (ix3 0 d e)) (x5 (ix3 0 0 e)) := by
  pointwise [hashK, k2_pay2, k2_pay5, k2_pay8]
  refine (sign_apply _).trans (congrArg Ideal.sign (congrArg₂ (· + ·) (Finset.sum_congr rfl fun d _ => ?_) rfl))
  exact congrArg₂ (· * ·) (ropeK_apply x0 x1 x2 x3 x4 x5 r d) rfl

end Block

/-! ## The windows over the whole arrays -/

/-- Which block each window takes at every step of the grid. -/
theorem idx2 : ∀ t : Fin cfg2.N, win2_0.index t = ![0, t.val] ∧ win2_1.index t = ![0, 32 + t.val / 4]
    ∧ win2_2.index t = ![0, 0] ∧ win2_3.index t = ![0, 0] ∧ win2_4.index t = ![t.val, 0, 0] ∧ win2_5.index t = ![t.val, 0, 0]
    ∧ win2_6.index t = ![0, t.val] ∧ win2_7.index t = ![0, t.val] ∧ win2_8.index t = ![0, t.val] ∧ win2_9.index t = ![0, t.val] :=
  (by decide +kernel : ∀ t : Fin grid2.N, _)

/-- What the window shows of its array at a step, entry by entry. -/
theorem seen2_0 (t : Fin cfg2.N) (j : S2048x128.Idx) (i : S2048x6144.Idx)
    (h0 : (i 0).val = (j 0).val) (h1 : (i 1).val = t.val * 128 + (j 1).val) :
    seen (arraysOf cfg2 c W) t 0 j = (W (Proc.devRef .tc main_v31)) i := by
  refine (seen_apply uncut2 _ t 0 j).trans ?_
  show arraysOf cfg2 c W 0 (((cfg2.win 0).blk t).view.emb _) = _
  blk_ext [idx2 t]

/-- What the window shows of its array at a step, entry by entry. -/
theorem seen2_1 (t : Fin cfg2.N) (j : S2048x128.Idx) (i : S2048x6144.Idx)
    (h0 : (i 0).val = (j 0).val) (h1 : (i 1).val = (32 + t.val / 4) * 128 + (j 1).val) :
    seen (arraysOf cfg2 c W) t 1 j = (W (Proc.devRef .tc main_v31)) i := by
  refine (seen_apply uncut2 _ t 1 j).trans ?_
  show arraysOf cfg2 c W 1 (((cfg2.win 1).blk t).view.emb _) = _
  blk_ext [idx2 t]

/-- What the window shows of its array at a step, entry by entry. -/
theorem seen2_2 (t : Fin cfg2.N) (j : S2048x128.Idx) (i : S2048x128.Idx)
    (h0 : (i 0).val = (j 0).val) (h1 : (i 1).val = (j 1).val) :
    seen (arraysOf cfg2 c W) t 2 j = (W (Proc.devRef .tc main_v19)) i := by
  refine (seen_apply uncut2 _ t 2 j).trans ?_
  show arraysOf cfg2 c W 2 (((cfg2.win 2).blk t).view.emb _) = _
  blk_ext [idx2 t]

/-- What the window shows of its array at a step, entry by entry. -/
theorem seen2_3 (t : Fin cfg2.N) (j : S2048x128.Idx) (i : S2048x128.Idx)
    (h0 : (i 0).val = (j 0).val) (h1 : (i 1).val = (j 1).val) :
    seen (arraysOf cfg2 c W) t 3 j = (W (Proc.devRef .tc main_v20)) i := by
  refine (seen_apply uncut2 _ t 3 j).trans ?_
  show arraysOf cfg2 c W 3 (((cfg2.win 3).blk t).view.emb _) = _
  blk_ext [idx2 t]

/-- What the window shows of its array at a step, entry by entry. -/
theorem seen2_4 (t : Fin cfg2.N) (j : S1x128x128.Idx) (i : S32x128x128.Idx)
    (h0 : (i 0).val = t.val) (h1 : (i 1).val = (j 1).val) (h2 : (i 2).val = (j 2).val) :
    seen (arraysOf cfg2 c W) t 4 j = (W (Proc.devRef .tc main_v32)) i := by
  refine (seen_apply uncut2 _ t 4 j).trans ?_
  show arraysOf cfg2 c W 4 (((cfg2.win 4).blk t).view.emb _) = _
  blk_ext [idx2 t]

/-- What the window shows of its array at a step, entry by entry. -/
theorem seen2_5 (t : Fin cfg2.N) (j : S1x1x128.Idx) (i : S32x1x128.Idx)
    (h0 : (i 0).val = t.val) (h1 : (i 1).val = (j 1).val) (h2 : (i 2).val = (j 2).val) :
    seen (arraysOf cfg2 c W) t 5 j = (W (Proc.devRef .tc main_v33)) i := by
  refine (seen_apply uncut2 _ t 5 j).trans ?_
  show arraysOf cfg2 c W 5 (((cfg2.win 5).blk t).view.emb _) = _
  blk_ext [idx2 t]

/-- The head's column of the launch's block is the head of the whole array's column. -/
theorem head_of_block (t : Fin 32) (y : Fin 128) (z : Fin 4096) (e : z.val = t.val * 128 + y.val) :
    headOf z = t ∧ dimOf z = y :=
  ⟨Fin.ext (by show z.val / 128 = t.val; have := y.isLt; omega), Fin.ext (by show z.val % 128 = y.val; have := y.isLt; omega)⟩

/-- A query after its rotation. -/
def ropeQAt (r : Fin 2048) (h : Fin 32) : Fin 128 → EReal :=
  ropeAt (fun d => (W (Proc.devRef .tc main_v31)) (ix2 r (qCol3 h d)))
    (fun d => (W (Proc.devRef .tc main_v19)) (ix2 r d)) (fun d => (W (Proc.devRef .tc main_v20)) (ix2 r d))
/-- A key after its rotation. -/
def ropeKAt (r : Fin 2048) (h : Fin 32) : Fin 128 → EReal :=
  ropeAt (fun d => (W (Proc.devRef .tc main_v31)) (ix2 r (kCol3 h d)))
    (fun d => (W (Proc.devRef .tc main_v19)) (ix2 r d)) (fun d => (W (Proc.devRef .tc main_v20)) (ix2 r d))
/-- A vector's sign under a head's projection column. -/
def signAt (h : Fin 32) (x : Fin 128 → EReal) (e : Fin 128) : EReal :=
  hashAt x (fun d => (W (Proc.devRef .tc main_v32)) (ix3 h d e)) ((W (Proc.devRef .tc main_v33)) (ix3 h 0 e))

/-- The rotation of what a step sees of a query row. -/
theorem seenQ (t : Fin cfg2.N) (r : Fin 2048) :
    ropeAt (fun d => seen (arraysOf cfg2 c W) t 0 (ix2 r d)) (fun d => seen (arraysOf cfg2 c W) t 2 (ix2 r d)) (fun d => seen (arraysOf cfg2 c W) t 3 (ix2 r d))
      = ropeQAt W r t := by
  unfold ropeQAt
  congr 1
  · exact funext fun d => seen2_0 c W t (ix2 r d) (ix2 r (qCol3 t d)) rfl rfl
  · exact funext fun d => seen2_2 c W t (ix2 r d) (ix2 r d) rfl rfl
  · exact funext fun d => seen2_3 c W t (ix2 r d) (ix2 r d) rfl rfl

/-- The rotation of what a step sees of a key row. -/
theorem seenK (t : Fin cfg2.N) (r : Fin 2048) :
    ropeAt (fun d => seen (arraysOf cfg2 c W) t 1 (ix2 r d)) (fun d => seen (arraysOf cfg2 c W) t 2 (ix2 r d)) (fun d => seen (arraysOf cfg2 c W) t 3 (ix2 r d))
      = ropeKAt W r t := by
  unfold ropeKAt
  congr 1
  · exact funext fun d => seen2_1 c W t (ix2 r d) (ix2 r (kCol3 t d)) rfl rfl
  · exact funext fun d => seen2_2 c W t (ix2 r d) (ix2 r d) rfl rfl
  · exact funext fun d => seen2_3 c W t (ix2 r d) (ix2 r d) rfl rfl

/-- The hash by what a step sees of its projection and bias. -/
theorem seenSign (t : Fin cfg2.N) (x : Fin 128 → EReal) (e : Fin 128) :
    hashAt x (fun d => seen (arraysOf cfg2 c W) t 4 (ix3 0 d e)) (seen (arraysOf cfg2 c W) t 5 (ix3 0 0 e)) = signAt W t x e := by
  unfold signAt
  congr 1
  · exact funext fun d => seen2_4 c W t (ix3 0 d e) (ix3 t d e) rfl rfl rfl
  · exact seen2_5 c W t (ix3 0 0 e) (ix3 t 0 e) rfl rfl rfl

/-! ## The four results -/

/-- The rotated queries, head by head. -/
theorem exit2_6 : exitOf cfg2 c y2 W (Proc.devRef .tc main_v34_0) = fun i => ropeQAt W (i 0) (headOf (i 1)) (dimOf (i 1)) := by
  refine (exitOf_arr c launch₀2.sharedIn y2 W 6).trans ?_
  refine (datOf cfg2 c y2 (arraysOf cfg2 c W)).arrAt_eq_of_covers 6 _ (by decide +kernel) fun t _ y => ?_
  blk_simp
  show ropeQ (F := Ideal) (seen (arraysOf cfg2 c W) t 0) (seen (arraysOf cfg2 c W) t 1) (seen (arraysOf cfg2 c W) t 2) (seen (arraysOf cfg2 c W) t 3) (seen (arraysOf cfg2 c W) t 4) (seen (arraysOf cfg2 c W) t 5) y = _
  have e0 : ((((cfg2.win 6).blk t).view.emb y 0 : Fin _) : ℕ) = (y 0).val := by blk_simp [idx2 t]
  have e1 : ((((cfg2.win 6).blk t).view.emb y 1 : Fin _) : ℕ) = t.val * 128 + (y 1).val := by blk_simp [idx2 t]
  generalize ((cfg2.win 6).blk t).view.emb y = z at e0 e1 ⊢
  obtain ⟨h1, h2⟩ := head_of_block t (y 1) (z 1) e1
  have h0 : z 0 = y 0 := Fin.ext e0
  rw [h0, h1, h2]
  refine (congrArg _ (eq_ix2 y)).trans ((ropeQ_apply _ _ _ _ _ _ (y 0) (y 1)).trans ?_)
  exact congrFun (seenQ c W t (y 0)) (y 1)

/-- The rotated keys, head by head. -/
theorem exit2_7 : exitOf cfg2 c y2 W (Proc.devRef .tc main_v34_1) = fun i => ropeKAt W (i 0) (headOf (i 1)) (dimOf (i 1)) := by
  refine (exitOf_arr c launch₀2.sharedIn y2 W 7).trans ?_
  refine (datOf cfg2 c y2 (arraysOf cfg2 c W)).arrAt_eq_of_covers 7 _ (by decide +kernel) fun t _ y => ?_
  blk_simp
  show ropeK (F := Ideal) (seen (arraysOf cfg2 c W) t 0) (seen (arraysOf cfg2 c W) t 1) (seen (arraysOf cfg2 c W) t 2) (seen (arraysOf cfg2 c W) t 3) (seen (arraysOf cfg2 c W) t 4) (seen (arraysOf cfg2 c W) t 5) y = _
  have e0 : ((((cfg2.win 7).blk t).view.emb y 0 : Fin _) : ℕ) = (y 0).val := by blk_simp [idx2 t]
  have e1 : ((((cfg2.win 7).blk t).view.emb y 1 : Fin _) : ℕ) = t.val * 128 + (y 1).val := by blk_simp [idx2 t]
  generalize ((cfg2.win 7).blk t).view.emb y = z at e0 e1 ⊢
  obtain ⟨h1, h2⟩ := head_of_block t (y 1) (z 1) e1
  have h0 : z 0 = y 0 := Fin.ext e0
  rw [h0, h1, h2]
  refine (congrArg _ (eq_ix2 y)).trans ((ropeK_apply _ _ _ _ _ _ (y 0) (y 1)).trans ?_)
  exact congrFun (seenK c W t (y 0)) (y 1)

/-- The hashes of the queries, head by head. -/
theorem exit2_8 : exitOf cfg2 c y2 W (Proc.devRef .tc main_v34_2) = fun i => signAt W (headOf (i 1)) (ropeQAt W (i 0) (headOf (i 1))) (dimOf (i 1)) := by
  refine (exitOf_arr c launch₀2.sharedIn y2 W 8).trans ?_
  refine (datOf cfg2 c y2 (arraysOf cfg2 c W)).arrAt_eq_of_covers 8 _ (by decide +kernel) fun t _ y => ?_
  blk_simp
  show hashQ (F := Ideal) (seen (arraysOf cfg2 c W) t 0) (seen (arraysOf cfg2 c W) t 1) (seen (arraysOf cfg2 c W) t 2) (seen (arraysOf cfg2 c W) t 3) (seen (arraysOf cfg2 c W) t 4) (seen (arraysOf cfg2 c W) t 5) y = _
  have e0 : ((((cfg2.win 8).blk t).view.emb y 0 : Fin _) : ℕ) = (y 0).val := by blk_simp [idx2 t]
  have e1 : ((((cfg2.win 8).blk t).view.emb y 1 : Fin _) : ℕ) = t.val * 128 + (y 1).val := by blk_simp [idx2 t]
  generalize ((cfg2.win 8).blk t).view.emb y = z at e0 e1 ⊢
  obtain ⟨h1, h2⟩ := head_of_block t (y 1) (z 1) e1
  have h0 : z 0 = y 0 := Fin.ext e0
  rw [h0, h1, h2]
  refine (congrArg _ (eq_ix2 y)).trans ((hashQ_apply _ _ _ _ _ _ (y 0) (y 1)).trans ?_)
  exact (congrArg (fun x => hashAt x _ _) (seenQ c W t (y 0))).trans (seenSign c W t _ (y 1))

/-- The hashes of the keys, head by head. -/
theorem exit2_9 : exitOf cfg2 c y2 W (Proc.devRef .tc main_v34_3) = fun i => signAt W (headOf (i 1)) (ropeKAt W (i 0) (headOf (i 1))) (dimOf (i 1)) := by
  refine (exitOf_arr c launch₀2.sharedIn y2 W 9).trans ?_
  refine (datOf cfg2 c y2 (arraysOf cfg2 c W)).arrAt_eq_of_covers 9 _ (by decide +kernel) fun t _ y => ?_
  blk_simp
  show hashK (F := Ideal) (seen (arraysOf cfg2 c W) t 0) (seen (arraysOf cfg2 c W) t 1) (seen (arraysOf cfg2 c W) t 2) (seen (arraysOf cfg2 c W) t 3) (seen (arraysOf cfg2 c W) t 4) (seen (arraysOf cfg2 c W) t 5) y = _
  have e0 : ((((cfg2.win 9).blk t).view.emb y 0 : Fin _) : ℕ) = (y 0).val := by blk_simp [idx2 t]
  have e1 : ((((cfg2.win 9).blk t).view.emb y 1 : Fin _) : ℕ) = t.val * 128 + (y 1).val := by blk_simp [idx2 t]
  generalize ((cfg2.win 9).blk t).view.emb y = z at e0 e1 ⊢
  obtain ⟨h1, h2⟩ := head_of_block t (y 1) (z 1) e1
  have h0 : z 0 = y 0 := Fin.ext e0
  rw [h0, h1, h2]
  refine (congrArg _ (eq_ix2 y)).trans ((hashK_apply _ _ _ _ _ _ (y 0) (y 1)).trans ?_)
  exact (congrArg (fun x => hashAt x _ _) (seenK c W t (y 0))).trans (seenSign c W t _ (y 1))

end Cert.KernelIdeal.Value

end
-- ==== Proof.Value.Host.lean ====
/-
  The kernel's host operations between its launches, read at an index.
-/
module

public import proofs.«01_k».proof.Proof.Value.Plain
public import proofs.«01_k».proof.Proof.KernelIdeal.Boundaries
public import Idealize.ShloMosaic.Lib.WordCmp

@[expose] public section

set_option maxRecDepth 16384

noncomputable section

namespace Cert.KernelIdeal.Value

open Idealize.ShloMosaic Idealize.ShloMosaic.TcCoe Idealize.SL.Sem
open Cert.KernelIdeal Cert.KernelIdeal.Gen Cert.RegionKit Cert.Spec

variable (W : Valuation τ sig (Elt Ideal))

/-- The input as a matrix. -/
theorem host0_x (r : Fin 2048) (n : Fin 4096) : (StableHlo.after hostOps0 W (Proc.devRef .tc main_v0)) (ix2 r n)
    = (W (Proc.devRef .tc main_arg0)) (ix3 0 r n) := by
  after_results
  pointwise []
/-- The first normalisation's weights as a row. -/
theorem host0_ln (n : Fin 4096) : (StableHlo.after hostOps0 W (Proc.devRef .tc main_v25)) (ix2 0 n)
    = (W (Proc.devRef .tc main_arg7)) (ix1 n) := by
  after_results
  pointwise []
/-- The triangle of ones. -/
theorem host0_tri (a b : Fin 256) : (StableHlo.after hostOps0 W (Proc.devRef .tc main_v24)) (ix2 a b)
    = if a.val ≤ b.val then (1 : EReal) else 0 := by
  after_results
  pointwise []
  rw [WordCmp.cmpi_sle_eq, WordCmp.toInt_ofNat_of_lt (by have := a.isLt; omega), WordCmp.toInt_ofNat_of_lt (by have := b.isLt; omega)]
  by_cases h : a.val ≤ b.val
  · rw [if_pos h]
    simp only [Nat.cast_le, h]
    show (((1#1 : BitVec 1).toNat : ℝ) : EReal) = 1
    simp
  · rw [if_neg h]
    simp only [Nat.cast_le, h]
    show (((0#1 : BitVec 1).toNat : ℝ) : EReal) = 0
    simp

/-- Three weights side by side, read in the first, the second and the third. -/
theorem beside3_q (a : FVec Ideal S4096x4096 .bf16) (b d : FVec Ideal S4096x1024 .bf16) (k : Fin 4096) (n : Fin 6144) (i : Fin 4096) (h : n.val = i.val) :
    concatenate S4096x6144 1 [⟨S4096x4096, a⟩, ⟨S4096x1024, b⟩, ⟨S4096x1024, d⟩] concatenates_S4096x4096_S4096x1024_S4096x1024_S4096x6144_d1 (ix2 k n) = a (ix2 k i) := by
  have := i.isLt
  pointwise []
  rw [dif_pos (by omega)]
  exact congrArg (fun n => a (ix2 k n)) (Fin.ext h)
/-- A column of the second of three arrays side by side. -/
theorem beside3_k (a : FVec Ideal S4096x4096 .bf16) (b d : FVec Ideal S4096x1024 .bf16) (k : Fin 4096) (n : Fin 6144) (i : Fin 1024) (h : n.val = 4096 + i.val) :
    concatenate S4096x6144 1 [⟨S4096x4096, a⟩, ⟨S4096x1024, b⟩, ⟨S4096x1024, d⟩] concatenates_S4096x4096_S4096x1024_S4096x1024_S4096x6144_d1 (ix2 k n) = b (ix2 k i) := by
  have := i.isLt
  pointwise []
  rw [dif_neg (by omega), dif_pos (by omega)]
  exact congrArg (fun n => b (ix2 k n)) (Fin.ext (by show n.val - 4096 = _; omega))
/-- A column of the third of three arrays side by side. -/
theorem beside3_v (a : FVec Ideal S4096x4096 .bf16) (b d : FVec Ideal S4096x1024 .bf16) (k : Fin 4096) (n : Fin 6144) (i : Fin 1024) (h : n.val = 5120 + i.val) :
    concatenate S4096x6144 1 [⟨S4096x4096, a⟩, ⟨S4096x1024, b⟩, ⟨S4096x1024, d⟩] concatenates_S4096x4096_S4096x1024_S4096x1024_S4096x6144_d1 (ix2 k n) = d (ix2 k i) := by
  have := i.isLt
  pointwise []
  rw [dif_neg (by omega), dif_neg (by omega)]
  exact congrArg (fun n => d (ix2 k n)) (Fin.ext (by show n.val - 4096 - 1024 = _; omega))

/-- The three projections' weights side by side. -/
theorem host1_beside : StableHlo.after hostOps1 W (Proc.devRef .tc main_v30)
    = concatenate S4096x6144 1 [⟨S4096x4096, ((W (Proc.devRef .tc main_arg1)) : FVec Ideal S4096x4096 .bf16)⟩, ⟨S4096x1024, ((W (Proc.devRef .tc main_arg2)) : FVec Ideal S4096x1024 .bf16)⟩,
        ⟨S4096x1024, ((W (Proc.devRef .tc main_arg3)) : FVec Ideal S4096x1024 .bf16)⟩] concatenates_S4096x4096_S4096x1024_S4096x1024_S4096x6144_d1 := by
  after_results
  rfl
/-- The first columns are the query's. -/
theorem host1_q (k : Fin 4096) (h : Fin 32) (d : Fin 128) : (StableHlo.after hostOps1 W (Proc.devRef .tc main_v30)) (ix2 k (qCol3 h d))
    = (W (Proc.devRef .tc main_arg1)) (ix2 k (col h d)) := by
  rw [host1_beside]
  exact beside3_q _ _ _ k _ _ rfl
/-- The next columns are the key's. -/
theorem host1_k (k : Fin 4096) (h : Fin 32) (d : Fin 128) : (StableHlo.after hostOps1 W (Proc.devRef .tc main_v30)) (ix2 k (kCol3 h d))
    = (W (Proc.devRef .tc main_arg2)) (ix2 k (kvCol h d)) := by
  rw [host1_beside]
  exact beside3_k _ _ _ k _ _ (by show (32 + h.val / 4) * 128 + d.val = 4096 + (h.val / 4 * 128 + d.val); omega)
/-- The last columns are the value's. -/
theorem host1_v (k : Fin 4096) (h : Fin 32) (d : Fin 128) : (StableHlo.after hostOps1 W (Proc.devRef .tc main_v30)) (ix2 k (vCol3 h d))
    = (W (Proc.devRef .tc main_arg3)) (ix2 k (kvCol h d)) := by
  rw [host1_beside]
  exact beside3_v _ _ _ k _ _ (by show (40 + h.val / 4) * 128 + d.val = 5120 + (h.val / 4 * 128 + d.val); omega)
/-- The projections of the hash, one for each head. -/
theorem host2_proj (h : Fin 32) (d e : Fin 128) : (StableHlo.after hostOps2 W (Proc.devRef .tc main_v32)) (ix3 h d e)
    = (W (Proc.devRef .tc main_arg5)) (ix4 0 h d e) := by
  after_results
  pointwise []
/-- The biases of the hash, one row for each head. -/
theorem host2_bias (h : Fin 32) (e : Fin 128) : (StableHlo.after hostOps2 W (Proc.devRef .tc main_v33)) (ix3 h 0 e)
    = (W (Proc.devRef .tc main_arg6)) (ix4 0 h 0 e) := by
  after_results
  pointwise []
/-- The output projection's weights. -/
theorem host11_wo (k n : Fin 4096) : (StableHlo.after hostOps11 W (Proc.devRef .tc main_v44)) (ix2 k n)
    = (W (Proc.devRef .tc main_arg4)) (ix2 k n) := by
  after_results
  pointwise []
/-- A row of a block of 256 query rows. -/
def rowOf (i : Fin 8) (r : Fin 256) : Fin 2048 := ⟨256 * i.val + r.val, by have := i.isLt; have := r.isLt; omega⟩

/-- The eight blocks of rows under one another. -/
theorem host11_rows (f : Fin 2048 → Fin 4096 → EReal)
    (h0 : ∀ r n, (W (Proc.devRef .tc main_v35)) (ix2 r n) = f (rowOf 0 r) n)
    (h1 : ∀ r n, (W (Proc.devRef .tc main_v36)) (ix2 r n) = f (rowOf 1 r) n)
    (h2 : ∀ r n, (W (Proc.devRef .tc main_v37)) (ix2 r n) = f (rowOf 2 r) n)
    (h3 : ∀ r n, (W (Proc.devRef .tc main_v38)) (ix2 r n) = f (rowOf 3 r) n)
    (h4 : ∀ r n, (W (Proc.devRef .tc main_v39)) (ix2 r n) = f (rowOf 4 r) n)
    (h5 : ∀ r n, (W (Proc.devRef .tc main_v40)) (ix2 r n) = f (rowOf 5 r) n)
    (h6 : ∀ r n, (W (Proc.devRef .tc main_v41)) (ix2 r n) = f (rowOf 6 r) n)
    (h7 : ∀ r n, (W (Proc.devRef .tc main_v42)) (ix2 r n) = f (rowOf 7 r) n)
    (r : Fin 2048) (n : Fin 4096) : (StableHlo.after hostOps11 W (Proc.devRef .tc main_v43)) (ix2 r n) = f r n := by
  have := r.isLt
  after_results
  pointwise []
  have e (i : Fin 8) (a : Fin 256) (ha : 256 * i.val + a.val = r.val) : rowOf i a = r := Fin.ext ha
  by_cases g0 : r.val < 256
  · rw [dif_pos g0]
    exact (h0 _ _).trans (by rw [e 0 _ (by show 256 * 0 + (r.val) = _; omega)])
  rw [dif_neg g0]
  by_cases g1 : r.val - 256 < 256
  · rw [dif_pos g1]
    exact (h1 _ _).trans (by rw [e 1 _ (by show 256 * 1 + (r.val - 256) = _; omega)])
  rw [dif_neg g1]
  by_cases g2 : r.val - 256 - 256 < 256
  · rw [dif_pos g2]
    exact (h2 _ _).trans (by rw [e 2 _ (by show 256 * 2 + (r.val - 256 - 256) = _; omega)])
  rw [dif_neg g2]
  by_cases g3 : r.val - 256 - 256 - 256 < 256
  · rw [dif_pos g3]
    exact (h3 _ _).trans (by rw [e 3 _ (by show 256 * 3 + (r.val - 256 - 256 - 256) = _; omega)])
  rw [dif_neg g3]
  by_cases g4 : r.val - 256 - 256 - 256 - 256 < 256
  · rw [dif_pos g4]
    exact (h4 _ _).trans (by rw [e 4 _ (by show 256 * 4 + (r.val - 256 - 256 - 256 - 256) = _; omega)])
  rw [dif_neg g4]
  by_cases g5 : r.val - 256 - 256 - 256 - 256 - 256 < 256
  · rw [dif_pos g5]
    exact (h5 _ _).trans (by rw [e 5 _ (by show 256 * 5 + (r.val - 256 - 256 - 256 - 256 - 256) = _; omega)])
  rw [dif_neg g5]
  by_cases g6 : r.val - 256 - 256 - 256 - 256 - 256 - 256 < 256
  · rw [dif_pos g6]
    exact (h6 _ _).trans (by rw [e 6 _ (by show 256 * 6 + (r.val - 256 - 256 - 256 - 256 - 256 - 256) = _; omega)])
  rw [dif_neg g6]
  exact (h7 _ _).trans (by rw [e 7 _ (by show 256 * 7 + (r.val - 256 - 256 - 256 - 256 - 256 - 256 - 256) = _; omega)])
/-- The second normalisation's weights as a row. -/
theorem host12_ln (n : Fin 4096) : (StableHlo.after hostOps12 W (Proc.devRef .tc main_v46)) (ix2 0 n)
    = (W (Proc.devRef .tc main_arg8)) (ix1 n) := by
  after_results
  pointwise []
/-- The last product's weights. -/
theorem host14_wd (k : Fin 11008) (n : Fin 4096) : (StableHlo.after hostOps14 W (Proc.devRef .tc main_v49)) (ix2 k n)
    = (W (Proc.devRef .tc main_arg11)) (ix2 k n) := by
  after_results
  pointwise []
/-- The result with its leading axis. -/
theorem host15_out (r : Fin 2048) (n : Fin 4096) : (StableHlo.after hostOps15 W (Proc.devRef .tc main_v51)) (ix3 0 r n)
    = (W (Proc.devRef .tc main_v50)) (ix2 r n) := by
  after_results
  pointwise []

end Cert.KernelIdeal.Value

end
-- ==== Proof.Value.Head.lean ====
/-
  A head's output over the keys up to a query's block is its output over all keys.
-/
module

public import proofs.«01_k».proof.Proof.Value.Spec

@[expose] public section

noncomputable section

namespace Cert.Spec

open Idealize.ShloMosaic Cert.Rank Finset

/-- A sum whose terms vanish from `s` on is the sum of the first `s`. -/
theorem sum_castLE {s n : ℕ} (hs : s ≤ n) (f : Fin n → EReal) (h : ∀ i : Fin n, s ≤ i.val → f i = 0) :
    ∑ i, f i = ∑ i : Fin s, f (i.castLE hs) := by
  have e : ∑ i ∈ univ.map (Fin.castLEEmb hs), f i = ∑ i, f i :=
    sum_subset (subset_univ _) fun i _ hi => h i (by
      by_contra hlt
      exact hi (mem_map.2 ⟨⟨i.val, by omega⟩, mem_univ _, rfl⟩))
  rw [← e, sum_map]
  rfl

/-- The largest entry of a row is its supremum. -/
theorem fold_max_eq_sup {n : ℕ} (y : Fin n → EReal) : univ.fold max ⊥ y = univ.sup y := rfl

/-- An exponential is not negative. -/
theorem exp_nonneg (x : EReal) : 0 ≤ Ideal.exp x := by
  induction x using EReal.rec with
  | bot => exact le_refl _
  | coe r => exact EReal.coe_nonneg.2 (Real.exp_pos r).le
  | top => exact le_top

/-- Nothing divided by what is not zero is nothing. -/
theorem div_zero_left {y : EReal} (h : y ≠ 0) : Ideal.div 0 y = 0 := by
  unfold Ideal.div
  simp [h]

/-- Some key of a row is kept. -/
theorem exists_kept {n : ℕ} (d : Fin n → EReal) (r : ℕ) (hr : r < n) : ∃ j, Kept d r j := by
  obtain ⟨j, hj, hmin⟩ := exists_min_image (univ.filter fun j : Fin n => j.val ≤ r) (fun j => (ahead d r j).card)
    ⟨⟨r, hr⟩, by simp⟩
  simp only [mem_filter, mem_univ, true_and] at hj hmin
  refine ⟨j, hj, ?_⟩
  have : ahead d r j = ∅ := by
    by_contra hne
    obtain ⟨i, hi⟩ := nonempty_iff_ne_empty.2 hne
    have hi' := hi
    simp only [ahead, mem_filter, mem_univ, true_and] at hi'
    refine absurd (hmin i hi'.1) (not_le.2 (card_lt_card ⟨fun k hk => ?_, fun hs => ?_⟩))
    · simp only [ahead, mem_filter, mem_univ, true_and] at hk ⊢
      refine ⟨hk.1, ?_⟩
      rcases hk.2 with a | a <;> rcases hi'.2 with b | b
      · exact .inl (b.trans a)
      · exact .inl (b.1 ▸ a)
      · exact .inl (a.1 ▸ b)
      · exact .inr ⟨a.1.trans b.1, a.2.trans b.2⟩
    · have := hs hi
      simp [ahead] at this
  rw [this, card_empty]
  norm_num

/-- The exponentials of a row with a kept key of finite score do not sum to zero. -/
theorem sum_expAt_ne_zero {n : ℕ} (y : Fin n → EReal) (hbot : ∃ j, y j ≠ ⊥) (htop : ∀ j, y j ≠ ⊤) : ∑ i, expAt y i ≠ 0 := by
  obtain ⟨j, hj⟩ := hbot
  obtain ⟨m, -, hm⟩ := exists_mem_eq_sup univ ⟨j, mem_univ j⟩ y
  have hmb : y m ≠ ⊥ := fun e => hj (le_bot_iff.1 (e ▸ hm ▸ le_sup (f := y) (mem_univ j)))
  have h1 : expAt y m = 1 := by
    unfold expAt
    rw [fold_max_eq_sup, hm]
    lift y m to ℝ using ⟨htop m, hmb⟩ with t
    rw [← EReal.coe_sub, sub_self, Ideal.exp_coe, Real.exp_zero]
    rfl
  have h2 : (1 : EReal) ≤ ∑ i, expAt y i := h1 ▸ single_le_sum (f := expAt y) (fun i _ => exp_nonneg _) (mem_univ m)
  exact fun e => absurd (e ▸ h2) (by norm_num)

/-- Scores that are lowest from `s` on weigh only the first `s` values. -/
theorem softAt_castLE {s n : ℕ} (hs : s ≤ n) (y v : Fin n → EReal) (hy : ∀ i : Fin n, s ≤ i.val → y i = ⊥)
    (hbot : ∃ j, y j ≠ ⊥) (htop : ∀ j, y j ≠ ⊤) :
    softAt (fun i : Fin s => y (i.castLE hs)) (fun i : Fin s => v (i.castLE hs)) = softAt y v := by
  have hmax : univ.fold max ⊥ (fun i : Fin s => y (i.castLE hs)) = univ.fold max ⊥ y := by
    rw [fold_max_eq_sup, fold_max_eq_sup]
    refine le_antisymm (Finset.sup_le fun i _ => le_sup (f := y) (mem_univ _)) (Finset.sup_le fun i _ => ?_)
    by_cases h : s ≤ i.val
    · rw [hy i h]; exact bot_le
    · exact le_sup (f := fun i : Fin s => y (i.castLE hs)) (mem_univ ⟨i.val, by omega⟩)
  have hexp : ∀ i : Fin s, expAt (fun i : Fin s => y (i.castLE hs)) i = expAt y (i.castLE hs) := fun i => by
    unfold expAt; rw [hmax]
  have hzero : ∀ i : Fin n, s ≤ i.val → expAt y i = 0 := fun i h => by
    unfold expAt
    rw [hy i h, EReal.bot_sub]
    rfl
  have hsum : ∑ i, expAt (fun i : Fin s => y (i.castLE hs)) i = ∑ i, expAt y i := by
    rw [sum_castLE hs _ hzero]
    exact sum_congr rfl fun i _ => hexp i
  unfold softAt
  rw [sum_castLE hs (fun j => Ideal.div (expAt y j) (∑ i, expAt y i) * v j) fun i h => by
    rw [hzero i h, div_zero_left (sum_expAt_ne_zero y hbot htop), zero_mul]]
  refine sum_congr rfl fun i _ => ?_
  rw [hsum, hexp]

/-- A head's output at a query over the first `s` keys, when the query is among them and the scores up to it are finite. -/
theorem headAt_castLE {s n : ℕ} (hs : s ≤ n) (d x v : Fin n → EReal) (r : ℕ) (hr : r < s)
    (hfin : ∀ j : Fin n, j.val ≤ r → x j ≠ ⊥ ∧ x j ≠ ⊤) :
    headAt (fun i : Fin s => d (i.castLE hs)) (fun i => x (i.castLE hs)) (fun i => v (i.castLE hs)) r = headAt d x v r := by
  unfold headAt
  have e : keptScore (fun i : Fin s => d (i.castLE hs)) (fun i => x (i.castLE hs)) r
      = fun i : Fin s => keptScore d x r (i.castLE hs) := by
    funext i
    unfold keptScore
    rw [if_congr (kept_castLE hs d r hr i) rfl rfl]
  rw [e]
  refine softAt_castLE hs _ v (fun i h => if_neg fun hk => ?_) ?_ fun j => ?_
  · have := hk.1; omega
  · obtain ⟨j, hj⟩ := exists_kept d r (lt_of_lt_of_le hr hs)
    exact ⟨j, by unfold keptScore; rw [if_pos hj]; exact (hfin j hj.1).1⟩
  · unfold keptScore
    split
    · rename_i h; exact (hfin j h.1).2
    · exact bot_ne_top

end Cert.Spec

end
-- ==== Proof.Value.Attn.lean ====
/-
  One query block of the kernel's attention, read at an index: the head's output over the keys counted in the module of the
  ranks. The draft scores are whole numbers, so the halvings of the threshold and the ranks at it are counts.
-/
module

public import proofs.«01_k».proof.Proof.AttnCuts
public import proofs.«01_k».proof.Proof.Value.Head
public import Idealize.ShloMosaic.Lib.MatmulPlain
public import Idealize.ShloMosaic.Lib.WordCmp

@[expose] public section

noncomputable section

namespace Cert.AttnOut

open Idealize.ShloMosaic Idealize.ShloMosaic.WordCmp Cert.Rank Cert.Spec Finset

/-! ## Constants and counts -/

/-- The float of this word. -/
theorem word205 : Ideal.ofBits .f32 1129119744#32 = ((205 : ℝ) : EReal) := by
  simp [Ideal.ofBits, Ideal.ieee, -EReal.coe_mul]; norm_num
/-- The float of this word. -/
theorem wordHalf : Ideal.ofBits .f32 1056964608#32 = ((1 / 2 : ℝ) : EReal) := by
  simp [Ideal.ofBits, Ideal.ieee, -EReal.coe_mul]; norm_num
/-- The float of this word. -/
theorem wordLow : Ideal.ofBits .f32 3296329728#32 = ((-1000 : ℝ) : EReal) := by
  simp [Ideal.ofBits, Ideal.ieee, -EReal.coe_mul]; norm_num
/-- The float of this word. -/
theorem word128 : Ideal.ofBits .f32 1124073472#32 = ((128 : ℝ) : EReal) := by
  simp [Ideal.ofBits, Ideal.ieee, -EReal.coe_mul]; norm_num
/-- The float of this word. -/
theorem wordNeg128 : Ideal.ofBits .f32 3271557120#32 = ((-128 : ℝ) : EReal) := by
  simp [Ideal.ofBits, Ideal.ieee, -EReal.coe_mul]; norm_num
/-- The float of this word. -/
theorem wordBot : Ideal.ofBits .f32 4286578688#32 = ⊥ := by simp [Ideal.ofBits, Ideal.ieee]

/-- A truth value widened and read as a number. -/
theorem flag_apply (b : Bool) :
    FloatOps.sitofp (F := Ideal) .f32 (BitVec.setWidth 32 (BitVec.ofBool b)) = if b = true then (1 : EReal) else 0 := by
  cases b
  · show (((BitVec.setWidth 32 (BitVec.ofBool false)).toInt : ℝ) : EReal) = _
    simp
  · show (((BitVec.setWidth 32 (BitVec.ofBool true)).toInt : ℝ) : EReal) = _
    have : (BitVec.setWidth 32 (BitVec.ofBool true)).toInt = 1 := by decide
    rw [this]; simp

/-- A sum of ones and zeros is a count. -/
theorem sum_flags {N : ℕ} (p : Fin N → Prop) [DecidablePred p] :
    ∑ j, (if p j then (1 : EReal) else 0) = (((univ.filter p).card : ℝ) : EReal) := by
  rw [Finset.sum_boole]
  rfl

/-- The positions of a row below a bound with a property, counted. -/
theorem card_below {N : ℕ} (p : ℕ → Prop) [DecidablePred p] (m : ℕ) (hm : m ≤ N) :
    (univ.filter fun i : Fin N => i.val < m ∧ p i.val).card = Nat.count p m := by
  rw [Nat.count_eq_card_filter_range]
  refine card_bij (fun i _ => i.val) (fun i hi => ?_) (fun a _ b _ h => Fin.ext h) fun b hb => ?_
  · simp only [mem_filter, mem_univ, true_and, mem_range] at hi ⊢
    exact hi
  · simp only [mem_filter, mem_range] at hb
    exact ⟨⟨b, by omega⟩, by simp only [mem_filter, mem_univ, true_and]; exact hb, rfl⟩

/-- The order of two integers, read among the extended reals. -/
theorem coe_le_int (a b : ℤ) : ((a : ℝ) : EReal) ≤ ((b : ℝ) : EReal) ↔ a ≤ b := by
  rw [EReal.coe_le_coe_iff, Int.cast_le]
/-- The strict order of two integers, read among the extended reals. -/
theorem coe_lt_int (a b : ℤ) : ((a : ℝ) : EReal) < ((b : ℝ) : EReal) ↔ a < b := by
  rw [EReal.coe_lt_coe_iff, Int.cast_lt]
/-- The equality of two integers, read among the extended reals. -/
theorem coe_eq_int (a b : ℤ) : ((a : ℝ) : EReal) = ((b : ℝ) : EReal) ↔ a = b := by
  rw [EReal.coe_eq_coe_iff, Int.cast_inj]

/-- The middle of two whole numbers, rounded down. -/
theorem middle_int (a b : ℤ) :
    Ideal.liftRound Int.floor ((((a : ℝ) : EReal) + ((b : ℝ) : EReal)) * ((1 / 2 : ℝ) : EReal)) = ((((a + b) / 2 : ℤ) : ℝ) : EReal) := by
  rw [← EReal.coe_add, ← EReal.coe_mul]
  show ((Int.floor (((a : ℝ) + b) * (1 / 2)) : ℝ) : EReal) = _
  have : Int.floor (((a : ℝ) + b) * (1 / 2)) = (a + b) / 2 := by
    rw [Int.floor_eq_iff]
    have h1 : 2 * ((a + b) / 2) ≤ a + b := by omega
    have h2 : a + b < 2 * ((a + b) / 2) + 2 := by omega
    have h1' : (2 : ℝ) * (((a + b) / 2 : ℤ) : ℝ) ≤ a + b := by exact_mod_cast h1
    have h2' : ((a : ℝ) + b) < 2 * (((a + b) / 2 : ℤ) : ℝ) + 2 := by exact_mod_cast h2
    constructor <;> linarith
  rw [this]

variable {s n : ℕ} (k : Cuts Ideal s n)

/-! ## The threshold -/

section Row
variable (d : FVec Ideal (M 256 s) .f32) (r : Fin 256) (m : Fin s → ℤ) (hd : ∀ j, d (ix2 r j) = ((m j : ℝ) : EReal))
include hd

/-- The count of the drafts that reach a threshold, at a row. -/
theorem reach_apply (mid : FVec Ideal (M 256 1) .f32) (t : ℤ) (ht : mid (ix2 r 0) = ((t : ℝ) : EReal)) :
    reach k d mid (ix2 r 0) = ((((reached m t : ℕ) : ℤ) : ℝ) : EReal) := by
  pointwise [reach, rowSum]
  simp only [flag_apply, decide_eq_true_eq, hd, ht, coe_le_int]
  rw [sum_flags]
  unfold reached
  push_cast
  rfl

/-- After some steps the bisection's ends and its count, at a row, are those of the integers. -/
theorem bracket_apply (i : ℕ) :
    (bracket k d i).lo (ix2 r 0) = (((steps m i).1 : ℝ) : EReal) ∧ (bracket k d i).hi (ix2 r 0) = (((steps m i).2.1 : ℝ) : EReal)
      ∧ (bracket k d i).cnt (ix2 r 0) = ((((steps m i).2.2 : ℤ) : ℝ) : EReal) := by
  induction i with
  | zero =>
    refine ⟨?_, ?_, ?_⟩
    · pointwise [bracket, colOf]
      rw [wordNeg128]; norm_num [steps]
    · pointwise [bracket, colOf]
      rw [word128]; norm_num [steps]
    · pointwise [bracket, colOf]
      norm_num [steps]
  | succ i ih =>
    obtain ⟨h1, h2, h3⟩ := ih
    generalize hb : bracket k d i = b at h1 h2 h3
    generalize hs : steps m i = t at h1 h2 h3
    have hm : middle b.lo b.hi (ix2 r 0) = (((t.1 + t.2.1) / 2 : ℤ) : ℝ) := by
      pointwise [middle, colOf]
      rw [h1, h2, wordHalf]
      exact middle_int _ _
    have hc := reach_apply k d r m hd _ _ hm
    have e : bracket k d (i + 1) = halve k d b := by rw [← hb]; rfl
    have e' : steps m (i + 1) = step m t := by rw [← hs]; rfl
    have hcond : (Ideal.ofBits .f32 1129119744#32 ≤ reach k d (middle b.lo b.hi) (ix2 r 0)) ↔ 205 ≤ reached m ((t.1 + t.2.1) / 2) := by
      rw [hc, word205, EReal.coe_le_coe_iff]
      norm_cast
    rw [e, e']
    refine ⟨?_, ?_, ?_⟩
    · pointwise [halve, colOf]
      unfold step
      by_cases h : 205 ≤ reached m ((t.1 + t.2.1) / 2)
      · rw [if_pos (hcond.2 h), if_pos h, hm]
      · rw [if_neg (fun h' => h (hcond.1 h')), if_neg h, h1]
    · pointwise [halve, colOf]
      unfold step
      by_cases h : 205 ≤ reached m ((t.1 + t.2.1) / 2)
      · rw [if_pos (hcond.2 h), if_pos h, h2]
      · rw [if_neg (fun h' => h (hcond.1 h')), if_neg h, hm]
    · pointwise [halve, colOf]
      unfold step
      by_cases h : 205 ≤ reached m ((t.1 + t.2.1) / 2)
      · rw [if_pos (hcond.2 h), if_pos h, h3]
      · rw [if_neg (fun h' => h (hcond.1 h')), if_neg h, hc]

/-! ## The ranks -/

/-- Whether the score at a position is the threshold. -/
def tieAt (m : Fin s → ℤ) (i : ℕ) : Prop := ∃ h : i < s, m ⟨i, h⟩ = (steps m 8).1

instance (m : Fin s → ℤ) : DecidablePred (tieAt m) := fun i => inferInstanceAs (Decidable (∃ h : i < s, _))

/-- A tie weighs one, any other key nothing. -/
theorem tieWeights_apply (j : Fin s) : tieWeights k d (ix2 r j) = if tieAt m j.val then (1 : EReal) else 0 := by
  pointwise [tieWeights, ties]
  rw [flag_apply, hd, (bracket_apply k d r m hd 8).1]
  refine if_congr ?_ rfl rfl
  rw [decide_eq_true_eq, coe_eq_int]
  exact ⟨fun h => ⟨j.isLt, h⟩, fun ⟨_, h⟩ => h⟩

variable (tri : FVec Ideal (M 256 256) .bf16) (htri : ∀ a b : Fin 256, tri (ix2 a b) = if a.val ≤ b.val then (1 : EReal) else 0)
  (hs : 256 * n = s)
include htri hs

/-- A product with the triangle counts the ties of a chunk up to a column. -/
theorem chunkRank_apply (c : Fin n) (j : Fin 256) :
    chunkRank k d tri c (ix2 r j) = ((Nat.count (fun a => tieAt m (256 * c.val + a)) (j.val + 1) : ℝ) : EReal) := by
  have hlt : ∀ a : Fin 256, 256 * c.val + a.val < s := fun a => by have := c.isLt; omega
  have e : chunkRank k d tri c (ix2 r j)
      = ∑ a : Fin 256, extractStridedSlice (M 256 256) ![0, 256 * c.val] (tieWeights k d) (k.slices c) (ix2 r a) * tri (ix2 a j) := by
    refine (Ideal.matmul_plain_apply (M := 256) (K := 256) (N := 256) none _ tri _ r j).trans ?_
    show Ideal.ofBits .f32 0x00000000#32 + _ = _
    rw [Ideal.ofBits_zero_f32, zero_add]
    rfl
  have e2 : ∀ a : Fin 256, extractStridedSlice (M 256 256) ![0, 256 * c.val] (tieWeights k d) (k.slices c) (ix2 r a)
      = if tieAt m (256 * c.val + a.val) then (1 : EReal) else 0 := fun a => by
    refine Eq.trans ?_ (tieWeights_apply k d r m hd ⟨256 * c.val + a.val, hlt a⟩)
    show tieWeights k d _ = tieWeights k d _
    refine congrArg (tieWeights k d) ?_
    funext b
    fin_cases b
    · exact Fin.ext (Nat.zero_add _)
    · rfl
  have e3 : ∀ a : Fin 256, (if tieAt m (256 * c.val + a.val) then (1 : EReal) else 0) * (if a.val ≤ j.val then (1 : EReal) else 0)
      = if a.val < j.val + 1 ∧ tieAt m (256 * c.val + a.val) then (1 : EReal) else 0 := fun a => by
    by_cases h1 : tieAt m (256 * c.val + a.val) <;> by_cases h2 : a.val ≤ j.val <;> simp [h1, h2, Nat.lt_succ_iff]
  rw [e]
  simp only [e2, htri, e3]
  rw [sum_flags, card_below (fun a => tieAt m (256 * c.val + a)) (j.val + 1) (by have := j.isLt; omega)]

/-- The running total counts the ties before a chunk. -/
theorem before_apply (c : ℕ) (hc : c ≤ n) : before k d tri c (ix2 r 0) = ((Nat.count (tieAt m) (256 * c) : ℝ) : EReal) := by
  induction c with
  | zero =>
    pointwise [before, colOf]
    simp
  | succ c ih =>
    have hlt : c < n := hc
    have e : before k d tri (c + 1) (ix2 r 0) = before k d tri c (ix2 r 0) + chunkRank k d tri ⟨c, hlt⟩ (ix2 r 255) := by
      show (if h : c < n then addf (before k d tri c) (extractStridedSlice (M 256 1) ![0, 255] (chunkRank k d tri ⟨c, h⟩) k.lastColumn)
        else before k d tri c) (ix2 r 0) = _
      rw [dif_pos hlt]
      pointwise
    rw [e, ih (le_of_lt hlt), chunkRank_apply k d r m hd tri htri hs ⟨c, hlt⟩ 255, ← EReal.coe_add, Nat.mul_succ,
      Nat.count_add (tieAt m) (256 * c) 256, Nat.cast_add]
    rfl

/-- How the chunks laid side by side are read. -/
def Joins {s n : ℕ} (k : Cuts Ideal s n) : Prop :=
  ∀ (f : Fin n → FVec Ideal (M 256 256) .f32) (r : Fin 256) (c : Fin n) (a : Fin 256) (h : 256 * c.val + a.val < s),
    k.join f (ix2 r ⟨256 * c.val + a.val, h⟩) = f c (ix2 r a)

/-- The rank of a key among the ties of its row. -/
theorem ranks_apply (hj : Joins k) (j : Fin s) :
    ranks k d tri (ix2 r j) = ((((tieRank m (steps m 8).1 j : ℕ) : ℤ) : ℝ) : EReal) := by
  have hc : j.val / 256 < n := by have := j.isLt; omega
  have hlt : 256 * (j.val / 256) + j.val % 256 < s := by have := j.isLt; omega
  have ej : j = ⟨256 * (j.val / 256) + j.val % 256, hlt⟩ := Fin.ext (show j.val = 256 * (j.val / 256) + j.val % 256 by omega)
  have e : ranks k d tri (ix2 r j) = chunkRank k d tri ⟨j.val / 256, hc⟩ (ix2 r ⟨j.val % 256, by omega⟩) + before k d tri (j.val / 256) (ix2 r 0) := by
    conv_lhs => rw [ej]
    refine (hj _ r ⟨j.val / 256, hc⟩ ⟨j.val % 256, by omega⟩ hlt).trans ?_
    pointwise
  rw [e, chunkRank_apply k d r m hd tri htri hs, before_apply k d r m hd tri htri hs _ hc.le, ← EReal.coe_add]
  have hcount : tieRank m (steps m 8).1 j = Nat.count (tieAt m) (j.val + 1) := by
    rw [← card_below (N := s) (tieAt m) (j.val + 1) j.isLt]
    unfold tieRank
    congr 1
    ext i
    simp only [mem_filter, mem_univ, true_and, Nat.lt_succ_iff]
    exact and_congr_right fun _ => ⟨fun h => ⟨i.isLt, h⟩, fun ⟨_, h⟩ => h⟩
  have hsplit : Nat.count (tieAt m) (j.val + 1)
      = Nat.count (tieAt m) (256 * (j.val / 256)) + Nat.count (fun a => tieAt m (256 * (j.val / 256) + a)) (j.val % 256 + 1) := by
    rw [← Nat.count_add]
    congr 1
    omega
  rw [hcount, hsplit, add_comm]
  push_cast
  rfl

end Row

/-! ## The kept places -/

/-- The signed comparison of two small words. -/
theorem sle_word (a b : ℕ) (ha : a < 2 ^ 31) (hb : b < 2 ^ 31) :
    IntOp.cmpi .sle (BitVec.ofNat 32 a) (BitVec.ofNat 32 b) = BitVec.ofBool (decide (a ≤ b)) := by
  rw [cmpi_sle_eq, toInt_ofNat_of_lt ha, toInt_ofNat_of_lt hb]
  simp

/-- The strict signed comparison of two small words. -/
theorem slt_word (a b : ℕ) (ha : a < 2 ^ 31) (hb : b < 2 ^ 31) :
    IntOp.cmpi .slt (BitVec.ofNat 32 a) (BitVec.ofNat 32 b) = BitVec.ofBool (decide (a < b)) := by
  rw [cmpi_slt_eq, toInt_ofNat_of_lt ha, toInt_ofNat_of_lt hb]
  simp

section Band
variable (q : ℕ) (hq : q + 256 ≤ 2048) (hs2 : s ≤ 2048)
include hq

/-- The word of a row's position. -/
theorem row_word (r : Fin 256) : IntOp.addi (BitVec.ofNat 32 q) (BitVec.ofNat 32 r.val) = BitVec.ofNat 32 (q + r.val) :=
  (BitVec.ofNat_add q r.val).symm

include hs2

/-- A key is in the band when it is not past the row. -/
theorem inBand_apply (r : Fin 256) (j : Fin s) : inBand k (BitVec.ofNat 32 q) (ix2 r j) = BitVec.ofBool (decide (j.val ≤ q + r.val)) := by
  pointwise [inBand, rowAt]
  rw [row_word q hq, sle_word _ _ (by have := j.isLt; omega) (by have := r.isLt; omega)]

/-- A draft score in the band, and the low value past it. -/
theorem draft_apply (qh : FVec Ideal (M 256 128) .bf16) (kh : FVec Ideal (M s 128) .bf16) (r : Fin 256) (z : Fin s → ℤ)
    (hz : ∀ j, dotAt (fun e => qh (ix2 r e)) (fun e => kh (ix2 j e)) = ((z j : ℝ) : EReal)) (j : Fin s) :
    draft k (BitVec.ofNat 32 q) qh kh (ix2 r j) = ((low z (q + r.val) j : ℝ) : EReal) := by
  have e : matmul k.dotT none qh kh (constant (F := Ideal) (M 256 s) .f32 0x00000000#32) (ix2 r j) = ((z j : ℝ) : EReal) := by
    refine (Ideal.matmul_transposedRhs_apply (M := 256) (K := 128) (N := s) none qh kh _ r j).trans ?_
    show Ideal.ofBits .f32 0x00000000#32 + _ = _
    rw [Ideal.ofBits_zero_f32, zero_add, ← hz j]
    rfl
  show Scalar.select (inBand k (BitVec.ofNat 32 q) (ix2 r j)) (matmul k.dotT none qh kh (constant (F := Ideal) (M 256 s) .f32 0x00000000#32) (ix2 r j))
    (Ideal.ofBits .f32 3296329728#32) = _
  rw [inBand_apply k q hq hs2, e, wordLow]
  unfold low
  by_cases h : j.val ≤ q + r.val
  · rw [if_pos h, decide_eq_true h]; rfl
  · rw [if_neg h, decide_eq_false h]
    show ((-1000 : ℝ) : EReal) = _
    norm_num

variable (tri : FVec Ideal (M 256 256) .bf16) (htri : ∀ a b : Fin 256, tri (ix2 a b) = if a.val ≤ b.val then (1 : EReal) else 0)
  (hs : 256 * n = s) (hj : Joins k)
include htri hs hj

/-- The keys that the kernel keeps are those that the sort keeps. -/
theorem kept_apply (d : FVec Ideal (M 256 s) .f32) (r : Fin 256) (z : Fin s → ℤ) (hz : ∀ j, -128 ≤ z j)
    (hd : ∀ j, d (ix2 r j) = ((low z (q + r.val) j : ℝ) : EReal)) (hr : q + r.val < s)
    (hfew : (univ.filter fun j : Fin s => j.val ≤ q + r.val ∧ 127 ≤ z j).card < 205) (j : Fin s) :
    kept k (BitVec.ofNat 32 q) d tri (ix2 r j) = BitVec.ofBool (decide (Kept z (q + r.val) j)) := by
  pointwise [kept, rowAt, ties, colOf]
  obtain ⟨h1, -, h3⟩ := bracket_apply k d r _ hd 8
  rw [row_word q hq, slt_word _ _ (by have := r.isLt; omega) (by norm_num), inBand_apply k q hq hs2, h1, h3, hd,
    ranks_apply k d r _ hd tri htri hs hj j, word205, ← EReal.coe_sub, andi_ofBool, andi_ofBool, ori_ofBool, ori_ofBool]
  refine congrArg BitVec.ofBool ?_
  rw [Bool.eq_iff_iff, decide_eq_true_eq, ← kept_iff z (q + r.val) hr hz hfew j]
  simp only [Bool.or_eq_true, Bool.and_eq_true, decide_eq_true_eq, coe_lt_int, coe_eq_int, or_assoc]
  refine or_congr Iff.rfl (or_congr (and_congr Iff.rfl ?_) Iff.rfl)
  rw [EReal.coe_le_coe_iff]
  norm_cast

/-- The masked scores: a kept key has its score, any other minus infinity. -/
theorem scores_apply (scale mask : EReal) (hmask : mask = ⊥) (qh : FVec Ideal (M 256 128) .bf16) (kh : FVec Ideal (M s 128) .bf16)
    (qr : FVec Ideal (M 256 128) .bf16) (kr : FVec Ideal (M s 128) .bf16) (r : Fin 256) (z : Fin s → ℤ) (hz : ∀ j, -128 ≤ z j)
    (hd : ∀ j, dotAt (fun e => qh (ix2 r e)) (fun e => kh (ix2 j e)) = ((z j : ℝ) : EReal)) (hr : q + r.val < s)
    (hfew : (univ.filter fun j : Fin s => j.val ≤ q + r.val ∧ 127 ≤ z j).card < 205) (j : Fin s) :
    scores k (BitVec.ofNat 32 q) scale mask (draft k (BitVec.ofNat 32 q) qh kh) tri qr kr (ix2 r j)
      = keptScore (fun j => dotAt (fun e => qh (ix2 r e)) (fun e => kh (ix2 j e)))
          (fun j => dotAt (fun e => qr (ix2 r e)) (fun e => kr (ix2 j e)) * scale) (q + r.val) j := by
  have e : matmul k.dotT none qr kr (constant (F := Ideal) (M 256 s) .f32 0x00000000#32) (ix2 r j)
      = dotAt (fun e => qr (ix2 r e)) (fun e => kr (ix2 j e)) := by
    refine (Ideal.matmul_transposedRhs_apply (M := 256) (K := 128) (N := s) none qr kr _ r j).trans ?_
    show Ideal.ofBits .f32 0x00000000#32 + _ = _
    rw [Ideal.ofBits_zero_f32, zero_add]
    rfl
  show Scalar.select (kept k (BitVec.ofNat 32 q) (draft k (BitVec.ofNat 32 q) qh kh) tri (ix2 r j))
    (matmul k.dotT none qr kr (constant (F := Ideal) (M 256 s) .f32 0x00000000#32) (ix2 r j) * scale) mask = _
  rw [e, kept_apply k q hq hs2 tri htri hs hj _ r z hz (draft_apply k q hq hs2 qh kh r z hd) hr hfew j, hmask]
  have hk := kept_congr z (fun j => dotAt (fun e => qh (ix2 r e)) (fun e => kh (ix2 j e))) (fun t : ℤ => ((t : ℝ) : EReal))
    (fun a b hab => (coe_lt_int a b).2 hab) hd (q + r.val) j
  unfold keptScore
  by_cases h : Kept z (q + r.val) j
  · rw [if_pos (hk.2 h), decide_eq_true h]; rfl
  · rw [if_neg (fun h' => h (hk.1 h')), decide_eq_false h]; rfl

end Band

/-- The weights times the values are the softmax of the row. -/
theorem soft_apply (x : FVec Ideal (M 256 s) .f32) (v : FVec Ideal (M s 128) .f32) (r : Fin 256) (e : Fin 128) :
    matmul k.dotV none (weights k x) (truncf .bf16 v k.bits) (constant (F := Ideal) (M 256 128) .f32 0x00000000#32) (ix2 r e)
      = softAt (fun j => x (ix2 r j)) (fun j => v (ix2 j e)) := by
  refine (Ideal.matmul_plain_apply (M := 256) (K := s) (N := 128) none _ _ _ r e).trans ?_
  show Ideal.ofBits .f32 0x00000000#32 + _ = _
  rw [Ideal.ofBits_zero_f32, zero_add]
  unfold softAt expAt
  refine sum_congr rfl fun j _ => congrArg₂ _ ?_ rfl
  show weights k x (ix2 r j) = _
  pointwise [weights, exps, rowSum]
  rw [wordBot]

/-- The attention of one query block at an index. -/
theorem attnBlock_apply (q : ℕ) (hq : q + 256 ≤ 2048) (hs2 : s ≤ 2048) (hqs : q + 256 ≤ s) (hs : 256 * n = s) (hj : Joins k)
    (scale mask : EReal) (hmask : mask = ⊥) (x0 : FVec Ideal (M 256 128) .bf16) (x1 : FVec Ideal (M s 128) .bf16)
    (x2 : FVec Ideal (M 256 128) .bf16) (x3 : FVec Ideal (M s 128) .bf16) (x4 : FVec Ideal (M s 128) .f32)
    (x5 : FVec Ideal (M 256 256) .bf16) (htri : ∀ a b : Fin 256, x5 (ix2 a b) = if a.val ≤ b.val then (1 : EReal) else 0)
    (r : Fin 256) (e : Fin 128) (z : Fin s → ℤ) (hz : ∀ j, -128 ≤ z j)
    (hd : ∀ j, dotAt (fun e => x0 (ix2 r e)) (fun e => x1 (ix2 j e)) = ((z j : ℝ) : EReal))
    (hfew : (univ.filter fun j : Fin s => j.val ≤ q + r.val ∧ 127 ≤ z j).card < 205) :
    attnBlock (F := Ideal) k (BitVec.ofNat 32 q) scale mask x0 x1 x2 x3 x4 x5 (ix2 r e)
      = headAt (fun j => dotAt (fun e => x0 (ix2 r e)) (fun e => x1 (ix2 j e)))
          (fun j => dotAt (fun e => x2 (ix2 r e)) (fun e => x3 (ix2 j e)) * scale) (fun j => x4 (ix2 j e)) (q + r.val) := by
  unfold attnBlock
  simp only [shapeCast_id]
  refine (soft_apply k _ x4 r e).trans ?_
  unfold headAt
  refine congrArg (fun y => softAt y fun j => x4 (ix2 j e)) (funext fun j => ?_)
  exact scores_apply k q hq hs2 x5 htri hs hj scale mask hmask x0 x1 x2 x3 r z hz hd (by have := r.isLt; omega) hfew j

/-! ## The chunks laid side by side -/

/-- The chunks of this width are joined beside one another. -/
theorem joins1 : Joins (cuts1 (F := Ideal)) := fun f r c a h => by
  have : c = 0 := Subsingleton.elim _ _
  subst this
  show f 0 (ix2 r _) = f 0 (ix2 r a)
  refine congrArg (fun t => f 0 (ix2 r t)) (Fin.ext ?_)
  show 256 * 0 + a.val = a.val
  omega

/-- A chunk as a piece of a row. -/
abbrev piece (f : FVec Ideal (M 256 256) .f32) : (t : Shape) × (t.Idx → Ideal .f32) := ⟨M 256 256, f⟩

/-- A column of chunks beside one another, found in its chunk. -/
theorem pieces_apply (r : Fin 256) (j : Fin s) (fs : List (FVec Ideal (M 256 256) .f32)) :
    ∀ (hf : ∀ t ∈ (fs.map piece).map (·.1), t.FitsOff (M 256 s) 1) (c : ℕ) (hc : c < (axisSizes (M 256 s) 1 (fs.map piece)).sum)
      (q : ℕ) (a : Fin 256) (hq : q < fs.length), c = 256 * q + a.val →
      concatenateAt (M 256 s) 1 (ix2 r j) (fs.map piece) hf c hc = fs[q] (ix2 r a) := by
  induction fs with
  | nil => intro _ _ _ _ _ hq; exact absurd hq (Nat.not_lt_zero _)
  | cons f fs ih =>
    intro hf c hc q a hq e
    have ha := a.isLt
    have here : ∀ (g : FVec Ideal (M 256 256) .f32) (i : (M 256 256).Idx), (i 0).val = r.val → (i 1).val = a.val → g i = g (ix2 r a) := by
      intro g i h0 h1
      refine congrArg g (funext fun b => Fin.ext ?_)
      fin_cases b
      · exact h0
      · exact h1
    match fs, ih with
    | [], _ =>
      have hq0 : q = 0 := by simpa using hq
      subst hq0
      exact here f _ rfl (by show c = a.val; omega)
    | g :: fs, ih =>
      show (if hlt : c < 256 then _ else _) = _
      by_cases hlt : c < 256
      · have hq0 : q = 0 := by omega
        subst hq0
        rw [dif_pos hlt]
        exact here f _ rfl (by show c = a.val; omega)
      · rw [dif_neg hlt]
        obtain ⟨q, rfl⟩ : ∃ q', q = q' + 1 := ⟨q - 1, by omega⟩
        exact ih _ _ _ q a (by simpa using hq) (by show c - 256 = _; omega)

/-- A column of equal chunks joined beside one another. -/
theorem concatenate_pieces (f : Fin n → FVec Ideal (M 256 256) .f32) (xs : List ((t : Shape) × (t.Idx → Ideal .f32)))
    (hx : xs = (List.ofFn f).map piece) (h : Shape.Concatenates (xs.map (·.1)) (M 256 s) 1) (r : Fin 256) (c : Fin n) (a : Fin 256)
    (hc : 256 * c.val + a.val < s) : concatenate (M 256 s) 1 xs h (ix2 r ⟨256 * c.val + a.val, hc⟩) = f c (ix2 r a) := by
  subst hx
  rw [concatenate_apply]
  refine (pieces_apply r _ (List.ofFn f) _ _ _ c.val a (by simp) rfl).trans ?_
  simp

/-- The chunks are joined beside one another. -/
theorem joins_beside (s n : ℕ) (hc : Shape.Concatenates (List.replicate n (M 256 256)) (M 256 s) 1)
    (f : Fin n → FVec Ideal (M 256 256) .f32) (r : Fin 256) (c : Fin n) (a : Fin 256) (h : 256 * c.val + a.val < s) :
    beside s n hc f (ix2 r ⟨256 * c.val + a.val, h⟩) = f c (ix2 r a) :=
  concatenate_pieces f _ (by rw [List.map_ofFn]; rfl) _ r c a h

/-- The chunks of this width are joined beside one another. -/
theorem joins2 : Joins (cuts2 (F := Ideal)) := fun f r c a h => joins_beside 512 2 (by decide) f r c a h
/-- The chunks of this width are joined beside one another. -/
theorem joins3 : Joins (cuts3 (F := Ideal)) := fun f r c a h => joins_beside 768 3 (by decide) f r c a h
/-- The chunks of this width are joined beside one another. -/
theorem joins4 : Joins (cuts4 (F := Ideal)) := fun f r c a h => joins_beside 1024 4 (by decide) f r c a h
/-- The chunks of this width are joined beside one another. -/
theorem joins5 : Joins (cuts5 (F := Ideal)) := fun f r c a h => joins_beside 1280 5 (by decide) f r c a h
/-- The chunks of this width are joined beside one another. -/
theorem joins6 : Joins (cuts6 (F := Ideal)) := fun f r c a h => joins_beside 1536 6 (by decide) f r c a h
/-- The chunks of this width are joined beside one another. -/
theorem joins7 : Joins (cuts7 (F := Ideal)) := fun f r c a h => joins_beside 1792 7 (by decide) f r c a h
/-- The chunks of this width are joined beside one another. -/
theorem joins8 : Joins (cuts8 (F := Ideal)) := fun f r c a h => joins_beside 2048 8 (by decide) f r c a h

end Cert.AttnOut

end
-- ==== Proof.Value.AttnAt.lean ====
/-
  The attention block at an index, on one head's rows and columns of the arrays.
-/
module

public import proofs.«01_k».proof.Proof.Value.RopeHash
public import proofs.«01_k».proof.Proof.Value.Host
public import proofs.«01_k».proof.Proof.Value.Attn
public import proofs.«01_k».proof.Proof.Value.Head

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.RegionKit Cert.Spec Cert.AttnOut

variable (c : Dev nD) (W : Valuation τ sig (Elt Ideal))

/-- A query's draft score of a key: the product of their hashes. -/
def draftW (r : Fin 2048) (h : Fin 32) (j : Fin 2048) : EReal :=
  dotAt (fun e => (W (Proc.devRef .tc main_v34_2)) (ix2 r (col h e))) (fun e => (W (Proc.devRef .tc main_v34_3)) (ix2 j (col h e)))

/-- A query's score of a key. -/
def scoreW (r : Fin 2048) (h : Fin 32) (j : Fin 2048) : EReal :=
  dotAt (fun e => (W (Proc.devRef .tc main_v34_0)) (ix2 r (col h e))) (fun e => (W (Proc.devRef .tc main_v34_1)) (ix2 j (col h e)))
    * (((Real.sqrt 128)⁻¹ : ℝ) : EReal)

/-- One entry of one head's attention. -/
def attW (r : Fin 2048) (h : Fin 32) (e : Fin 128) : EReal :=
  headAt (draftW W r h) (scoreW W r h) (fun j => (W (Proc.devRef .tc main_v31)) (ix2 j (vCol3 h e))) r.val

/-- What the attention needs of the arrays it reads: the triangle of ones, draft scores that are
    integers of which fewer than 205 reach 127, finite scores of the keys up to the row. -/
structure Good : Prop where
  tri : ∀ a b : Fin 256, (W (Proc.devRef .tc main_v24)) (ix2 a b) = if a.val ≤ b.val then (1 : EReal) else 0
  draft : ∀ (r : Fin 2048) (h : Fin 32), ∃ z : Fin 2048 → ℤ, (∀ j, -128 ≤ z j) ∧ (∀ j, draftW W r h j = ((z j : ℝ) : EReal))
    ∧ (Finset.univ.filter fun j : Fin 2048 => j.val ≤ r.val ∧ 127 ≤ z j).card < 205
  score : ∀ (r : Fin 2048) (h : Fin 32) (j : Fin 2048), j.val ≤ r.val → scoreW W r h j ≠ ⊥ ∧ scoreW W r h j ≠ ⊤

/-- The scale is one over the root of 128. -/
theorem scale_eq : (Named.named (F := Ideal) (φ := .f32) κ "scale" (0x3DB504F3#32) : EReal) = (((Real.sqrt 128)⁻¹ : ℝ) : EReal) := rfl
/-- The mask is minus infinity. -/
theorem mask_eq : (Named.named (F := Ideal) (φ := .f32) κ "mask" (0xF149F2CA#32) : EReal) = ⊥ := rfl

variable {W} {s n : ℕ}

/-- The attention block on a head's rows and columns of the arrays. -/
theorem attn_at (hW : Good W) {k : Cuts s n (F := Ideal)} (q : ℕ) (hq : q + 256 ≤ 2048) (hs2 : s ≤ 2048) (hqs : q + 256 ≤ s) (hs : 256 * n = s) (hj : Joins k)
    (t : Fin 32) (x0 : FVec Ideal (M 256 128) .bf16) (x1 : FVec Ideal (M s 128) .bf16)
    (x2 : FVec Ideal (M 256 128) .bf16) (x3 : FVec Ideal (M s 128) .bf16) (x4 : FVec Ideal (M s 128) .f32)
    (x5 : FVec Ideal (M 256 256) .bf16)
    (h0 : ∀ (r : Fin 256) (e : Fin 128), x0 (ix2 r e) = (W (Proc.devRef .tc main_v34_2)) (ix2 ⟨q + r.val, by have := r.isLt; omega⟩ (col t e)))
    (h1 : ∀ (j : Fin s) (e : Fin 128), x1 (ix2 j e) = (W (Proc.devRef .tc main_v34_3)) (ix2 (j.castLE hs2) (col t e)))
    (h2 : ∀ (r : Fin 256) (e : Fin 128), x2 (ix2 r e) = (W (Proc.devRef .tc main_v34_0)) (ix2 ⟨q + r.val, by have := r.isLt; omega⟩ (col t e)))
    (h3 : ∀ (j : Fin s) (e : Fin 128), x3 (ix2 j e) = (W (Proc.devRef .tc main_v34_1)) (ix2 (j.castLE hs2) (col t e)))
    (h4 : ∀ (j : Fin s) (e : Fin 128), x4 (ix2 j e) = (W (Proc.devRef .tc main_v31)) (ix2 (j.castLE hs2) (vCol3 t e)))
    (h5 : ∀ a b : Fin 256, x5 (ix2 a b) = (W (Proc.devRef .tc main_v24)) (ix2 a b))
    (r : Fin 256) (e : Fin 128) (R : Fin 2048) (hR : R.val = q + r.val) :
    attnBlock (F := Ideal) k (BitVec.ofNat 32 q) (Named.named κ "scale" 0x3DB504F3#32) (Named.named κ "mask" 0xF149F2CA#32) x0 x1 x2 x3 x4 x5 (ix2 r e)
      = attW W R t e := by
  have hRR : (⟨q + r.val, by have := r.isLt; omega⟩ : Fin 2048) = R := Fin.ext hR.symm
  obtain ⟨z, hz, hzd, hzc⟩ := hW.draft R t
  have hd : (fun j : Fin s => dotAt (fun e => x0 (ix2 r e)) (fun e => x1 (ix2 j e))) = draftW W R t ∘ Fin.castLE hs2 := by
    funext j
    exact congrArg₂ dotAt (funext fun e => (h0 r e).trans (by rw [hRR])) (funext fun e => h1 j e)
  have hx : (fun j : Fin s => dotAt (fun e => x2 (ix2 r e)) (fun e => x3 (ix2 j e)) * (((Real.sqrt 128)⁻¹ : ℝ) : EReal)) = scoreW W R t ∘ Fin.castLE hs2 := by
    funext j
    exact congrArg (· * _) (congrArg₂ dotAt (funext fun e => (h2 r e).trans (by rw [hRR])) (funext fun e => h3 j e))
  rw [scale_eq, mask_eq]
  refine (attnBlock_apply k q hq hs2 hqs hs hj _ _ rfl x0 x1 x2 x3 x4 x5 (fun a b => (h5 a b).trans (hW.tri a b)) r e
    (z ∘ Fin.castLE hs2) (fun j => hz _) (fun j => (congrFun hd j).trans (hzd _)) ?_).trans ?_
  · refine lt_of_le_of_lt ?_ hzc
    refine Finset.card_le_card_of_injOn (Fin.castLE hs2) (fun j hj => ?_) (Fin.castLE_injective hs2).injOn
    simpa [hR] using hj
  · rw [hd, hx, ← hR, show (fun j : Fin s => x4 (ix2 j e)) = (fun j => (W (Proc.devRef .tc main_v31)) (ix2 j (vCol3 t e))) ∘ Fin.castLE hs2 from funext fun j => h4 j e]
    exact headAt_castLE hs2 (draftW W R t) (scoreW W R t) (fun j => (W (Proc.devRef .tc main_v31)) (ix2 j (vCol3 t e))) R.val (by have := r.isLt; omega) (hW.score R t)

end Cert.KernelIdeal.Value

end
-- ==== Proof.Value.AttnExitA.lean ====
/-
  The attention launches of query blocks 0 and 1, read at an index: each is its 256 rows of
  the causal attention over all 2048 keys.
-/
module

public import proofs.«01_k».proof.Proof.Value.AttnAt

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.RegionKit Cert.Spec Cert.AttnOut

variable (c : Dev nD) (W : Valuation τ sig (Elt Ideal))

/-! ## Launch 3: query block 0 -/

/-- Which block each window takes at every step of the grid. -/
theorem idx3 : ∀ t : Fin cfg3.N, win3_0.index t = ![0, t.val] ∧ win3_1.index t = ![0, t.val] ∧ win3_2.index t = ![0, t.val]
    ∧ win3_3.index t = ![0, t.val] ∧ win3_4.index t = ![0, 40 + t.val / 4] ∧ win3_5.index t = ![0, 0] ∧ win3_6.index t = ![0, t.val] :=
  (by decide +kernel : ∀ t : Fin grid3.N, _)

set_option maxHeartbeats 2000000 in
/-- The attention of query block 0. -/
theorem exit3 (hW : Good W) : exitOf cfg3 c y3 W (Proc.devRef .tc main_v35) = fun z => attW W (rowOf 0 (z 0)) (headOf (z 1)) (dimOf (z 1)) := by
  refine (exitOf_arr c (Cert.RegionKit.facts₀ launch3).sharedIn y3 W 6).trans ?_
  refine (datOf cfg3 c y3 (arraysOf cfg3 c W)).arrAt_eq_of_covers 6 _ (by decide +kernel) fun t _ y => ?_
  blk_simp
  show out3 (F := Ideal) (seen (arraysOf cfg3 c W) t 0) (seen (arraysOf cfg3 c W) t 1) (seen (arraysOf cfg3 c W) t 2) (seen (arraysOf cfg3 c W) t 3) (seen (arraysOf cfg3 c W) t 4) (seen (arraysOf cfg3 c W) t 5) y = _
  have e0 : ((((cfg3.win 6).blk t).view.emb y 0 : Fin _) : ℕ) = (y 0).val := by blk_simp [idx3 t]
  have e1 : ((((cfg3.win 6).blk t).view.emb y 1 : Fin _) : ℕ) = t.val * 128 + (y 1).val := by blk_simp [idx3 t]
  generalize ((cfg3.win 6).blk t).view.emb y = z at e0 e1 ⊢
  obtain ⟨h1, h2⟩ := head_of_block t (y 1) (z 1) e1
  rw [show z 0 = y 0 from Fin.ext e0, h1, h2]
  refine (congrArg _ (eq_ix2 y)).trans (attn_at hW 0 (by decide) (by decide) (by decide) (by decide) joins1 t _ _ _ _ _ _
    (fun r e => ?_) (fun r e => ?_) (fun r e => ?_) (fun r e => ?_) (fun r e => ?_) (fun r e => ?_) (y 0) (y 1) _ rfl)
  · refine (seen_apply uncut3 _ t 0 _).trans ?_
    show arraysOf cfg3 c W 0 (((cfg3.win 0).blk t).view.emb _) = _
    blk_ext [idx3 t, col, vCol3, Fin.val_castLE]
  · refine (seen_apply uncut3 _ t 1 _).trans ?_
    show arraysOf cfg3 c W 1 (((cfg3.win 1).blk t).view.emb _) = _
    blk_ext [idx3 t, col, vCol3, Fin.val_castLE]
  · refine (seen_apply uncut3 _ t 2 _).trans ?_
    show arraysOf cfg3 c W 2 (((cfg3.win 2).blk t).view.emb _) = _
    blk_ext [idx3 t, col, vCol3, Fin.val_castLE]
  · refine (seen_apply uncut3 _ t 3 _).trans ?_
    show arraysOf cfg3 c W 3 (((cfg3.win 3).blk t).view.emb _) = _
    blk_ext [idx3 t, col, vCol3, Fin.val_castLE]
  · refine (seen_apply uncut3 _ t 4 _).trans ?_
    show arraysOf cfg3 c W 4 (((cfg3.win 4).blk t).view.emb _) = _
    blk_ext [idx3 t, col, vCol3, Fin.val_castLE]
  · refine (seen_apply uncut3 _ t 5 _).trans ?_
    show arraysOf cfg3 c W 5 (((cfg3.win 5).blk t).view.emb _) = _
    blk_ext [idx3 t, col, vCol3, Fin.val_castLE]

/-! ## Launch 4: query block 1 -/

/-- Which block each window takes at every step of the grid. -/
theorem idx4 : ∀ t : Fin cfg4.N, win4_0.index t = ![1, t.val] ∧ win4_1.index t = ![0, t.val] ∧ win4_2.index t = ![1, t.val]
    ∧ win4_3.index t = ![0, t.val] ∧ win4_4.index t = ![0, 40 + t.val / 4] ∧ win4_5.index t = ![0, 0] ∧ win4_6.index t = ![0, t.val] :=
  (by decide +kernel : ∀ t : Fin grid4.N, _)

set_option maxHeartbeats 2000000 in
/-- The attention of query block 1. -/
theorem exit4 (hW : Good W) : exitOf cfg4 c y4 W (Proc.devRef .tc main_v36) = fun z => attW W (rowOf 1 (z 0)) (headOf (z 1)) (dimOf (z 1)) := by
  refine (exitOf_arr c (Cert.RegionKit.facts₀ launch4).sharedIn y4 W 6).trans ?_
  refine (datOf cfg4 c y4 (arraysOf cfg4 c W)).arrAt_eq_of_covers 6 _ (by decide +kernel) fun t _ y => ?_
  blk_simp
  show out4 (F := Ideal) (seen (arraysOf cfg4 c W) t 0) (seen (arraysOf cfg4 c W) t 1) (seen (arraysOf cfg4 c W) t 2) (seen (arraysOf cfg4 c W) t 3) (seen (arraysOf cfg4 c W) t 4) (seen (arraysOf cfg4 c W) t 5) y = _
  have e0 : ((((cfg4.win 6).blk t).view.emb y 0 : Fin _) : ℕ) = (y 0).val := by blk_simp [idx4 t]
  have e1 : ((((cfg4.win 6).blk t).view.emb y 1 : Fin _) : ℕ) = t.val * 128 + (y 1).val := by blk_simp [idx4 t]
  generalize ((cfg4.win 6).blk t).view.emb y = z at e0 e1 ⊢
  obtain ⟨h1, h2⟩ := head_of_block t (y 1) (z 1) e1
  rw [show z 0 = y 0 from Fin.ext e0, h1, h2]
  refine (congrArg _ (eq_ix2 y)).trans (attn_at hW 256 (by decide) (by decide) (by decide) (by decide) joins2 t _ _ _ _ _ _
    (fun r e => ?_) (fun r e => ?_) (fun r e => ?_) (fun r e => ?_) (fun r e => ?_) (fun r e => ?_) (y 0) (y 1) _ rfl)
  · refine (seen_apply uncut4 _ t 0 _).trans ?_
    show arraysOf cfg4 c W 0 (((cfg4.win 0).blk t).view.emb _) = _
    blk_ext [idx4 t, col, vCol3, Fin.val_castLE]
  · refine (seen_apply uncut4 _ t 1 _).trans ?_
    show arraysOf cfg4 c W 1 (((cfg4.win 1).blk t).view.emb _) = _
    blk_ext [idx4 t, col, vCol3, Fin.val_castLE]
  · refine (seen_apply uncut4 _ t 2 _).trans ?_
    show arraysOf cfg4 c W 2 (((cfg4.win 2).blk t).view.emb _) = _
    blk_ext [idx4 t, col, vCol3, Fin.val_castLE]
  · refine (seen_apply uncut4 _ t 3 _).trans ?_
    show arraysOf cfg4 c W 3 (((cfg4.win 3).blk t).view.emb _) = _
    blk_ext [idx4 t, col, vCol3, Fin.val_castLE]
  · refine (seen_apply uncut4 _ t 4 _).trans ?_
    show arraysOf cfg4 c W 4 (((cfg4.win 4).blk t).view.emb _) = _
    blk_ext [idx4 t, col, vCol3, Fin.val_castLE]
  · refine (seen_apply uncut4 _ t 5 _).trans ?_
    show arraysOf cfg4 c W 5 (((cfg4.win 5).blk t).view.emb _) = _
    blk_ext [idx4 t, col, vCol3, Fin.val_castLE]

end Cert.KernelIdeal.Value

end
-- ==== Proof.Value.AttnExitB.lean ====
/-
  The attention launches of query blocks 2 and 3, read at an index: each is its 256 rows of
  the causal attention over all 2048 keys.
-/
module

public import proofs.«01_k».proof.Proof.Value.AttnAt

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.RegionKit Cert.Spec Cert.AttnOut

variable (c : Dev nD) (W : Valuation τ sig (Elt Ideal))

/-! ## Launch 5: query block 2 -/

/-- Which block each window takes at every step of the grid. -/
theorem idx5 : ∀ t : Fin cfg5.N, win5_0.index t = ![2, t.val] ∧ win5_1.index t = ![0, t.val] ∧ win5_2.index t = ![2, t.val]
    ∧ win5_3.index t = ![0, t.val] ∧ win5_4.index t = ![0, 40 + t.val / 4] ∧ win5_5.index t = ![0, 0] ∧ win5_6.index t = ![0, t.val] :=
  (by decide +kernel : ∀ t : Fin grid5.N, _)

set_option maxHeartbeats 2000000 in
/-- The attention of query block 2. -/
theorem exit5 (hW : Good W) : exitOf cfg5 c y5 W (Proc.devRef .tc main_v37) = fun z => attW W (rowOf 2 (z 0)) (headOf (z 1)) (dimOf (z 1)) := by
  refine (exitOf_arr c (Cert.RegionKit.facts₀ launch5).sharedIn y5 W 6).trans ?_
  refine (datOf cfg5 c y5 (arraysOf cfg5 c W)).arrAt_eq_of_covers 6 _ (by decide +kernel) fun t _ y => ?_
  blk_simp
  show out5 (F := Ideal) (seen (arraysOf cfg5 c W) t 0) (seen (arraysOf cfg5 c W) t 1) (seen (arraysOf cfg5 c W) t 2) (seen (arraysOf cfg5 c W) t 3) (seen (arraysOf cfg5 c W) t 4) (seen (arraysOf cfg5 c W) t 5) y = _
  have e0 : ((((cfg5.win 6).blk t).view.emb y 0 : Fin _) : ℕ) = (y 0).val := by blk_simp [idx5 t]
  have e1 : ((((cfg5.win 6).blk t).view.emb y 1 : Fin _) : ℕ) = t.val * 128 + (y 1).val := by blk_simp [idx5 t]
  generalize ((cfg5.win 6).blk t).view.emb y = z at e0 e1 ⊢
  obtain ⟨h1, h2⟩ := head_of_block t (y 1) (z 1) e1
  rw [show z 0 = y 0 from Fin.ext e0, h1, h2]
  refine (congrArg _ (eq_ix2 y)).trans (attn_at hW 512 (by decide) (by decide) (by decide) (by decide) joins3 t _ _ _ _ _ _
    (fun r e => ?_) (fun r e => ?_) (fun r e => ?_) (fun r e => ?_) (fun r e => ?_) (fun r e => ?_) (y 0) (y 1) _ rfl)
  · refine (seen_apply uncut5 _ t 0 _).trans ?_
    show arraysOf cfg5 c W 0 (((cfg5.win 0).blk t).view.emb _) = _
    blk_ext [idx5 t, col, vCol3, Fin.val_castLE]
  · refine (seen_apply uncut5 _ t 1 _).trans ?_
    show arraysOf cfg5 c W 1 (((cfg5.win 1).blk t).view.emb _) = _
    blk_ext [idx5 t, col, vCol3, Fin.val_castLE]
  · refine (seen_apply uncut5 _ t 2 _).trans ?_
    show arraysOf cfg5 c W 2 (((cfg5.win 2).blk t).view.emb _) = _
    blk_ext [idx5 t, col, vCol3, Fin.val_castLE]
  · refine (seen_apply uncut5 _ t 3 _).trans ?_
    show arraysOf cfg5 c W 3 (((cfg5.win 3).blk t).view.emb _) = _
    blk_ext [idx5 t, col, vCol3, Fin.val_castLE]
  · refine (seen_apply uncut5 _ t 4 _).trans ?_
    show arraysOf cfg5 c W 4 (((cfg5.win 4).blk t).view.emb _) = _
    blk_ext [idx5 t, col, vCol3, Fin.val_castLE]
  · refine (seen_apply uncut5 _ t 5 _).trans ?_
    show arraysOf cfg5 c W 5 (((cfg5.win 5).blk t).view.emb _) = _
    blk_ext [idx5 t, col, vCol3, Fin.val_castLE]

/-! ## Launch 6: query block 3 -/

/-- Which block each window takes at every step of the grid. -/
theorem idx6 : ∀ t : Fin cfg6.N, win6_0.index t = ![3, t.val] ∧ win6_1.index t = ![0, t.val] ∧ win6_2.index t = ![3, t.val]
    ∧ win6_3.index t = ![0, t.val] ∧ win6_4.index t = ![0, 40 + t.val / 4] ∧ win6_5.index t = ![0, 0] ∧ win6_6.index t = ![0, t.val] :=
  (by decide +kernel : ∀ t : Fin grid6.N, _)

set_option maxHeartbeats 2000000 in
/-- The attention of query block 3. -/
theorem exit6 (hW : Good W) : exitOf cfg6 c y6 W (Proc.devRef .tc main_v38) = fun z => attW W (rowOf 3 (z 0)) (headOf (z 1)) (dimOf (z 1)) := by
  refine (exitOf_arr c (Cert.RegionKit.facts₀ launch6).sharedIn y6 W 6).trans ?_
  refine (datOf cfg6 c y6 (arraysOf cfg6 c W)).arrAt_eq_of_covers 6 _ (by decide +kernel) fun t _ y => ?_
  blk_simp
  show out6 (F := Ideal) (seen (arraysOf cfg6 c W) t 0) (seen (arraysOf cfg6 c W) t 1) (seen (arraysOf cfg6 c W) t 2) (seen (arraysOf cfg6 c W) t 3) (seen (arraysOf cfg6 c W) t 4) (seen (arraysOf cfg6 c W) t 5) y = _
  have e0 : ((((cfg6.win 6).blk t).view.emb y 0 : Fin _) : ℕ) = (y 0).val := by blk_simp [idx6 t]
  have e1 : ((((cfg6.win 6).blk t).view.emb y 1 : Fin _) : ℕ) = t.val * 128 + (y 1).val := by blk_simp [idx6 t]
  generalize ((cfg6.win 6).blk t).view.emb y = z at e0 e1 ⊢
  obtain ⟨h1, h2⟩ := head_of_block t (y 1) (z 1) e1
  rw [show z 0 = y 0 from Fin.ext e0, h1, h2]
  refine (congrArg _ (eq_ix2 y)).trans (attn_at hW 768 (by decide) (by decide) (by decide) (by decide) joins4 t _ _ _ _ _ _
    (fun r e => ?_) (fun r e => ?_) (fun r e => ?_) (fun r e => ?_) (fun r e => ?_) (fun r e => ?_) (y 0) (y 1) _ rfl)
  · refine (seen_apply uncut6 _ t 0 _).trans ?_
    show arraysOf cfg6 c W 0 (((cfg6.win 0).blk t).view.emb _) = _
    blk_ext [idx6 t, col, vCol3, Fin.val_castLE]
  · refine (seen_apply uncut6 _ t 1 _).trans ?_
    show arraysOf cfg6 c W 1 (((cfg6.win 1).blk t).view.emb _) = _
    blk_ext [idx6 t, col, vCol3, Fin.val_castLE]
  · refine (seen_apply uncut6 _ t 2 _).trans ?_
    show arraysOf cfg6 c W 2 (((cfg6.win 2).blk t).view.emb _) = _
    blk_ext [idx6 t, col, vCol3, Fin.val_castLE]
  · refine (seen_apply uncut6 _ t 3 _).trans ?_
    show arraysOf cfg6 c W 3 (((cfg6.win 3).blk t).view.emb _) = _
    blk_ext [idx6 t, col, vCol3, Fin.val_castLE]
  · refine (seen_apply uncut6 _ t 4 _).trans ?_
    show arraysOf cfg6 c W 4 (((cfg6.win 4).blk t).view.emb _) = _
    blk_ext [idx6 t, col, vCol3, Fin.val_castLE]
  · refine (seen_apply uncut6 _ t 5 _).trans ?_
    show arraysOf cfg6 c W 5 (((cfg6.win 5).blk t).view.emb _) = _
    blk_ext [idx6 t, col, vCol3, Fin.val_castLE]

end Cert.KernelIdeal.Value

end
-- ==== Proof.Value.AttnExitC.lean ====
/-
  The attention launches of query blocks 4 and 5, read at an index: each is its 256 rows of
  the causal attention over all 2048 keys.
-/
module

public import proofs.«01_k».proof.Proof.Value.AttnAt

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.RegionKit Cert.Spec Cert.AttnOut

variable (c : Dev nD) (W : Valuation τ sig (Elt Ideal))

/-! ## Launch 7: query block 4 -/

/-- Which block each window takes at every step of the grid. -/
theorem idx7 : ∀ t : Fin cfg7.N, win7_0.index t = ![4, t.val] ∧ win7_1.index t = ![0, t.val] ∧ win7_2.index t = ![4, t.val]
    ∧ win7_3.index t = ![0, t.val] ∧ win7_4.index t = ![0, 40 + t.val / 4] ∧ win7_5.index t = ![0, 0] ∧ win7_6.index t = ![0, t.val] :=
  (by decide +kernel : ∀ t : Fin grid7.N, _)

set_option maxHeartbeats 2000000 in
/-- The attention of query block 4. -/
theorem exit7 (hW : Good W) : exitOf cfg7 c y7 W (Proc.devRef .tc main_v39) = fun z => attW W (rowOf 4 (z 0)) (headOf (z 1)) (dimOf (z 1)) := by
  refine (exitOf_arr c (Cert.RegionKit.facts₀ launch7).sharedIn y7 W 6).trans ?_
  refine (datOf cfg7 c y7 (arraysOf cfg7 c W)).arrAt_eq_of_covers 6 _ (by decide +kernel) fun t _ y => ?_
  blk_simp
  show out7 (F := Ideal) (seen (arraysOf cfg7 c W) t 0) (seen (arraysOf cfg7 c W) t 1) (seen (arraysOf cfg7 c W) t 2) (seen (arraysOf cfg7 c W) t 3) (seen (arraysOf cfg7 c W) t 4) (seen (arraysOf cfg7 c W) t 5) y = _
  have e0 : ((((cfg7.win 6).blk t).view.emb y 0 : Fin _) : ℕ) = (y 0).val := by blk_simp [idx7 t]
  have e1 : ((((cfg7.win 6).blk t).view.emb y 1 : Fin _) : ℕ) = t.val * 128 + (y 1).val := by blk_simp [idx7 t]
  generalize ((cfg7.win 6).blk t).view.emb y = z at e0 e1 ⊢
  obtain ⟨h1, h2⟩ := head_of_block t (y 1) (z 1) e1
  rw [show z 0 = y 0 from Fin.ext e0, h1, h2]
  refine (congrArg _ (eq_ix2 y)).trans (attn_at hW 1024 (by decide) (by decide) (by decide) (by decide) joins5 t _ _ _ _ _ _
    (fun r e => ?_) (fun r e => ?_) (fun r e => ?_) (fun r e => ?_) (fun r e => ?_) (fun r e => ?_) (y 0) (y 1) _ rfl)
  · refine (seen_apply uncut7 _ t 0 _).trans ?_
    show arraysOf cfg7 c W 0 (((cfg7.win 0).blk t).view.emb _) = _
    blk_ext [idx7 t, col, vCol3, Fin.val_castLE]
  · refine (seen_apply uncut7 _ t 1 _).trans ?_
    show arraysOf cfg7 c W 1 (((cfg7.win 1).blk t).view.emb _) = _
    blk_ext [idx7 t, col, vCol3, Fin.val_castLE]
  · refine (seen_apply uncut7 _ t 2 _).trans ?_
    show arraysOf cfg7 c W 2 (((cfg7.win 2).blk t).view.emb _) = _
    blk_ext [idx7 t, col, vCol3, Fin.val_castLE]
  · refine (seen_apply uncut7 _ t 3 _).trans ?_
    show arraysOf cfg7 c W 3 (((cfg7.win 3).blk t).view.emb _) = _
    blk_ext [idx7 t, col, vCol3, Fin.val_castLE]
  · refine (seen_apply uncut7 _ t 4 _).trans ?_
    show arraysOf cfg7 c W 4 (((cfg7.win 4).blk t).view.emb _) = _
    blk_ext [idx7 t, col, vCol3, Fin.val_castLE]
  · refine (seen_apply uncut7 _ t 5 _).trans ?_
    show arraysOf cfg7 c W 5 (((cfg7.win 5).blk t).view.emb _) = _
    blk_ext [idx7 t, col, vCol3, Fin.val_castLE]

/-! ## Launch 8: query block 5 -/

/-- Which block each window takes at every step of the grid. -/
theorem idx8 : ∀ t : Fin cfg8.N, win8_0.index t = ![5, t.val] ∧ win8_1.index t = ![0, t.val] ∧ win8_2.index t = ![5, t.val]
    ∧ win8_3.index t = ![0, t.val] ∧ win8_4.index t = ![0, 40 + t.val / 4] ∧ win8_5.index t = ![0, 0] ∧ win8_6.index t = ![0, t.val] :=
  (by decide +kernel : ∀ t : Fin grid8.N, _)

set_option maxHeartbeats 2000000 in
/-- The attention of query block 5. -/
theorem exit8 (hW : Good W) : exitOf cfg8 c y8 W (Proc.devRef .tc main_v40) = fun z => attW W (rowOf 5 (z 0)) (headOf (z 1)) (dimOf (z 1)) := by
  refine (exitOf_arr c (Cert.RegionKit.facts₀ launch8).sharedIn y8 W 6).trans ?_
  refine (datOf cfg8 c y8 (arraysOf cfg8 c W)).arrAt_eq_of_covers 6 _ (by decide +kernel) fun t _ y => ?_
  blk_simp
  show out8 (F := Ideal) (seen (arraysOf cfg8 c W) t 0) (seen (arraysOf cfg8 c W) t 1) (seen (arraysOf cfg8 c W) t 2) (seen (arraysOf cfg8 c W) t 3) (seen (arraysOf cfg8 c W) t 4) (seen (arraysOf cfg8 c W) t 5) y = _
  have e0 : ((((cfg8.win 6).blk t).view.emb y 0 : Fin _) : ℕ) = (y 0).val := by blk_simp [idx8 t]
  have e1 : ((((cfg8.win 6).blk t).view.emb y 1 : Fin _) : ℕ) = t.val * 128 + (y 1).val := by blk_simp [idx8 t]
  generalize ((cfg8.win 6).blk t).view.emb y = z at e0 e1 ⊢
  obtain ⟨h1, h2⟩ := head_of_block t (y 1) (z 1) e1
  rw [show z 0 = y 0 from Fin.ext e0, h1, h2]
  refine (congrArg _ (eq_ix2 y)).trans (attn_at hW 1280 (by decide) (by decide) (by decide) (by decide) joins6 t _ _ _ _ _ _
    (fun r e => ?_) (fun r e => ?_) (fun r e => ?_) (fun r e => ?_) (fun r e => ?_) (fun r e => ?_) (y 0) (y 1) _ rfl)
  · refine (seen_apply uncut8 _ t 0 _).trans ?_
    show arraysOf cfg8 c W 0 (((cfg8.win 0).blk t).view.emb _) = _
    blk_ext [idx8 t, col, vCol3, Fin.val_castLE]
  · refine (seen_apply uncut8 _ t 1 _).trans ?_
    show arraysOf cfg8 c W 1 (((cfg8.win 1).blk t).view.emb _) = _
    blk_ext [idx8 t, col, vCol3, Fin.val_castLE]
  · refine (seen_apply uncut8 _ t 2 _).trans ?_
    show arraysOf cfg8 c W 2 (((cfg8.win 2).blk t).view.emb _) = _
    blk_ext [idx8 t, col, vCol3, Fin.val_castLE]
  · refine (seen_apply uncut8 _ t 3 _).trans ?_
    show arraysOf cfg8 c W 3 (((cfg8.win 3).blk t).view.emb _) = _
    blk_ext [idx8 t, col, vCol3, Fin.val_castLE]
  · refine (seen_apply uncut8 _ t 4 _).trans ?_
    show arraysOf cfg8 c W 4 (((cfg8.win 4).blk t).view.emb _) = _
    blk_ext [idx8 t, col, vCol3, Fin.val_castLE]
  · refine (seen_apply uncut8 _ t 5 _).trans ?_
    show arraysOf cfg8 c W 5 (((cfg8.win 5).blk t).view.emb _) = _
    blk_ext [idx8 t, col, vCol3, Fin.val_castLE]

end Cert.KernelIdeal.Value

end
-- ==== Proof.Value.AttnExitD.lean ====
/-
  The attention launches of query blocks 6 and 7, read at an index: each is its 256 rows of
  the causal attention over all 2048 keys.
-/
module

public import proofs.«01_k».proof.Proof.Value.AttnAt

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.RegionKit Cert.Spec Cert.AttnOut

variable (c : Dev nD) (W : Valuation τ sig (Elt Ideal))

/-! ## Launch 9: query block 6 -/

/-- Which block each window takes at every step of the grid. -/
theorem idx9 : ∀ t : Fin cfg9.N, win9_0.index t = ![6, t.val] ∧ win9_1.index t = ![0, t.val] ∧ win9_2.index t = ![6, t.val]
    ∧ win9_3.index t = ![0, t.val] ∧ win9_4.index t = ![0, 40 + t.val / 4] ∧ win9_5.index t = ![0, 0] ∧ win9_6.index t = ![0, t.val] :=
  (by decide +kernel : ∀ t : Fin grid9.N, _)

set_option maxHeartbeats 2000000 in
/-- The attention of query block 6. -/
theorem exit9 (hW : Good W) : exitOf cfg9 c y9 W (Proc.devRef .tc main_v41) = fun z => attW W (rowOf 6 (z 0)) (headOf (z 1)) (dimOf (z 1)) := by
  refine (exitOf_arr c (Cert.RegionKit.facts₀ launch9).sharedIn y9 W 6).trans ?_
  refine (datOf cfg9 c y9 (arraysOf cfg9 c W)).arrAt_eq_of_covers 6 _ (by decide +kernel) fun t _ y => ?_
  blk_simp
  show out9 (F := Ideal) (seen (arraysOf cfg9 c W) t 0) (seen (arraysOf cfg9 c W) t 1) (seen (arraysOf cfg9 c W) t 2) (seen (arraysOf cfg9 c W) t 3) (seen (arraysOf cfg9 c W) t 4) (seen (arraysOf cfg9 c W) t 5) y = _
  have e0 : ((((cfg9.win 6).blk t).view.emb y 0 : Fin _) : ℕ) = (y 0).val := by blk_simp [idx9 t]
  have e1 : ((((cfg9.win 6).blk t).view.emb y 1 : Fin _) : ℕ) = t.val * 128 + (y 1).val := by blk_simp [idx9 t]
  generalize ((cfg9.win 6).blk t).view.emb y = z at e0 e1 ⊢
  obtain ⟨h1, h2⟩ := head_of_block t (y 1) (z 1) e1
  rw [show z 0 = y 0 from Fin.ext e0, h1, h2]
  refine (congrArg _ (eq_ix2 y)).trans (attn_at hW 1536 (by decide) (by decide) (by decide) (by decide) joins7 t _ _ _ _ _ _
    (fun r e => ?_) (fun r e => ?_) (fun r e => ?_) (fun r e => ?_) (fun r e => ?_) (fun r e => ?_) (y 0) (y 1) _ rfl)
  · refine (seen_apply uncut9 _ t 0 _).trans ?_
    show arraysOf cfg9 c W 0 (((cfg9.win 0).blk t).view.emb _) = _
    blk_ext [idx9 t, col, vCol3, Fin.val_castLE]
  · refine (seen_apply uncut9 _ t 1 _).trans ?_
    show arraysOf cfg9 c W 1 (((cfg9.win 1).blk t).view.emb _) = _
    blk_ext [idx9 t, col, vCol3, Fin.val_castLE]
  · refine (seen_apply uncut9 _ t 2 _).trans ?_
    show arraysOf cfg9 c W 2 (((cfg9.win 2).blk t).view.emb _) = _
    blk_ext [idx9 t, col, vCol3, Fin.val_castLE]
  · refine (seen_apply uncut9 _ t 3 _).trans ?_
    show arraysOf cfg9 c W 3 (((cfg9.win 3).blk t).view.emb _) = _
    blk_ext [idx9 t, col, vCol3, Fin.val_castLE]
  · refine (seen_apply uncut9 _ t 4 _).trans ?_
    show arraysOf cfg9 c W 4 (((cfg9.win 4).blk t).view.emb _) = _
    blk_ext [idx9 t, col, vCol3, Fin.val_castLE]
  · refine (seen_apply uncut9 _ t 5 _).trans ?_
    show arraysOf cfg9 c W 5 (((cfg9.win 5).blk t).view.emb _) = _
    blk_ext [idx9 t, col, vCol3, Fin.val_castLE]

/-! ## Launch 10: query block 7 -/

/-- Which block each window takes at every step of the grid. -/
theorem idx10 : ∀ t : Fin cfg10.N, win10_0.index t = ![7, t.val] ∧ win10_1.index t = ![0, t.val] ∧ win10_2.index t = ![7, t.val]
    ∧ win10_3.index t = ![0, t.val] ∧ win10_4.index t = ![0, 40 + t.val / 4] ∧ win10_5.index t = ![0, 0] ∧ win10_6.index t = ![0, t.val] :=
  (by decide +kernel : ∀ t : Fin grid10.N, _)

set_option maxHeartbeats 2000000 in
/-- The attention of query block 7. -/
theorem exit10 (hW : Good W) : exitOf cfg10 c y10 W (Proc.devRef .tc main_v42) = fun z => attW W (rowOf 7 (z 0)) (headOf (z 1)) (dimOf (z 1)) := by
  refine (exitOf_arr c (Cert.RegionKit.facts₀ launch10).sharedIn y10 W 6).trans ?_
  refine (datOf cfg10 c y10 (arraysOf cfg10 c W)).arrAt_eq_of_covers 6 _ (by decide +kernel) fun t _ y => ?_
  blk_simp
  show out10 (F := Ideal) (seen (arraysOf cfg10 c W) t 0) (seen (arraysOf cfg10 c W) t 1) (seen (arraysOf cfg10 c W) t 2) (seen (arraysOf cfg10 c W) t 3) (seen (arraysOf cfg10 c W) t 4) (seen (arraysOf cfg10 c W) t 5) y = _
  have e0 : ((((cfg10.win 6).blk t).view.emb y 0 : Fin _) : ℕ) = (y 0).val := by blk_simp [idx10 t]
  have e1 : ((((cfg10.win 6).blk t).view.emb y 1 : Fin _) : ℕ) = t.val * 128 + (y 1).val := by blk_simp [idx10 t]
  generalize ((cfg10.win 6).blk t).view.emb y = z at e0 e1 ⊢
  obtain ⟨h1, h2⟩ := head_of_block t (y 1) (z 1) e1
  rw [show z 0 = y 0 from Fin.ext e0, h1, h2]
  refine (congrArg _ (eq_ix2 y)).trans (attn_at hW 1792 (by decide) (by decide) (by decide) (by decide) joins8 t _ _ _ _ _ _
    (fun r e => ?_) (fun r e => ?_) (fun r e => ?_) (fun r e => ?_) (fun r e => ?_) (fun r e => ?_) (y 0) (y 1) _ rfl)
  · refine (seen_apply uncut10 _ t 0 _).trans ?_
    show arraysOf cfg10 c W 0 (((cfg10.win 0).blk t).view.emb _) = _
    blk_ext [idx10 t, col, vCol3, Fin.val_castLE]
  · refine (seen_apply uncut10 _ t 1 _).trans ?_
    show arraysOf cfg10 c W 1 (((cfg10.win 1).blk t).view.emb _) = _
    blk_ext [idx10 t, col, vCol3, Fin.val_castLE]
  · refine (seen_apply uncut10 _ t 2 _).trans ?_
    show arraysOf cfg10 c W 2 (((cfg10.win 2).blk t).view.emb _) = _
    blk_ext [idx10 t, col, vCol3, Fin.val_castLE]
  · refine (seen_apply uncut10 _ t 3 _).trans ?_
    show arraysOf cfg10 c W 3 (((cfg10.win 3).blk t).view.emb _) = _
    blk_ext [idx10 t, col, vCol3, Fin.val_castLE]
  · refine (seen_apply uncut10 _ t 4 _).trans ?_
    show arraysOf cfg10 c W 4 (((cfg10.win 4).blk t).view.emb _) = _
    blk_ext [idx10 t, col, vCol3, Fin.val_castLE]
  · refine (seen_apply uncut10 _ t 5 _).trans ?_
    show arraysOf cfg10 c W 5 (((cfg10.win 5).blk t).view.emb _) = _
    blk_ext [idx10 t, col, vCol3, Fin.val_castLE]

end Cert.KernelIdeal.Value

end
-- ==== Proof.Value.Layer.lean ====
/-
  The decoder layer as plain mathematics: what every entry of its result is, from its arguments.
-/
module

public import proofs.«01_k».proof.Proof.Value.Spec

@[expose] public section

noncomputable section

namespace Cert.Spec

open Idealize.ShloMosaic

/-- The arguments of the layer and the two tables of the rotation. -/
structure Layer where
  x : Fin 2048 → Fin 4096 → EReal
  wq : Fin 4096 → Fin 4096 → EReal
  wk : Fin 4096 → Fin 1024 → EReal
  wv : Fin 4096 → Fin 1024 → EReal
  wo : Fin 4096 → Fin 4096 → EReal
  proj : Fin 32 → Fin 128 → Fin 128 → EReal
  bias : Fin 32 → Fin 128 → EReal
  ln1 : Fin 4096 → EReal
  ln2 : Fin 4096 → EReal
  wg : Fin 4096 → Fin 11008 → EReal
  wu : Fin 4096 → Fin 11008 → EReal
  wd : Fin 11008 → Fin 4096 → EReal
  cs : Fin 2048 → Fin 128 → EReal
  sn : Fin 2048 → Fin 128 → EReal

namespace Layer

variable (L : Layer)

/-- The normalised input. -/
def hid (r : Fin 2048) : Fin 4096 → EReal := rmsAt (L.x r) L.ln1
/-- A query before its rotation. -/
def q (r : Fin 2048) (h : Fin 32) (d : Fin 128) : EReal := dotAt (L.hid r) fun k => L.wq k (col h d)
/-- A key before its rotation: four heads share one. -/
def k (r : Fin 2048) (h : Fin 32) (d : Fin 128) : EReal := dotAt (L.hid r) fun k => L.wk k (kvCol h d)
/-- A value: four heads share one. -/
def v (r : Fin 2048) (h : Fin 32) (d : Fin 128) : EReal := dotAt (L.hid r) fun k => L.wv k (kvCol h d)
/-- A rotated query. -/
def qr (r : Fin 2048) (h : Fin 32) : Fin 128 → EReal := ropeAt (L.q r h) (L.cs r) (L.sn r)
/-- A rotated key. -/
def kr (r : Fin 2048) (h : Fin 32) : Fin 128 → EReal := ropeAt (L.k r h) (L.cs r) (L.sn r)
/-- The hash of a query. -/
def qh (r : Fin 2048) (h : Fin 32) (e : Fin 128) : EReal := hashAt (L.qr r h) (fun d => L.proj h d e) (L.bias h e)
/-- The hash of a key. -/
def kh (r : Fin 2048) (h : Fin 32) (e : Fin 128) : EReal := hashAt (L.kr r h) (fun d => L.proj h d e) (L.bias h e)
/-- The draft score of a key: the product of the hashes. -/
def draft (r : Fin 2048) (h : Fin 32) (j : Fin 2048) : EReal := dotAt (L.qh r h) (L.kh j h)
/-- The score of a key. -/
def score (r : Fin 2048) (h : Fin 32) (j : Fin 2048) : EReal := dotAt (L.qr r h) (L.kr j h) * (((Real.sqrt 128)⁻¹ : ℝ) : EReal)
/-- One entry of one head's attention. -/
def att (r : Fin 2048) (h : Fin 32) (e : Fin 128) : EReal := headAt (L.draft r h) (L.score r h) (fun j => L.v j h e) r.val
/-- The input with the attention added. -/
def mid (r : Fin 2048) (n : Fin 4096) : EReal :=
  L.x r n + dotAt (fun c => L.att r (headOf c) (dimOf c)) fun c => L.wo c n
/-- The normalised middle. -/
def hid2 (r : Fin 2048) : Fin 4096 → EReal := rmsAt (L.mid r) L.ln2
/-- The gated product. -/
def up (r : Fin 2048) (f : Fin 11008) : EReal :=
  siluAt (dotAt (L.hid2 r) fun k => L.wg k f) * dotAt (L.hid2 r) fun k => L.wu k f
/-- The layer's result. -/
def out (r : Fin 2048) (n : Fin 4096) : EReal := L.mid r n + dotAt (L.up r) fun f => L.wd f n

/-- The scores of the keys up to the row are finite. -/
def Finite : Prop := ∀ (r : Fin 2048) (h : Fin 32) (j : Fin 2048), j.val ≤ r.val → dotAt (L.qr r h) (L.kr j h) ≠ ⊥ ∧ dotAt (L.qr r h) (L.kr j h) ≠ ⊤
/-- Fewer than 205 of the keys up to the row have a draft score of 127 or more. -/
def Few : Prop := ∀ (r : Fin 2048) (h : Fin 32), (Finset.univ.filter fun j : Fin 2048 => j.val ≤ r.val ∧ (127 : EReal) ≤ L.draft r h j).card < 205

/-- A sign is an integer of size at most one. -/
theorem _root_.Cert.Spec.sign_int (v : EReal) : ∃ z : ℤ, -1 ≤ z ∧ z ≤ 1 ∧ Ideal.sign v = ((z : ℝ) : EReal) := by
  induction v with
  | bot => exact ⟨-1, by norm_num, by norm_num, by rw [Ideal.sign_bot]; norm_num⟩
  | top => exact ⟨1, by norm_num, by norm_num, by rw [Ideal.sign_top]; norm_num⟩
  | coe a =>
    rw [Ideal.sign_coe]
    rcases lt_trichotomy a 0 with h | h | h
    · exact ⟨-1, by norm_num, by norm_num, by rw [sign_neg h]; norm_num⟩
    · exact ⟨0, by norm_num, by norm_num, by rw [h, sign_zero]; norm_num⟩
    · exact ⟨1, by norm_num, by norm_num, by rw [sign_pos h]; norm_num⟩

/-- A product of two vectors of signs is an integer, no less than minus their length. -/
theorem _root_.Cert.Spec.dotAt_int {n : ℕ} (a b : Fin n → EReal) (ha : ∀ e, ∃ z : ℤ, -1 ≤ z ∧ z ≤ 1 ∧ a e = ((z : ℝ) : EReal))
    (hb : ∀ e, ∃ z : ℤ, -1 ≤ z ∧ z ≤ 1 ∧ b e = ((z : ℝ) : EReal)) :
    ∃ z : ℤ, -n ≤ z ∧ dotAt a b = ((z : ℝ) : EReal) := by
  choose za ha1 ha2 ha3 using ha
  choose zb hb1 hb2 hb3 using hb
  refine ⟨∑ e, za e * zb e, ?_, ?_⟩
  · have : ∀ e ∈ (Finset.univ : Finset (Fin n)), (-1 : ℤ) ≤ za e * zb e := fun e _ => by
      have h1 := ha1 e; have h2 := ha2 e; have h3 := hb1 e; have h4 := hb2 e
      nlinarith [mul_nonneg (by linarith : (0 : ℤ) ≤ 1 - za e) (by linarith : (0 : ℤ) ≤ 1 - zb e), mul_nonneg (by linarith : (0 : ℤ) ≤ 1 + za e) (by linarith : (0 : ℤ) ≤ 1 + zb e)]
    have h := Finset.sum_le_sum this
    simpa using h
  · unfold dotAt
    have h : ∀ e, a e * b e = (((za e * zb e : ℤ) : ℝ) : EReal) := fun e => by
      rw [ha3, hb3, ← EReal.coe_mul]; push_cast; rfl
    rw [Finset.sum_congr rfl fun e _ => h e]
    push_cast
    exact (map_sum (⟨⟨fun x : ℝ => (x : EReal), EReal.coe_zero⟩, EReal.coe_add⟩ : ℝ →+ EReal) (fun e => (za e : ℝ) * (zb e : ℝ)) Finset.univ).symm

/-- The draft scores are integers; of those up to the row fewer than 205 reach 127. -/
theorem draft_int (hc : L.Few) (r : Fin 2048) (h : Fin 32) : ∃ z : Fin 2048 → ℤ, (∀ j, -128 ≤ z j) ∧ (∀ j, L.draft r h j = ((z j : ℝ) : EReal))
    ∧ (Finset.univ.filter fun j : Fin 2048 => j.val ≤ r.val ∧ 127 ≤ z j).card < 205 := by
  have hd (j : Fin 2048) := Cert.Spec.dotAt_int (L.qh r h) (L.kh j h) (fun e => sign_int _) fun e => sign_int _
  choose z h1 h2 using hd
  refine ⟨z, h1, h2, lt_of_le_of_lt (Finset.card_le_card fun j hj => ?_) (hc r h)⟩
  rw [Finset.mem_filter] at hj ⊢
  refine ⟨hj.1, hj.2.1, ?_⟩
  rw [show L.draft r h j = _ from h2 j]
  have h3 : (127 : ℝ) ≤ (z j : ℝ) := by exact_mod_cast hj.2.2
  exact (show (127 : EReal) = ((127 : ℝ) : EReal) from rfl) ▸ EReal.coe_le_coe_iff.mpr h3

/-- The scaled scores are finite with the scores. -/
theorem score_finite (hf : L.Finite) (r : Fin 2048) (h : Fin 32) (j : Fin 2048) (hj : j.val ≤ r.val) : L.score r h j ≠ ⊥ ∧ L.score r h j ≠ ⊤ := by
  obtain ⟨h1, h2⟩ := hf r h j hj
  unfold score
  lift dotAt (L.qr r h) (L.kr j h) to ℝ using ⟨h2, h1⟩ with a
  rw [← EReal.coe_mul]
  exact ⟨EReal.coe_ne_bot _, EReal.coe_ne_top _⟩

end Layer

end Cert.Spec

end
-- ==== Proof.Value.Kernel.lean ====
/-
  The kernel's result is the decoder layer's, entry by entry.
-/
module

public import proofs.«01_k».proof.Proof.Value.AttnExitA
public import proofs.«01_k».proof.Proof.Value.AttnExitB
public import proofs.«01_k».proof.Proof.Value.AttnExitC
public import proofs.«01_k».proof.Proof.Value.AttnExitD
public import proofs.«01_k».proof.Proof.Value.Layer

@[expose] public section

set_option maxRecDepth 16384

noncomputable section

namespace Cert.KernelIdeal.Value

open Idealize.ShloMosaic Idealize.ShloMosaic.TcCoe Idealize.SL.Sem
open Cert.KernelIdeal Cert.KernelIdeal.Gen Cert.RegionKit Cert.Spec

variable (m : (ℓ : Loc nD τ sig) → Buf (Elt Ideal) ℓ) (c : Dev nD)

/-- The layer of the kernel's arguments. -/
def layK : Layer where
  x r n := (W0 m c (Proc.devRef .tc main_arg0)) (ix3 0 r n)
  wq k n := (W0 m c (Proc.devRef .tc main_arg1)) (ix2 k n)
  wk k n := (W0 m c (Proc.devRef .tc main_arg2)) (ix2 k n)
  wv k n := (W0 m c (Proc.devRef .tc main_arg3)) (ix2 k n)
  wo k n := (W0 m c (Proc.devRef .tc main_arg4)) (ix2 k n)
  proj h d e := (W0 m c (Proc.devRef .tc main_arg5)) (ix4 0 h d e)
  bias h e := (W0 m c (Proc.devRef .tc main_arg6)) (ix4 0 h 0 e)
  ln1 n := (W0 m c (Proc.devRef .tc main_arg7)) (ix1 n)
  ln2 n := (W0 m c (Proc.devRef .tc main_arg8)) (ix1 n)
  wg k n := (W0 m c (Proc.devRef .tc main_arg9)) (ix2 k n)
  wu k n := (W0 m c (Proc.devRef .tc main_arg10)) (ix2 k n)
  wd k n := (W0 m c (Proc.devRef .tc main_arg11)) (ix2 k n)
  cs r d := (W1 m c (Proc.devRef .tc main_v19)) (ix2 r d)
  sn r d := (W1 m c (Proc.devRef .tc main_v20)) (ix2 r d)

/-! ## Up to the heads -/

/-- The normalised input. -/
theorem hid_eq (r : Fin 2048) (n : Fin 4096) : (W2 m c (Proc.devRef .tc main_v26)) (ix2 r n) = (layK m c).hid r n := by
  refine (congrFun (exit0 c (W1 m c)) (ix2 r n)).trans ?_
  show rmsAt _ _ n = rmsAt _ _ n
  congr 1
  · exact funext fun j => host0_x (W0 m c) r j
  · exact funext fun j => host0_ln (W0 m c) j

/-- A product of the normalised input and a column of the three weights. -/
theorem proj_eq (r : Fin 2048) (n : Fin 6144) (w : Fin 4096 → EReal) (hw : ∀ k, (W3 m c (Proc.devRef .tc main_v30)) (ix2 k n) = w k) :
    (W4 m c (Proc.devRef .tc main_v31)) (ix2 r n) = dotAt ((layK m c).hid r) w := by
  refine (congrFun (exit1 c (W3 m c)) (ix2 r n)).trans ?_
  show dotAt _ _ = dotAt _ _
  congr 1
  · funext j
    exact (congrFun (W3_of m c main_v26 (by decide)) (ix2 r j)).trans (hid_eq m c r j)
  · exact funext hw

/-- A query before its rotation. -/
theorem q_eq (r : Fin 2048) (h : Fin 32) (d : Fin 128) : (W5 m c (Proc.devRef .tc main_v31)) (ix2 r (qCol3 h d)) = (layK m c).q r h d :=
  (congrFun (W5_of m c main_v31 (by decide)) _).trans (proj_eq m c r _ _ fun k => (host1_q (W2 m c) k h d).trans
    (by rw [W2_of m c main_arg1 (by decide), W1_of m c main_arg1 (by decide)]; rfl))
/-- A key before its rotation. -/
theorem k_eq (r : Fin 2048) (h : Fin 32) (d : Fin 128) : (W5 m c (Proc.devRef .tc main_v31)) (ix2 r (kCol3 h d)) = (layK m c).k r h d :=
  (congrFun (W5_of m c main_v31 (by decide)) _).trans (proj_eq m c r _ _ fun k => (host1_k (W2 m c) k h d).trans
    (by rw [W2_of m c main_arg2 (by decide), W1_of m c main_arg2 (by decide)]; rfl))
/-- A value. -/
theorem v_eq (r : Fin 2048) (h : Fin 32) (d : Fin 128) : (W6 m c (Proc.devRef .tc main_v31)) (ix2 r (vCol3 h d)) = (layK m c).v r h d :=
  (congrFun ((W6_of m c main_v31 (by decide)).trans (W5_of m c main_v31 (by decide))) _).trans (proj_eq m c r _ _ fun k => (host1_v (W2 m c) k h d).trans
    (by rw [W2_of m c main_arg3 (by decide), W1_of m c main_arg3 (by decide)]; rfl))

/-- The cosine table where the rotation reads it. -/
theorem cs_eq (r : Fin 2048) (d : Fin 128) : (W5 m c (Proc.devRef .tc main_v19)) (ix2 r d) = (layK m c).cs r d := by
  rw [W5_of m c main_v19 (by decide), W4_of m c main_v19 (by decide), W3_of m c main_v19 (by decide), W2_of m c main_v19 (by decide)]; rfl
/-- The sine table where the rotation reads it. -/
theorem sn_eq (r : Fin 2048) (d : Fin 128) : (W5 m c (Proc.devRef .tc main_v20)) (ix2 r d) = (layK m c).sn r d := by
  rw [W5_of m c main_v20 (by decide), W4_of m c main_v20 (by decide), W3_of m c main_v20 (by decide), W2_of m c main_v20 (by decide)]; rfl
/-- The bias of the hash where the hash reads it. -/
theorem bias_eq (h : Fin 32) (e : Fin 128) : (W5 m c (Proc.devRef .tc main_v33)) (ix3 h 0 e) = (layK m c).bias h e :=
  (host2_bias (W4 m c) h e).trans (by
    rw [W4_of m c main_arg6 (by decide), W3_of m c main_arg6 (by decide), W2_of m c main_arg6 (by decide), W1_of m c main_arg6 (by decide)]; rfl)
/-- The projection of the hash where the hash reads it. -/
theorem projArg_eq (h : Fin 32) (d e : Fin 128) : (W5 m c (Proc.devRef .tc main_v32)) (ix3 h d e) = (layK m c).proj h d e :=
  (host2_proj (W4 m c) h d e).trans (by
    rw [W4_of m c main_arg5 (by decide), W3_of m c main_arg5 (by decide), W2_of m c main_arg5 (by decide), W1_of m c main_arg5 (by decide)]; rfl)

/-- The rotation of a query row is the layer's. -/
theorem ropeQAt_eq (r : Fin 2048) (h : Fin 32) : ropeQAt (W5 m c) r h = (layK m c).qr r h := by
  unfold ropeQAt Layer.qr
  exact congr (congrArg₂ ropeAt (funext fun d => q_eq m c r h d) (funext fun d => cs_eq m c r d)) (funext fun d => sn_eq m c r d)
/-- The rotation of a key row is the layer's. -/
theorem ropeKAt_eq (r : Fin 2048) (h : Fin 32) : ropeKAt (W5 m c) r h = (layK m c).kr r h := by
  unfold ropeKAt Layer.kr
  exact congr (congrArg₂ ropeAt (funext fun d => k_eq m c r h d) (funext fun d => cs_eq m c r d)) (funext fun d => sn_eq m c r d)
/-- The hash of a row is the layer's. -/
theorem signAt_eq (h : Fin 32) (x : Fin 128 → EReal) (e : Fin 128) :
    signAt (W5 m c) h x e = hashAt x (fun d => (layK m c).proj h d e) ((layK m c).bias h e) := by
  unfold signAt
  congr 1
  · exact funext fun d => projArg_eq m c h d e
  · exact bias_eq m c h e

/-- A rotated query. -/
theorem qr_eq (r : Fin 2048) (h : Fin 32) (d : Fin 128) : (W6 m c (Proc.devRef .tc main_v34_0)) (ix2 r (col h d)) = (layK m c).qr r h d := by
  refine (congrFun (exit2_6 c (W5 m c)) (ix2 r (col h d))).trans ?_
  show ropeQAt (W5 m c) r (headOf (col h d)) (dimOf (col h d)) = _
  rw [headOf_col, dimOf_col, ropeQAt_eq]
/-- A rotated key. -/
theorem kr_eq (r : Fin 2048) (h : Fin 32) (d : Fin 128) : (W6 m c (Proc.devRef .tc main_v34_1)) (ix2 r (col h d)) = (layK m c).kr r h d := by
  refine (congrFun (exit2_7 c (W5 m c)) (ix2 r (col h d))).trans ?_
  show ropeKAt (W5 m c) r (headOf (col h d)) (dimOf (col h d)) = _
  rw [headOf_col, dimOf_col, ropeKAt_eq]
/-- The hash of a query. -/
theorem qh_eq (r : Fin 2048) (h : Fin 32) (d : Fin 128) : (W6 m c (Proc.devRef .tc main_v34_2)) (ix2 r (col h d)) = (layK m c).qh r h d := by
  refine (congrFun (exit2_8 c (W5 m c)) (ix2 r (col h d))).trans ?_
  show signAt (W5 m c) (headOf (col h d)) (ropeQAt (W5 m c) r (headOf (col h d))) (dimOf (col h d)) = _
  rw [headOf_col, dimOf_col, ropeQAt_eq, signAt_eq]
  rfl
/-- The hash of a key. -/
theorem kh_eq (r : Fin 2048) (h : Fin 32) (d : Fin 128) : (W6 m c (Proc.devRef .tc main_v34_3)) (ix2 r (col h d)) = (layK m c).kh r h d := by
  refine (congrFun (exit2_9 c (W5 m c)) (ix2 r (col h d))).trans ?_
  show signAt (W5 m c) (headOf (col h d)) (ropeKAt (W5 m c) r (headOf (col h d))) (dimOf (col h d)) = _
  rw [headOf_col, dimOf_col, ropeKAt_eq, signAt_eq]
  rfl

/-! ## The attention -/

/-- The draft score of a key. -/
theorem draft_eq (r : Fin 2048) (h : Fin 32) (j : Fin 2048) : draftW (W6 m c) r h j = (layK m c).draft r h j :=
  congrArg₂ dotAt (funext fun e => qh_eq m c r h e) (funext fun e => kh_eq m c j h e)
/-- The score of a key. -/
theorem score_eq (r : Fin 2048) (h : Fin 32) (j : Fin 2048) : scoreW (W6 m c) r h j = (layK m c).score r h j :=
  congrArg (· * _) (congrArg₂ dotAt (funext fun e => qr_eq m c r h e) (funext fun e => kr_eq m c j h e))
/-- One entry of one head's attention. -/
theorem att_eq (r : Fin 2048) (h : Fin 32) (e : Fin 128) : attW (W6 m c) r h e = (layK m c).att r h e := by
  unfold attW Layer.att
  rw [funext (draft_eq m c r h), funext (score_eq m c r h)]
  exact congrArg (fun v => headAt _ _ v _) (funext fun j => v_eq m c j h e)

/-- The arrays that the attention reads are as its theorem wants them. -/
theorem good (hf : (layK m c).Finite) (hc : (layK m c).Few) : Good (W6 m c) where
  tri a b := by
    rw [W6_of m c main_v24 (by decide), W5_of m c main_v24 (by decide), W4_of m c main_v24 (by decide), W3_of m c main_v24 (by decide), W2_of m c main_v24 (by decide)]
    exact host0_tri (W0 m c) a b
  draft r h := by
    obtain ⟨z, h1, h2, h3⟩ := (layK m c).draft_int hc r h
    exact ⟨z, h1, fun j => (draft_eq m c r h j).trans (h2 j), h3⟩
  score r h j hj := by
    rw [score_eq]
    exact (layK m c).score_finite hf r h j hj

/-- The arrays the attention reads are the same in both. -/
structure Same (W W' : Valuation τ sig (Elt Ideal)) : Prop where
  qr : W' (Proc.devRef .tc main_v34_0) = W (Proc.devRef .tc main_v34_0)
  kr : W' (Proc.devRef .tc main_v34_1) = W (Proc.devRef .tc main_v34_1)
  qh : W' (Proc.devRef .tc main_v34_2) = W (Proc.devRef .tc main_v34_2)
  kh : W' (Proc.devRef .tc main_v34_3) = W (Proc.devRef .tc main_v34_3)
  v : W' (Proc.devRef .tc main_v31) = W (Proc.devRef .tc main_v31)
  tri : W' (Proc.devRef .tc main_v24) = W (Proc.devRef .tc main_v24)

/-- Two steps that leave the attention's arrays leave them together. -/
theorem Same.trans {W W' W'' : Valuation τ sig (Elt Ideal)} (h : Same W W') (h' : Same W' W'') : Same W W'' :=
  ⟨h'.qr.trans h.qr, h'.kr.trans h.kr, h'.qh.trans h.qh, h'.kh.trans h.kh, h'.v.trans h.v, h'.tri.trans h.tri⟩

/-- The draft scores are the same. -/
theorem Same.draft {W W' : Valuation τ sig (Elt Ideal)} (h : Same W W') : draftW W' = draftW W := by
  unfold draftW; rw [h.qh, h.kh]
/-- The scores are the same. -/
theorem Same.score {W W' : Valuation τ sig (Elt Ideal)} (h : Same W W') : scoreW W' = scoreW W := by
  unfold scoreW; rw [h.qr, h.kr]
/-- The attention is the same. -/
theorem Same.att {W W' : Valuation τ sig (Elt Ideal)} (h : Same W W') : attW W' = attW W := by
  unfold attW; rw [h.draft, h.score, h.v]
/-- The arrays stay as the attention's theorem wants them. -/
theorem Same.good {W W' : Valuation τ sig (Elt Ideal)} (h : Same W W') (g : Good W) : Good W' :=
  ⟨fun a b => by rw [h.tri]; exact g.tri a b, by rw [h.draft]; exact g.draft, by rw [h.score]; exact g.score⟩
/-- The launch leaves the arrays that the attention reads as they were. -/
theorem same7 : Same (W6 m c) (W7 m c) := ⟨W7_of m c _ (by decide), W7_of m c _ (by decide), W7_of m c _ (by decide), W7_of m c _ (by decide), W7_of m c _ (by decide), W7_of m c _ (by decide)⟩
/-- The launch leaves the arrays that the attention reads as they were. -/
theorem same8 : Same (W6 m c) (W8 m c) := (same7 m c).trans ⟨W8_of m c _ (by decide), W8_of m c _ (by decide), W8_of m c _ (by decide), W8_of m c _ (by decide), W8_of m c _ (by decide), W8_of m c _ (by decide)⟩
/-- The launch leaves the arrays that the attention reads as they were. -/
theorem same9 : Same (W6 m c) (W9 m c) := (same8 m c).trans ⟨W9_of m c _ (by decide), W9_of m c _ (by decide), W9_of m c _ (by decide), W9_of m c _ (by decide), W9_of m c _ (by decide), W9_of m c _ (by decide)⟩
/-- The launch leaves the arrays that the attention reads as they were. -/
theorem same10 : Same (W6 m c) (W10 m c) := (same9 m c).trans ⟨W10_of m c _ (by decide), W10_of m c _ (by decide), W10_of m c _ (by decide), W10_of m c _ (by decide), W10_of m c _ (by decide), W10_of m c _ (by decide)⟩
/-- The launch leaves the arrays that the attention reads as they were. -/
theorem same11 : Same (W6 m c) (W11 m c) := (same10 m c).trans ⟨W11_of m c _ (by decide), W11_of m c _ (by decide), W11_of m c _ (by decide), W11_of m c _ (by decide), W11_of m c _ (by decide), W11_of m c _ (by decide)⟩
/-- The launch leaves the arrays that the attention reads as they were. -/
theorem same12 : Same (W6 m c) (W12 m c) := (same11 m c).trans ⟨W12_of m c _ (by decide), W12_of m c _ (by decide), W12_of m c _ (by decide), W12_of m c _ (by decide), W12_of m c _ (by decide), W12_of m c _ (by decide)⟩
/-- The launch leaves the arrays that the attention reads as they were. -/
theorem same13 : Same (W6 m c) (W13 m c) := (same12 m c).trans ⟨W13_of m c _ (by decide), W13_of m c _ (by decide), W13_of m c _ (by decide), W13_of m c _ (by decide), W13_of m c _ (by decide), W13_of m c _ (by decide)⟩

/-- A block's rows after its launch, from what the launch leaves. -/
theorem rows_of {W : Valuation τ sig (Elt Ideal)} (h : attW W = attW (W6 m c)) (i : Fin 8) {f : FVec Ideal S256x4096 .bf16}
    (hf : f = fun z => attW W (rowOf i (z 0)) (headOf (z 1)) (dimOf (z 1))) (r : Fin 256) (n : Fin 4096) :
    f (ix2 r n) = (layK m c).att (rowOf i r) (headOf n) (dimOf n) := by
  rw [hf, h]
  exact att_eq m c _ _ _

section Attention
variable (hf : (layK m c).Finite) (hc : (layK m c).Few)
include hf hc

/-- The block of rows of the attention that this launch writes. -/
theorem rows0 (r : Fin 256) (n : Fin 4096) : (W14 m c (Proc.devRef .tc main_v35)) (ix2 r n) = (layK m c).att (rowOf 0 r) (headOf n) (dimOf n) :=
  rows_of m c (W := W6 m c) rfl 0 ((W14_of m c main_v35 (by decide)).trans ((W13_of m c main_v35 (by decide)).trans ((W12_of m c main_v35 (by decide)).trans ((W11_of m c main_v35 (by decide)).trans ((W10_of m c main_v35 (by decide)).trans ((W9_of m c main_v35 (by decide)).trans ((W8_of m c main_v35 (by decide)).trans (exit3 c (W6 m c) (good m c hf hc))))))))) r n

/-- The block of rows of the attention that this launch writes. -/
theorem rows1 (r : Fin 256) (n : Fin 4096) : (W14 m c (Proc.devRef .tc main_v36)) (ix2 r n) = (layK m c).att (rowOf 1 r) (headOf n) (dimOf n) :=
  rows_of m c (W := W7 m c) (same7 m c).att 1 ((W14_of m c main_v36 (by decide)).trans ((W13_of m c main_v36 (by decide)).trans ((W12_of m c main_v36 (by decide)).trans ((W11_of m c main_v36 (by decide)).trans ((W10_of m c main_v36 (by decide)).trans ((W9_of m c main_v36 (by decide)).trans (exit4 c (W7 m c) ((same7 m c).good (good m c hf hc))))))))) r n

/-- The block of rows of the attention that this launch writes. -/
theorem rows2 (r : Fin 256) (n : Fin 4096) : (W14 m c (Proc.devRef .tc main_v37)) (ix2 r n) = (layK m c).att (rowOf 2 r) (headOf n) (dimOf n) :=
  rows_of m c (W := W8 m c) (same8 m c).att 2 ((W14_of m c main_v37 (by decide)).trans ((W13_of m c main_v37 (by decide)).trans ((W12_of m c main_v37 (by decide)).trans ((W11_of m c main_v37 (by decide)).trans ((W10_of m c main_v37 (by decide)).trans (exit5 c (W8 m c) ((same8 m c).good (good m c hf hc)))))))) r n

/-- The block of rows of the attention that this launch writes. -/
theorem rows3 (r : Fin 256) (n : Fin 4096) : (W14 m c (Proc.devRef .tc main_v38)) (ix2 r n) = (layK m c).att (rowOf 3 r) (headOf n) (dimOf n) :=
  rows_of m c (W := W9 m c) (same9 m c).att 3 ((W14_of m c main_v38 (by decide)).trans ((W13_of m c main_v38 (by decide)).trans ((W12_of m c main_v38 (by decide)).trans ((W11_of m c main_v38 (by decide)).trans (exit6 c (W9 m c) ((same9 m c).good (good m c hf hc))))))) r n

/-- The block of rows of the attention that this launch writes. -/
theorem rows4 (r : Fin 256) (n : Fin 4096) : (W14 m c (Proc.devRef .tc main_v39)) (ix2 r n) = (layK m c).att (rowOf 4 r) (headOf n) (dimOf n) :=
  rows_of m c (W := W10 m c) (same10 m c).att 4 ((W14_of m c main_v39 (by decide)).trans ((W13_of m c main_v39 (by decide)).trans ((W12_of m c main_v39 (by decide)).trans (exit7 c (W10 m c) ((same10 m c).good (good m c hf hc)))))) r n

/-- The block of rows of the attention that this launch writes. -/
theorem rows5 (r : Fin 256) (n : Fin 4096) : (W14 m c (Proc.devRef .tc main_v40)) (ix2 r n) = (layK m c).att (rowOf 5 r) (headOf n) (dimOf n) :=
  rows_of m c (W := W11 m c) (same11 m c).att 5 ((W14_of m c main_v40 (by decide)).trans ((W13_of m c main_v40 (by decide)).trans (exit8 c (W11 m c) ((same11 m c).good (good m c hf hc))))) r n

/-- The block of rows of the attention that this launch writes. -/
theorem rows6 (r : Fin 256) (n : Fin 4096) : (W14 m c (Proc.devRef .tc main_v41)) (ix2 r n) = (layK m c).att (rowOf 6 r) (headOf n) (dimOf n) :=
  rows_of m c (W := W12 m c) (same12 m c).att 6 ((W14_of m c main_v41 (by decide)).trans (exit9 c (W12 m c) ((same12 m c).good (good m c hf hc)))) r n

/-- The block of rows of the attention that this launch writes. -/
theorem rows7 (r : Fin 256) (n : Fin 4096) : (W14 m c (Proc.devRef .tc main_v42)) (ix2 r n) = (layK m c).att (rowOf 7 r) (headOf n) (dimOf n) :=
  rows_of m c (W := W13 m c) (same13 m c).att 7 (exit10 c (W13 m c) ((same13 m c).good (good m c hf hc))) r n

/-- The joined heads, row by row. -/
theorem heads_eq (r : Fin 2048) (n : Fin 4096) : (W15 m c (Proc.devRef .tc main_v43)) (ix2 r n) = (layK m c).att r (headOf n) (dimOf n) :=
  host11_rows (W14 m c) (fun r n => (layK m c).att r (headOf n) (dimOf n)) (rows0 m c hf hc) (rows1 m c hf hc) (rows2 m c hf hc) (rows3 m c hf hc) (rows4 m c hf hc) (rows5 m c hf hc) (rows6 m c hf hc) (rows7 m c hf hc) r n

/-! ## From the attention to the result -/

/-- The input with the attention added. -/
theorem mid_eq (r : Fin 2048) (n : Fin 4096) : (W16 m c (Proc.devRef .tc main_v45)) (ix2 r n) = (layK m c).mid r n := by
  refine (congrFun (exit11 c (W15 m c)) (ix2 r n)).trans ?_
  refine (add_comm (G := EReal) _ _).trans ?_
  unfold Layer.mid
  refine congrArg₂ (fun a b : EReal => a + b) ?_ (congrArg₂ dotAt (funext fun j => heads_eq m c hf hc r j) (funext fun j => (host11_wo (W14 m c) j n).trans ?_))
  · rw [W15_of m c main_v0 (by decide), W14_of m c main_v0 (by decide), W13_of m c main_v0 (by decide), W12_of m c main_v0 (by decide), W11_of m c main_v0 (by decide), W10_of m c main_v0 (by decide), W9_of m c main_v0 (by decide), W8_of m c main_v0 (by decide), W7_of m c main_v0 (by decide), W6_of m c main_v0 (by decide), W5_of m c main_v0 (by decide), W4_of m c main_v0 (by decide), W3_of m c main_v0 (by decide), W2_of m c main_v0 (by decide)]
    exact host0_x (W0 m c) r n
  · rw [W14_of m c main_arg4 (by decide), W13_of m c main_arg4 (by decide), W12_of m c main_arg4 (by decide), W11_of m c main_arg4 (by decide), W10_of m c main_arg4 (by decide), W9_of m c main_arg4 (by decide), W8_of m c main_arg4 (by decide), W7_of m c main_arg4 (by decide), W6_of m c main_arg4 (by decide), W5_of m c main_arg4 (by decide), W4_of m c main_arg4 (by decide), W3_of m c main_arg4 (by decide), W2_of m c main_arg4 (by decide), W1_of m c main_arg4 (by decide)]
    rfl

/-- The normalised middle. -/
theorem hid2_eq (r : Fin 2048) (n : Fin 4096) : (W18 m c (Proc.devRef .tc main_v47)) (ix2 r n) = (layK m c).hid2 r n := by
  refine (congrFun (exit12 c (W17 m c)) (ix2 r n)).trans ?_
  show rmsAt _ _ n = rmsAt _ _ n
  congr 1
  · funext j
    exact (congrFun (W17_of m c main_v45 (by decide)) (ix2 r j)).trans (mid_eq m c hf hc r j)
  · funext j
    refine (host12_ln (W16 m c) j).trans ?_
    rw [W16_of m c main_arg8 (by decide), W15_of m c main_arg8 (by decide), W14_of m c main_arg8 (by decide), W13_of m c main_arg8 (by decide), W12_of m c main_arg8 (by decide), W11_of m c main_arg8 (by decide), W10_of m c main_arg8 (by decide), W9_of m c main_arg8 (by decide), W8_of m c main_arg8 (by decide), W7_of m c main_arg8 (by decide), W6_of m c main_arg8 (by decide), W5_of m c main_arg8 (by decide), W4_of m c main_arg8 (by decide), W3_of m c main_arg8 (by decide), W2_of m c main_arg8 (by decide), W1_of m c main_arg8 (by decide)]
    rfl

/-- The gated product. -/
theorem up_eq (r : Fin 2048) (f : Fin 11008) : (W19 m c (Proc.devRef .tc main_v48)) (ix2 r f) = (layK m c).up r f := by
  refine (congrFun (exit13 c (W18 m c)) (ix2 r f)).trans ?_
  unfold Layer.up
  refine congrArg₂ (fun a b : EReal => a * b) (congrArg siluAt (congrArg₂ dotAt (funext fun j => hid2_eq m c hf hc r j) (funext fun j => ?_)))
    (congrArg₂ dotAt (funext fun j => hid2_eq m c hf hc r j) (funext fun j => ?_))
  · rw [W18_of m c main_arg9 (by decide), W17_of m c main_arg9 (by decide), W16_of m c main_arg9 (by decide), W15_of m c main_arg9 (by decide), W14_of m c main_arg9 (by decide), W13_of m c main_arg9 (by decide), W12_of m c main_arg9 (by decide), W11_of m c main_arg9 (by decide), W10_of m c main_arg9 (by decide), W9_of m c main_arg9 (by decide), W8_of m c main_arg9 (by decide), W7_of m c main_arg9 (by decide), W6_of m c main_arg9 (by decide), W5_of m c main_arg9 (by decide), W4_of m c main_arg9 (by decide), W3_of m c main_arg9 (by decide), W2_of m c main_arg9 (by decide), W1_of m c main_arg9 (by decide)]
    rfl
  · rw [W18_of m c main_arg10 (by decide), W17_of m c main_arg10 (by decide), W16_of m c main_arg10 (by decide), W15_of m c main_arg10 (by decide), W14_of m c main_arg10 (by decide), W13_of m c main_arg10 (by decide), W12_of m c main_arg10 (by decide), W11_of m c main_arg10 (by decide), W10_of m c main_arg10 (by decide), W9_of m c main_arg10 (by decide), W8_of m c main_arg10 (by decide), W7_of m c main_arg10 (by decide), W6_of m c main_arg10 (by decide), W5_of m c main_arg10 (by decide), W4_of m c main_arg10 (by decide), W3_of m c main_arg10 (by decide), W2_of m c main_arg10 (by decide), W1_of m c main_arg10 (by decide)]
    rfl

/-- The kernel's result is the layer's. -/
theorem out_eq (r : Fin 2048) (n : Fin 4096) : (W22 m c (Proc.devRef .tc main_v51)) (ix3 0 r n) = (layK m c).out r n := by
  refine (host15_out (W21 m c) r n).trans ?_
  refine (congrFun (exit14 c (W20 m c)) (ix2 r n)).trans ?_
  refine (add_comm (G := EReal) _ _).trans ?_
  unfold Layer.out
  refine congrArg₂ (fun a b : EReal => a + b) ?_ (congrArg₂ dotAt (funext fun j => ?_) (funext fun j => (host14_wd (W19 m c) j n).trans ?_))
  · rw [W20_of m c main_v45 (by decide), W19_of m c main_v45 (by decide), W18_of m c main_v45 (by decide), W17_of m c main_v45 (by decide)]
    exact mid_eq m c hf hc r n
  · exact (congrFun (W20_of m c main_v48 (by decide)) (ix2 r j)).trans (up_eq m c hf hc r j)
  · rw [W19_of m c main_arg11 (by decide), W18_of m c main_arg11 (by decide), W17_of m c main_arg11 (by decide), W16_of m c main_arg11 (by decide), W15_of m c main_arg11 (by decide), W14_of m c main_arg11 (by decide), W13_of m c main_arg11 (by decide), W12_of m c main_arg11 (by decide), W11_of m c main_arg11 (by decide), W10_of m c main_arg11 (by decide), W9_of m c main_arg11 (by decide), W8_of m c main_arg11 (by decide), W7_of m c main_arg11 (by decide), W6_of m c main_arg11 (by decide), W5_of m c main_arg11 (by decide), W4_of m c main_arg11 (by decide), W3_of m c main_arg11 (by decide), W2_of m c main_arg11 (by decide), W1_of m c main_arg11 (by decide)]
    rfl

end Attention

end Cert.KernelIdeal.Value

end
-- ==== Proof.Value.Arrays.lean ====
/-
  The reference's operations as functions of arrays, each read at an index.
-/
module

public import proofs.«01_k».proof.ReferenceIdeal
public import proofs.«01_k».proof.Proof.Gen.ReferenceIdeal
public import proofs.«01_k».proof.Proof.Value.Spec
public import Idealize.ShloMosaic.Lib.Claim
public import Idealize.ShloMosaic.Lib.Pointwise
public import Idealize.ShloMosaic.PureOps.Ideal

@[expose] public section

set_option maxRecDepth 16384

noncomputable section

namespace Cert.ReferenceIdeal.Arrays

open Idealize.ShloMosaic Cert.ReferenceIdeal Cert.ReferenceIdeal.Gen Cert.Spec

/-- The root mean square normalisation. -/
def normArr (x : FVec Ideal S1x2048x4096 .f32) (w : FVec Ideal S4096 .f32) : FVec Ideal S1x2048x4096 .f32 :=
  mulf (mulf x (broadcastInDim S1x2048x4096 ![0, 1, 2] bcast_S1x2048x1_S1x2048x4096_0_1_2
      (Host.rsqrt (addf (Host.divf (broadcastInDim S1x2048x1 ![0, 1] bcast_S1x2048_S1x2048x1_0_1
          (Host.reduceAdd (mulf x x) (constant S_ .f32 0x00000000#32) reducesTo_S1x2048x4096_S1x2048_d2 h_S_))
        (broadcastInDim S1x2048x1 ![] bcast_S_S1x2048x1 (constant S_ .f32 0x45800000#32)))
        (broadcastInDim S1x2048x1 ![] bcast_S_S1x2048x1 (constant S_ .f32 0x358637BD#32))))))
    (broadcastInDim S1x2048x4096 ![0, 1, 2] bcast_S1x1x4096_S1x2048x4096_0_1_2 (broadcastInDim S1x1x4096 ![2] bcast_S4096_S1x1x4096_2 w))

/-- An entry of the normalised array. -/
theorem normArr_apply (x : FVec Ideal S1x2048x4096 .f32) (w : FVec Ideal S4096 .f32) (r : Fin 2048) (n : Fin 4096) :
    normArr x w (ix3 0 r n) = rmsAt (fun k => x (ix3 0 r k)) (fun k => w (ix1 k)) n := by
  pointwise [normArr]
  rfl

/-- The queries, head by head. -/
def headsArr (x : FVec Ideal S1x2048x4096 .f32) (w : FVec Ideal S4096x4096 .f32) : FVec Ideal S1x32x2048x128 .f32 :=
  transpose S1x32x2048x128 [0, 2, 1, 3] (shapeCast S1x2048x32x128
    (Host.dotGeneral dot_S1x2048x4096_S4096x4096_S1x2048x4096_2_0_01_1_n_n none x w) shapeCasts_S1x2048x4096_S1x2048x32x128) transposes_S1x2048x32x128_S1x32x2048x128_0_2_1_3

/-- An entry of the queries: a product of a row and a column of its head. -/
theorem headsArr_apply (x : FVec Ideal S1x2048x4096 .f32) (w : FVec Ideal S4096x4096 .f32) (h : Fin 32) (r : Fin 2048) (d : Fin 128) :
    headsArr x w (ix4 0 h r d) = dotAt (fun k => x (ix3 0 r k)) (fun k => w (ix2 k (col h d))) := by
  pointwise [headsArr]
  rfl

/-- The keys or values, each head repeated four times. -/
def kvArr (x : FVec Ideal S1x2048x4096 .f32) (w : FVec Ideal S4096x1024 .f32) : FVec Ideal S1x32x2048x128 .f32 :=
  shapeCast S1x32x2048x128 (broadcastInDim S1x8x4x2048x128 ![0, 1, 3, 4] bcast_S1x8x2048x128_S1x8x4x2048x128_0_1_3_4
    (transpose S1x8x2048x128 [0, 2, 1, 3] (shapeCast S1x2048x8x128
      (Host.dotGeneral dot_S1x2048x4096_S4096x1024_S1x2048x1024_2_0_01_1_n_n none x w) shapeCasts_S1x2048x1024_S1x2048x8x128) transposes_S1x2048x8x128_S1x8x2048x128_0_2_1_3))
    shapeCasts_S1x8x4x2048x128_S1x32x2048x128

/-- An entry of the keys or values: four heads share a column. -/
theorem kvArr_apply (x : FVec Ideal S1x2048x4096 .f32) (w : FVec Ideal S4096x1024 .f32) (h : Fin 32) (r : Fin 2048) (d : Fin 128) :
    kvArr x w (ix4 0 h r d) = dotAt (fun k => x (ix3 0 r k)) (fun k => w (ix2 k (kvCol h d))) := by
  pointwise [kvArr]
  rfl

/-- The rotation of every head. -/
def ropeArr (x : FVec Ideal S1x32x2048x128 .f32) (cs sn : FVec Ideal S2048x128 .f32) : FVec Ideal S1x32x2048x128 .f32 :=
  addf (mulf x (broadcastInDim S1x32x2048x128 ![0, 1, 2, 3] bcast_S1x1x2048x128_S1x32x2048x128_0_1_2_3 (broadcastInDim S1x1x2048x128 ![2, 3] bcast_S2048x128_S1x1x2048x128_2_3 cs)))
    (mulf (concatenate S1x32x2048x128 3
        [⟨S1x32x2048x64, Host.negf (extractStridedSlice S1x32x2048x64 ![0, 0, 0, 64] x slices_S1x32x2048x128_S1x32x2048x64_0_0_0_64)⟩,
         ⟨S1x32x2048x64, extractStridedSlice S1x32x2048x64 ![0, 0, 0, 0] x slices_S1x32x2048x128_S1x32x2048x64_0_0_0_0⟩] concatenates_S1x32x2048x64_S1x32x2048x64_S1x32x2048x128_d3)
      (broadcastInDim S1x32x2048x128 ![0, 1, 2, 3] bcast_S1x1x2048x128_S1x32x2048x128_0_1_2_3 (broadcastInDim S1x1x2048x128 ![2, 3] bcast_S2048x128_S1x1x2048x128_2_3 sn)))

/-- An entry of the rotated heads. -/
theorem ropeArr_apply (x : FVec Ideal S1x32x2048x128 .f32) (cs sn : FVec Ideal S2048x128 .f32) (h : Fin 32) (r : Fin 2048) (d : Fin 128) :
    ropeArr x cs sn (ix4 0 h r d) = ropeAt (fun d => x (ix4 0 h r d)) (fun d => cs (ix2 r d)) (fun d => sn (ix2 r d)) d := by
  pointwise [ropeArr]
  unfold ropeAt rotAt
  rfl

/-- The signs of the projections. -/
def hashArr (x : FVec Ideal S1x32x2048x128 .f32) (p : FVec Ideal S1x32x128x128 .f32) (b : FVec Ideal S1x32x1x128 .f32) : FVec Ideal S1x32x2048x128 .f32 :=
  Host.sign (addf (transpose S1x32x2048x128 [2, 0, 3, 1]
      (Host.dotGeneral dot_S32x128x128_S1x32x2048x128_S32x128x1x2048_1_3_2_02_0_1 none
        (Host.reduceAdd p (constant S_ .f32 0x00000000#32) reducesTo_S1x32x128x128_S32x128x128_d0 h_S_) x) transposes_S32x128x1x2048_S1x32x2048x128_2_0_3_1)
    (broadcastInDim S1x32x2048x128 ![0, 1, 2, 3] bcast_S1x32x1x128_S1x32x2048x128_0_1_2_3 b))

/-- An entry of the hash: the sign of a projection with its bias. -/
theorem hashArr_apply (x : FVec Ideal S1x32x2048x128 .f32) (p : FVec Ideal S1x32x128x128 .f32) (b : FVec Ideal S1x32x1x128 .f32) (h : Fin 32) (r : Fin 2048) (e : Fin 128) :
    hashArr x p b (ix4 0 h r e) = hashAt (fun d => x (ix4 0 h r d)) (fun d => p (ix4 0 h d e)) (b (ix4 0 h 0 e)) := by
  pointwise [hashArr]
  unfold hashAt dotAt
  refine congrArg Ideal.sign (congrArg (· + _) (Finset.sum_congr rfl fun d _ => ?_))
  rw [Fin.sum_univ_one, mul_comm]

/-- The product of every pair of rows of a head. -/
def pairArr (a b : FVec Ideal S1x32x2048x128 .f32) : FVec Ideal S1x32x2048x2048 .f32 :=
  Host.dotGeneral dot_S1x32x2048x128_S1x32x2048x128_S1x32x2048x2048_3_3_2_2_01_01 none a b

/-- An entry of the products of the rows: one row with another. -/
theorem pairArr_apply (a b : FVec Ideal S1x32x2048x128 .f32) (h : Fin 32) (r j : Fin 2048) :
    pairArr a b (ix4 0 h r j) = dotAt (fun e => a (ix4 0 h r e)) (fun e => b (ix4 0 h j e)) := by
  pointwise [pairArr]
  rfl

end Cert.ReferenceIdeal.Arrays

end
-- ==== Proof.Value.Top.lean ====
/-
  The reference's selection of keys: the causal mask, the positions of the 205 largest draft scores
  of a row, and the mask that keeps them, each read at an index.
-/
module

public import proofs.«01_k».proof.Proof.Value.Arrays
public import proofs.«01_k».proof.Proof.Value.Rank
public import Idealize.ShloMosaic.Lib.WordCmp
public import Idealize.ShloMosaic.Lib.Routing.OpsSet

@[expose] public section

set_option maxRecDepth 16384

noncomputable section

namespace Cert.ReferenceIdeal.Arrays

open Idealize.ShloMosaic Idealize.ShloMosaic.WordCmp Cert.ReferenceIdeal.Gen Cert.Spec

/-- The float of this word is minus infinity. -/
theorem minus_infinity : Ideal.ofBits .f32 0xFF800000#32 = ⊥ := by simp [Ideal.ofBits, Ideal.ieee]
/-- The float of this word is zero. -/
theorem plus_zero : Ideal.ofBits .f32 0x00000000#32 = 0 := by simp [Ideal.ofBits, Ideal.ieee]

/-- The causal mask: nothing up to the diagonal, minus infinity past it. -/
def causalArr : FVec Ideal S2048x2048 .f32 :=
  select (cmpi .sge (addi (iotaInDim S2048x2048 32 0) (broadcastInDim S2048x2048 ![] bcast_S_S2048x2048 (constantI S_ 32 0#32))) (iotaInDim S2048x2048 32 1))
    (broadcastInDim S2048x2048 ![] bcast_S_S2048x2048 (constant S_ .f32 0x00000000#32))
    (broadcastInDim S2048x2048 ![] bcast_S_S2048x2048 (constant S_ .f32 0xFF800000#32))

/-- An entry of the causal mask. -/
theorem causalArr_apply (r j : Fin 2048) : causalArr (ix2 r j) = if j.val ≤ r.val then 0 else ⊥ := by
  show Scalar.select (IntOp.cmpi .sge (IntOp.addi (BitVec.ofNat 32 r.val) 0#32) (BitVec.ofNat 32 j.val)) (Ideal.ofBits .f32 0x00000000#32) (Ideal.ofBits .f32 0xFF800000#32) = _
  have hr := r.isLt
  have hj := j.isLt
  rw [minus_infinity, plus_zero, show IntOp.addi (BitVec.ofNat 32 r.val) 0#32 = BitVec.ofNat 32 r.val from BitVec.add_zero _]
  by_cases h : j.val ≤ r.val
  · rw [if_pos h, select_of_eq_one ((cmpi_sge_ofNat_eq_one_iff (by omega) (by omega)).2 h)]
  · rw [if_neg h, select_of_eq_zero ((cmpi_sge_ofNat_eq_zero_iff (by omega) (by omega)).2 (by omega))]

/-- The causal mask of every head. -/
def causalHeads : FVec Ideal S1x32x2048x2048 .f32 :=
  broadcastInDim S1x32x2048x2048 ![0, 1, 2, 3] bcast_S1x1x2048x2048_S1x32x2048x2048_0_1_2_3
    (broadcastInDim S1x1x2048x2048 ![2, 3] bcast_S2048x2048_S1x1x2048x2048_2_3 causalArr)

/-- An entry of the causal mask of a head. -/
theorem causalHeads_apply (h : Fin 32) (r j : Fin 2048) : causalHeads (ix4 0 h r j) = if j.val ≤ r.val then 0 else ⊥ := by
  refine Eq.trans ?_ (causalArr_apply r j)
  pointwise [causalHeads]

/-- The positions of a row's 205 largest entries, largest first. -/
def topArr (x : FVec Ideal S1x32x2048x2048 .f32) : IVec S1x32x2048x205 32 :=
  (Host.topK S1x32x2048x205 3 (FloatOps.cmpfTotal .gt) x sliceFits_S1x32x2048x2048_S1x32x2048x205).2

/-- Where the sort puts a row's entries. -/
def placed (x : FVec Ideal S1x32x2048x2048 .f32) (h : Fin 32) (r : Fin 2048) (p : Fin 2048) : Fin 2048 :=
  sortedFrom (fun a b : Fin 2048 => decide (x (ix4 0 h r b) < x (ix4 0 h r a))) p

/-- A sort along the last of four axes carries the second array by the same order, row by row. -/
theorem sort2_last {α β : Type} {n0 n1 n2 n3 : ℕ} (cmp : α × β → α × β → BitVec 1) (x : (⟨4, ![n0, n1, n2, n3]⟩ : Shape).Idx → α)
    (y : (⟨4, ![n0, n1, n2, n3]⟩ : Shape).Idx → β) (a : Fin n0) (b : Fin n1) (c : Fin n2) (d : Fin n3) :
    (Host.sort2 ⟨4, ![n0, n1, n2, n3]⟩ 3 cmp x y).2 (ix4 a b c d)
      = y (ix4 a b c (sortedFrom (fun k k' : Fin n3 => cmp (x (ix4 a b c k), y (ix4 a b c k)) (x (ix4 a b c k'), y (ix4 a b c k')) == 1#1) d)) := by
  have hal (k : Fin n3) : (ix4 a b c d).along (3 : Fin 4) k = ix4 a b c k := by
    funext i
    unfold Shape.Idx.along
    fin_cases i
    · exact Function.update_of_ne (show (0 : Fin 4) ≠ 3 by decide) _ _
    · exact Function.update_of_ne (show (1 : Fin 4) ≠ 3 by decide) _ _
    · exact Function.update_of_ne (show (2 : Fin 4) ≠ 3 by decide) _ _
    · exact Function.update_self _ _ _
  unfold Host.sort2
  rw [dif_pos (show 3 < 4 by decide)]
  refine (congrArg y (hal _)).trans ?_
  refine congrArg (fun f : Fin n3 → Fin n3 → Bool => y (ix4 a b c (sortedFrom f d))) (funext fun k => funext fun k' => ?_)
  refine congrArg (· == 1#1) (congrArg₂ cmp (Prod.ext ?_ ?_) (Prod.ext ?_ ?_))
  · exact congrArg x (hal k)
  · exact congrArg y (hal k)
  · exact congrArg x (hal k')
  · exact congrArg y (hal k')

/-- The key at a place of the row's top scores. -/
theorem topArr_apply (x : FVec Ideal S1x32x2048x2048 .f32) (h : Fin 32) (r : Fin 2048) (p : Fin 205) :
    topArr x (ix4 0 h r p) = BitVec.ofNat 32 (placed x h r (p.castLE (by decide))).val := by
  have e : topArr x (ix4 0 h r p) = (Host.sort2 S1x32x2048x2048 3 (fun l q : EReal × BitVec 32 => FloatOps.cmpfTotal (F := Ideal) (φ := .f32) .gt l.1 q.1) x
      (iotaInDim S1x32x2048x2048 32 3)).2 (ix4 0 h r (p.castLE (by decide))) := by
    unfold topArr Host.topK extractStridedSlice
    have hidx : (fun i : S1x32x2048x2048.Idx => if hd : 3 < S1x32x2048x2048.rank then iotaInDim S1x32x2048x2048 32 ⟨3, hd⟩ i else 0#32) = iotaInDim S1x32x2048x2048 32 3 :=
      funext fun i => dif_pos (show 3 < 4 by decide)
    refine congrArg₂ (fun f z => (Host.sort2 S1x32x2048x2048 3 (fun l q : EReal × BitVec 32 => FloatOps.cmpfTotal (F := Ideal) (φ := .f32) .gt l.1 q.1) x f).2 z) hidx (funext fun a => Fin.ext ?_)
    fin_cases a
    · exact Nat.zero_add _
    · exact Nat.zero_add _
    · exact Nat.zero_add _
    · exact Nat.zero_add _
  refine e.trans ((sort2_last _ x (iotaInDim S1x32x2048x2048 32 3) 0 h r (p.castLE (by decide))).trans ?_)
  refine congrArg (fun f : Fin 2048 → Fin 2048 → Bool => BitVec.ofNat 32 (sortedFrom f (p.castLE (by decide))).val) (funext fun a => funext fun b => ?_)
  show (BitVec.ofBool (decide (x (ix4 0 h r b) < x (ix4 0 h r a))) == 1#1) = _
  by_cases g : x (ix4 0 h r b) < x (ix4 0 h r a) <;> simp [g]

/-- Every kept entry's position in the array: its head, its row and its key. -/
def placesArr (i : IVec S1x32x2048x205 32) : IVec S1x32x2048x205x4 32 :=
  concatenate S1x32x2048x205x4 4
    [⟨S1x32x2048x205x1, broadcastInDim S1x32x2048x205x1 ![0, 1, 2, 3] bcast_S1x32x2048x205_S1x32x2048x205x1_0_1_2_3
        (broadcastInDim S1x32x2048x205 ![0, 1, 2, 3] bcast_S1x1x1x1_S1x32x2048x205_0_1_2_3
          (select (cmpi .slt (broadcastInDim S1x1x1x1 ![0] bcast_S1_S1x1x1x1_0 (iotaInDim S1 32 0)) (broadcastInDim S1x1x1x1 ![] bcast_S_S1x1x1x1 (constantI S_ 32 0#32)))
            (addi (broadcastInDim S1x1x1x1 ![0] bcast_S1_S1x1x1x1_0 (iotaInDim S1 32 0)) (broadcastInDim S1x1x1x1 ![] bcast_S_S1x1x1x1 (constantI S_ 32 1#32)))
            (broadcastInDim S1x1x1x1 ![0] bcast_S1_S1x1x1x1_0 (iotaInDim S1 32 0))))⟩,
     ⟨S1x32x2048x205x1, broadcastInDim S1x32x2048x205x1 ![0, 1, 2, 3] bcast_S1x32x2048x205_S1x32x2048x205x1_0_1_2_3
        (broadcastInDim S1x32x2048x205 ![0, 1, 2, 3] bcast_S1x32x1x1_S1x32x2048x205_0_1_2_3
          (select (cmpi .slt (broadcastInDim S1x32x1x1 ![1] bcast_S32_S1x32x1x1_1 (iotaInDim S32 32 0)) (broadcastInDim S1x32x1x1 ![] bcast_S_S1x32x1x1 (constantI S_ 32 0#32)))
            (addi (broadcastInDim S1x32x1x1 ![1] bcast_S32_S1x32x1x1_1 (iotaInDim S32 32 0)) (broadcastInDim S1x32x1x1 ![] bcast_S_S1x32x1x1 (constantI S_ 32 32#32)))
            (broadcastInDim S1x32x1x1 ![1] bcast_S32_S1x32x1x1_1 (iotaInDim S32 32 0))))⟩,
     ⟨S1x32x2048x205x1, broadcastInDim S1x32x2048x205x1 ![0, 1, 2, 3] bcast_S1x32x2048x205_S1x32x2048x205x1_0_1_2_3
        (broadcastInDim S1x32x2048x205 ![0, 1, 2, 3] bcast_S1x1x2048x1_S1x32x2048x205_0_1_2_3
          (select (cmpi .slt (broadcastInDim S1x1x2048x1 ![2] bcast_S2048_S1x1x2048x1_2 (iotaInDim S2048 32 0)) (broadcastInDim S1x1x2048x1 ![] bcast_S_S1x1x2048x1 (constantI S_ 32 0#32)))
            (addi (broadcastInDim S1x1x2048x1 ![2] bcast_S2048_S1x1x2048x1_2 (iotaInDim S2048 32 0)) (broadcastInDim S1x1x2048x1 ![] bcast_S_S1x1x2048x1 (constantI S_ 32 2048#32)))
            (broadcastInDim S1x1x2048x1 ![2] bcast_S2048_S1x1x2048x1_2 (iotaInDim S2048 32 0))))⟩,
     ⟨S1x32x2048x205x1, broadcastInDim S1x32x2048x205x1 ![0, 1, 2, 3] bcast_S1x32x2048x205_S1x32x2048x205x1_0_1_2_3
        (select (cmpi .slt i (broadcastInDim S1x32x2048x205 ![] bcast_S_S1x32x2048x205 (constantI S_ 32 0#32)))
          (addi i (broadcastInDim S1x32x2048x205 ![] bcast_S_S1x32x2048x205 (constantI S_ 32 2048#32))) i)⟩]
    concatenates_S1x32x2048x205x1_S1x32x2048x205x1_S1x32x2048x205x1_S1x32x2048x205x1_S1x32x2048x205x4_d4

/-- A number that is not negative is left as it is. -/
theorem wrap_eq (a : ℕ) (ha : a < 2 ^ 31) (n : BitVec 32) :
    Scalar.select (IntOp.cmpi .slt (BitVec.ofNat 32 a) 0#32) (IntOp.addi (BitVec.ofNat 32 a) n) (BitVec.ofNat 32 a) = BitVec.ofNat 32 a :=
  select_of_eq_zero ((cmpi_slt_ofNat_eq_zero_iff (b := 0) ha (by decide)).2 (by omega)) _ _

/-- The first coordinate of a place. -/
theorem placesArr_0 (i : IVec S1x32x2048x205 32) (h : Fin 32) (r : Fin 2048) (p : Fin 205) : placesArr i (ix5 0 h r p 0) = BitVec.ofNat 32 0 := by
  refine Eq.trans ?_ (wrap_eq 0 (by decide) 1#32)
  pointwise [placesArr]
/-- The second coordinate of a place: the head. -/
theorem placesArr_1 (i : IVec S1x32x2048x205 32) (h : Fin 32) (r : Fin 2048) (p : Fin 205) : placesArr i (ix5 0 h r p 1) = BitVec.ofNat 32 h.val := by
  refine Eq.trans ?_ (wrap_eq h.val (by have := h.isLt; omega) 32#32)
  pointwise [placesArr]
/-- The third coordinate of a place: the row. -/
theorem placesArr_2 (i : IVec S1x32x2048x205 32) (h : Fin 32) (r : Fin 2048) (p : Fin 205) : placesArr i (ix5 0 h r p 2) = BitVec.ofNat 32 r.val := by
  refine Eq.trans ?_ (wrap_eq r.val (by have := r.isLt; omega) 2048#32)
  pointwise [placesArr]
/-- The last coordinate of a place: the key. -/
theorem placesArr_3 (i : IVec S1x32x2048x205 32) (h : Fin 32) (r : Fin 2048) (p : Fin 205) (j : Fin 2048) (hi : i (ix4 0 h r p) = BitVec.ofNat 32 j.val) :
    placesArr i (ix5 0 h r p 3) = BitVec.ofNat 32 j.val := by
  refine Eq.trans ?_ (wrap_eq j.val (by have := j.isLt; omega) 2048#32)
  rw [← hi]
  pointwise [placesArr]

end Cert.ReferenceIdeal.Arrays

end
-- ==== Proof.Value.Keep.lean ====
/-
  The mask that keeps the selected keys: minus infinity everywhere, overwritten by nothing at the
  positions the selection names.
-/
module

public import proofs.«01_k».proof.Proof.Value.Top

@[expose] public section

set_option maxRecDepth 16384

noncomputable section

namespace Cert.ReferenceIdeal.Arrays

open Idealize.ShloMosaic Idealize.ShloMosaic.WordCmp Cert.ReferenceIdeal Cert.ReferenceIdeal.Gen Cert.Spec

/-- A write whose position is given in full by four numbers lands there. -/
theorem lands {a b c n m : ℕ} (wf : ScatterDims.WF ⟨4, ![a, b, c, n]⟩ ⟨5, ![a, b, c, m, 4]⟩ ⟨4, ![a, b, c, m]⟩ [] [0, 1, 2, 3] [0, 1, 2, 3] 4)
    (idx : IVec ⟨5, ![a, b, c, m, 4]⟩ 32) (k0 : Fin a) (k1 : Fin b) (k2 : Fin c) (k3 : Fin m) (j : Fin n)
    (h0 : (idx (ix5 k0 k1 k2 k3 0)).toInt = k0.val) (h1 : (idx (ix5 k0 k1 k2 k3 1)).toInt = k1.val)
    (h2 : (idx (ix5 k0 k1 k2 k3 2)).toInt = k2.val) (h3 : (idx (ix5 k0 k1 k2 k3 3)).toInt = j.val) :
    ScatterDims.resultIdx? (⟨[], [0, 1, 2, 3], [0, 1, 2, 3], 4, wf⟩ : ScatterDims ⟨4, ![a, b, c, n]⟩ ⟨5, ![a, b, c, m, 4]⟩ ⟨4, ![a, b, c, m]⟩) (ix4 k0 k1 k2 k3) idx
      = some (ix4 k0 k1 k2 j) := by
  generalize hd : (⟨[], [0, 1, 2, 3], [0, 1, 2, 3], 4, wf⟩ : ScatterDims ⟨4, ![a, b, c, n]⟩ ⟨5, ![a, b, c, m, 4]⟩ ⟨4, ![a, b, c, m]⟩) = d
  have hsi (q : Fin 4) (hq : q.val < d.scatterDimsToOperandDims.length) : d.siIdx (ix4 k0 k1 k2 k3) ⟨q.val, hq⟩ = ix5 k0 k1 k2 k3 q := by
    subst hd
    funext e
    fin_cases e
    · rfl
    · rfl
    · rfl
    · rfl
    · rfl
  have hwin (q : Fin 4) : d.window (ix4 k0 k1 k2 k3) q = 0 := by
    subst hd
    fin_cases q <;> rfl
  have hst (q : Fin 4) : d.start (ix4 k0 k1 k2 k3) idx q = (idx (ix5 k0 k1 k2 k3 q)).toInt := by
    have hm : q ∈ d.scatterDimsToOperandDims := by subst hd; exact (by decide : ∀ q : Fin 4, q ∈ ([0, 1, 2, 3] : List (Fin 4))) q
    have hl : d.scatterDimsToOperandDims.idxOf q = q.val := by subst hd; exact (by decide : ∀ q : Fin 4, ([0, 1, 2, 3] : List (Fin 4)).idxOf q = q.val) q
    unfold ScatterDims.start
    rw [dif_pos hm]
    refine congrArg (fun z => (idx z).toInt) (Eq.trans ?_ (hsi q (hl ▸ List.idxOf_lt_length_iff.2 hm)))
    exact congrArg _ (Fin.ext hl)
  have e0 : d.start (ix4 k0 k1 k2 k3) idx 0 = k0.val := (hst 0).trans h0
  have e1 : d.start (ix4 k0 k1 k2 k3) idx 1 = k1.val := (hst 1).trans h1
  have e2 : d.start (ix4 k0 k1 k2 k3) idx 2 = k2.val := (hst 2).trans h2
  have e3 : d.start (ix4 k0 k1 k2 k3) idx 3 = j.val := (hst 3).trans h3
  have w0 := hwin 0
  have w1 := hwin 1
  have w2 := hwin 2
  have w3 := hwin 3
  have s0 := k0.isLt
  have s1 := k1.isLt
  have s2 := k2.isLt
  have s3 := j.isLt
  unfold ScatterDims.resultIdx?
  rw [dif_pos]
  · refine congrArg some (funext fun q => Fin.ext ?_)
    fin_cases q
    · show (d.start (ix4 k0 k1 k2 k3) idx 0 + (d.window (ix4 k0 k1 k2 k3) 0 : Int)).toNat = k0.val
      rw [e0, w0]; omega
    · show (d.start (ix4 k0 k1 k2 k3) idx 1 + (d.window (ix4 k0 k1 k2 k3) 1 : Int)).toNat = k1.val
      rw [e1, w1]; omega
    · show (d.start (ix4 k0 k1 k2 k3) idx 2 + (d.window (ix4 k0 k1 k2 k3) 2 : Int)).toNat = k2.val
      rw [e2, w2]; omega
    · show (d.start (ix4 k0 k1 k2 k3) idx 3 + (d.window (ix4 k0 k1 k2 k3) 3 : Int)).toNat = j.val
      rw [e3, w3]; omega
  · intro q
    fin_cases q
    · show 0 ≤ d.start (ix4 k0 k1 k2 k3) idx 0 + (d.window (ix4 k0 k1 k2 k3) 0 : Int) ∧ d.start (ix4 k0 k1 k2 k3) idx 0 + (d.window (ix4 k0 k1 k2 k3) 0 : Int) < (a : Int)
      rw [e0, w0]; omega
    · show 0 ≤ d.start (ix4 k0 k1 k2 k3) idx 1 + (d.window (ix4 k0 k1 k2 k3) 1 : Int) ∧ d.start (ix4 k0 k1 k2 k3) idx 1 + (d.window (ix4 k0 k1 k2 k3) 1 : Int) < (b : Int)
      rw [e1, w1]; omega
    · show 0 ≤ d.start (ix4 k0 k1 k2 k3) idx 2 + (d.window (ix4 k0 k1 k2 k3) 2 : Int) ∧ d.start (ix4 k0 k1 k2 k3) idx 2 + (d.window (ix4 k0 k1 k2 k3) 2 : Int) < (c : Int)
      rw [e2, w2]; omega
    · show 0 ≤ d.start (ix4 k0 k1 k2 k3) idx 3 + (d.window (ix4 k0 k1 k2 k3) 3 : Int) ∧ d.start (ix4 k0 k1 k2 k3) idx 3 + (d.window (ix4 k0 k1 k2 k3) 3 : Int) < (n : Int)
      rw [e3, w3]; omega

/-- Minus infinity but at the given positions, where it is nothing. -/
def keepArr (i : IVec S1x32x2048x205 32) : FVec Ideal S1x32x2048x2048 .f32 :=
  Host.scatter scatter_S1x32x2048x2048_S1x32x2048x205x4_S1x32x2048x205_n_0123_0123_4 (fun _ b => b)
    (broadcastInDim S1x32x2048x2048 ![] bcast_S_S1x32x2048x2048 (constant S_ .f32 0xFF800000#32))
    (placesArr i)
    (broadcastInDim S1x32x2048x205 ![] bcast_S_S1x32x2048x205 (constant S_ .f32 0x00000000#32))

/-- The mask of the kept keys: nothing at the places of the top scores, minus infinity elsewhere. -/
theorem keepArr_apply (i : IVec S1x32x2048x205 32) (f : Fin 32 → Fin 2048 → Fin 205 → Fin 2048)
    (hi : ∀ h r p, i (ix4 0 h r p) = BitVec.ofNat 32 (f h r p).val) (h : Fin 32) (r j : Fin 2048) [Decidable (∃ p, f h r p = j)] :
    keepArr i (ix4 0 h r j) = if ∃ p, f h r p = j then 0 else ⊥ := by
  have word (a : ℕ) (ha : a < 2048) : (BitVec.ofNat 32 a).toInt = a := toInt_ofNat_of_lt (by omega)
  have hl (h : Fin 32) (r : Fin 2048) (p : Fin 205) :
      scatter_S1x32x2048x2048_S1x32x2048x205x4_S1x32x2048x205_n_0123_0123_4.resultIdx? (ix4 0 h r p) (placesArr i) = some (ix4 0 h r (f h r p)) := by
    refine lands _ (placesArr i) 0 h r p (f h r p) ?_ ?_ ?_ ?_
    · rw [placesArr_0]; rfl
    · rw [placesArr_1]; exact word _ (by have := h.isLt; omega)
    · rw [placesArr_2]; exact word _ r.isLt
    · rw [placesArr_3 i h r p _ (hi h r p)]; exact word _ (f h r p).isLt
  unfold keepArr
  by_cases g : ∃ p, f h r p = j
  · obtain ⟨p, hp⟩ := g
    rw [if_pos ⟨p, hp⟩]
    exact Idealize.ShloMosaic.Routing.scatter_set_hit _ _ _ _ _ _ (fun _ _ => plus_zero) (ix4 0 h r p) ((hl h r p).trans (by rw [hp]))
  · rw [if_neg g]
    refine (Idealize.ShloMosaic.Routing.scatter_set_miss _ _ _ _ _ fun k hk => g ?_).trans minus_infinity
    obtain ⟨k0, k1, k2, k3, rfl⟩ : ∃ (k0 : Fin 1) (k1 : Fin 32) (k2 : Fin 2048) (k3 : Fin 205), k = ix4 k0 k1 k2 k3 := ⟨_, _, _, _, eq_ix4 k⟩
    obtain rfl : k0 = 0 := Subsingleton.elim _ _
    have e := Option.some.inj ((hl k1 k2 k3).symm.trans hk)
    have e1 : k1 = h := congrFun e 1
    have e2 : k2 = r := congrFun e 2
    have e3 : f k1 k2 k3 = j := congrFun e 3
    exact ⟨k3, e1 ▸ e2 ▸ e3⟩

end Cert.ReferenceIdeal.Arrays

end
-- ==== Proof.Value.Soft.lean ====
/-
  The reference's masked scores, their softmax, the joined heads and the gated product, each read
  at an index.
-/
module

public import proofs.«01_k».proof.Proof.Value.Keep

@[expose] public section

set_option maxRecDepth 16384

noncomputable section

namespace Cert.ReferenceIdeal.Arrays

open Idealize.ShloMosaic Cert.ReferenceIdeal Cert.ReferenceIdeal.Gen Cert.Spec

/-- The scaled scores under the causal mask and a second mask. -/
def maskedArr (s k : FVec Ideal S1x32x2048x2048 .f32) : FVec Ideal S1x32x2048x2048 .f32 :=
  addf (addf (Host.divf s (broadcastInDim S1x32x2048x2048 ![] bcast_S_S1x32x2048x2048 (Host.sqrt (constant S_ .f32 0x43000000#32)))) causalHeads) k

/-- The float of this word is 128. -/
theorem one_twenty_eight : Ideal.ofBits .f32 0x43000000#32 = ((128 : ℝ) : EReal) := by
  simp [Ideal.ofBits, Ideal.ieee, -EReal.coe_mul]; norm_num

/-- A quotient by the root of 128 is a product with its inverse. -/
theorem over_sqrt (x : EReal) : Ideal.div x (Ideal.sqrt (Ideal.ofBits .f32 0x43000000#32)) = x * (((Real.sqrt 128)⁻¹ : ℝ) : EReal) := by
  rw [one_twenty_eight]
  rw [Ideal.sqrt_coe, if_neg (by norm_num), Ideal.div_coe (by positivity), one_div]

/-- The draft scores under the causal mask. -/
def draftedArr (d : FVec Ideal S1x32x2048x2048 .f32) : FVec Ideal S1x32x2048x2048 .f32 := addf d causalHeads

/-- When no draft score is minus infinity, the two masks leave the scores of the kept keys. -/
theorem maskedArr_apply (d s : FVec Ideal S1x32x2048x2048 .f32) (h : Fin 32) (r j : Fin 2048) (hd : ∀ j, d (ix4 0 h r j) ≠ ⊥) :
    maskedArr s (keepArr (topArr (draftedArr d))) (ix4 0 h r j)
      = keptScore (fun j => d (ix4 0 h r j)) (fun j => s (ix4 0 h r j) * (((Real.sqrt 128)⁻¹ : ℝ) : EReal)) r.val j := by
  classical
  have hx (j : Fin 2048) : draftedArr d (ix4 0 h r j) = d (ix4 0 h r j) + (if j.val ≤ r.val then 0 else ⊥) :=
    congrArg (d (ix4 0 h r j) + ·) (causalHeads_apply h r j)
  have e : maskedArr s (keepArr (topArr (draftedArr d))) (ix4 0 h r j)
      = s (ix4 0 h r j) * (((Real.sqrt 128)⁻¹ : ℝ) : EReal) + (if j.val ≤ r.val then 0 else ⊥)
        + (if ∃ p : Fin 205, placed (draftedArr d) h r (p.castLE (by decide)) = j then 0 else ⊥) := by
    refine Eq.trans ?_ (congrArg₂ (fun a b : EReal => a + b) (congrArg₂ (fun a b : EReal => a + b) (over_sqrt _) (causalHeads_apply h r j))
      (keepArr_apply (topArr (draftedArr d)) (fun h r p => placed (draftedArr d) h r (p.castLE (by decide))) (fun h r p => topArr_apply _ h r p) h r j))
    rfl
  rw [e]
  unfold keptScore
  by_cases hj : j.val ≤ r.val
  · have hk := Cert.Rank.kept_iff_sorted (fun j => draftedArr d (ix4 0 h r j)) (fun j => d (ix4 0 h r j)) r.val
      (fun i hi => by rw [hx, if_pos hi, add_zero])
      (fun i j hi hj => by
        rw [hx, if_neg hi, EReal.add_bot]
        exact bot_lt_iff_ne_bot.2 (hd j)) j hj
    have hp : (∃ p : Fin 205, placed (draftedArr d) h r (p.castLE (by decide)) = j) ↔ Cert.Rank.Kept (fun j => d (ix4 0 h r j)) r.val j := by
      refine Iff.trans ⟨?_, ?_⟩ hk
      · rintro ⟨p, hp⟩
        exact ⟨p.castLE (by decide), p.isLt, hp⟩
      · rintro ⟨p, hp, he⟩
        exact ⟨⟨p.val, hp⟩, he⟩
    by_cases g : Cert.Rank.Kept (fun j => d (ix4 0 h r j)) r.val j
    · rw [if_pos hj, if_pos (hp.2 g), if_pos g, add_zero, add_zero]
    · rw [if_pos hj, if_neg (fun q => g (hp.1 q)), if_neg g, EReal.add_bot]
  · have g : ¬ Cert.Rank.Kept (fun j => d (ix4 0 h r j)) r.val j := fun g => hj g.1
    rw [if_neg hj, if_neg g, EReal.add_bot, EReal.bot_add]

/-- The largest score of every row. -/
def peakArr (y : FVec Ideal S1x32x2048x2048 .f32) : FVec Ideal S1x32x2048 .f32 :=
  maximumf (broadcastInDim S1x32x2048 ![] bcast_S_S1x32x2048 (constant S_ .f32 0xFF800000#32))
    (Host.reduce FloatOps.maximumf y (constant S_ .f32 0xFF800000#32) reducesTo_S1x32x2048x2048_S1x32x2048_d3 h_S_)

/-- The largest entry of every row of the last axis. -/
theorem rowMax {n0 n1 n2 n3 : ℕ} {u : Shape} (y : FVec Ideal ⟨4, ![n0, n1, n2, n3]⟩ .f32) (z : FVec Ideal u .f32)
    (hr : (⟨4, ![n0, n1, n2, n3]⟩ : Shape).ReducesTo [3] ⟨3, ![n0, n1, n2]⟩) (hu : 0 < u.numel) (a : Fin n0) (b : Fin n1) (c : Fin n2) :
    Host.reduce (FloatOps.maximumf (F := Ideal) (φ := .f32)) y z hr hu (ix3 a b c)
      = (Finset.univ : Finset (Fin n3)).fold (max : EReal → EReal → EReal) (z (Shape.Idx.first hu)) fun j => y (ix4 a b c j) := by
  refine (Host.reduce_eq_fold (max : EReal → EReal → EReal) y z hr hu (ix3 a b c)).trans ?_
  exact Shape.ReducesTo.fold_fiber_r4_a3 hr (ix3 a b c) (max : EReal → EReal → EReal) _ y

/-- An entry of the larger of two arrays. -/
theorem larger_apply {s : Shape} (a b : FVec Ideal s .f32) (i : s.Idx) : maximumf a b i = (max (a i) (b i) : EReal) := rfl

/-- The largest score of a row. -/
theorem peakArr_apply (y : FVec Ideal S1x32x2048x2048 .f32) (h : Fin 32) (r : Fin 2048) :
    peakArr y (ix3 0 h r) = Finset.univ.fold max ⊥ fun j => y (ix4 0 h r j) := by
  unfold peakArr
  refine (larger_apply _ _ _).trans ?_
  rw [rowMax, show (constant S_ .f32 0xFF800000#32 : FVec Ideal S_ .f32) (Shape.Idx.first h_S_) = ⊥ from minus_infinity,
    show (broadcastInDim S1x32x2048 ![] bcast_S_S1x32x2048 (constant S_ .f32 0xFF800000#32) : FVec Ideal S1x32x2048 .f32) (ix3 0 h r) = ⊥ from minus_infinity]
  exact max_eq_right bot_le

/-- The exponentials of the scores under their row's largest. -/
def expArr (y : FVec Ideal S1x32x2048x2048 .f32) (p : FVec Ideal S1x32x2048 .f32) : FVec Ideal S1x32x2048x2048 .f32 :=
  Host.exp (subf y (broadcastInDim S1x32x2048x2048 ![0, 1, 2, 3] bcast_S1x32x2048x1_S1x32x2048x2048_0_1_2_3
    (broadcastInDim S1x32x2048x1 ![0, 1, 2] bcast_S1x32x2048_S1x32x2048x1_0_1_2 p)))

/-- The exponential of a score less its row's largest. -/
theorem expArr_apply (y : FVec Ideal S1x32x2048x2048 .f32) (p : FVec Ideal S1x32x2048 .f32) (h : Fin 32) (r j : Fin 2048) :
    expArr y p (ix4 0 h r j) = Ideal.exp (y (ix4 0 h r j) - p (ix3 0 h r)) := by
  pointwise [expArr]

/-- Every entry over its row's sum. -/
def shareArr (e : FVec Ideal S1x32x2048x2048 .f32) : FVec Ideal S1x32x2048x2048 .f32 :=
  Host.divf e (broadcastInDim S1x32x2048x2048 ![0, 1, 2, 3] bcast_S1x32x2048x1_S1x32x2048x2048_0_1_2_3
    (broadcastInDim S1x32x2048x1 ![0, 1, 2] bcast_S1x32x2048_S1x32x2048x1_0_1_2
      (Host.reduceAdd e (constant S_ .f32 0x00000000#32) reducesTo_S1x32x2048x2048_S1x32x2048_d3 h_S_)))

/-- An entry divided by its row's sum. -/
theorem shareArr_apply (e : FVec Ideal S1x32x2048x2048 .f32) (h : Fin 32) (r j : Fin 2048) :
    shareArr e (ix4 0 h r j) = Ideal.div (e (ix4 0 h r j)) (∑ i, e (ix4 0 h r i)) := by
  pointwise [shareArr]

/-- The softmax of every row. -/
def softArr (y : FVec Ideal S1x32x2048x2048 .f32) : FVec Ideal S1x32x2048x2048 .f32 := shareArr (expArr y (peakArr y))

/-- An entry of the softmax. -/
theorem softArr_apply (y : FVec Ideal S1x32x2048x2048 .f32) (h : Fin 32) (r j : Fin 2048) :
    softArr y (ix4 0 h r j) = Ideal.div (expAt (fun j => y (ix4 0 h r j)) j) (∑ i, expAt (fun j => y (ix4 0 h r j)) i) := by
  have e (i : Fin 2048) : expArr y (peakArr y) (ix4 0 h r i) = expAt (fun j => y (ix4 0 h r j)) i := by
    rw [expArr_apply, peakArr_apply]; unfold expAt; rfl
  unfold softArr
  rw [shareArr_apply, e, Finset.sum_congr rfl fun i _ => e i]

/-- The heads' weighted values, side by side. -/
def joinArr (w : FVec Ideal S1x32x2048x2048 .f32) (v : FVec Ideal S1x32x2048x128 .f32) : FVec Ideal S1x2048x4096 .f32 :=
  shapeCast S1x2048x4096 (transpose S1x2048x32x128 [0, 2, 1, 3]
    (Host.dotGeneral dot_S1x32x2048x2048_S1x32x2048x128_S1x32x2048x128_3_2_2_3_01_01 none w v) transposes_S1x32x2048x128_S1x2048x32x128_0_2_1_3)
    shapeCasts_S1x2048x32x128_S1x2048x4096

/-- An entry of the heads joined: the weights times a column of the values. -/
theorem joinArr_apply (w : FVec Ideal S1x32x2048x2048 .f32) (v : FVec Ideal S1x32x2048x128 .f32) (r : Fin 2048) (n : Fin 4096) :
    joinArr w v (ix3 0 r n) = dotAt (fun j => w (ix4 0 (headOf n) r j)) (fun j => v (ix4 0 (headOf n) j (dimOf n))) := by
  pointwise [joinArr]
  rfl

/-- The product of the rows with a square matrix. -/
def outArr (x : FVec Ideal S1x2048x4096 .f32) (w : FVec Ideal S4096x4096 .f32) : FVec Ideal S1x2048x4096 .f32 :=
  Host.dotGeneral dot_S1x2048x4096_S4096x4096_S1x2048x4096_2_0_01_1_n_n none x w

/-- An entry of the output projection. -/
theorem outArr_apply (x : FVec Ideal S1x2048x4096 .f32) (w : FVec Ideal S4096x4096 .f32) (r : Fin 2048) (n : Fin 4096) :
    outArr x w (ix3 0 r n) = dotAt (fun k => x (ix3 0 r k)) (fun k => w (ix2 k n)) := by
  pointwise [outArr]
  rfl

/-- The gated product. -/
def gatedArr (x : FVec Ideal S1x2048x4096 .f32) (wg wu : FVec Ideal S4096x11008 .f32) : FVec Ideal S1x2048x11008 .f32 :=
  let g := Host.dotGeneral dot_S1x2048x4096_S4096x11008_S1x2048x11008_2_0_01_1_n_n none x wg
  mulf (mulf g (Host.divf (broadcastInDim S1x2048x11008 ![] bcast_S_S1x2048x11008 (constant S_ .f32 0x3F800000#32))
      (addf (broadcastInDim S1x2048x11008 ![] bcast_S_S1x2048x11008 (constant S_ .f32 0x3F800000#32)) (Host.exp (Host.negf g)))))
    (Host.dotGeneral dot_S1x2048x4096_S4096x11008_S1x2048x11008_2_0_01_1_n_n none x wu)

/-- An entry of the gated product. -/
theorem gatedArr_apply (x : FVec Ideal S1x2048x4096 .f32) (wg wu : FVec Ideal S4096x11008 .f32) (r : Fin 2048) (f : Fin 11008) :
    gatedArr x wg wu (ix3 0 r f) = siluAt (dotAt (fun k => x (ix3 0 r k)) fun k => wg (ix2 k f)) * dotAt (fun k => x (ix3 0 r k)) fun k => wu (ix2 k f) := by
  pointwise [gatedArr]
  rfl

/-- The product with the last matrix. -/
def downArr (x : FVec Ideal S1x2048x11008 .f32) (w : FVec Ideal S11008x4096 .f32) : FVec Ideal S1x2048x4096 .f32 :=
  Host.dotGeneral dot_S1x2048x11008_S11008x4096_S1x2048x4096_2_0_01_1_n_n none x w

/-- An entry of the last product. -/
theorem downArr_apply (x : FVec Ideal S1x2048x11008 .f32) (w : FVec Ideal S11008x4096 .f32) (r : Fin 2048) (n : Fin 4096) :
    downArr x w (ix3 0 r n) = dotAt (fun k => x (ix3 0 r k)) (fun k => w (ix2 k n)) := by
  pointwise [downArr]
  rfl

end Cert.ReferenceIdeal.Arrays

end
-- ==== Proof.Value.Reads.lean ====
/-
  What each stage of the reference leaves, as a function of the arrays it starts from.
-/
module

public import proofs.«01_k».proof.Proof.Value.Soft
public import proofs.«01_k».proof.Proof.Reference.Stages

@[expose] public section

set_option maxRecDepth 16384

noncomputable section

namespace Cert.ReferenceIdeal.Value

open Idealize.ShloMosaic Idealize.SL.Sem Cert.ReferenceIdeal Cert.ReferenceIdeal.Gen Cert.ReferenceIdeal.Stages Cert.ReferenceIdeal.Arrays

variable (W : Valuation τ sig (Elt Ideal))

/-- What the buffer holds after the stage, from the arrays before it. -/
theorem norm_reads : StableHlo.after opsNorm W (Proc.devRef .tc main_v12) = normArr (W (Proc.devRef .tc main_arg0)) (W (Proc.devRef .tc main_arg7)) := by
  after_results
  rfl
/-- What the buffer holds after the stage, from the arrays before it. -/
theorem q_reads : StableHlo.after opsProj W (Proc.devRef .tc main_v15) = headsArr (W (Proc.devRef .tc main_v12)) (W (Proc.devRef .tc main_arg1)) := by
  after_results
  rfl
/-- What the buffer holds after the stage, from the arrays before it. -/
theorem k_reads : StableHlo.after opsProj W (Proc.devRef .tc main_v23) = kvArr (W (Proc.devRef .tc main_v12)) (W (Proc.devRef .tc main_arg2)) := by
  after_results
  rfl
/-- What the buffer holds after the stage, from the arrays before it. -/
theorem v_reads : StableHlo.after opsProj W (Proc.devRef .tc main_v25) = kvArr (W (Proc.devRef .tc main_v12)) (W (Proc.devRef .tc main_arg3)) := by
  after_results
  rfl
/-- What the buffer holds after the stage, from the arrays before it. -/
theorem qr_reads : StableHlo.after opsRope W (Proc.devRef .tc main_v56)
    = ropeArr (W (Proc.devRef .tc main_v15)) (W (Proc.devRef .tc main_v44)) (W (Proc.devRef .tc main_v45)) := by
  after_results
  rfl
/-- What the buffer holds after the stage, from the arrays before it. -/
theorem kr_reads : StableHlo.after opsRope W (Proc.devRef .tc main_v67)
    = ropeArr (W (Proc.devRef .tc main_v23)) (W (Proc.devRef .tc main_v44)) (W (Proc.devRef .tc main_v45)) := by
  after_results
  rfl
/-- What the buffer holds after the stage, from the arrays before it. -/
theorem qh_reads : StableHlo.after opsHash W (Proc.devRef .tc main_v78)
    = hashArr (W (Proc.devRef .tc main_v56)) (W (Proc.devRef .tc main_arg5)) (W (Proc.devRef .tc main_arg6)) := by
  after_results
  rfl
/-- What the buffer holds after the stage, from the arrays before it. -/
theorem kh_reads : StableHlo.after opsHash W (Proc.devRef .tc main_v79)
    = hashArr (W (Proc.devRef .tc main_v67)) (W (Proc.devRef .tc main_arg5)) (W (Proc.devRef .tc main_arg6)) := by
  after_results
  rfl
/-- The causal mask as one page. -/
def causalPage : FVec Ideal S1x1x2048x2048 .f32 := broadcastInDim S1x1x2048x2048 ![2, 3] bcast_S2048x2048_S1x1x2048x2048_2_3 causalArr
/-- What the buffer holds after the stage, from the arrays before it. -/
theorem causal_reads : StableHlo.after opsDraft W (Proc.devRef .tc main_v83) = causalPage := by
  after_results
  rfl
/-- What the buffer holds after the stage, from the arrays before it. -/
theorem draft_reads : StableHlo.after opsDraft W (Proc.devRef .tc main_v85)
    = draftedArr (pairArr (W (Proc.devRef .tc main_v78)) (W (Proc.devRef .tc main_v79))) := by
  after_results
  rfl
/-- What the buffer holds after the stage, from the arrays before it. -/
theorem top_reads : StableHlo.after opsTop W (Proc.devRef .tc main_indices) = topArr (W (Proc.devRef .tc main_v85)) := by
  after_results
  rfl
/-- What the buffer holds after the stage, from the arrays before it. -/
theorem floor_reads : StableHlo.after opsRows W (Proc.devRef .tc main_v86)
    = broadcastInDim S1x32x2048x2048 ![] bcast_S_S1x32x2048x2048 (constant S_ .f32 0xFF800000#32 : FVec Ideal S_ .f32) := by
  after_results
/-- What the buffer holds after the stage, from the arrays before it. -/
theorem places_reads : StableHlo.after opsRows W (Proc.devRef .tc main_v120) = placesArr (W (Proc.devRef .tc main_indices)) := by
  after_results
  rfl
/-- What the buffer holds after the stage, from the arrays before it. -/
theorem keep_reads : StableHlo.after opsKeep W (Proc.devRef .tc main_v122)
    = Host.scatter scatter_S1x32x2048x2048_S1x32x2048x205x4_S1x32x2048x205_n_0123_0123_4 (fun _ b => b) (W (Proc.devRef .tc main_v86)) (W (Proc.devRef .tc main_v120))
        (broadcastInDim S1x32x2048x205 ![] bcast_S_S1x32x2048x205 (constant S_ .f32 0x00000000#32 : FVec Ideal S_ .f32)) := by
  after_results
  rfl
/-- What the buffer holds after the stage, from the arrays before it. -/
theorem score_reads : StableHlo.after opsScore W (Proc.devRef .tc main_v129)
    = addf (addf (Host.divf (pairArr (W (Proc.devRef .tc main_v56)) (W (Proc.devRef .tc main_v67)))
          (broadcastInDim S1x32x2048x2048 ![] bcast_S_S1x32x2048x2048 (Host.sqrt (constant S_ .f32 0x43000000#32))))
        (broadcastInDim S1x32x2048x2048 ![0, 1, 2, 3] bcast_S1x1x2048x2048_S1x32x2048x2048_0_1_2_3 (W (Proc.devRef .tc main_v83))))
      (W (Proc.devRef .tc main_v122)) := by
  after_results
  rfl
/-- What the buffer holds after the stage, from the arrays before it. -/
theorem soft_reads : StableHlo.after opsSoft W (Proc.devRef .tc main_v140) = softArr (W (Proc.devRef .tc main_v129)) := by
  after_results
  rfl
/-- What the buffer holds after the stage, from the arrays before it. -/
theorem heads_reads : StableHlo.after opsHeads W (Proc.devRef .tc main_v143) = joinArr (W (Proc.devRef .tc main_v140)) (W (Proc.devRef .tc main_v25)) := by
  after_results
  rfl
/-- What the buffer holds after the stage, from the arrays before it. -/
theorem resid_reads : StableHlo.after opsResid W (Proc.devRef .tc main_v145)
    = (addf (W (Proc.devRef .tc main_arg0)) (outArr (W (Proc.devRef .tc main_v143)) (W (Proc.devRef .tc main_arg4))) : FVec Ideal S1x2048x4096 .f32) := by
  after_results
  rfl
/-- What the buffer holds after the stage, from the arrays before it. -/
theorem norm2_reads : StableHlo.after opsNorm2 W (Proc.devRef .tc main_v158) = normArr (W (Proc.devRef .tc main_v145)) (W (Proc.devRef .tc main_arg8)) := by
  after_results
  rfl
/-- What the buffer holds after the stage, from the arrays before it. -/
theorem mlp_reads : StableHlo.after opsMlp W (Proc.devRef .tc main_v164)
    = (addf (W (Proc.devRef .tc main_v145)) (downArr (gatedArr (W (Proc.devRef .tc main_v158)) (W (Proc.devRef .tc main_arg9)) (W (Proc.devRef .tc main_arg10)))
        (W (Proc.devRef .tc main_arg11))) : FVec Ideal S1x2048x4096 .f32) := by
  after_results
  rfl

end Cert.ReferenceIdeal.Value

end
-- ==== Proof.Value.Reference.lean ====
/-
  The reference's result is the decoder layer's, entry by entry.
-/
module

public import proofs.«01_k».proof.Proof.Value.Reads
public import proofs.«01_k».proof.Proof.Value.Layer

@[expose] public section

set_option maxRecDepth 16384

noncomputable section

namespace Cert.ReferenceIdeal.Value

open Idealize.ShloMosaic Idealize.SL.Sem Cert.ReferenceIdeal Cert.ReferenceIdeal.Gen Cert.ReferenceIdeal.Stages Cert.ReferenceIdeal.Arrays Cert.Spec

variable (m : (ℓ : Loc nD τ sig) → Buf (Elt Ideal) ℓ) (c : Dev nD)

/-- The layer of the reference's arguments. -/
def layR : Layer where
  x r n := (StableHlo.launchContents m c (Proc.devRef .tc main_arg0)) (ix3 0 r n)
  wq k n := (StableHlo.launchContents m c (Proc.devRef .tc main_arg1)) (ix2 k n)
  wk k n := (StableHlo.launchContents m c (Proc.devRef .tc main_arg2)) (ix2 k n)
  wv k n := (StableHlo.launchContents m c (Proc.devRef .tc main_arg3)) (ix2 k n)
  wo k n := (StableHlo.launchContents m c (Proc.devRef .tc main_arg4)) (ix2 k n)
  proj h d e := (StableHlo.launchContents m c (Proc.devRef .tc main_arg5)) (ix4 0 h d e)
  bias h e := (StableHlo.launchContents m c (Proc.devRef .tc main_arg6)) (ix4 0 h 0 e)
  ln1 n := (StableHlo.launchContents m c (Proc.devRef .tc main_arg7)) (ix1 n)
  ln2 n := (StableHlo.launchContents m c (Proc.devRef .tc main_arg8)) (ix1 n)
  wg k n := (StableHlo.launchContents m c (Proc.devRef .tc main_arg9)) (ix2 k n)
  wu k n := (StableHlo.launchContents m c (Proc.devRef .tc main_arg10)) (ix2 k n)
  wd k n := (StableHlo.launchContents m c (Proc.devRef .tc main_arg11)) (ix2 k n)
  cs r d := (atAngles m c (Proc.devRef .tc main_v44)) (ix2 r d)
  sn r d := (atAngles m c (Proc.devRef .tc main_v45)) (ix2 r d)

/-! ## The arguments, stage by stage -/

/-- The argument is still as launched when this stage reads it. -/
theorem arg1_left : atNorm m c (Proc.devRef .tc main_arg1) = StableHlo.launchContents m c (Proc.devRef .tc main_arg1) := by
  rw [atNorm_of m c main_arg1 (by decide)]
/-- The argument is still as launched when this stage reads it. -/
theorem arg2_left : atNorm m c (Proc.devRef .tc main_arg2) = StableHlo.launchContents m c (Proc.devRef .tc main_arg2) := by
  rw [atNorm_of m c main_arg2 (by decide)]
/-- The argument is still as launched when this stage reads it. -/
theorem arg3_left : atNorm m c (Proc.devRef .tc main_arg3) = StableHlo.launchContents m c (Proc.devRef .tc main_arg3) := by
  rw [atNorm_of m c main_arg3 (by decide)]
/-- The argument is still as launched when this stage reads it. -/
theorem arg5_left : atRope m c (Proc.devRef .tc main_arg5) = StableHlo.launchContents m c (Proc.devRef .tc main_arg5) := by
  rw [atRope_of m c main_arg5 (by decide), atAngles_of m c main_arg5 (by decide), atProj_of m c main_arg5 (by decide), atNorm_of m c main_arg5 (by decide)]
/-- The argument is still as launched when this stage reads it. -/
theorem arg6_left : atRope m c (Proc.devRef .tc main_arg6) = StableHlo.launchContents m c (Proc.devRef .tc main_arg6) := by
  rw [atRope_of m c main_arg6 (by decide), atAngles_of m c main_arg6 (by decide), atProj_of m c main_arg6 (by decide), atNorm_of m c main_arg6 (by decide)]
/-- The argument is still as launched when this stage reads it. -/
theorem arg0_left : atHeads m c (Proc.devRef .tc main_arg0) = StableHlo.launchContents m c (Proc.devRef .tc main_arg0) := by
  rw [atHeads_of m c main_arg0 (by decide), atSoft_of m c main_arg0 (by decide), atScore_of m c main_arg0 (by decide), atKeep_of m c main_arg0 (by decide), atRows_of m c main_arg0 (by decide), atTop_of m c main_arg0 (by decide), atDraft_of m c main_arg0 (by decide), atHash_of m c main_arg0 (by decide), atRope_of m c main_arg0 (by decide), atAngles_of m c main_arg0 (by decide), atProj_of m c main_arg0 (by decide), atNorm_of m c main_arg0 (by decide)]
/-- The argument is still as launched when this stage reads it. -/
theorem arg4_left : atHeads m c (Proc.devRef .tc main_arg4) = StableHlo.launchContents m c (Proc.devRef .tc main_arg4) := by
  rw [atHeads_of m c main_arg4 (by decide), atSoft_of m c main_arg4 (by decide), atScore_of m c main_arg4 (by decide), atKeep_of m c main_arg4 (by decide), atRows_of m c main_arg4 (by decide), atTop_of m c main_arg4 (by decide), atDraft_of m c main_arg4 (by decide), atHash_of m c main_arg4 (by decide), atRope_of m c main_arg4 (by decide), atAngles_of m c main_arg4 (by decide), atProj_of m c main_arg4 (by decide), atNorm_of m c main_arg4 (by decide)]
/-- The argument is still as launched when this stage reads it. -/
theorem arg8_left : atResid m c (Proc.devRef .tc main_arg8) = StableHlo.launchContents m c (Proc.devRef .tc main_arg8) := by
  rw [atResid_of m c main_arg8 (by decide), atHeads_of m c main_arg8 (by decide), atSoft_of m c main_arg8 (by decide), atScore_of m c main_arg8 (by decide), atKeep_of m c main_arg8 (by decide), atRows_of m c main_arg8 (by decide), atTop_of m c main_arg8 (by decide), atDraft_of m c main_arg8 (by decide), atHash_of m c main_arg8 (by decide), atRope_of m c main_arg8 (by decide), atAngles_of m c main_arg8 (by decide), atProj_of m c main_arg8 (by decide), atNorm_of m c main_arg8 (by decide)]
/-- The argument is still as launched when this stage reads it. -/
theorem arg9_left : atNorm2 m c (Proc.devRef .tc main_arg9) = StableHlo.launchContents m c (Proc.devRef .tc main_arg9) := by
  rw [atNorm2_of m c main_arg9 (by decide), atResid_of m c main_arg9 (by decide), atHeads_of m c main_arg9 (by decide), atSoft_of m c main_arg9 (by decide), atScore_of m c main_arg9 (by decide), atKeep_of m c main_arg9 (by decide), atRows_of m c main_arg9 (by decide), atTop_of m c main_arg9 (by decide), atDraft_of m c main_arg9 (by decide), atHash_of m c main_arg9 (by decide), atRope_of m c main_arg9 (by decide), atAngles_of m c main_arg9 (by decide), atProj_of m c main_arg9 (by decide), atNorm_of m c main_arg9 (by decide)]
/-- The argument is still as launched when this stage reads it. -/
theorem arg10_left : atNorm2 m c (Proc.devRef .tc main_arg10) = StableHlo.launchContents m c (Proc.devRef .tc main_arg10) := by
  rw [atNorm2_of m c main_arg10 (by decide), atResid_of m c main_arg10 (by decide), atHeads_of m c main_arg10 (by decide), atSoft_of m c main_arg10 (by decide), atScore_of m c main_arg10 (by decide), atKeep_of m c main_arg10 (by decide), atRows_of m c main_arg10 (by decide), atTop_of m c main_arg10 (by decide), atDraft_of m c main_arg10 (by decide), atHash_of m c main_arg10 (by decide), atRope_of m c main_arg10 (by decide), atAngles_of m c main_arg10 (by decide), atProj_of m c main_arg10 (by decide), atNorm_of m c main_arg10 (by decide)]
/-- The argument is still as launched when this stage reads it. -/
theorem arg11_left : atNorm2 m c (Proc.devRef .tc main_arg11) = StableHlo.launchContents m c (Proc.devRef .tc main_arg11) := by
  rw [atNorm2_of m c main_arg11 (by decide), atResid_of m c main_arg11 (by decide), atHeads_of m c main_arg11 (by decide), atSoft_of m c main_arg11 (by decide), atScore_of m c main_arg11 (by decide), atKeep_of m c main_arg11 (by decide), atRows_of m c main_arg11 (by decide), atTop_of m c main_arg11 (by decide), atDraft_of m c main_arg11 (by decide), atHash_of m c main_arg11 (by decide), atRope_of m c main_arg11 (by decide), atAngles_of m c main_arg11 (by decide), atProj_of m c main_arg11 (by decide), atNorm_of m c main_arg11 (by decide)]

/-! ## Up to the heads -/

/-- The normalised input. -/
theorem hid_eq (r : Fin 2048) (n : Fin 4096) : (atNorm m c (Proc.devRef .tc main_v12)) (ix3 0 r n) = (layR m c).hid r n :=
  (congrFun (norm_reads (StableHlo.launchContents m c)) (ix3 0 r n)).trans (normArr_apply _ _ r n)
/-- A query before its rotation. -/
theorem q_eq (h : Fin 32) (r : Fin 2048) (d : Fin 128) : (atProj m c (Proc.devRef .tc main_v15)) (ix4 0 h r d) = (layR m c).q r h d :=
  (congrFun (q_reads (atNorm m c)) (ix4 0 h r d)).trans ((headsArr_apply _ _ h r d).trans
    (congrArg₂ dotAt (funext fun k => hid_eq m c r k) (funext fun k => congrFun (arg1_left m c) _)))
/-- A key before its rotation. -/
theorem k_eq (h : Fin 32) (r : Fin 2048) (d : Fin 128) : (atProj m c (Proc.devRef .tc main_v23)) (ix4 0 h r d) = (layR m c).k r h d :=
  (congrFun (k_reads (atNorm m c)) (ix4 0 h r d)).trans ((kvArr_apply _ _ h r d).trans
    (congrArg₂ dotAt (funext fun k => hid_eq m c r k) (funext fun k => congrFun (arg2_left m c) _)))
/-- A value. -/
theorem v_eq (h : Fin 32) (r : Fin 2048) (d : Fin 128) : (atProj m c (Proc.devRef .tc main_v25)) (ix4 0 h r d) = (layR m c).v r h d :=
  (congrFun (v_reads (atNorm m c)) (ix4 0 h r d)).trans ((kvArr_apply _ _ h r d).trans
    (congrArg₂ dotAt (funext fun k => hid_eq m c r k) (funext fun k => congrFun (arg3_left m c) _)))
/-- A rotated query. -/
theorem qr_eq (h : Fin 32) (r : Fin 2048) (d : Fin 128) : (atRope m c (Proc.devRef .tc main_v56)) (ix4 0 h r d) = (layR m c).qr r h d :=
  (congrFun (qr_reads (atAngles m c)) (ix4 0 h r d)).trans ((ropeArr_apply _ _ _ h r d).trans
    (congrArg (fun x => ropeAt x ((layR m c).cs r) ((layR m c).sn r) d) (funext fun d => (congrFun (atAngles_of m c main_v15 (by decide)) _).trans (q_eq m c h r d))))
/-- A rotated key. -/
theorem kr_eq (h : Fin 32) (r : Fin 2048) (d : Fin 128) : (atRope m c (Proc.devRef .tc main_v67)) (ix4 0 h r d) = (layR m c).kr r h d :=
  (congrFun (kr_reads (atAngles m c)) (ix4 0 h r d)).trans ((ropeArr_apply _ _ _ h r d).trans
    (congrArg (fun x => ropeAt x ((layR m c).cs r) ((layR m c).sn r) d) (funext fun d => (congrFun (atAngles_of m c main_v23 (by decide)) _).trans (k_eq m c h r d))))
/-- The hash of a query. -/
theorem qh_eq (h : Fin 32) (r : Fin 2048) (e : Fin 128) : (atHash m c (Proc.devRef .tc main_v78)) (ix4 0 h r e) = (layR m c).qh r h e :=
  (congrFun (qh_reads (atRope m c)) (ix4 0 h r e)).trans ((hashArr_apply _ _ _ h r e).trans
    (congr (congrArg₂ hashAt (funext fun d => qr_eq m c h r d) (funext fun d => congrFun (arg5_left m c) _)) (congrFun (arg6_left m c) _)))
/-- The hash of a key. -/
theorem kh_eq (h : Fin 32) (r : Fin 2048) (e : Fin 128) : (atHash m c (Proc.devRef .tc main_v79)) (ix4 0 h r e) = (layR m c).kh r h e :=
  (congrFun (kh_reads (atRope m c)) (ix4 0 h r e)).trans ((hashArr_apply _ _ _ h r e).trans
    (congr (congrArg₂ hashAt (funext fun d => kr_eq m c h r d) (funext fun d => congrFun (arg5_left m c) _)) (congrFun (arg6_left m c) _)))

/-! ## The attention -/

/-- The draft scores. -/
def drafts : FVec Ideal S1x32x2048x2048 .f32 := pairArr (atHash m c (Proc.devRef .tc main_v78)) (atHash m c (Proc.devRef .tc main_v79))
/-- The scores. -/
def scores : FVec Ideal S1x32x2048x2048 .f32 := pairArr (atRope m c (Proc.devRef .tc main_v56)) (atRope m c (Proc.devRef .tc main_v67))

/-- The draft score of a key. -/
theorem drafts_eq (h : Fin 32) (r j : Fin 2048) : drafts m c (ix4 0 h r j) = (layR m c).draft r h j :=
  (pairArr_apply _ _ h r j).trans (congrArg₂ dotAt (funext fun e => qh_eq m c h r e) (funext fun e => kh_eq m c h j e))
/-- The product of a rotated query and a rotated key. -/
theorem scores_eq (h : Fin 32) (r j : Fin 2048) : scores m c (ix4 0 h r j) = dotAt ((layR m c).qr r h) ((layR m c).kr j h) :=
  (pairArr_apply _ _ h r j).trans (congrArg₂ dotAt (funext fun e => qr_eq m c h r e) (funext fun e => kr_eq m c h j e))

/-- The mask of the kept keys, from the draft scores. -/
theorem keep_eq : atKeep m c (Proc.devRef .tc main_v122) = keepArr (topArr (draftedArr (drafts m c))) := by
  have e1 : atTop m c (Proc.devRef .tc main_indices) = topArr (draftedArr (drafts m c)) :=
    (top_reads (atDraft m c)).trans (congrArg topArr (draft_reads (atHash m c)))
  have e2 : atRows m c (Proc.devRef .tc main_v120) = placesArr (topArr (draftedArr (drafts m c))) :=
    (places_reads (atTop m c)).trans (congrArg placesArr e1)
  have e3 := floor_reads (atTop m c)
  refine (keep_reads (atRows m c)).trans ?_
  rw [e2, show atRows m c (Proc.devRef .tc main_v86) = _ from e3]
  rfl

/-- The masked scores, from the scores and the draft scores. -/
theorem masked_eq : atScore m c (Proc.devRef .tc main_v129) = maskedArr (scores m c) (keepArr (topArr (draftedArr (drafts m c)))) := by
  have e1 : atKeep m c (Proc.devRef .tc main_v56) = atRope m c (Proc.devRef .tc main_v56) := by
    rw [atKeep_of m c main_v56 (by decide), atRows_of m c main_v56 (by decide), atTop_of m c main_v56 (by decide), atDraft_of m c main_v56 (by decide), atHash_of m c main_v56 (by decide)]
  have e2 : atKeep m c (Proc.devRef .tc main_v67) = atRope m c (Proc.devRef .tc main_v67) := by
    rw [atKeep_of m c main_v67 (by decide), atRows_of m c main_v67 (by decide), atTop_of m c main_v67 (by decide), atDraft_of m c main_v67 (by decide), atHash_of m c main_v67 (by decide)]
  have e3 : atKeep m c (Proc.devRef .tc main_v83) = causalPage := by
    rw [atKeep_of m c main_v83 (by decide), atRows_of m c main_v83 (by decide), atTop_of m c main_v83 (by decide)]
    exact causal_reads (atHash m c)
  refine (score_reads (atKeep m c)).trans ?_
  rw [e1, e2, e3, keep_eq]
  rfl

/-- No draft score is minus infinity. -/
theorem draft_ne_bot (h : Fin 32) (r j : Fin 2048) : drafts m c (ix4 0 h r j) ≠ ⊥ := by
  obtain ⟨z, _, hz⟩ := dotAt_int ((layR m c).qh r h) ((layR m c).kh j h) (fun e => sign_int _) fun e => sign_int _
  rw [drafts_eq, show (layR m c).draft r h j = _ from hz]
  exact EReal.coe_ne_bot _

/-- The weight of a key in the softmax. -/
theorem weights_eq (h : Fin 32) (r j : Fin 2048) : (atSoft m c (Proc.devRef .tc main_v140)) (ix4 0 h r j)
    = Ideal.div (expAt (keptScore ((layR m c).draft r h) ((layR m c).score r h) r.val) j) (∑ i, expAt (keptScore ((layR m c).draft r h) ((layR m c).score r h) r.val) i) := by
  refine (congrFun (soft_reads (atScore m c)) (ix4 0 h r j)).trans ((softArr_apply _ h r j).trans ?_)
  have e : (fun j : Fin 2048 => (atScore m c (Proc.devRef .tc main_v129)) (ix4 0 h r j)) = keptScore ((layR m c).draft r h) ((layR m c).score r h) r.val := by
    funext j
    rw [masked_eq]
    refine (maskedArr_apply (drafts m c) (scores m c) h r j (draft_ne_bot m c h r)).trans ?_
    exact congrArg₂ (fun a b => keptScore a b r.val j) (funext fun j => drafts_eq m c h r j) (funext fun j => congrArg (fun x : EReal => x * (((Real.sqrt 128)⁻¹ : ℝ) : EReal)) (scores_eq m c h r j))
  rw [e]

/-- One entry of one head's attention. -/
theorem att_eq (r : Fin 2048) (n : Fin 4096) : (atHeads m c (Proc.devRef .tc main_v143)) (ix3 0 r n) = (layR m c).att r (headOf n) (dimOf n) := by
  refine (congrFun (heads_reads (atSoft m c)) (ix3 0 r n)).trans ((joinArr_apply _ _ r n).trans ?_)
  have e : atSoft m c (Proc.devRef .tc main_v25) = atProj m c (Proc.devRef .tc main_v25) := by
    rw [atSoft_of m c main_v25 (by decide), atScore_of m c main_v25 (by decide), atKeep_of m c main_v25 (by decide), atRows_of m c main_v25 (by decide), atTop_of m c main_v25 (by decide), atDraft_of m c main_v25 (by decide), atHash_of m c main_v25 (by decide), atRope_of m c main_v25 (by decide), atAngles_of m c main_v25 (by decide)]
  refine (congrArg₂ dotAt (funext fun j => weights_eq m c (headOf n) r j) (funext fun j => (congrFun e _).trans (v_eq m c (headOf n) j (dimOf n)))).trans ?_
  rfl

/-! ## From the attention to the result -/

/-- The input with the attention added. -/
theorem mid_eq (r : Fin 2048) (n : Fin 4096) : (atResid m c (Proc.devRef .tc main_v145)) (ix3 0 r n) = (layR m c).mid r n := by
  refine (congrFun (resid_reads (atHeads m c)) (ix3 0 r n)).trans ?_
  refine congrArg₂ (fun a b : EReal => a + b) (congrFun (arg0_left m c) _) ((outArr_apply _ _ r n).trans ?_)
  exact congrArg₂ dotAt (funext fun j => att_eq m c r j) (funext fun j => congrFun (arg4_left m c) _)

/-- The normalised middle. -/
theorem hid2_eq (r : Fin 2048) (n : Fin 4096) : (atNorm2 m c (Proc.devRef .tc main_v158)) (ix3 0 r n) = (layR m c).hid2 r n :=
  (congrFun (norm2_reads (atResid m c)) (ix3 0 r n)).trans ((normArr_apply _ _ r n).trans
    (congrFun (congrArg₂ rmsAt (funext fun j => mid_eq m c r j) (funext fun j => congrFun (arg8_left m c) _)) n))

/-- The reference's result is the layer's. -/
theorem out_eq (r : Fin 2048) (n : Fin 4096) : (atMlp m c (Proc.devRef .tc main_v164)) (ix3 0 r n) = (layR m c).out r n := by
  refine (congrFun (mlp_reads (atNorm2 m c)) (ix3 0 r n)).trans ?_
  refine congrArg₂ (fun a b : EReal => a + b) ((congrFun (atNorm2_of m c main_v145 (by decide)) _).trans (mid_eq m c r n)) ((downArr_apply _ _ r n).trans ?_)
  refine congrArg₂ dotAt (funext fun f => (gatedArr_apply _ _ _ r f).trans ?_) (funext fun f => congrFun (arg11_left m c) _)
  exact congrArg₂ (fun a b : EReal => a * b)
    (congrArg siluAt (congrArg₂ dotAt (funext fun j => hid2_eq m c r j) (funext fun j => congrFun (arg9_left m c) _)))
    (congrArg₂ dotAt (funext fun j => hid2_eq m c r j) (funext fun j => congrFun (arg10_left m c) _))

end Cert.ReferenceIdeal.Value

end
-- ==== Proof.Value.Pre.lean ====
/-
  What the precondition says of the layer: the scores up to the row are finite, and few draft scores are 127 or more.
-/
module

public import proofs.«01_k».proof.Pre_finite_scores_few_full
public import proofs.«01_k».proof.Proof.Value.Reference

@[expose] public section

set_option maxRecDepth 16384

noncomputable section

namespace Cert.ReferenceIdeal.Value

open Idealize.ShloMosaic Idealize.ShloMosaic.WordCmp Idealize.SL.Sem Cert.ReferenceIdeal Cert.ReferenceIdeal.Gen Cert.ReferenceIdeal.Stages Cert.ReferenceIdeal.Arrays Cert.Spec

/-- A page may be repeated for every head. -/
theorem bcast_S2048x2048_S1x32x2048x2048_2_3 : S2048x2048.BroadcastsInDim S1x32x2048x2048 (![2, 3] : Fin 2 → Fin S1x32x2048x2048.rank) := by decide
/-- One number may be repeated for every row. -/
theorem bcast_S_S1x32x2048x1 : S_.BroadcastsInDim S1x32x2048x1 (![] : Fin 0 → Fin S1x32x2048x1.rank) := by decide

/-- The shapes the precondition takes. -/
instance preFacts : Cert.Pre_finite_scores_few_full.Facts where
  reducesTo_S1x2048x4096_S1x2048_d2 := @Cert.ReferenceIdeal.Gen.reducesTo_S1x2048x4096_S1x2048_d2
  h_S_ := @Cert.ReferenceIdeal.Gen.h_S_
  bcast_S1x2048_S1x2048x1_0_1 := @Cert.ReferenceIdeal.Gen.bcast_S1x2048_S1x2048x1_0_1
  bcast_S_S1x2048x1 := @Cert.ReferenceIdeal.Gen.bcast_S_S1x2048x1
  bcast_S1x2048x1_S1x2048x4096_0_1_2 := @Cert.ReferenceIdeal.Gen.bcast_S1x2048x1_S1x2048x4096_0_1_2
  bcast_S4096_S1x1x4096_2 := @Cert.ReferenceIdeal.Gen.bcast_S4096_S1x1x4096_2
  bcast_S1x1x4096_S1x2048x4096_0_1_2 := @Cert.ReferenceIdeal.Gen.bcast_S1x1x4096_S1x2048x4096_0_1_2
  shapeCasts_S1x2048x4096_S1x2048x32x128 := @Cert.ReferenceIdeal.Gen.shapeCasts_S1x2048x4096_S1x2048x32x128
  transposes_S1x2048x32x128_S1x32x2048x128_0_2_1_3 := @Cert.ReferenceIdeal.Gen.transposes_S1x2048x32x128_S1x32x2048x128_0_2_1_3
  shapeCasts_S1x2048x1024_S1x2048x8x128 := @Cert.ReferenceIdeal.Gen.shapeCasts_S1x2048x1024_S1x2048x8x128
  transposes_S1x2048x8x128_S1x8x2048x128_0_2_1_3 := @Cert.ReferenceIdeal.Gen.transposes_S1x2048x8x128_S1x8x2048x128_0_2_1_3
  bcast_S1x8x2048x128_S1x8x4x2048x128_0_1_3_4 := @Cert.ReferenceIdeal.Gen.bcast_S1x8x2048x128_S1x8x4x2048x128_0_1_3_4
  shapeCasts_S1x8x4x2048x128_S1x32x2048x128 := @Cert.ReferenceIdeal.Gen.shapeCasts_S1x8x4x2048x128_S1x32x2048x128
  bcast_S_S64 := @Cert.ReferenceIdeal.Gen.bcast_S_S64
  bcast_S2048_S2048x1_0 := @Cert.ReferenceIdeal.Gen.bcast_S2048_S2048x1_0
  bcast_S64_S1x64_1 := @Cert.ReferenceIdeal.Gen.bcast_S64_S1x64_1
  bcast_S2048x1_S2048x64_0_1 := @Cert.ReferenceIdeal.Gen.bcast_S2048x1_S2048x64_0_1
  bcast_S1x64_S2048x64_0_1 := @Cert.ReferenceIdeal.Gen.bcast_S1x64_S2048x64_0_1
  concatenates_S2048x64_S2048x64_S2048x128_d1 := @Cert.ReferenceIdeal.Gen.concatenates_S2048x64_S2048x64_S2048x128_d1
  bcast_S2048x128_S1x1x2048x128_2_3 := @Cert.ReferenceIdeal.Gen.bcast_S2048x128_S1x1x2048x128_2_3
  bcast_S1x1x2048x128_S1x32x2048x128_0_1_2_3 := @Cert.ReferenceIdeal.Gen.bcast_S1x1x2048x128_S1x32x2048x128_0_1_2_3
  slices_S1x32x2048x128_S1x32x2048x64_0_0_0_0 := @Cert.ReferenceIdeal.Gen.slices_S1x32x2048x128_S1x32x2048x64_0_0_0_0
  slices_S1x32x2048x128_S1x32x2048x64_0_0_0_64 := @Cert.ReferenceIdeal.Gen.slices_S1x32x2048x128_S1x32x2048x64_0_0_0_64
  concatenates_S1x32x2048x64_S1x32x2048x64_S1x32x2048x128_d3 := @Cert.ReferenceIdeal.Gen.concatenates_S1x32x2048x64_S1x32x2048x64_S1x32x2048x128_d3
  reducesTo_S1x32x128x128_S32x128x128_d0 := @Cert.ReferenceIdeal.Gen.reducesTo_S1x32x128x128_S32x128x128_d0
  transposes_S32x128x1x2048_S1x32x2048x128_2_0_3_1 := @Cert.ReferenceIdeal.Gen.transposes_S32x128x1x2048_S1x32x2048x128_2_0_3_1
  bcast_S1x32x1x128_S1x32x2048x128_0_1_2_3 := @Cert.ReferenceIdeal.Gen.bcast_S1x32x1x128_S1x32x2048x128_0_1_2_3
  bcast_S_S1x32x2048x2048 := @Cert.ReferenceIdeal.Gen.bcast_S_S1x32x2048x2048
  bcast_S_S2048x2048 := @Cert.ReferenceIdeal.Gen.bcast_S_S2048x2048
  bcast_S2048x2048_S1x32x2048x2048_2_3 := @Cert.ReferenceIdeal.Value.bcast_S2048x2048_S1x32x2048x2048_2_3
  reducesTo_S1x32x2048x2048_S1x32x2048_d3 := @Cert.ReferenceIdeal.Gen.reducesTo_S1x32x2048x2048_S1x32x2048_d3
  bcast_S1x32x2048_S1x32x2048x1_0_1_2 := @Cert.ReferenceIdeal.Gen.bcast_S1x32x2048_S1x32x2048x1_0_1_2
  bcast_S_S1x32x2048x1 := @Cert.ReferenceIdeal.Value.bcast_S_S1x32x2048x1
  bcast_S1x32x2048x1_S1x32x2048x2048_0_1_2_3 := @Cert.ReferenceIdeal.Gen.bcast_S1x32x2048x1_S1x32x2048x2048_0_1_2_3
  dot_S1x2048x4096_S4096x4096_S1x2048x4096_2_0_01_1_n_n_wf := @Cert.ReferenceIdeal.Gen.dot_S1x2048x4096_S4096x4096_S1x2048x4096_2_0_01_1_n_n_wf
  dot_S1x2048x4096_S4096x1024_S1x2048x1024_2_0_01_1_n_n_wf := @Cert.ReferenceIdeal.Gen.dot_S1x2048x4096_S4096x1024_S1x2048x1024_2_0_01_1_n_n_wf
  dot_S32x128x128_S1x32x2048x128_S32x128x1x2048_1_3_2_02_0_1_wf := @Cert.ReferenceIdeal.Gen.dot_S32x128x128_S1x32x2048x128_S32x128x1x2048_1_3_2_02_0_1_wf
  dot_S1x32x2048x128_S1x32x2048x128_S1x32x2048x2048_3_3_2_2_01_01_wf := @Cert.ReferenceIdeal.Gen.dot_S1x32x2048x128_S1x32x2048x128_S1x32x2048x2048_3_3_2_2_01_01_wf

/-! ## The angles -/

/-- The angle of every row and entry. -/
def angleArr : FVec Ideal S2048x128 .f32 :=
  let f : FVec Ideal S64 .f32 := Host.divf (broadcastInDim S64 ![] bcast_S_S64 (constant S_ .f32 0x3F800000#32))
    (Host.powf (broadcastInDim S64 ![] bcast_S_S64 (constant S_ .f32 0x461C4000#32))
      (Host.divf (addf (broadcastInDim S64 ![] bcast_S_S64 (constant S_ .f32 0x00000000#32))
          (mulf (broadcastInDim S64 ![] bcast_S_S64 (constant S_ .f32 0x40000000#32)) (sitofp .f32 (iotaInDim S64 32 0))))
        (broadcastInDim S64 ![] bcast_S_S64 (constant S_ .f32 0x43000000#32))))
  let a : FVec Ideal S2048x64 .f32 := mulf
    (broadcastInDim S2048x64 ![0, 1] bcast_S2048x1_S2048x64_0_1 (broadcastInDim S2048x1 ![0] bcast_S2048_S2048x1_0 (sitofp .f32 (iotaInDim S2048 32 0))))
    (broadcastInDim S2048x64 ![0, 1] bcast_S1x64_S2048x64_0_1 (broadcastInDim S1x64 ![1] bcast_S64_S1x64_1 f))
  concatenate S2048x128 1 [⟨S2048x64, a⟩, ⟨S2048x64, a⟩] concatenates_S2048x64_S2048x64_S2048x128_d1

/-- What the buffer holds after the stage, from the arrays before it. -/
theorem cos_reads (W : Valuation τ sig (Elt Ideal)) : StableHlo.after opsAngles W (Proc.devRef .tc main_v44) = (Host.cos angleArr : FVec Ideal S2048x128 .f32) := by
  after_results
  rfl
/-- What the buffer holds after the stage, from the arrays before it. -/
theorem sin_reads (W : Valuation τ sig (Elt Ideal)) : StableHlo.after opsAngles W (Proc.devRef .tc main_v45) = (Host.sin angleArr : FVec Ideal S2048x128 .f32) := by
  after_results
  rfl

/-! ## The condition, array by array -/

/-- An array with zero past the diagonal. -/
def trilArr (x : FVec Ideal S1x32x2048x2048 .f32) : FVec Ideal S1x32x2048x2048 .f32 :=
  select (broadcastInDim S1x32x2048x2048 ![2, 3] bcast_S2048x2048_S1x32x2048x2048_2_3
      (cmpi .sge (addi (iotaInDim S2048x2048 32 0) (broadcastInDim S2048x2048 ![] bcast_S_S2048x2048 (constantI S_ 32 0#32))) (iotaInDim S2048x2048 32 1)))
    x (broadcastInDim S1x32x2048x2048 ![] bcast_S_S1x32x2048x2048 (constant S_ .f32 0x00000000#32))

/-- An entry up to the diagonal is kept, and is zero past it. -/
theorem trilArr_apply (x : FVec Ideal S1x32x2048x2048 .f32) (h : Fin 32) (r j : Fin 2048) :
    trilArr x (ix4 0 h r j) = if j.val ≤ r.val then x (ix4 0 h r j) else 0 := by
  pointwise [trilArr]
  show Scalar.select (IntOp.cmpi .sge (IntOp.addi (BitVec.ofNat 32 r.val) 0#32) (BitVec.ofNat 32 j.val)) (x (ix4 0 h r j)) (0 : EReal) = _
  have hr := r.isLt
  have hj := j.isLt
  rw [show IntOp.addi (BitVec.ofNat 32 r.val) 0#32 = BitVec.ofNat 32 r.val from BitVec.add_zero _]
  by_cases g : j.val ≤ r.val
  · rw [if_pos g, select_of_eq_one ((cmpi_sge_ofNat_eq_one_iff (by omega) (by omega)).2 g)]
  · rw [if_neg g, select_of_eq_zero ((cmpi_sge_ofNat_eq_zero_iff (by omega) (by omega)).2 (by omega))]

/-- One where a draft score is 127 or more. -/
def reachArr (d : FVec Ideal S1x32x2048x2048 .f32) : FVec Ideal S1x32x2048x2048 .f32 :=
  select (cmpf .oge d (broadcastInDim S1x32x2048x2048 ![] bcast_S_S1x32x2048x2048 (constant S_ .f32 0x42FE0000#32)))
    (broadcastInDim S1x32x2048x2048 ![] bcast_S_S1x32x2048x2048 (constant S_ .f32 0x3F800000#32))
    (broadcastInDim S1x32x2048x2048 ![] bcast_S_S1x32x2048x2048 (constant S_ .f32 0x00000000#32))

/-- The float of this word. -/
theorem bits_127 : Ideal.ofBits .f32 0x42FE0000#32 = 127 := by
  simp [Ideal.ofBits, Ideal.ieee, -EReal.coe_mul]; norm_num; rfl
/-- The float of this word. -/
theorem bits_one : Ideal.ofBits .f32 0x3F800000#32 = 1 := by
  simp [Ideal.ofBits, Ideal.ieee, -EReal.coe_mul]; norm_num
/-- The float of this word. -/
theorem bits_205 : Ideal.ofBits .f32 0x434D0000#32 = 205 := by
  simp [Ideal.ofBits, Ideal.ieee, -EReal.coe_mul]; norm_num; rfl
/-- The float of this word. -/
theorem bits_top : Ideal.ofBits .f32 0x7F800000#32 = ⊤ := by simp [Ideal.ofBits, Ideal.ieee]

/-- An entry is one where the draft score is 127 or more, and zero elsewhere. -/
theorem reachArr_apply (d : FVec Ideal S1x32x2048x2048 .f32) (h : Fin 32) (r j : Fin 2048) :
    reachArr d (ix4 0 h r j) = if (127 : EReal) ≤ d (ix4 0 h r j) then 1 else 0 := by
  show Scalar.select (BitVec.ofBool (decide (Ideal.ofBits .f32 0x42FE0000#32 ≤ d (ix4 0 h r j)))) (Ideal.ofBits .f32 0x3F800000#32) (Ideal.ofBits .f32 0x00000000#32) = _
  rw [bits_127, bits_one, plus_zero]
  by_cases g : (127 : EReal) ≤ d (ix4 0 h r j)
  · rw [if_pos g, decide_eq_true g]; rfl
  · rw [if_neg g, decide_eq_false g]; rfl

/-- How many keys up to the row have a draft score of 127 or more. -/
def countArr (d : FVec Ideal S1x32x2048x2048 .f32) : FVec Ideal S1x32x2048 .f32 :=
  Host.reduceAdd (trilArr (reachArr d)) (constant S_ .f32 0x00000000#32) reducesTo_S1x32x2048x2048_S1x32x2048_d3 h_S_

/-- The count at a row is the number of those keys. -/
theorem countArr_apply (d : FVec Ideal S1x32x2048x2048 .f32) (h : Fin 32) (r : Fin 2048) :
    countArr d (ix3 0 h r) = ((Finset.univ.filter fun j : Fin 2048 => j.val ≤ r.val ∧ (127 : EReal) ≤ d (ix4 0 h r j)).card : EReal) := by
  have e : countArr d (ix3 0 h r) = ∑ j : Fin 2048, trilArr (reachArr d) (ix4 0 h r j) := by
    pointwise [countArr]
  rw [e, Finset.card_filter]
  push_cast
  refine Finset.sum_congr rfl fun j _ => ?_
  rw [trilArr_apply, reachArr_apply]
  by_cases g : j.val ≤ r.val <;> simp [g]

/-- The condition: the counts are under 205 and the scores up to the row are finite. -/
def condArr (d s : FVec Ideal S1x32x2048x2048 .f32) : IVec S1x32x2048x2048 1 :=
  andi (broadcastInDim S1x32x2048x2048 ![0, 1, 2, 3] bcast_S1x32x2048x1_S1x32x2048x2048_0_1_2_3
      (cmpf .olt (broadcastInDim S1x32x2048x1 ![0, 1, 2] bcast_S1x32x2048_S1x32x2048x1_0_1_2 (countArr d))
        (broadcastInDim S1x32x2048x1 ![] bcast_S_S1x32x2048x1 (constant S_ .f32 0x434D0000#32 : FVec Ideal S_ .f32))))
    (cmpf .olt (Host.absf (trilArr s)) (broadcastInDim S1x32x2048x2048 ![] bcast_S_S1x32x2048x2048 (constant S_ .f32 0x7F800000#32 : FVec Ideal S_ .f32)))

/-- An entry of the condition: both comparisons hold. -/
theorem condArr_apply (d s : FVec Ideal S1x32x2048x2048 .f32) (h : Fin 32) (r j : Fin 2048) :
    condArr d s (ix4 0 h r j) = IntOp.andi (BitVec.ofBool (decide (countArr d (ix3 0 h r) < 205)))
      (BitVec.ofBool (decide (max (trilArr s (ix4 0 h r j)) (-(trilArr s (ix4 0 h r j))) < ⊤))) := by
  rw [← bits_205, ← bits_top]
  pointwise [condArr]
  rfl

/-- A conjunction of two decided bits is one only if both hold. -/
theorem both_hold {p q : Prop} [Decidable p] [Decidable q] (e : IntOp.andi (BitVec.ofBool (decide p)) (BitVec.ofBool (decide q)) = 1#1) : p ∧ q := by
  by_cases hp : p <;> by_cases hq : q
  · exact ⟨hp, hq⟩
  all_goals
    simp only [hp, hq, decide_true, decide_false] at e
    exact absurd e (by decide)

/-- Where the condition holds, the count is under 205 and the scores up to the row are finite. -/
theorem condArr_one (d s : FVec Ideal S1x32x2048x2048 .f32) (hc : condArr d s = fun _ => 1#1) (h : Fin 32) (r j : Fin 2048) :
    (Finset.univ.filter fun j : Fin 2048 => j.val ≤ r.val ∧ (127 : EReal) ≤ d (ix4 0 h r j)).card < 205
      ∧ (j.val ≤ r.val → s (ix4 0 h r j) ≠ ⊥ ∧ s (ix4 0 h r j) ≠ ⊤) := by
  have e := (condArr_apply d s h r j).symm.trans (congrFun hc _)
  rw [countArr_apply, trilArr_apply] at e
  obtain ⟨e1, e2⟩ := both_hold e
  refine ⟨by exact_mod_cast e1, fun g => ?_⟩
  rw [if_pos g] at e2
  refine ⟨fun q => ?_, fun q => ?_⟩ <;> rw [q] at e2 <;> simp at e2

/-! ## The condition of the reference's arguments -/

variable (m : (ℓ : Loc nD τ sig) → Buf (Elt Ideal) ℓ) (c : Dev nD)

/-- The rotated queries, from the arguments. -/
def queryArr (x : FVec Ideal S1x2048x4096 .f32) (w : FVec Ideal S4096 .f32) (q : FVec Ideal S4096x4096 .f32) : FVec Ideal S1x32x2048x128 .f32 :=
  ropeArr (headsArr (normArr x w) q) (Host.cos angleArr) (Host.sin angleArr)
/-- The rotated keys, from the arguments. -/
def keyArr (x : FVec Ideal S1x2048x4096 .f32) (w : FVec Ideal S4096 .f32) (k : FVec Ideal S4096x1024 .f32) : FVec Ideal S1x32x2048x128 .f32 :=
  ropeArr (kvArr (normArr x w) k) (Host.cos angleArr) (Host.sin angleArr)

/-- The rotated queries, from the reference's arguments. -/
theorem query_eq : atRope m c (Proc.devRef .tc main_v56)
    = queryArr (StableHlo.launchContents m c (Proc.devRef .tc main_arg0)) (StableHlo.launchContents m c (Proc.devRef .tc main_arg7)) (StableHlo.launchContents m c (Proc.devRef .tc main_arg1)) := by
  refine (qr_reads (atAngles m c)).trans ?_
  rw [atAngles_of m c main_v15 (by decide), show atAngles m c (Proc.devRef .tc main_v44) = _ from cos_reads (atProj m c),
    show atAngles m c (Proc.devRef .tc main_v45) = _ from sin_reads (atProj m c), show atProj m c (Proc.devRef .tc main_v15) = _ from q_reads (atNorm m c),
    arg1_left, show atNorm m c (Proc.devRef .tc main_v12) = _ from norm_reads (StableHlo.launchContents m c)]
  rfl
/-- The rotated keys, from the reference's arguments. -/
theorem key_eq : atRope m c (Proc.devRef .tc main_v67)
    = keyArr (StableHlo.launchContents m c (Proc.devRef .tc main_arg0)) (StableHlo.launchContents m c (Proc.devRef .tc main_arg7)) (StableHlo.launchContents m c (Proc.devRef .tc main_arg2)) := by
  refine (kr_reads (atAngles m c)).trans ?_
  rw [atAngles_of m c main_v23 (by decide), show atAngles m c (Proc.devRef .tc main_v44) = _ from cos_reads (atProj m c),
    show atAngles m c (Proc.devRef .tc main_v45) = _ from sin_reads (atProj m c), show atProj m c (Proc.devRef .tc main_v23) = _ from k_reads (atNorm m c),
    arg2_left, show atNorm m c (Proc.devRef .tc main_v12) = _ from norm_reads (StableHlo.launchContents m c)]
  rfl

/-- The precondition is the condition of the drafts and the scores. -/
theorem pre_eq (x : FVec Ideal S1x2048x4096 .f32) (wq : FVec Ideal S4096x4096 .f32) (wk wv : FVec Ideal S4096x1024 .f32) (wo : FVec Ideal S4096x4096 .f32)
    (p : FVec Ideal S1x32x128x128 .f32) (b : FVec Ideal S1x32x1x128 .f32) (l1 l2 : FVec Ideal S4096 .f32) (wg wu : FVec Ideal S4096x11008 .f32) (wd : FVec Ideal S11008x4096 .f32) :
    Cert.Pre_finite_scores_few_full.fn (F := Ideal) x wq wk wv wo p b l1 l2 wg wu wd
      = condArr (pairArr (hashArr (queryArr x l1 wq) p b) (hashArr (keyArr x l1 wk) p b)) (pairArr (queryArr x l1 wq) (keyArr x l1 wk)) := by
  rfl

end Cert.ReferenceIdeal.Value

end
-- ==== Proof.Value.Link.lean ====
/-
  Under the precondition, with equal arguments, the two results are equal.
-/
module

public import proofs.«01_k».proof.Defs
public import proofs.«01_k».proof.Proof.Value.Kernel
public import proofs.«01_k».proof.Proof.Value.Pre

@[expose] public section

set_option maxRecDepth 16384

noncomputable section

namespace Cert.Link

open Idealize.ShloMosaic Idealize.SL.Sem Cert.Spec
open Cert.ReferenceIdeal.Value (angleArr preFacts)

/-- The kernel's cosine table is the cosine of the angles. -/
theorem kernel_cos (W : Valuation Cert.KernelIdeal.τ Cert.KernelIdeal.sig (Elt Ideal)) :
    StableHlo.after Cert.KernelIdeal.Gen.hostOps0 W (Proc.devRef .tc Cert.KernelIdeal.main_v19) = (Host.cos angleArr : FVec Ideal Cert.ReferenceIdeal.S2048x128 .f32) := by
  after_results
  rfl
/-- The kernel's sine table is the sine of the angles. -/
theorem kernel_sin (W : Valuation Cert.KernelIdeal.τ Cert.KernelIdeal.sig (Elt Ideal)) :
    StableHlo.after Cert.KernelIdeal.Gen.hostOps0 W (Proc.devRef .tc Cert.KernelIdeal.main_v20) = (Host.sin angleArr : FVec Ideal Cert.ReferenceIdeal.S2048x128 .f32) := by
  after_results
  rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs start from the same arguments. -/
structure Same : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

variable {m m' c}

/-- From the same arguments the two programs have the same layer. -/
theorem layers (s : Same m m' c) : Cert.ReferenceIdeal.Value.layR m' c = Cert.KernelIdeal.Value.layK m c := by
  unfold Cert.ReferenceIdeal.Value.layR Cert.KernelIdeal.Value.layK
  refine Layer.mk.injEq .. |>.mpr ⟨?_, ?_, ?_, ?_, ?_, ?_, ?_, ?_, ?_, ?_, ?_, ?_, ?_, ?_⟩
  · exact funext fun r => funext fun n => congrFun s.a0 (ix3 0 r n)
  · exact funext fun k => funext fun n => congrFun s.a1 (ix2 k n)
  · exact funext fun k => funext fun n => congrFun s.a2 (ix2 k n)
  · exact funext fun k => funext fun n => congrFun s.a3 (ix2 k n)
  · exact funext fun k => funext fun n => congrFun s.a4 (ix2 k n)
  · exact funext fun h => funext fun d => funext fun e => congrFun s.a5 (ix4 0 h d e)
  · exact funext fun h => funext fun e => congrFun s.a6 (ix4 0 h 0 e)
  · exact funext fun n => congrFun s.a7 (ix1 n)
  · exact funext fun n => congrFun s.a8 (ix1 n)
  · exact funext fun k => funext fun n => congrFun s.a9 (ix2 k n)
  · exact funext fun k => funext fun n => congrFun s.a10 (ix2 k n)
  · exact funext fun k => funext fun n => congrFun s.a11 (ix2 k n)
  · exact funext fun r => funext fun d =>
      (congrFun (Cert.ReferenceIdeal.Value.cos_reads (Cert.ReferenceIdeal.Stages.atProj m' c)) (ix2 r d)).trans (congrFun (kernel_cos (Cert.KernelIdeal.Gen.W0 m c)) (ix2 r d)).symm
  · exact funext fun r => funext fun d =>
      (congrFun (Cert.ReferenceIdeal.Value.sin_reads (Cert.ReferenceIdeal.Stages.atProj m' c)) (ix2 r d)).trans (congrFun (kernel_sin (Cert.KernelIdeal.Gen.W0 m c)) (ix2 r d)).symm

/-- The precondition, read at the reference's drafts and scores. -/
theorem cond (p : Cert.Pre_KernelIdeal_finite_scores_few_full m) (s : Same m m' c) :
    Cert.ReferenceIdeal.Value.condArr (Cert.ReferenceIdeal.Value.drafts m' c) (Cert.ReferenceIdeal.Value.scores m' c) = fun _ => 1#1 := by
  have e := p c
  rw [← s.a0, ← s.a1, ← s.a2, ← s.a3, ← s.a4, ← s.a5, ← s.a6, ← s.a7, ← s.a8, ← s.a9, ← s.a10, ← s.a11, Cert.ReferenceIdeal.Value.pre_eq] at e
  refine Eq.trans ?_ e
  unfold Cert.ReferenceIdeal.Value.drafts Cert.ReferenceIdeal.Value.scores
  rw [show Cert.ReferenceIdeal.Stages.atHash m' c (Proc.devRef .tc Cert.ReferenceIdeal.main_v78) = _ from Cert.ReferenceIdeal.Value.qh_reads (Cert.ReferenceIdeal.Stages.atRope m' c),
    show Cert.ReferenceIdeal.Stages.atHash m' c (Proc.devRef .tc Cert.ReferenceIdeal.main_v79) = _ from Cert.ReferenceIdeal.Value.kh_reads (Cert.ReferenceIdeal.Stages.atRope m' c),
    Cert.ReferenceIdeal.Value.arg5_left, Cert.ReferenceIdeal.Value.arg6_left, Cert.ReferenceIdeal.Value.query_eq, Cert.ReferenceIdeal.Value.key_eq]

/-- Under the precondition the scores up to the row are finite. -/
theorem finite (p : Cert.Pre_KernelIdeal_finite_scores_few_full m) (s : Same m m' c) : (Cert.KernelIdeal.Value.layK m c).Finite := by
  rw [← layers s]
  intro r h j g
  rw [← Cert.ReferenceIdeal.Value.scores_eq]
  exact (Cert.ReferenceIdeal.Value.condArr_one _ _ (cond p s) h r j).2 g

/-- Under the precondition few draft scores are 127 or more. -/
theorem few (p : Cert.Pre_KernelIdeal_finite_scores_few_full m) (s : Same m m' c) : (Cert.KernelIdeal.Value.layK m c).Few := by
  rw [← layers s]
  intro r h
  have e := (Cert.ReferenceIdeal.Value.condArr_one _ _ (cond p s) h r r).1
  simpa only [Cert.ReferenceIdeal.Value.drafts_eq] using e

/-- The two results are equal. -/
theorem results (p : Cert.Pre_KernelIdeal_finite_scores_few_full m) (s : Same m m' c) :
    Cert.ReferenceIdeal.Stages.atMlp m' c (Proc.devRef .tc Cert.ReferenceIdeal.main_v164) = Cert.KernelIdeal.Gen.W22 m c (Proc.devRef .tc Cert.KernelIdeal.main_v51) := by
  refine funext fun (i : (⟨3, ![1, 2048, 4096]⟩ : Shape).Idx) => ?_
  have e : i = ix3 0 (i 1) (i 2) := (ix3_eta i).symm.trans (congrArg (fun a => ix3 a (i 1) (i 2)) (Subsingleton.elim (α := Fin 1) _ _))
  rw [e]
  exact (Cert.ReferenceIdeal.Value.out_eq m' c (i 1) (i 2)).trans ((congrArg (fun L : Layer => L.out (i 1) (i 2)) (layers s)).trans
    (Cert.KernelIdeal.Value.out_eq m c (finite p s) (few p s) (i 1) (i 2)).symm)

end Cert.Link

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Run
public import proofs.«01_k».proof.Proof.KernelIdeal.Run
public import proofs.«01_k».proof.Proof.Reference.Stages
public import proofs.«01_k».proof.Proof.Value.Link

@[expose] public section

noncomputable section

namespace Cert.Proof

open Idealize.ShloMosaic Idealize.SL.Sem

/-- The kernel as printed runs, leaves its arguments as they were, and ends with every counter at zero. -/
theorem frame_kernel : Cert.quiescent_Kernel := fun m ρ _ => Cert.Kernel.Gen.frame m ρ

/-- So does the idealised kernel. -/
theorem frame_ideal : Cert.quiescent_KernelIdeal := fun m ρ _ => Cert.KernelIdeal.Gen.frame m ρ

/-- So does the reference. -/
theorem frame_reference : Cert.quiescent_ReferenceIdeal := fun m ρ _ => Cert.ReferenceIdeal.Stages.frame m ρ

/-- The sign's bit window, the scale and the mask read as the idealised kernel reads them. -/
theorem preserves : Cert.preserves_Kernel_KernelIdeal :=
  ⟨IdealRules.sign_bit.statement Cert.KernelIdeal.S2048x128 .f32,
    IdealRules.named_const.statement Cert.KernelIdeal.κ "scale" .f32 0x3DB504F3#32 (((Real.sqrt 128)⁻¹ : ℝ) : EReal) rfl,
    IdealRules.named_const.statement Cert.KernelIdeal.κ "mask" .f32 0xF149F2CA#32 ⊥ rfl⟩

/-- The frame of the idealised kernel under the precondition, which it does not need. -/
theorem frame_ideal_pre : Cert.quiescent_KernelIdeal_pre_finite_scores_few_full := fun m ρ _ => Cert.KernelIdeal.Gen.frame m ρ

/-- The frame of the reference under the precondition, which it does not need. -/
theorem frame_reference_pre : Cert.quiescent_ReferenceIdeal_pre_finite_scores_few_full := fun m ρ _ => Cert.ReferenceIdeal.Stages.frame m ρ

/-- Under the precondition the idealised kernel and the reference, given the same arguments, end with the same result. -/
theorem algebraic : Cert.algebraic_KernelIdeal_ReferenceIdeal_pre_finite_scores_few_full (hPre_finite_scores_few_full := Cert.ReferenceIdeal.Value.preFacts) := fun m g m' g' p s =>
  ⟨fun c => Cert.KernelIdeal.Gen.W22 m c (Proc.devRef .tc Cert.KernelIdeal.main_v51),
    (θ_run _ _ _).mono (fun r h c =>
      have k : ∀ (b : Ref Cert.KernelIdeal.sig .tc) {x : Buf (Elt Ideal) ((c.tc : Thread Cert.KernelIdeal.nD Cert.KernelIdeal.τ).loc b)}, ¬ (Proc.devRef .tc b : DevRef Cert.KernelIdeal.τ Cert.KernelIdeal.sig).isScoped → Cert.KernelIdeal.Gen.W22 m c (Proc.devRef .tc b) = x →
          r.2.mem ((c.tc : Thread Cert.KernelIdeal.nD Cert.KernelIdeal.τ).loc b) = x := fun b _ hb hx => (h.1 c _ (Cert.KernelIdeal.Gen.mem_uc b hb)).trans hx
      ⟨k Cert.KernelIdeal.main_v51 (by decide) rfl,
      k Cert.KernelIdeal.main_arg0 (by decide) (Cert.KernelIdeal.Gen.W22_arg m c _ (by decide +kernel)),
      k Cert.KernelIdeal.main_arg1 (by decide) (Cert.KernelIdeal.Gen.W22_arg m c _ (by decide +kernel)),
      k Cert.KernelIdeal.main_arg2 (by decide) (Cert.KernelIdeal.Gen.W22_arg m c _ (by decide +kernel)),
      k Cert.KernelIdeal.main_arg3 (by decide) (Cert.KernelIdeal.Gen.W22_arg m c _ (by decide +kernel)),
      k Cert.KernelIdeal.main_arg4 (by decide) (Cert.KernelIdeal.Gen.W22_arg m c _ (by decide +kernel)),
      k Cert.KernelIdeal.main_arg5 (by decide) (Cert.KernelIdeal.Gen.W22_arg m c _ (by decide +kernel)),
      k Cert.KernelIdeal.main_arg6 (by decide) (Cert.KernelIdeal.Gen.W22_arg m c _ (by decide +kernel)),
      k Cert.KernelIdeal.main_arg7 (by decide) (Cert.KernelIdeal.Gen.W22_arg m c _ (by decide +kernel)),
      k Cert.KernelIdeal.main_arg8 (by decide) (Cert.KernelIdeal.Gen.W22_arg m c _ (by decide +kernel)),
      k Cert.KernelIdeal.main_arg9 (by decide) (Cert.KernelIdeal.Gen.W22_arg m c _ (by decide +kernel)),
      k Cert.KernelIdeal.main_arg10 (by decide) (Cert.KernelIdeal.Gen.W22_arg m c _ (by decide +kernel)),
      k Cert.KernelIdeal.main_arg11 (by decide) (Cert.KernelIdeal.Gen.W22_arg m c _ (by decide +kernel))⟩) (Cert.KernelIdeal.Gen.ends m g),
    (θ_run _ _ _).mono (fun r h c =>
      ⟨(h.1 c Cert.ReferenceIdeal.main_v164).trans (Cert.Link.results p
        ⟨(s c).1, (s c).2.1, (s c).2.2.1, (s c).2.2.2.1, (s c).2.2.2.2.1, (s c).2.2.2.2.2.1, (s c).2.2.2.2.2.2.1, (s c).2.2.2.2.2.2.2.1, (s c).2.2.2.2.2.2.2.2.1, (s c).2.2.2.2.2.2.2.2.2.1, (s c).2.2.2.2.2.2.2.2.2.2.1, (s c).2.2.2.2.2.2.2.2.2.2.2⟩),
      (h.1 c Cert.ReferenceIdeal.main_arg0).trans (Cert.ReferenceIdeal.Stages.ends_arg m' c _ (by decide +kernel)),
      (h.1 c Cert.ReferenceIdeal.main_arg1).trans (Cert.ReferenceIdeal.Stages.ends_arg m' c _ (by decide +kernel)),
      (h.1 c Cert.ReferenceIdeal.main_arg2).trans (Cert.ReferenceIdeal.Stages.ends_arg m' c _ (by decide +kernel)),
      (h.1 c Cert.ReferenceIdeal.main_arg3).trans (Cert.ReferenceIdeal.Stages.ends_arg m' c _ (by decide +kernel)),
      (h.1 c Cert.ReferenceIdeal.main_arg4).trans (Cert.ReferenceIdeal.Stages.ends_arg m' c _ (by decide +kernel)),
      (h.1 c Cert.ReferenceIdeal.main_arg5).trans (Cert.ReferenceIdeal.Stages.ends_arg m' c _ (by decide +kernel)),
      (h.1 c Cert.ReferenceIdeal.main_arg6).trans (Cert.ReferenceIdeal.Stages.ends_arg m' c _ (by decide +kernel)),
      (h.1 c Cert.ReferenceIdeal.main_arg7).trans (Cert.ReferenceIdeal.Stages.ends_arg m' c _ (by decide +kernel)),
      (h.1 c Cert.ReferenceIdeal.main_arg8).trans (Cert.ReferenceIdeal.Stages.ends_arg m' c _ (by decide +kernel)),
      (h.1 c Cert.ReferenceIdeal.main_arg9).trans (Cert.ReferenceIdeal.Stages.ends_arg m' c _ (by decide +kernel)),
      (h.1 c Cert.ReferenceIdeal.main_arg10).trans (Cert.ReferenceIdeal.Stages.ends_arg m' c _ (by decide +kernel)),
      (h.1 c Cert.ReferenceIdeal.main_arg11).trans (Cert.ReferenceIdeal.Stages.ends_arg m' c _ (by decide +kernel))⟩) (Cert.ReferenceIdeal.Stages.ends m' g')⟩

/-- Everything that the certificate claims. -/
theorem claim : Cert.Claim :=
  ⟨Cert.Kernel.Gen.facts, Cert.KernelIdeal.Gen.facts, Cert.ReferenceIdeal.Gen.facts, Cert.ReferenceIdeal.Value.preFacts,
    frame_kernel, frame_ideal, frame_ideal_pre, frame_reference, frame_reference_pre, preserves, algebraic⟩

end Cert.Proof

end
